-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Gw2 (m : (ℓ : Loc Cert.Gw2.nD Cert.Gw2.τ Cert.Gw2.sig) → Buf (Elt Bits) ℓ) : Prop :=
  True

def Pre_Gw2Ideal (m : (ℓ : Loc Cert.Gw2Ideal.nD Cert.Gw2Ideal.τ Cert.Gw2Ideal.sig) → Buf (Elt Ideal) ℓ) : Prop :=
  True

def Pre_Gw2ReferenceIdeal (m : (ℓ : Loc Cert.Gw2ReferenceIdeal.nD Cert.Gw2ReferenceIdeal.τ Cert.Gw2ReferenceIdeal.sig) → Buf (Elt Ideal) ℓ) : Prop :=
  True

def Pre_Gw1 (m : (ℓ : Loc Cert.Gw1.nD Cert.Gw1.τ Cert.Gw1.sig) → Buf (Elt Bits) ℓ) : Prop :=
  True

def Pre_Gw1Ideal (m : (ℓ : Loc Cert.Gw1Ideal.nD Cert.Gw1Ideal.τ Cert.Gw1Ideal.sig) → Buf (Elt Ideal) ℓ) : Prop :=
  True

def Pre_Gw1ReferenceIdeal (m : (ℓ : Loc Cert.Gw1ReferenceIdeal.nD Cert.Gw1ReferenceIdeal.τ Cert.Gw1ReferenceIdeal.sig) → Buf (Elt Ideal) ℓ) : Prop :=
  True

def Pre_Gwi (m : (ℓ : Loc Cert.Gwi.nD Cert.Gwi.τ Cert.Gwi.sig) → Buf (Elt Bits) ℓ) : Prop :=
  True

def Pre_GwiIdeal (m : (ℓ : Loc Cert.GwiIdeal.nD Cert.GwiIdeal.τ Cert.GwiIdeal.sig) → Buf (Elt Ideal) ℓ) : Prop :=
  True

def Pre_GwiReferenceIdeal (m : (ℓ : Loc Cert.GwiReferenceIdeal.nD Cert.GwiReferenceIdeal.τ Cert.GwiReferenceIdeal.sig) → Buf (Elt Ideal) ℓ) : Prop :=
  True

def Pre_Gwo (m : (ℓ : Loc Cert.Gwo.nD Cert.Gwo.τ Cert.Gwo.sig) → Buf (Elt Bits) ℓ) : Prop :=
  True

def Pre_GwoIdeal (m : (ℓ : Loc Cert.GwoIdeal.nD Cert.GwoIdeal.τ Cert.GwoIdeal.sig) → Buf (Elt Ideal) ℓ) : Prop :=
  True

def Pre_GwoReferenceIdeal (m : (ℓ : Loc Cert.GwoReferenceIdeal.nD Cert.GwoReferenceIdeal.τ Cert.GwoReferenceIdeal.sig) → Buf (Elt Ideal) ℓ) : Prop :=
  True

def Pre_LnIn (m : (ℓ : Loc Cert.LnIn.nD Cert.LnIn.τ Cert.LnIn.sig) → Buf (Elt Bits) ℓ) : Prop :=
  True

def Pre_LnInIdeal (m : (ℓ : Loc Cert.LnInIdeal.nD Cert.LnInIdeal.τ Cert.LnInIdeal.sig) → Buf (Elt Ideal) ℓ) : Prop :=
  True

def Pre_LnInReferenceIdeal (m : (ℓ : Loc Cert.LnInReferenceIdeal.nD Cert.LnInReferenceIdeal.τ Cert.LnInReferenceIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_OutLnReferenceIdeal (m : (ℓ : Loc Cert.OutLnReferenceIdeal.nD Cert.OutLnReferenceIdeal.τ Cert.OutLnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_Gw2 [hGw2 : Cert.Gw2.Facts] : Prop :=
  ∀ (m : (ℓ : Loc Cert.Gw2.nD Cert.Gw2.τ Cert.Gw2.sig) → Buf (Elt Bits) ℓ) (g : Dev Cert.Gw2.nD → PrngReg), Pre_Gw2 m →
    θ_run (Cert.Gw2.defs (F := Bits)) (onTc (τ := Cert.Gw2.τ) (Cert.Gw2.main (F := Bits))) ⟨m, fun _ => 0, g⟩ (fun r => (∀ c : Dev Cert.Gw2.nD,
      r.2.mem ((c.tc : Thread Cert.Gw2.nD Cert.Gw2.τ).loc Cert.Gw2.main_arg0) = m ((c.tc : Thread Cert.Gw2.nD Cert.Gw2.τ).loc Cert.Gw2.main_arg0)
      ∧ r.2.mem ((c.tc : Thread Cert.Gw2.nD Cert.Gw2.τ).loc Cert.Gw2.main_arg1) = m ((c.tc : Thread Cert.Gw2.nD Cert.Gw2.τ).loc Cert.Gw2.main_arg1))
      ∧ r.2.sem = fun _ => 0)

def quiescent_Gw2Ideal [hGw2Ideal : Cert.Gw2Ideal.Facts] : Prop :=
  ∀ (m : (ℓ : Loc Cert.Gw2Ideal.nD Cert.Gw2Ideal.τ Cert.Gw2Ideal.sig) → Buf (Elt Ideal) ℓ) (g : Dev Cert.Gw2Ideal.nD → PrngReg), Pre_Gw2Ideal m →
    θ_run (Cert.Gw2Ideal.defs (F := Ideal)) (onTc (τ := Cert.Gw2Ideal.τ) (Cert.Gw2Ideal.main (F := Ideal))) ⟨m, fun _ => 0, g⟩ (fun r => (∀ c : Dev Cert.Gw2Ideal.nD,
      r.2.mem ((c.tc : Thread Cert.Gw2Ideal.nD Cert.Gw2Ideal.τ).loc Cert.Gw2Ideal.main_arg0) = m ((c.tc : Thread Cert.Gw2Ideal.nD Cert.Gw2Ideal.τ).loc Cert.Gw2Ideal.main_arg0)
      ∧ r.2.mem ((c.tc : Thread Cert.Gw2Ideal.nD Cert.Gw2Ideal.τ).loc Cert.Gw2Ideal.main_arg1) = m ((c.tc : Thread Cert.Gw2Ideal.nD Cert.Gw2Ideal.τ).loc Cert.Gw2Ideal.main_arg1))
      ∧ r.2.sem = fun _ => 0)

def quiescent_Gw2ReferenceIdeal [hGw2ReferenceIdeal : Cert.Gw2ReferenceIdeal.Facts] : Prop :=
  ∀ (m : (ℓ : Loc Cert.Gw2ReferenceIdeal.nD Cert.Gw2ReferenceIdeal.τ Cert.Gw2ReferenceIdeal.sig) → Buf (Elt Ideal) ℓ) (g : Dev Cert.Gw2ReferenceIdeal.nD → PrngReg), Pre_Gw2ReferenceIdeal m →
    θ_run (Cert.Gw2ReferenceIdeal.defs (F := Ideal)) (onTc (τ := Cert.Gw2ReferenceIdeal.τ) (Cert.Gw2ReferenceIdeal.main (F := Ideal))) ⟨m, fun _ => 0, g⟩ (fun r => (∀ c : Dev Cert.Gw2ReferenceIdeal.nD,
      r.2.mem ((c.tc : Thread Cert.Gw2ReferenceIdeal.nD Cert.Gw2ReferenceIdeal.τ).loc Cert.Gw2ReferenceIdeal.main_arg0) = m ((c.tc : Thread Cert.Gw2ReferenceIdeal.nD Cert.Gw2ReferenceIdeal.τ).loc Cert.Gw2ReferenceIdeal.main_arg0)
      ∧ r.2.mem ((c.tc : Thread Cert.Gw2ReferenceIdeal.nD Cert.Gw2ReferenceIdeal.τ).loc Cert.Gw2ReferenceIdeal.main_arg1) = m ((c.tc : Thread Cert.Gw2ReferenceIdeal.nD Cert.Gw2ReferenceIdeal.τ).loc Cert.Gw2ReferenceIdeal.main_arg1))
      ∧ r.2.sem = fun _ => 0)

def quiescent_Gw1 [hGw1 : Cert.Gw1.Facts] : Prop :=
  ∀ (m : (ℓ : Loc Cert.Gw1.nD Cert.Gw1.τ Cert.Gw1.sig) → Buf (Elt Bits) ℓ) (g : Dev Cert.Gw1.nD → PrngReg), Pre_Gw1 m →
    θ_run (Cert.Gw1.defs (F := Bits)) (onTc (τ := Cert.Gw1.τ) (Cert.Gw1.main (F := Bits))) ⟨m, fun _ => 0, g⟩ (fun r => (∀ c : Dev Cert.Gw1.nD,
      r.2.mem ((c.tc : Thread Cert.Gw1.nD Cert.Gw1.τ).loc Cert.Gw1.main_arg0) = m ((c.tc : Thread Cert.Gw1.nD Cert.Gw1.τ).loc Cert.Gw1.main_arg0)
      ∧ r.2.mem ((c.tc : Thread Cert.Gw1.nD Cert.Gw1.τ).loc Cert.Gw1.main_arg1) = m ((c.tc : Thread Cert.Gw1.nD Cert.Gw1.τ).loc Cert.Gw1.main_arg1))
      ∧ r.2.sem = fun _ => 0)

def quiescent_Gw1Ideal [hGw1Ideal : Cert.Gw1Ideal.Facts] : Prop :=
  ∀ (m : (ℓ : Loc Cert.Gw1Ideal.nD Cert.Gw1Ideal.τ Cert.Gw1Ideal.sig) → Buf (Elt Ideal) ℓ) (g : Dev Cert.Gw1Ideal.nD → PrngReg), Pre_Gw1Ideal m →
    θ_run (Cert.Gw1Ideal.defs (F := Ideal)) (onTc (τ := Cert.Gw1Ideal.τ) (Cert.Gw1Ideal.main (F := Ideal))) ⟨m, fun _ => 0, g⟩ (fun r => (∀ c : Dev Cert.Gw1Ideal.nD,
      r.2.mem ((c.tc : Thread Cert.Gw1Ideal.nD Cert.Gw1Ideal.τ).loc Cert.Gw1Ideal.main_arg0) = m ((c.tc : Thread Cert.Gw1Ideal.nD Cert.Gw1Ideal.τ).loc Cert.Gw1Ideal.main_arg0)
      ∧ r.2.mem ((c.tc : Thread Cert.Gw1Ideal.nD Cert.Gw1Ideal.τ).loc Cert.Gw1Ideal.main_arg1) = m ((c.tc : Thread Cert.Gw1Ideal.nD Cert.Gw1Ideal.τ).loc Cert.Gw1Ideal.main_arg1))
      ∧ r.2.sem = fun _ => 0)

def quiescent_Gw1ReferenceIdeal [hGw1ReferenceIdeal : Cert.Gw1ReferenceIdeal.Facts] : Prop :=
  ∀ (m : (ℓ : Loc Cert.Gw1ReferenceIdeal.nD Cert.Gw1ReferenceIdeal.τ Cert.Gw1ReferenceIdeal.sig) → Buf (Elt Ideal) ℓ) (g : Dev Cert.Gw1ReferenceIdeal.nD → PrngReg), Pre_Gw1ReferenceIdeal m →
    θ_run (Cert.Gw1ReferenceIdeal.defs (F := Ideal)) (onTc (τ := Cert.Gw1ReferenceIdeal.τ) (Cert.Gw1ReferenceIdeal.main (F := Ideal))) ⟨m, fun _ => 0, g⟩ (fun r => (∀ c : Dev Cert.Gw1ReferenceIdeal.nD,
      r.2.mem ((c.tc : Thread Cert.Gw1ReferenceIdeal.nD Cert.Gw1ReferenceIdeal.τ).loc Cert.Gw1ReferenceIdeal.main_arg0) = m ((c.tc : Thread Cert.Gw1ReferenceIdeal.nD Cert.Gw1ReferenceIdeal.τ).loc Cert.Gw1ReferenceIdeal.main_arg0)
      ∧ r.2.mem ((c.tc : Thread Cert.Gw1ReferenceIdeal.nD Cert.Gw1ReferenceIdeal.τ).loc Cert.Gw1ReferenceIdeal.main_arg1) = m ((c.tc : Thread Cert.Gw1ReferenceIdeal.nD Cert.Gw1ReferenceIdeal.τ).loc Cert.Gw1ReferenceIdeal.main_arg1))
      ∧ r.2.sem = fun _ => 0)

def quiescent_Gwi [hGwi : Cert.Gwi.Facts] : Prop :=
  ∀ (m : (ℓ : Loc Cert.Gwi.nD Cert.Gwi.τ Cert.Gwi.sig) → Buf (Elt Bits) ℓ) (g : Dev Cert.Gwi.nD → PrngReg), Pre_Gwi m →
    θ_run (Cert.Gwi.defs (F := Bits)) (onTc (τ := Cert.Gwi.τ) (Cert.Gwi.main (F := Bits))) ⟨m, fun _ => 0, g⟩ (fun r => (∀ c : Dev Cert.Gwi.nD,
      r.2.mem ((c.tc : Thread Cert.Gwi.nD Cert.Gwi.τ).loc Cert.Gwi.main_arg0) = m ((c.tc : Thread Cert.Gwi.nD Cert.Gwi.τ).loc Cert.Gwi.main_arg0)
      ∧ r.2.mem ((c.tc : Thread Cert.Gwi.nD Cert.Gwi.τ).loc Cert.Gwi.main_arg1) = m ((c.tc : Thread Cert.Gwi.nD Cert.Gwi.τ).loc Cert.Gwi.main_arg1)
      ∧ r.2.mem ((c.tc : Thread Cert.Gwi.nD Cert.Gwi.τ).loc Cert.Gwi.main_arg2) = m ((c.tc : Thread Cert.Gwi.nD Cert.Gwi.τ).loc Cert.Gwi.main_arg2)
      ∧ r.2.mem ((c.tc : Thread Cert.Gwi.nD Cert.Gwi.τ).loc Cert.Gwi.main_arg3) = m ((c.tc : Thread Cert.Gwi.nD Cert.Gwi.τ).loc Cert.Gwi.main_arg3)
      ∧ r.2.mem ((c.tc : Thread Cert.Gwi.nD Cert.Gwi.τ).loc Cert.Gwi.main_arg4) = m ((c.tc : Thread Cert.Gwi.nD Cert.Gwi.τ).loc Cert.Gwi.main_arg4)
      ∧ r.2.mem ((c.tc : Thread Cert.Gwi.nD Cert.Gwi.τ).loc Cert.Gwi.main_arg5) = m ((c.tc : Thread Cert.Gwi.nD Cert.Gwi.τ).loc Cert.Gwi.main_arg5))
      ∧ r.2.sem = fun _ => 0)

def quiescent_GwiIdeal [hGwiIdeal : Cert.GwiIdeal.Facts] : Prop :=
  ∀ (m : (ℓ : Loc Cert.GwiIdeal.nD Cert.GwiIdeal.τ Cert.GwiIdeal.sig) → Buf (Elt Ideal) ℓ) (g : Dev Cert.GwiIdeal.nD → PrngReg), Pre_GwiIdeal m →
    θ_run (Cert.GwiIdeal.defs (F := Ideal)) (onTc (τ := Cert.GwiIdeal.τ) (Cert.GwiIdeal.main (F := Ideal))) ⟨m, fun _ => 0, g⟩ (fun r => (∀ c : Dev Cert.GwiIdeal.nD,
      r.2.mem ((c.tc : Thread Cert.GwiIdeal.nD Cert.GwiIdeal.τ).loc Cert.GwiIdeal.main_arg0) = m ((c.tc : Thread Cert.GwiIdeal.nD Cert.GwiIdeal.τ).loc Cert.GwiIdeal.main_arg0)
      ∧ r.2.mem ((c.tc : Thread Cert.GwiIdeal.nD Cert.GwiIdeal.τ).loc Cert.GwiIdeal.main_arg1) = m ((c.tc : Thread Cert.GwiIdeal.nD Cert.GwiIdeal.τ).loc Cert.GwiIdeal.main_arg1)
      ∧ r.2.mem ((c.tc : Thread Cert.GwiIdeal.nD Cert.GwiIdeal.τ).loc Cert.GwiIdeal.main_arg2) = m ((c.tc : Thread Cert.GwiIdeal.nD Cert.GwiIdeal.τ).loc Cert.GwiIdeal.main_arg2)
      ∧ r.2.mem ((c.tc : Thread Cert.GwiIdeal.nD Cert.GwiIdeal.τ).loc Cert.GwiIdeal.main_arg3) = m ((c.tc : Thread Cert.GwiIdeal.nD Cert.GwiIdeal.τ).loc Cert.GwiIdeal.main_arg3)
      ∧ r.2.mem ((c.tc : Thread Cert.GwiIdeal.nD Cert.GwiIdeal.τ).loc Cert.GwiIdeal.main_arg4) = m ((c.tc : Thread Cert.GwiIdeal.nD Cert.GwiIdeal.τ).loc Cert.GwiIdeal.main_arg4)
      ∧ r.2.mem ((c.tc : Thread Cert.GwiIdeal.nD Cert.GwiIdeal.τ).loc Cert.GwiIdeal.main_arg5) = m ((c.tc : Thread Cert.GwiIdeal.nD Cert.GwiIdeal.τ).loc Cert.GwiIdeal.main_arg5))
      ∧ r.2.sem = fun _ => 0)

def quiescent_GwiReferenceIdeal [hGwiReferenceIdeal : Cert.GwiReferenceIdeal.Facts] : Prop :=
  ∀ (m : (ℓ : Loc Cert.GwiReferenceIdeal.nD Cert.GwiReferenceIdeal.τ Cert.GwiReferenceIdeal.sig) → Buf (Elt Ideal) ℓ) (g : Dev Cert.GwiReferenceIdeal.nD → PrngReg), Pre_GwiReferenceIdeal m →
    θ_run (Cert.GwiReferenceIdeal.defs (F := Ideal)) (onTc (τ := Cert.GwiReferenceIdeal.τ) (Cert.GwiReferenceIdeal.main (F := Ideal))) ⟨m, fun _ => 0, g⟩ (fun r => (∀ c : Dev Cert.GwiReferenceIdeal.nD,
      r.2.mem ((c.tc : Thread Cert.GwiReferenceIdeal.nD Cert.GwiReferenceIdeal.τ).loc Cert.GwiReferenceIdeal.main_arg0) = m ((c.tc : Thread Cert.GwiReferenceIdeal.nD Cert.GwiReferenceIdeal.τ).loc Cert.GwiReferenceIdeal.main_arg0)
      ∧ r.2.mem ((c.tc : Thread Cert.GwiReferenceIdeal.nD Cert.GwiReferenceIdeal.τ).loc Cert.GwiReferenceIdeal.main_arg1) = m ((c.tc : Thread Cert.GwiReferenceIdeal.nD Cert.GwiReferenceIdeal.τ).loc Cert.GwiReferenceIdeal.main_arg1)
      ∧ r.2.mem ((c.tc : Thread Cert.GwiReferenceIdeal.nD Cert.GwiReferenceIdeal.τ).loc Cert.GwiReferenceIdeal.main_arg2) = m ((c.tc : Thread Cert.GwiReferenceIdeal.nD Cert.GwiReferenceIdeal.τ).loc Cert.GwiReferenceIdeal.main_arg2)
      ∧ r.2.mem ((c.tc : Thread Cert.GwiReferenceIdeal.nD Cert.GwiReferenceIdeal.τ).loc Cert.GwiReferenceIdeal.main_arg3) = m ((c.tc : Thread Cert.GwiReferenceIdeal.nD Cert.GwiReferenceIdeal.τ).loc Cert.GwiReferenceIdeal.main_arg3)
      ∧ r.2.mem ((c.tc : Thread Cert.GwiReferenceIdeal.nD Cert.GwiReferenceIdeal.τ).loc Cert.GwiReferenceIdeal.main_arg4) = m ((c.tc : Thread Cert.GwiReferenceIdeal.nD Cert.GwiReferenceIdeal.τ).loc Cert.GwiReferenceIdeal.main_arg4)
      ∧ r.2.mem ((c.tc : Thread Cert.GwiReferenceIdeal.nD Cert.GwiReferenceIdeal.τ).loc Cert.GwiReferenceIdeal.main_arg5) = m ((c.tc : Thread Cert.GwiReferenceIdeal.nD Cert.GwiReferenceIdeal.τ).loc Cert.GwiReferenceIdeal.main_arg5))
      ∧ r.2.sem = fun _ => 0)

def quiescent_Gwo [hGwo : Cert.Gwo.Facts] : Prop :=
  ∀ (m : (ℓ : Loc Cert.Gwo.nD Cert.Gwo.τ Cert.Gwo.sig) → Buf (Elt Bits) ℓ) (g : Dev Cert.Gwo.nD → PrngReg), Pre_Gwo m →
    θ_run (Cert.Gwo.defs (F := Bits)) (onTc (τ := Cert.Gwo.τ) (Cert.Gwo.main (F := Bits))) ⟨m, fun _ => 0, g⟩ (fun r => (∀ c : Dev Cert.Gwo.nD,
      r.2.mem ((c.tc : Thread Cert.Gwo.nD Cert.Gwo.τ).loc Cert.Gwo.main_arg0) = m ((c.tc : Thread Cert.Gwo.nD Cert.Gwo.τ).loc Cert.Gwo.main_arg0)
      ∧ r.2.mem ((c.tc : Thread Cert.Gwo.nD Cert.Gwo.τ).loc Cert.Gwo.main_arg1) = m ((c.tc : Thread Cert.Gwo.nD Cert.Gwo.τ).loc Cert.Gwo.main_arg1))
      ∧ r.2.sem = fun _ => 0)

def quiescent_GwoIdeal [hGwoIdeal : Cert.GwoIdeal.Facts] : Prop :=
  ∀ (m : (ℓ : Loc Cert.GwoIdeal.nD Cert.GwoIdeal.τ Cert.GwoIdeal.sig) → Buf (Elt Ideal) ℓ) (g : Dev Cert.GwoIdeal.nD → PrngReg), Pre_GwoIdeal m →
    θ_run (Cert.GwoIdeal.defs (F := Ideal)) (onTc (τ := Cert.GwoIdeal.τ) (Cert.GwoIdeal.main (F := Ideal))) ⟨m, fun _ => 0, g⟩ (fun r => (∀ c : Dev Cert.GwoIdeal.nD,
      r.2.mem ((c.tc : Thread Cert.GwoIdeal.nD Cert.GwoIdeal.τ).loc Cert.GwoIdeal.main_arg0) = m ((c.tc : Thread Cert.GwoIdeal.nD Cert.GwoIdeal.τ).loc Cert.GwoIdeal.main_arg0)
      ∧ r.2.mem ((c.tc : Thread Cert.GwoIdeal.nD Cert.GwoIdeal.τ).loc Cert.GwoIdeal.main_arg1) = m ((c.tc : Thread Cert.GwoIdeal.nD Cert.GwoIdeal.τ).loc Cert.GwoIdeal.main_arg1))
      ∧ r.2.sem = fun _ => 0)

def quiescent_GwoReferenceIdeal [hGwoReferenceIdeal : Cert.GwoReferenceIdeal.Facts] : Prop :=
  ∀ (m : (ℓ : Loc Cert.GwoReferenceIdeal.nD Cert.GwoReferenceIdeal.τ Cert.GwoReferenceIdeal.sig) → Buf (Elt Ideal) ℓ) (g : Dev Cert.GwoReferenceIdeal.nD → PrngReg), Pre_GwoReferenceIdeal m →
    θ_run (Cert.GwoReferenceIdeal.defs (F := Ideal)) (onTc (τ := Cert.GwoReferenceIdeal.τ) (Cert.GwoReferenceIdeal.main (F := Ideal))) ⟨m, fun _ => 0, g⟩ (fun r => (∀ c : Dev Cert.GwoReferenceIdeal.nD,
      r.2.mem ((c.tc : Thread Cert.GwoReferenceIdeal.nD Cert.GwoReferenceIdeal.τ).loc Cert.GwoReferenceIdeal.main_arg0) = m ((c.tc : Thread Cert.GwoReferenceIdeal.nD Cert.GwoReferenceIdeal.τ).loc Cert.GwoReferenceIdeal.main_arg0)
      ∧ r.2.mem ((c.tc : Thread Cert.GwoReferenceIdeal.nD Cert.GwoReferenceIdeal.τ).loc Cert.GwoReferenceIdeal.main_arg1) = m ((c.tc : Thread Cert.GwoReferenceIdeal.nD Cert.GwoReferenceIdeal.τ).loc Cert.GwoReferenceIdeal.main_arg1))
      ∧ r.2.sem = fun _ => 0)

def quiescent_LnIn [hLnIn : Cert.LnIn.Facts] : Prop :=
  ∀ (m : (ℓ : Loc Cert.LnIn.nD Cert.LnIn.τ Cert.LnIn.sig) → Buf (Elt Bits) ℓ) (g : Dev Cert.LnIn.nD → PrngReg), Pre_LnIn m →
    θ_run (Cert.LnIn.defs (F := Bits)) (onTc (τ := Cert.LnIn.τ) (Cert.LnIn.main (F := Bits))) ⟨m, fun _ => 0, g⟩ (fun r => (∀ c : Dev Cert.LnIn.nD,
      r.2.mem ((c.tc : Thread Cert.LnIn.nD Cert.LnIn.τ).loc Cert.LnIn.main_arg0) = m ((c.tc : Thread Cert.LnIn.nD Cert.LnIn.τ).loc Cert.LnIn.main_arg0)
      ∧ r.2.mem ((c.tc : Thread Cert.LnIn.nD Cert.LnIn.τ).loc Cert.LnIn.main_arg1) = m ((c.tc : Thread Cert.LnIn.nD Cert.LnIn.τ).loc Cert.LnIn.main_arg1)
      ∧ r.2.mem ((c.tc : Thread Cert.LnIn.nD Cert.LnIn.τ).loc Cert.LnIn.main_arg2) = m ((c.tc : Thread Cert.LnIn.nD Cert.LnIn.τ).loc Cert.LnIn.main_arg2)
      ∧ r.2.mem ((c.tc : Thread Cert.LnIn.nD Cert.LnIn.τ).loc Cert.LnIn.main_arg3) = m ((c.tc : Thread Cert.LnIn.nD Cert.LnIn.τ).loc Cert.LnIn.main_arg3)
      ∧ r.2.mem ((c.tc : Thread Cert.LnIn.nD Cert.LnIn.τ).loc Cert.LnIn.main_arg4) = m ((c.tc : Thread Cert.LnIn.nD Cert.LnIn.τ).loc Cert.LnIn.main_arg4)
      ∧ r.2.mem ((c.tc : Thread Cert.LnIn.nD Cert.LnIn.τ).loc Cert.LnIn.main_arg5) = m ((c.tc : Thread Cert.LnIn.nD Cert.LnIn.τ).loc Cert.LnIn.main_arg5))
      ∧ r.2.sem = fun _ => 0)

def quiescent_LnInIdeal [hLnInIdeal : Cert.LnInIdeal.Facts] : Prop :=
  ∀ (m : (ℓ : Loc Cert.LnInIdeal.nD Cert.LnInIdeal.τ Cert.LnInIdeal.sig) → Buf (Elt Ideal) ℓ) (g : Dev Cert.LnInIdeal.nD → PrngReg), Pre_LnInIdeal m →
    θ_run (Cert.LnInIdeal.defs (F := Ideal)) (onTc (τ := Cert.LnInIdeal.τ) (Cert.LnInIdeal.main (F := Ideal))) ⟨m, fun _ => 0, g⟩ (fun r => (∀ c : Dev Cert.LnInIdeal.nD,
      r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
      ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
      ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2)
      ∧ r.2.mem ((c.tc : Thread Cert.LnInIdeal.nD Cert.LnInIdeal.τ).loc Cert.LnInIdeal.main_arg3) = m ((c.tc : Thread Cert.LnInIdeal.nD Cert.LnInIdeal.τ).loc Cert.LnInIdeal.main_arg3)
      ∧ r.2.mem ((c.tc : Thread Cert.LnInIdeal.nD Cert.LnInIdeal.τ).loc Cert.LnInIdeal.main_arg4) = m ((c.tc : Thread Cert.LnInIdeal.nD Cert.LnInIdeal.τ).loc Cert.LnInIdeal.main_arg4)
      ∧ r.2.mem ((c.tc : Thread Cert.LnInIdeal.nD Cert.LnInIdeal.τ).loc Cert.LnInIdeal.main_arg5) = m ((c.tc : Thread Cert.LnInIdeal.nD Cert.LnInIdeal.τ).loc Cert.LnInIdeal.main_arg5))
      ∧ r.2.sem = fun _ => 0)

def quiescent_LnInReferenceIdeal [hLnInReferenceIdeal : Cert.LnInReferenceIdeal.Facts] : Prop :=
  ∀ (m : (ℓ : Loc Cert.LnInReferenceIdeal.nD Cert.LnInReferenceIdeal.τ Cert.LnInReferenceIdeal.sig) → Buf (Elt Ideal) ℓ) (g : Dev Cert.LnInReferenceIdeal.nD → PrngReg), Pre_LnInReferenceIdeal m →
    θ_run (Cert.LnInReferenceIdeal.defs (F := Ideal)) (onTc (τ := Cert.LnInReferenceIdeal.τ) (Cert.LnInReferenceIdeal.main (F := Ideal))) ⟨m, fun _ => 0, g⟩ (fun r => (∀ c : Dev Cert.LnInReferenceIdeal.nD,
      r.2.mem ((c.tc : Thread Cert.LnInReferenceIdeal.nD Cert.LnInReferenceIdeal.τ).loc Cert.LnInReferenceIdeal.main_arg0) = m ((c.tc : Thread Cert.LnInReferenceIdeal.nD Cert.LnInReferenceIdeal.τ).loc Cert.LnInReferenceIdeal.main_arg0)
      ∧ r.2.mem ((c.tc : Thread Cert.LnInReferenceIdeal.nD Cert.LnInReferenceIdeal.τ).loc Cert.LnInReferenceIdeal.main_arg1) = m ((c.tc : Thread Cert.LnInReferenceIdeal.nD Cert.LnInReferenceIdeal.τ).loc Cert.LnInReferenceIdeal.main_arg1)
      ∧ r.2.mem ((c.tc : Thread Cert.LnInReferenceIdeal.nD Cert.LnInReferenceIdeal.τ).loc Cert.LnInReferenceIdeal.main_arg2) = m ((c.tc : Thread Cert.LnInReferenceIdeal.nD Cert.LnInReferenceIdeal.τ).loc Cert.LnInReferenceIdeal.main_arg2)
      ∧ r.2.mem ((c.tc : Thread Cert.LnInReferenceIdeal.nD Cert.LnInReferenceIdeal.τ).loc Cert.LnInReferenceIdeal.main_arg3) = m ((c.tc : Thread Cert.LnInReferenceIdeal.nD Cert.LnInReferenceIdeal.τ).loc Cert.LnInReferenceIdeal.main_arg3)
      ∧ r.2.mem ((c.tc : Thread Cert.LnInReferenceIdeal.nD Cert.LnInReferenceIdeal.τ).loc Cert.LnInReferenceIdeal.main_arg4) = m ((c.tc : Thread Cert.LnInReferenceIdeal.nD Cert.LnInReferenceIdeal.τ).loc Cert.LnInReferenceIdeal.main_arg4)
      ∧ r.2.mem ((c.tc : Thread Cert.LnInReferenceIdeal.nD Cert.LnInReferenceIdeal.τ).loc Cert.LnInReferenceIdeal.main_arg5) = m ((c.tc : Thread Cert.LnInReferenceIdeal.nD Cert.LnInReferenceIdeal.τ).loc Cert.LnInReferenceIdeal.main_arg5))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4)
      ∧ r.2.mem ((c.tc : Thread Cert.OutLn.nD Cert.OutLn.τ).loc Cert.OutLn.main_arg5) = m ((c.tc : Thread Cert.OutLn.nD Cert.OutLn.τ).loc Cert.OutLn.main_arg5)
      ∧ r.2.mem ((c.tc : Thread Cert.OutLn.nD Cert.OutLn.τ).loc Cert.OutLn.main_arg6) = m ((c.tc : Thread Cert.OutLn.nD Cert.OutLn.τ).loc Cert.OutLn.main_arg6)
      ∧ r.2.mem ((c.tc : Thread Cert.OutLn.nD Cert.OutLn.τ).loc Cert.OutLn.main_arg7) = m ((c.tc : Thread Cert.OutLn.nD Cert.OutLn.τ).loc Cert.OutLn.main_arg7)
      ∧ r.2.mem ((c.tc : Thread Cert.OutLn.nD Cert.OutLn.τ).loc Cert.OutLn.main_arg8) = m ((c.tc : Thread Cert.OutLn.nD Cert.OutLn.τ).loc Cert.OutLn.main_arg8)
      ∧ r.2.mem ((c.tc : Thread Cert.OutLn.nD Cert.OutLn.τ).loc Cert.OutLn.main_arg9) = m ((c.tc : Thread Cert.OutLn.nD Cert.OutLn.τ).loc Cert.OutLn.main_arg9)
      ∧ r.2.mem ((c.tc : Thread Cert.OutLn.nD Cert.OutLn.τ).loc Cert.OutLn.main_arg10) = m ((c.tc : Thread Cert.OutLn.nD Cert.OutLn.τ).loc Cert.OutLn.main_arg10))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
      ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5)
      ∧ r.2.mem ((c.tc : Thread Cert.OutLnIdeal.nD Cert.OutLnIdeal.τ).loc Cert.OutLnIdeal.main_arg6) = m ((c.tc : Thread Cert.OutLnIdeal.nD Cert.OutLnIdeal.τ).loc Cert.OutLnIdeal.main_arg6)
      ∧ r.2.mem ((c.tc : Thread Cert.OutLnIdeal.nD Cert.OutLnIdeal.τ).loc Cert.OutLnIdeal.main_arg7) = m ((c.tc : Thread Cert.OutLnIdeal.nD Cert.OutLnIdeal.τ).loc Cert.OutLnIdeal.main_arg7)
      ∧ r.2.mem ((c.tc : Thread Cert.OutLnIdeal.nD Cert.OutLnIdeal.τ).loc Cert.OutLnIdeal.main_arg8) = m ((c.tc : Thread Cert.OutLnIdeal.nD Cert.OutLnIdeal.τ).loc Cert.OutLnIdeal.main_arg8)
      ∧ r.2.mem ((c.tc : Thread Cert.OutLnIdeal.nD Cert.OutLnIdeal.τ).loc Cert.OutLnIdeal.main_arg9) = m ((c.tc : Thread Cert.OutLnIdeal.nD Cert.OutLnIdeal.τ).loc Cert.OutLnIdeal.main_arg9)
      ∧ r.2.mem ((c.tc : Thread Cert.OutLnIdeal.nD Cert.OutLnIdeal.τ).loc Cert.OutLnIdeal.main_arg10) = m ((c.tc : Thread Cert.OutLnIdeal.nD Cert.OutLnIdeal.τ).loc Cert.OutLnIdeal.main_arg10))
      ∧ r.2.sem = fun _ => 0)

def quiescent_OutLnReferenceIdeal [hOutLnReferenceIdeal : Cert.OutLnReferenceIdeal.Facts] : Prop :=
  ∀ (m : (ℓ : Loc Cert.OutLnReferenceIdeal.nD Cert.OutLnReferenceIdeal.τ Cert.OutLnReferenceIdeal.sig) → Buf (Elt Ideal) ℓ) (g : Dev Cert.OutLnReferenceIdeal.nD → PrngReg), Pre_OutLnReferenceIdeal m →
    θ_run (Cert.OutLnReferenceIdeal.defs (F := Ideal)) (onTc (τ := Cert.OutLnReferenceIdeal.τ) (Cert.OutLnReferenceIdeal.main (F := Ideal))) ⟨m, fun _ => 0, g⟩ (fun r => (∀ c : Dev Cert.OutLnReferenceIdeal.nD,
      r.2.mem ((c.tc : Thread Cert.OutLnReferenceIdeal.nD Cert.OutLnReferenceIdeal.τ).loc Cert.OutLnReferenceIdeal.main_arg0) = m ((c.tc : Thread Cert.OutLnReferenceIdeal.nD Cert.OutLnReferenceIdeal.τ).loc Cert.OutLnReferenceIdeal.main_arg0)
      ∧ r.2.mem ((c.tc : Thread Cert.OutLnReferenceIdeal.nD Cert.OutLnReferenceIdeal.τ).loc Cert.OutLnReferenceIdeal.main_arg1) = m ((c.tc : Thread Cert.OutLnReferenceIdeal.nD Cert.OutLnReferenceIdeal.τ).loc Cert.OutLnReferenceIdeal.main_arg1)
      ∧ r.2.mem ((c.tc : Thread Cert.OutLnReferenceIdeal.nD Cert.OutLnReferenceIdeal.τ).loc Cert.OutLnReferenceIdeal.main_arg2) = m ((c.tc : Thread Cert.OutLnReferenceIdeal.nD Cert.OutLnReferenceIdeal.τ).loc Cert.OutLnReferenceIdeal.main_arg2)
      ∧ r.2.mem ((c.tc : Thread Cert.OutLnReferenceIdeal.nD Cert.OutLnReferenceIdeal.τ).loc Cert.OutLnReferenceIdeal.main_arg3) = m ((c.tc : Thread Cert.OutLnReferenceIdeal.nD Cert.OutLnReferenceIdeal.τ).loc Cert.OutLnReferenceIdeal.main_arg3)
      ∧ r.2.mem ((c.tc : Thread Cert.OutLnReferenceIdeal.nD Cert.OutLnReferenceIdeal.τ).loc Cert.OutLnReferenceIdeal.main_arg4) = m ((c.tc : Thread Cert.OutLnReferenceIdeal.nD Cert.OutLnReferenceIdeal.τ).loc Cert.OutLnReferenceIdeal.main_arg4)
      ∧ r.2.mem ((c.tc : Thread Cert.OutLnReferenceIdeal.nD Cert.OutLnReferenceIdeal.τ).loc Cert.OutLnReferenceIdeal.main_arg5) = m ((c.tc : Thread Cert.OutLnReferenceIdeal.nD Cert.OutLnReferenceIdeal.τ).loc Cert.OutLnReferenceIdeal.main_arg5)
      ∧ r.2.mem ((c.tc : Thread Cert.OutLnReferenceIdeal.nD Cert.OutLnReferenceIdeal.τ).loc Cert.OutLnReferenceIdeal.main_arg6) = m ((c.tc : Thread Cert.OutLnReferenceIdeal.nD Cert.OutLnReferenceIdeal.τ).loc Cert.OutLnReferenceIdeal.main_arg6)
      ∧ r.2.mem ((c.tc : Thread Cert.OutLnReferenceIdeal.nD Cert.OutLnReferenceIdeal.τ).loc Cert.OutLnReferenceIdeal.main_arg7) = m ((c.tc : Thread Cert.OutLnReferenceIdeal.nD Cert.OutLnReferenceIdeal.τ).loc Cert.OutLnReferenceIdeal.main_arg7)
      ∧ r.2.mem ((c.tc : Thread Cert.OutLnReferenceIdeal.nD Cert.OutLnReferenceIdeal.τ).loc Cert.OutLnReferenceIdeal.main_arg8) = m ((c.tc : Thread Cert.OutLnReferenceIdeal.nD Cert.OutLnReferenceIdeal.τ).loc Cert.OutLnReferenceIdeal.main_arg8)
      ∧ r.2.mem ((c.tc : Thread Cert.OutLnReferenceIdeal.nD Cert.OutLnReferenceIdeal.τ).loc Cert.OutLnReferenceIdeal.main_arg9) = m ((c.tc : Thread Cert.OutLnReferenceIdeal.nD Cert.OutLnReferenceIdeal.τ).loc Cert.OutLnReferenceIdeal.main_arg9)
      ∧ r.2.mem ((c.tc : Thread Cert.OutLnReferenceIdeal.nD Cert.OutLnReferenceIdeal.τ).loc Cert.OutLnReferenceIdeal.main_arg10) = m ((c.tc : Thread Cert.OutLnReferenceIdeal.nD Cert.OutLnReferenceIdeal.τ).loc Cert.OutLnReferenceIdeal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_v189) = v1 c
          ∧ r.2.mem ((c.tc : Thread Cert.ReferenceIdeal.nD Cert.ReferenceIdeal.τ).loc Cert.ReferenceIdeal.main_v192) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v4_0)) (v1 : (c : Dev Cert.MlpIdeal.nD) → Buf (Elt Ideal) ((c.tc : Thread Cert.MlpIdeal.nD Cert.MlpIdeal.τ).loc Cert.MlpIdeal.main_v4_1)) (v2 : (c : Dev Cert.MlpIdeal.nD) → Buf (Elt Ideal) ((c.tc : Thread Cert.MlpIdeal.nD Cert.MlpIdeal.τ).loc Cert.MlpIdeal.main_v4_2)) (v3 : (c : Dev Cert.MlpIdeal.nD) → Buf (Elt Ideal) ((c.tc : Thread Cert.MlpIdeal.nD Cert.MlpIdeal.τ).loc Cert.MlpIdeal.main_v4_3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4_0) = v0 c
          ∧ r.2.mem ((c.tc : Thread Cert.MlpIdeal.nD Cert.MlpIdeal.τ).loc Cert.MlpIdeal.main_v4_1) = v1 c
          ∧ r.2.mem ((c.tc : Thread Cert.MlpIdeal.nD Cert.MlpIdeal.τ).loc Cert.MlpIdeal.main_v4_2) = v2 c
          ∧ r.2.mem ((c.tc : Thread Cert.MlpIdeal.nD Cert.MlpIdeal.τ).loc Cert.MlpIdeal.main_v4_3) = v3 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v28) = v0 c
          ∧ r.2.mem ((c.tc : Thread Cert.MlpReferenceIdeal.nD Cert.MlpReferenceIdeal.τ).loc Cert.MlpReferenceIdeal.main_v29) = v1 c
          ∧ r.2.mem ((c.tc : Thread Cert.MlpReferenceIdeal.nD Cert.MlpReferenceIdeal.τ).loc Cert.MlpReferenceIdeal.main_v21) = v2 c
          ∧ r.2.mem ((c.tc : Thread Cert.MlpReferenceIdeal.nD Cert.MlpReferenceIdeal.τ).loc Cert.MlpReferenceIdeal.main_v27) = v3 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_Gw2_Gw2Ideal : Prop :=
  True

def algebraic_Gw2Ideal_Gw2ReferenceIdeal [hGw2Ideal : Cert.Gw2Ideal.Facts] [hGw2ReferenceIdeal : Cert.Gw2ReferenceIdeal.Facts] : Prop :=
  ∀ (m : (ℓ : Loc Cert.Gw2Ideal.nD Cert.Gw2Ideal.τ Cert.Gw2Ideal.sig) → Buf (Elt Ideal) ℓ) (g : Dev Cert.Gw2Ideal.nD → PrngReg)
    (m' : (ℓ : Loc Cert.Gw2ReferenceIdeal.nD Cert.Gw2ReferenceIdeal.τ Cert.Gw2ReferenceIdeal.sig) → Buf (Elt Ideal) ℓ) (g' : Dev Cert.Gw2ReferenceIdeal.nD → PrngReg), Pre_Gw2Ideal m →
    (∀ c : Dev Cert.Gw2Ideal.nD,
      m' ((c.tc : Thread Cert.Gw2ReferenceIdeal.nD Cert.Gw2ReferenceIdeal.τ).loc Cert.Gw2ReferenceIdeal.main_arg0) = m ((c.tc : Thread Cert.Gw2Ideal.nD Cert.Gw2Ideal.τ).loc Cert.Gw2Ideal.main_arg0)
      ∧ m' ((c.tc : Thread Cert.Gw2ReferenceIdeal.nD Cert.Gw2ReferenceIdeal.τ).loc Cert.Gw2ReferenceIdeal.main_arg1) = m ((c.tc : Thread Cert.Gw2Ideal.nD Cert.Gw2Ideal.τ).loc Cert.Gw2Ideal.main_arg1)) →
    ∃ (v0 : (c : Dev Cert.Gw2Ideal.nD) → Buf (Elt Ideal) ((c.tc : Thread Cert.Gw2Ideal.nD Cert.Gw2Ideal.τ).loc Cert.Gw2Ideal.main_v0)),
      θ_run (Cert.Gw2Ideal.defs (F := Ideal)) (onTc (τ := Cert.Gw2Ideal.τ) (Cert.Gw2Ideal.main (F := Ideal))) ⟨m, fun _ => 0, g⟩ (fun r => ∀ c : Dev Cert.Gw2Ideal.nD,
          r.2.mem ((c.tc : Thread Cert.Gw2Ideal.nD Cert.Gw2Ideal.τ).loc Cert.Gw2Ideal.main_v0) = v0 c
          ∧ r.2.mem ((c.tc : Thread Cert.Gw2Ideal.nD Cert.Gw2Ideal.τ).loc Cert.Gw2Ideal.main_arg0) = m ((c.tc : Thread Cert.Gw2Ideal.nD Cert.Gw2Ideal.τ).loc Cert.Gw2Ideal.main_arg0)
          ∧ r.2.mem ((c.tc : Thread Cert.Gw2Ideal.nD Cert.Gw2Ideal.τ).loc Cert.Gw2Ideal.main_arg1) = m ((c.tc : Thread Cert.Gw2Ideal.nD Cert.Gw2Ideal.τ).loc Cert.Gw2Ideal.main_arg1))
      ∧ θ_run (Cert.Gw2ReferenceIdeal.defs (F := Ideal)) (onTc (τ := Cert.Gw2ReferenceIdeal.τ) (Cert.Gw2ReferenceIdeal.main (F := Ideal))) ⟨m', fun _ => 0, g'⟩ (fun r => ∀ c : Dev Cert.Gw2ReferenceIdeal.nD,
          r.2.mem ((c.tc : Thread Cert.Gw2ReferenceIdeal.nD Cert.Gw2ReferenceIdeal.τ).loc Cert.Gw2ReferenceIdeal.main_v7) = v0 c
          ∧ r.2.mem ((c.tc : Thread Cert.Gw2ReferenceIdeal.nD Cert.Gw2ReferenceIdeal.τ).loc Cert.Gw2ReferenceIdeal.main_arg0) = m' ((c.tc : Thread Cert.Gw2ReferenceIdeal.nD Cert.Gw2ReferenceIdeal.τ).loc Cert.Gw2ReferenceIdeal.main_arg0)
          ∧ r.2.mem ((c.tc : Thread Cert.Gw2ReferenceIdeal.nD Cert.Gw2ReferenceIdeal.τ).loc Cert.Gw2ReferenceIdeal.main_arg1) = m' ((c.tc : Thread Cert.Gw2ReferenceIdeal.nD Cert.Gw2ReferenceIdeal.τ).loc Cert.Gw2ReferenceIdeal.main_arg1))

def preserves_Gw1_Gw1Ideal : Prop :=
  True

def algebraic_Gw1Ideal_Gw1ReferenceIdeal [hGw1Ideal : Cert.Gw1Ideal.Facts] [hGw1ReferenceIdeal : Cert.Gw1ReferenceIdeal.Facts] : Prop :=
  ∀ (m : (ℓ : Loc Cert.Gw1Ideal.nD Cert.Gw1Ideal.τ Cert.Gw1Ideal.sig) → Buf (Elt Ideal) ℓ) (g : Dev Cert.Gw1Ideal.nD → PrngReg)
    (m' : (ℓ : Loc Cert.Gw1ReferenceIdeal.nD Cert.Gw1ReferenceIdeal.τ Cert.Gw1ReferenceIdeal.sig) → Buf (Elt Ideal) ℓ) (g' : Dev Cert.Gw1ReferenceIdeal.nD → PrngReg), Pre_Gw1Ideal m →
    (∀ c : Dev Cert.Gw1Ideal.nD,
      m' ((c.tc : Thread Cert.Gw1ReferenceIdeal.nD Cert.Gw1ReferenceIdeal.τ).loc Cert.Gw1ReferenceIdeal.main_arg0) = m ((c.tc : Thread Cert.Gw1Ideal.nD Cert.Gw1Ideal.τ).loc Cert.Gw1Ideal.main_arg0)
      ∧ m' ((c.tc : Thread Cert.Gw1ReferenceIdeal.nD Cert.Gw1ReferenceIdeal.τ).loc Cert.Gw1ReferenceIdeal.main_arg1) = m ((c.tc : Thread Cert.Gw1Ideal.nD Cert.Gw1Ideal.τ).loc Cert.Gw1Ideal.main_arg1)) →
    ∃ (v0 : (c : Dev Cert.Gw1Ideal.nD) → Buf (Elt Ideal) ((c.tc : Thread Cert.Gw1Ideal.nD Cert.Gw1Ideal.τ).loc Cert.Gw1Ideal.main_v0)),
      θ_run (Cert.Gw1Ideal.defs (F := Ideal)) (onTc (τ := Cert.Gw1Ideal.τ) (Cert.Gw1Ideal.main (F := Ideal))) ⟨m, fun _ => 0, g⟩ (fun r => ∀ c : Dev Cert.Gw1Ideal.nD,
          r.2.mem ((c.tc : Thread Cert.Gw1Ideal.nD Cert.Gw1Ideal.τ).loc Cert.Gw1Ideal.main_v0) = v0 c
          ∧ r.2.mem ((c.tc : Thread Cert.Gw1Ideal.nD Cert.Gw1Ideal.τ).loc Cert.Gw1Ideal.main_arg0) = m ((c.tc : Thread Cert.Gw1Ideal.nD Cert.Gw1Ideal.τ).loc Cert.Gw1Ideal.main_arg0)
          ∧ r.2.mem ((c.tc : Thread Cert.Gw1Ideal.nD Cert.Gw1Ideal.τ).loc Cert.Gw1Ideal.main_arg1) = m ((c.tc : Thread Cert.Gw1Ideal.nD Cert.Gw1Ideal.τ).loc Cert.Gw1Ideal.main_arg1))
      ∧ θ_run (Cert.Gw1ReferenceIdeal.defs (F := Ideal)) (onTc (τ := Cert.Gw1ReferenceIdeal.τ) (Cert.Gw1ReferenceIdeal.main (F := Ideal))) ⟨m', fun _ => 0, g'⟩ (fun r => ∀ c : Dev Cert.Gw1ReferenceIdeal.nD,
          r.2.mem ((c.tc : Thread Cert.Gw1ReferenceIdeal.nD Cert.Gw1ReferenceIdeal.τ).loc Cert.Gw1ReferenceIdeal.main_v7) = v0 c
          ∧ r.2.mem ((c.tc : Thread Cert.Gw1ReferenceIdeal.nD Cert.Gw1ReferenceIdeal.τ).loc Cert.Gw1ReferenceIdeal.main_arg0) = m' ((c.tc : Thread Cert.Gw1ReferenceIdeal.nD Cert.Gw1ReferenceIdeal.τ).loc Cert.Gw1ReferenceIdeal.main_arg0)
          ∧ r.2.mem ((c.tc : Thread Cert.Gw1ReferenceIdeal.nD Cert.Gw1ReferenceIdeal.τ).loc Cert.Gw1ReferenceIdeal.main_arg1) = m' ((c.tc : Thread Cert.Gw1ReferenceIdeal.nD Cert.Gw1ReferenceIdeal.τ).loc Cert.Gw1ReferenceIdeal.main_arg1))

def preserves_Gwi_GwiIdeal : Prop :=
  True

def algebraic_GwiIdeal_GwiReferenceIdeal [hGwiIdeal : Cert.GwiIdeal.Facts] [hGwiReferenceIdeal : Cert.GwiReferenceIdeal.Facts] : Prop :=
  ∀ (m : (ℓ : Loc Cert.GwiIdeal.nD Cert.GwiIdeal.τ Cert.GwiIdeal.sig) → Buf (Elt Ideal) ℓ) (g : Dev Cert.GwiIdeal.nD → PrngReg)
    (m' : (ℓ : Loc Cert.GwiReferenceIdeal.nD Cert.GwiReferenceIdeal.τ Cert.GwiReferenceIdeal.sig) → Buf (Elt Ideal) ℓ) (g' : Dev Cert.GwiReferenceIdeal.nD → PrngReg), Pre_GwiIdeal m →
    (∀ c : Dev Cert.GwiIdeal.nD,
      m' ((c.tc : Thread Cert.GwiReferenceIdeal.nD Cert.GwiReferenceIdeal.τ).loc Cert.GwiReferenceIdeal.main_arg0) = m ((c.tc : Thread Cert.GwiIdeal.nD Cert.GwiIdeal.τ).loc Cert.GwiIdeal.main_arg0)
      ∧ m' ((c.tc : Thread Cert.GwiReferenceIdeal.nD Cert.GwiReferenceIdeal.τ).loc Cert.GwiReferenceIdeal.main_arg1) = m ((c.tc : Thread Cert.GwiIdeal.nD Cert.GwiIdeal.τ).loc Cert.GwiIdeal.main_arg1)
      ∧ m' ((c.tc : Thread Cert.GwiReferenceIdeal.nD Cert.GwiReferenceIdeal.τ).loc Cert.GwiReferenceIdeal.main_arg2) = m ((c.tc : Thread Cert.GwiIdeal.nD Cert.GwiIdeal.τ).loc Cert.GwiIdeal.main_arg2)
      ∧ m' ((c.tc : Thread Cert.GwiReferenceIdeal.nD Cert.GwiReferenceIdeal.τ).loc Cert.GwiReferenceIdeal.main_arg3) = m ((c.tc : Thread Cert.GwiIdeal.nD Cert.GwiIdeal.τ).loc Cert.GwiIdeal.main_arg3)
      ∧ m' ((c.tc : Thread Cert.GwiReferenceIdeal.nD Cert.GwiReferenceIdeal.τ).loc Cert.GwiReferenceIdeal.main_arg4) = m ((c.tc : Thread Cert.GwiIdeal.nD Cert.GwiIdeal.τ).loc Cert.GwiIdeal.main_arg4)
      ∧ m' ((c.tc : Thread Cert.GwiReferenceIdeal.nD Cert.GwiReferenceIdeal.τ).loc Cert.GwiReferenceIdeal.main_arg5) = m ((c.tc : Thread Cert.GwiIdeal.nD Cert.GwiIdeal.τ).loc Cert.GwiIdeal.main_arg5)) →
    ∃ (v0 : (c : Dev Cert.GwiIdeal.nD) → Buf (Elt Ideal) ((c.tc : Thread Cert.GwiIdeal.nD Cert.GwiIdeal.τ).loc Cert.GwiIdeal.main_v0)),
      θ_run (Cert.GwiIdeal.defs (F := Ideal)) (onTc (τ := Cert.GwiIdeal.τ) (Cert.GwiIdeal.main (F := Ideal))) ⟨m, fun _ => 0, g⟩ (fun r => ∀ c : Dev Cert.GwiIdeal.nD,
          r.2.mem ((c.tc : Thread Cert.GwiIdeal.nD Cert.GwiIdeal.τ).loc Cert.GwiIdeal.main_v0) = v0 c
          ∧ r.2.mem ((c.tc : Thread Cert.GwiIdeal.nD Cert.GwiIdeal.τ).loc Cert.GwiIdeal.main_arg0) = m ((c.tc : Thread Cert.GwiIdeal.nD Cert.GwiIdeal.τ).loc Cert.GwiIdeal.main_arg0)
          ∧ r.2.mem ((c.tc : Thread Cert.GwiIdeal.nD Cert.GwiIdeal.τ).loc Cert.GwiIdeal.main_arg1) = m ((c.tc : Thread Cert.GwiIdeal.nD Cert.GwiIdeal.τ).loc Cert.GwiIdeal.main_arg1)
          ∧ r.2.mem ((c.tc : Thread Cert.GwiIdeal.nD Cert.GwiIdeal.τ).loc Cert.GwiIdeal.main_arg2) = m ((c.tc : Thread Cert.GwiIdeal.nD Cert.GwiIdeal.τ).loc Cert.GwiIdeal.main_arg2)
          ∧ r.2.mem ((c.tc : Thread Cert.GwiIdeal.nD Cert.GwiIdeal.τ).loc Cert.GwiIdeal.main_arg3) = m ((c.tc : Thread Cert.GwiIdeal.nD Cert.GwiIdeal.τ).loc Cert.GwiIdeal.main_arg3)
          ∧ r.2.mem ((c.tc : Thread Cert.GwiIdeal.nD Cert.GwiIdeal.τ).loc Cert.GwiIdeal.main_arg4) = m ((c.tc : Thread Cert.GwiIdeal.nD Cert.GwiIdeal.τ).loc Cert.GwiIdeal.main_arg4)
          ∧ r.2.mem ((c.tc : Thread Cert.GwiIdeal.nD Cert.GwiIdeal.τ).loc Cert.GwiIdeal.main_arg5) = m ((c.tc : Thread Cert.GwiIdeal.nD Cert.GwiIdeal.τ).loc Cert.GwiIdeal.main_arg5))
      ∧ θ_run (Cert.GwiReferenceIdeal.defs (F := Ideal)) (onTc (τ := Cert.GwiReferenceIdeal.τ) (Cert.GwiReferenceIdeal.main (F := Ideal))) ⟨m', fun _ => 0, g'⟩ (fun r => ∀ c : Dev Cert.GwiReferenceIdeal.nD,
          r.2.mem ((c.tc : Thread Cert.GwiReferenceIdeal.nD Cert.GwiReferenceIdeal.τ).loc Cert.GwiReferenceIdeal.main_v18) = v0 c
          ∧ r.2.mem ((c.tc : Thread Cert.GwiReferenceIdeal.nD Cert.GwiReferenceIdeal.τ).loc Cert.GwiReferenceIdeal.main_arg0) = m' ((c.tc : Thread Cert.GwiReferenceIdeal.nD Cert.GwiReferenceIdeal.τ).loc Cert.GwiReferenceIdeal.main_arg0)
          ∧ r.2.mem ((c.tc : Thread Cert.GwiReferenceIdeal.nD Cert.GwiReferenceIdeal.τ).loc Cert.GwiReferenceIdeal.main_arg1) = m' ((c.tc : Thread Cert.GwiReferenceIdeal.nD Cert.GwiReferenceIdeal.τ).loc Cert.GwiReferenceIdeal.main_arg1)
          ∧ r.2.mem ((c.tc : Thread Cert.GwiReferenceIdeal.nD Cert.GwiReferenceIdeal.τ).loc Cert.GwiReferenceIdeal.main_arg2) = m' ((c.tc : Thread Cert.GwiReferenceIdeal.nD Cert.GwiReferenceIdeal.τ).loc Cert.GwiReferenceIdeal.main_arg2)
          ∧ r.2.mem ((c.tc : Thread Cert.GwiReferenceIdeal.nD Cert.GwiReferenceIdeal.τ).loc Cert.GwiReferenceIdeal.main_arg3) = m' ((c.tc : Thread Cert.GwiReferenceIdeal.nD Cert.GwiReferenceIdeal.τ).loc Cert.GwiReferenceIdeal.main_arg3)
          ∧ r.2.mem ((c.tc : Thread Cert.GwiReferenceIdeal.nD Cert.GwiReferenceIdeal.τ).loc Cert.GwiReferenceIdeal.main_arg4) = m' ((c.tc : Thread Cert.GwiReferenceIdeal.nD Cert.GwiReferenceIdeal.τ).loc Cert.GwiReferenceIdeal.main_arg4)
          ∧ r.2.mem ((c.tc : Thread Cert.GwiReferenceIdeal.nD Cert.GwiReferenceIdeal.τ).loc Cert.GwiReferenceIdeal.main_arg5) = m' ((c.tc : Thread Cert.GwiReferenceIdeal.nD Cert.GwiReferenceIdeal.τ).loc Cert.GwiReferenceIdeal.main_arg5))

def preserves_Gwo_GwoIdeal : Prop :=
  True

def algebraic_GwoIdeal_GwoReferenceIdeal [hGwoIdeal : Cert.GwoIdeal.Facts] [hGwoReferenceIdeal : Cert.GwoReferenceIdeal.Facts] : Prop :=
  ∀ (m : (ℓ : Loc Cert.GwoIdeal.nD Cert.GwoIdeal.τ Cert.GwoIdeal.sig) → Buf (Elt Ideal) ℓ) (g : Dev Cert.GwoIdeal.nD → PrngReg)
    (m' : (ℓ : Loc Cert.GwoReferenceIdeal.nD Cert.GwoReferenceIdeal.τ Cert.GwoReferenceIdeal.sig) → Buf (Elt Ideal) ℓ) (g' : Dev Cert.GwoReferenceIdeal.nD → PrngReg), Pre_GwoIdeal m →
    (∀ c : Dev Cert.GwoIdeal.nD,
      m' ((c.tc : Thread Cert.GwoReferenceIdeal.nD Cert.GwoReferenceIdeal.τ).loc Cert.GwoReferenceIdeal.main_arg0) = m ((c.tc : Thread Cert.GwoIdeal.nD Cert.GwoIdeal.τ).loc Cert.GwoIdeal.main_arg0)
      ∧ m' ((c.tc : Thread Cert.GwoReferenceIdeal.nD Cert.GwoReferenceIdeal.τ).loc Cert.GwoReferenceIdeal.main_arg1) = m ((c.tc : Thread Cert.GwoIdeal.nD Cert.GwoIdeal.τ).loc Cert.GwoIdeal.main_arg1)) →
    ∃ (v0 : (c : Dev Cert.GwoIdeal.nD) → Buf (Elt Ideal) ((c.tc : Thread Cert.GwoIdeal.nD Cert.GwoIdeal.τ).loc Cert.GwoIdeal.main_v0)),
      θ_run (Cert.GwoIdeal.defs (F := Ideal)) (onTc (τ := Cert.GwoIdeal.τ) (Cert.GwoIdeal.main (F := Ideal))) ⟨m, fun _ => 0, g⟩ (fun r => ∀ c : Dev Cert.GwoIdeal.nD,
          r.2.mem ((c.tc : Thread Cert.GwoIdeal.nD Cert.GwoIdeal.τ).loc Cert.GwoIdeal.main_v0) = v0 c
          ∧ r.2.mem ((c.tc : Thread Cert.GwoIdeal.nD Cert.GwoIdeal.τ).loc Cert.GwoIdeal.main_arg0) = m ((c.tc : Thread Cert.GwoIdeal.nD Cert.GwoIdeal.τ).loc Cert.GwoIdeal.main_arg0)
          ∧ r.2.mem ((c.tc : Thread Cert.GwoIdeal.nD Cert.GwoIdeal.τ).loc Cert.GwoIdeal.main_arg1) = m ((c.tc : Thread Cert.GwoIdeal.nD Cert.GwoIdeal.τ).loc Cert.GwoIdeal.main_arg1))
      ∧ θ_run (Cert.GwoReferenceIdeal.defs (F := Ideal)) (onTc (τ := Cert.GwoReferenceIdeal.τ) (Cert.GwoReferenceIdeal.main (F := Ideal))) ⟨m', fun _ => 0, g'⟩ (fun r => ∀ c : Dev Cert.GwoReferenceIdeal.nD,
          r.2.mem ((c.tc : Thread Cert.GwoReferenceIdeal.nD Cert.GwoReferenceIdeal.τ).loc Cert.GwoReferenceIdeal.main_v6) = v0 c
          ∧ r.2.mem ((c.tc : Thread Cert.GwoReferenceIdeal.nD Cert.GwoReferenceIdeal.τ).loc Cert.GwoReferenceIdeal.main_arg0) = m' ((c.tc : Thread Cert.GwoReferenceIdeal.nD Cert.GwoReferenceIdeal.τ).loc Cert.GwoReferenceIdeal.main_arg0)
          ∧ r.2.mem ((c.tc : Thread Cert.GwoReferenceIdeal.nD Cert.GwoReferenceIdeal.τ).loc Cert.GwoReferenceIdeal.main_arg1) = m' ((c.tc : Thread Cert.GwoReferenceIdeal.nD Cert.GwoReferenceIdeal.τ).loc Cert.GwoReferenceIdeal.main_arg1))

def preserves_LnIn_LnInIdeal : Prop :=
  True

def algebraic_LnInIdeal_LnInReferenceIdeal [hLnInIdeal : Cert.LnInIdeal.Facts] [hLnInReferenceIdeal : Cert.LnInReferenceIdeal.Facts] : Prop :=
  ∀ (m : (ℓ : Loc Cert.LnInIdeal.nD Cert.LnInIdeal.τ Cert.LnInIdeal.sig) → Buf (Elt Ideal) ℓ) (g : Dev Cert.LnInIdeal.nD → PrngReg)
    (m' : (ℓ : Loc Cert.LnInReferenceIdeal.nD Cert.LnInReferenceIdeal.τ Cert.LnInReferenceIdeal.sig) → Buf (Elt Ideal) ℓ) (g' : Dev Cert.LnInReferenceIdeal.nD → PrngReg), Pre_LnInIdeal m →
    (∀ c : Dev Cert.LnInIdeal.nD,
      m' ((c.tc : Thread Cert.LnInReferenceIdeal.nD Cert.LnInReferenceIdeal.τ).loc Cert.LnInReferenceIdeal.main_arg0) = m ((c.tc : Thread Cert.LnInIdeal.nD Cert.LnInIdeal.τ).loc Cert.LnInIdeal.main_arg0)
      ∧ m' ((c.tc : Thread Cert.LnInReferenceIdeal.nD Cert.LnInReferenceIdeal.τ).loc Cert.LnInReferenceIdeal.main_arg1) = m ((c.tc : Thread Cert.LnInIdeal.nD Cert.LnInIdeal.τ).loc Cert.LnInIdeal.main_arg1)
      ∧ m' ((c.tc : Thread Cert.LnInReferenceIdeal.nD Cert.LnInReferenceIdeal.τ).loc Cert.LnInReferenceIdeal.main_arg2) = m ((c.tc : Thread Cert.LnInIdeal.nD Cert.LnInIdeal.τ).loc Cert.LnInIdeal.main_arg2)
      ∧ m' ((c.tc : Thread Cert.LnInReferenceIdeal.nD Cert.LnInReferenceIdeal.τ).loc Cert.LnInReferenceIdeal.main_arg3) = m ((c.tc : Thread Cert.LnInIdeal.nD Cert.LnInIdeal.τ).loc Cert.LnInIdeal.main_arg3)
      ∧ m' ((c.tc : Thread Cert.LnInReferenceIdeal.nD Cert.LnInReferenceIdeal.τ).loc Cert.LnInReferenceIdeal.main_arg4) = m ((c.tc : Thread Cert.LnInIdeal.nD Cert.LnInIdeal.τ).loc Cert.LnInIdeal.main_arg4)
      ∧ m' ((c.tc : Thread Cert.LnInReferenceIdeal.nD Cert.LnInReferenceIdeal.τ).loc Cert.LnInReferenceIdeal.main_arg5) = m ((c.tc : Thread Cert.LnInIdeal.nD Cert.LnInIdeal.τ).loc Cert.LnInIdeal.main_arg5)) →
    ∃ (v0 : (c : Dev Cert.LnInIdeal.nD) → Buf (Elt Ideal) ((c.tc : Thread Cert.LnInIdeal.nD Cert.LnInIdeal.τ).loc Cert.LnInIdeal.main_v0_0)) (v1 : (c : Dev Cert.LnInIdeal.nD) → Buf (Elt Ideal) ((c.tc : Thread Cert.LnInIdeal.nD Cert.LnInIdeal.τ).loc Cert.LnInIdeal.main_v0_1)) (v2 : (c : Dev Cert.LnInIdeal.nD) → Buf (Elt Ideal) ((c.tc : Thread Cert.LnInIdeal.nD Cert.LnInIdeal.τ).loc Cert.LnInIdeal.main_v0_2)) (v3 : (c : Dev Cert.LnInIdeal.nD) → Buf (Elt Ideal) ((c.tc : Thread Cert.LnInIdeal.nD Cert.LnInIdeal.τ).loc Cert.LnInIdeal.main_v0_3)) (v4 : (c : Dev Cert.LnInIdeal.nD) → Buf (Elt Ideal) ((c.tc : Thread Cert.LnInIdeal.nD Cert.LnInIdeal.τ).loc Cert.LnInIdeal.main_v0_4)) (v5 : (c : Dev Cert.LnInIdeal.nD) → Buf (Elt Ideal) ((c.tc : Thread Cert.LnInIdeal.nD Cert.LnInIdeal.τ).loc Cert.LnInIdeal.main_v0_5)) (v6 : (c : Dev Cert.LnInIdeal.nD) → Buf (Elt Ideal) ((c.tc : Thread Cert.LnInIdeal.nD Cert.LnInIdeal.τ).loc Cert.LnInIdeal.main_v0_6)) (v7 : (c : Dev Cert.LnInIdeal.nD) → Buf (Elt Ideal) ((c.tc : Thread Cert.LnInIdeal.nD Cert.LnInIdeal.τ).loc Cert.LnInIdeal.main_v0_7)),
      θ_run (Cert.LnInIdeal.defs (F := Ideal)) (onTc (τ := Cert.LnInIdeal.τ) (Cert.LnInIdeal.main (F := Ideal))) ⟨m, fun _ => 0, g⟩ (fun r => ∀ c : Dev Cert.LnInIdeal.nD,
          r.2.mem ((c.tc : Thread Cert.LnInIdeal.nD Cert.LnInIdeal.τ).loc Cert.LnInIdeal.main_v0_0) = v0 c
          ∧ r.2.mem ((c.tc : Thread Cert.LnInIdeal.nD Cert.LnInIdeal.τ).loc Cert.LnInIdeal.main_v0_1) = v1 c
          ∧ r.2.mem ((c.tc : Thread Cert.LnInIdeal.nD Cert.LnInIdeal.τ).loc Cert.LnInIdeal.main_v0_2) = v2 c
          ∧ r.2.mem ((c.tc : Thread Cert.LnInIdeal.nD Cert.LnInIdeal.τ).loc Cert.LnInIdeal.main_v0_3) = v3 c
          ∧ r.2.mem ((c.tc : Thread Cert.LnInIdeal.nD Cert.LnInIdeal.τ).loc Cert.LnInIdeal.main_v0_4) = v4 c
          ∧ r.2.mem ((c.tc : Thread Cert.LnInIdeal.nD Cert.LnInIdeal.τ).loc Cert.LnInIdeal.main_v0_5) = v5 c
          ∧ r.2.mem ((c.tc : Thread Cert.LnInIdeal.nD Cert.LnInIdeal.τ).loc Cert.LnInIdeal.main_v0_6) = v6 c
          ∧ r.2.mem ((c.tc : Thread Cert.LnInIdeal.nD Cert.LnInIdeal.τ).loc Cert.LnInIdeal.main_v0_7) = v7 c
          ∧ r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
          ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
          ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2)
          ∧ r.2.mem ((c.tc : Thread Cert.LnInIdeal.nD Cert.LnInIdeal.τ).loc Cert.LnInIdeal.main_arg3) = m ((c.tc : Thread Cert.LnInIdeal.nD Cert.LnInIdeal.τ).loc Cert.LnInIdeal.main_arg3)
          ∧ r.2.mem ((c.tc : Thread Cert.LnInIdeal.nD Cert.LnInIdeal.τ).loc Cert.LnInIdeal.main_arg4) = m ((c.tc : Thread Cert.LnInIdeal.nD Cert.LnInIdeal.τ).loc Cert.LnInIdeal.main_arg4)
          ∧ r.2.mem ((c.tc : Thread Cert.LnInIdeal.nD Cert.LnInIdeal.τ).loc Cert.LnInIdeal.main_arg5) = m ((c.tc : Thread Cert.LnInIdeal.nD Cert.LnInIdeal.τ).loc Cert.LnInIdeal.main_arg5))
      ∧ θ_run (Cert.LnInReferenceIdeal.defs (F := Ideal)) (onTc (τ := Cert.LnInReferenceIdeal.τ) (Cert.LnInReferenceIdeal.main (F := Ideal))) ⟨m', fun _ => 0, g'⟩ (fun r => ∀ c : Dev Cert.LnInReferenceIdeal.nD,
          r.2.mem ((c.tc : Thread Cert.LnInReferenceIdeal.nD Cert.LnInReferenceIdeal.τ).loc Cert.LnInReferenceIdeal.main_v17) = v0 c
          ∧ r.2.mem ((c.tc : Thread Cert.LnInReferenceIdeal.nD Cert.LnInReferenceIdeal.τ).loc Cert.LnInReferenceIdeal.main_v13) = v1 c
          ∧ r.2.mem ((c.tc : Thread Cert.LnInReferenceIdeal.nD Cert.LnInReferenceIdeal.τ).loc Cert.LnInReferenceIdeal.main_v31) = v2 c
          ∧ r.2.mem ((c.tc : Thread Cert.LnInReferenceIdeal.nD Cert.LnInReferenceIdeal.τ).loc Cert.LnInReferenceIdeal.main_v32) = v3 c
          ∧ r.2.mem ((c.tc : Thread Cert.LnInReferenceIdeal.nD Cert.LnInReferenceIdeal.τ).loc Cert.LnInReferenceIdeal.main_v33) = v4 c
          ∧ r.2.mem ((c.tc : Thread Cert.LnInReferenceIdeal.nD Cert.LnInReferenceIdeal.τ).loc Cert.LnInReferenceIdeal.main_v35) = v5 c
          ∧ r.2.mem ((c.tc : Thread Cert.LnInReferenceIdeal.nD Cert.LnInReferenceIdeal.τ).loc Cert.LnInReferenceIdeal.main_v37) = v6 c
          ∧ r.2.mem ((c.tc : Thread Cert.LnInReferenceIdeal.nD Cert.LnInReferenceIdeal.τ).loc Cert.LnInReferenceIdeal.main_v38) = v7 c
          ∧ r.2.mem ((c.tc : Thread Cert.LnInReferenceIdeal.nD Cert.LnInReferenceIdeal.τ).loc Cert.LnInReferenceIdeal.main_arg0) = m' ((c.tc : Thread Cert.LnInReferenceIdeal.nD Cert.LnInReferenceIdeal.τ).loc Cert.LnInReferenceIdeal.main_arg0)
          ∧ r.2.mem ((c.tc : Thread Cert.LnInReferenceIdeal.nD Cert.LnInReferenceIdeal.τ).loc Cert.LnInReferenceIdeal.main_arg1) = m' ((c.tc : Thread Cert.LnInReferenceIdeal.nD Cert.LnInReferenceIdeal.τ).loc Cert.LnInReferenceIdeal.main_arg1)
          ∧ r.2.mem ((c.tc : Thread Cert.LnInReferenceIdeal.nD Cert.LnInReferenceIdeal.τ).loc Cert.LnInReferenceIdeal.main_arg2) = m' ((c.tc : Thread Cert.LnInReferenceIdeal.nD Cert.LnInReferenceIdeal.τ).loc Cert.LnInReferenceIdeal.main_arg2)
          ∧ r.2.mem ((c.tc : Thread Cert.LnInReferenceIdeal.nD Cert.LnInReferenceIdeal.τ).loc Cert.LnInReferenceIdeal.main_arg3) = m' ((c.tc : Thread Cert.LnInReferenceIdeal.nD Cert.LnInReferenceIdeal.τ).loc Cert.LnInReferenceIdeal.main_arg3)
          ∧ r.2.mem ((c.tc : Thread Cert.LnInReferenceIdeal.nD Cert.LnInReferenceIdeal.τ).loc Cert.LnInReferenceIdeal.main_arg4) = m' ((c.tc : Thread Cert.LnInReferenceIdeal.nD Cert.LnInReferenceIdeal.τ).loc Cert.LnInReferenceIdeal.main_arg4)
          ∧ r.2.mem ((c.tc : Thread Cert.LnInReferenceIdeal.nD Cert.LnInReferenceIdeal.τ).loc Cert.LnInReferenceIdeal.main_arg5) = m' ((c.tc : Thread Cert.LnInReferenceIdeal.nD Cert.LnInReferenceIdeal.τ).loc Cert.LnInReferenceIdeal.main_arg5))

def preserves_OutLn_OutLnIdeal : Prop :=
  True

def algebraic_OutLnIdeal_OutLnReferenceIdeal [hOutLnIdeal : Cert.OutLnIdeal.Facts] [hOutLnReferenceIdeal : Cert.OutLnReferenceIdeal.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.OutLnReferenceIdeal.nD Cert.OutLnReferenceIdeal.τ Cert.OutLnReferenceIdeal.sig) → Buf (Elt Ideal) ℓ) (g' : Dev Cert.OutLnReferenceIdeal.nD → PrngReg), Pre_OutLnIdeal m →
    (∀ c : Dev Cert.OutLnIdeal.nD,
      m' ((c.tc : Thread Cert.OutLnReferenceIdeal.nD Cert.OutLnReferenceIdeal.τ).loc Cert.OutLnReferenceIdeal.main_arg0) = m ((c.tc : Thread Cert.OutLnIdeal.nD Cert.OutLnIdeal.τ).loc Cert.OutLnIdeal.main_arg0)
      ∧ m' ((c.tc : Thread Cert.OutLnReferenceIdeal.nD Cert.OutLnReferenceIdeal.τ).loc Cert.OutLnReferenceIdeal.main_arg1) = m ((c.tc : Thread Cert.OutLnIdeal.nD Cert.OutLnIdeal.τ).loc Cert.OutLnIdeal.main_arg1)
      ∧ m' ((c.tc : Thread Cert.OutLnReferenceIdeal.nD Cert.OutLnReferenceIdeal.τ).loc Cert.OutLnReferenceIdeal.main_arg2) = m ((c.tc : Thread Cert.OutLnIdeal.nD Cert.OutLnIdeal.τ).loc Cert.OutLnIdeal.main_arg2)
      ∧ m' ((c.tc : Thread Cert.OutLnReferenceIdeal.nD Cert.OutLnReferenceIdeal.τ).loc Cert.OutLnReferenceIdeal.main_arg3) = m ((c.tc : Thread Cert.OutLnIdeal.nD Cert.OutLnIdeal.τ).loc Cert.OutLnIdeal.main_arg3)
      ∧ m' ((c.tc : Thread Cert.OutLnReferenceIdeal.nD Cert.OutLnReferenceIdeal.τ).loc Cert.OutLnReferenceIdeal.main_arg4) = m ((c.tc : Thread Cert.OutLnIdeal.nD Cert.OutLnIdeal.τ).loc Cert.OutLnIdeal.main_arg4)
      ∧ m' ((c.tc : Thread Cert.OutLnReferenceIdeal.nD Cert.OutLnReferenceIdeal.τ).loc Cert.OutLnReferenceIdeal.main_arg5) = m ((c.tc : Thread Cert.OutLnIdeal.nD Cert.OutLnIdeal.τ).loc Cert.OutLnIdeal.main_arg5)
      ∧ m' ((c.tc : Thread Cert.OutLnReferenceIdeal.nD Cert.OutLnReferenceIdeal.τ).loc Cert.OutLnReferenceIdeal.main_arg6) = m ((c.tc : Thread Cert.OutLnIdeal.nD Cert.OutLnIdeal.τ).loc Cert.OutLnIdeal.main_arg6)
      ∧ m' ((c.tc : Thread Cert.OutLnReferenceIdeal.nD Cert.OutLnReferenceIdeal.τ).loc Cert.OutLnReferenceIdeal.main_arg7) = m ((c.tc : Thread Cert.OutLnIdeal.nD Cert.OutLnIdeal.τ).loc Cert.OutLnIdeal.main_arg7)
      ∧ m' ((c.tc : Thread Cert.OutLnReferenceIdeal.nD Cert.OutLnReferenceIdeal.τ).loc Cert.OutLnReferenceIdeal.main_arg8) = m ((c.tc : Thread Cert.OutLnIdeal.nD Cert.OutLnIdeal.τ).loc Cert.OutLnIdeal.main_arg8)
      ∧ m' ((c.tc : Thread Cert.OutLnReferenceIdeal.nD Cert.OutLnReferenceIdeal.τ).loc Cert.OutLnReferenceIdeal.main_arg9) = m ((c.tc : Thread Cert.OutLnIdeal.nD Cert.OutLnIdeal.τ).loc Cert.OutLnIdeal.main_arg9)
      ∧ m' ((c.tc : Thread Cert.OutLnReferenceIdeal.nD Cert.OutLnReferenceIdeal.τ).loc Cert.OutLnReferenceIdeal.main_arg10) = m ((c.tc : Thread Cert.OutLnIdeal.nD Cert.OutLnIdeal.τ).loc Cert.OutLnIdeal.main_arg10)) →
    ∃ (v0 : (c : Dev Cert.OutLnIdeal.nD) → Buf (Elt Ideal) ((c.tc : Thread Cert.OutLnIdeal.nD Cert.OutLnIdeal.τ).loc Cert.OutLnIdeal.main_v2_0)) (v1 : (c : Dev Cert.OutLnIdeal.nD) → Buf (Elt Ideal) ((c.tc : Thread Cert.OutLnIdeal.nD Cert.OutLnIdeal.τ).loc Cert.OutLnIdeal.main_v2_1)) (v2 : (c : Dev Cert.OutLnIdeal.nD) → Buf (Elt Ideal) ((c.tc : Thread Cert.OutLnIdeal.nD Cert.OutLnIdeal.τ).loc Cert.OutLnIdeal.main_v2_2)) (v3 : (c : Dev Cert.OutLnIdeal.nD) → Buf (Elt Ideal) ((c.tc : Thread Cert.OutLnIdeal.nD Cert.OutLnIdeal.τ).loc Cert.OutLnIdeal.main_v2_3)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v2_0) = v0 c
          ∧ r.2.mem ((c.tc : Thread Cert.OutLnIdeal.nD Cert.OutLnIdeal.τ).loc Cert.OutLnIdeal.main_v2_1) = v1 c
          ∧ r.2.mem ((c.tc : Thread Cert.OutLnIdeal.nD Cert.OutLnIdeal.τ).loc Cert.OutLnIdeal.main_v2_2) = v2 c
          ∧ r.2.mem ((c.tc : Thread Cert.OutLnIdeal.nD Cert.OutLnIdeal.τ).loc Cert.OutLnIdeal.main_v2_3) = v3 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
          ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5)
          ∧ r.2.mem ((c.tc : Thread Cert.OutLnIdeal.nD Cert.OutLnIdeal.τ).loc Cert.OutLnIdeal.main_arg6) = m ((c.tc : Thread Cert.OutLnIdeal.nD Cert.OutLnIdeal.τ).loc Cert.OutLnIdeal.main_arg6)
          ∧ r.2.mem ((c.tc : Thread Cert.OutLnIdeal.nD Cert.OutLnIdeal.τ).loc Cert.OutLnIdeal.main_arg7) = m ((c.tc : Thread Cert.OutLnIdeal.nD Cert.OutLnIdeal.τ).loc Cert.OutLnIdeal.main_arg7)
          ∧ r.2.mem ((c.tc : Thread Cert.OutLnIdeal.nD Cert.OutLnIdeal.τ).loc Cert.OutLnIdeal.main_arg8) = m ((c.tc : Thread Cert.OutLnIdeal.nD Cert.OutLnIdeal.τ).loc Cert.OutLnIdeal.main_arg8)
          ∧ r.2.mem ((c.tc : Thread Cert.OutLnIdeal.nD Cert.OutLnIdeal.τ).loc Cert.OutLnIdeal.main_arg9) = m ((c.tc : Thread Cert.OutLnIdeal.nD Cert.OutLnIdeal.τ).loc Cert.OutLnIdeal.main_arg9)
          ∧ r.2.mem ((c.tc : Thread Cert.OutLnIdeal.nD Cert.OutLnIdeal.τ).loc Cert.OutLnIdeal.main_arg10) = m ((c.tc : Thread Cert.OutLnIdeal.nD Cert.OutLnIdeal.τ).loc Cert.OutLnIdeal.main_arg10))
      ∧ θ_run (Cert.OutLnReferenceIdeal.defs (F := Ideal)) (onTc (τ := Cert.OutLnReferenceIdeal.τ) (Cert.OutLnReferenceIdeal.main (F := Ideal))) ⟨m', fun _ => 0, g'⟩ (fun r => ∀ c : Dev Cert.OutLnReferenceIdeal.nD,
          r.2.mem ((c.tc : Thread Cert.OutLnReferenceIdeal.nD Cert.OutLnReferenceIdeal.τ).loc Cert.OutLnReferenceIdeal.main_v7) = v0 c
          ∧ r.2.mem ((c.tc : Thread Cert.OutLnReferenceIdeal.nD Cert.OutLnReferenceIdeal.τ).loc Cert.OutLnReferenceIdeal.main_v32) = v1 c
          ∧ r.2.mem ((c.tc : Thread Cert.OutLnReferenceIdeal.nD Cert.OutLnReferenceIdeal.τ).loc Cert.OutLnReferenceIdeal.main_v28) = v2 c
          ∧ r.2.mem ((c.tc : Thread Cert.OutLnReferenceIdeal.nD Cert.OutLnReferenceIdeal.τ).loc Cert.OutLnReferenceIdeal.main_v43) = v3 c
          ∧ r.2.mem ((c.tc : Thread Cert.OutLnReferenceIdeal.nD Cert.OutLnReferenceIdeal.τ).loc Cert.OutLnReferenceIdeal.main_arg0) = m' ((c.tc : Thread Cert.OutLnReferenceIdeal.nD Cert.OutLnReferenceIdeal.τ).loc Cert.OutLnReferenceIdeal.main_arg0)
          ∧ r.2.mem ((c.tc : Thread Cert.OutLnReferenceIdeal.nD Cert.OutLnReferenceIdeal.τ).loc Cert.OutLnReferenceIdeal.main_arg1) = m' ((c.tc : Thread Cert.OutLnReferenceIdeal.nD Cert.OutLnReferenceIdeal.τ).loc Cert.OutLnReferenceIdeal.main_arg1)
          ∧ r.2.mem ((c.tc : Thread Cert.OutLnReferenceIdeal.nD Cert.OutLnReferenceIdeal.τ).loc Cert.OutLnReferenceIdeal.main_arg2) = m' ((c.tc : Thread Cert.OutLnReferenceIdeal.nD Cert.OutLnReferenceIdeal.τ).loc Cert.OutLnReferenceIdeal.main_arg2)
          ∧ r.2.mem ((c.tc : Thread Cert.OutLnReferenceIdeal.nD Cert.OutLnReferenceIdeal.τ).loc Cert.OutLnReferenceIdeal.main_arg3) = m' ((c.tc : Thread Cert.OutLnReferenceIdeal.nD Cert.OutLnReferenceIdeal.τ).loc Cert.OutLnReferenceIdeal.main_arg3)
          ∧ r.2.mem ((c.tc : Thread Cert.OutLnReferenceIdeal.nD Cert.OutLnReferenceIdeal.τ).loc Cert.OutLnReferenceIdeal.main_arg4) = m' ((c.tc : Thread Cert.OutLnReferenceIdeal.nD Cert.OutLnReferenceIdeal.τ).loc Cert.OutLnReferenceIdeal.main_arg4)
          ∧ r.2.mem ((c.tc : Thread Cert.OutLnReferenceIdeal.nD Cert.OutLnReferenceIdeal.τ).loc Cert.OutLnReferenceIdeal.main_arg5) = m' ((c.tc : Thread Cert.OutLnReferenceIdeal.nD Cert.OutLnReferenceIdeal.τ).loc Cert.OutLnReferenceIdeal.main_arg5)
          ∧ r.2.mem ((c.tc : Thread Cert.OutLnReferenceIdeal.nD Cert.OutLnReferenceIdeal.τ).loc Cert.OutLnReferenceIdeal.main_arg6) = m' ((c.tc : Thread Cert.OutLnReferenceIdeal.nD Cert.OutLnReferenceIdeal.τ).loc Cert.OutLnReferenceIdeal.main_arg6)
          ∧ r.2.mem ((c.tc : Thread Cert.OutLnReferenceIdeal.nD Cert.OutLnReferenceIdeal.τ).loc Cert.OutLnReferenceIdeal.main_arg7) = m' ((c.tc : Thread Cert.OutLnReferenceIdeal.nD Cert.OutLnReferenceIdeal.τ).loc Cert.OutLnReferenceIdeal.main_arg7)
          ∧ r.2.mem ((c.tc : Thread Cert.OutLnReferenceIdeal.nD Cert.OutLnReferenceIdeal.τ).loc Cert.OutLnReferenceIdeal.main_arg8) = m' ((c.tc : Thread Cert.OutLnReferenceIdeal.nD Cert.OutLnReferenceIdeal.τ).loc Cert.OutLnReferenceIdeal.main_arg8)
          ∧ r.2.mem ((c.tc : Thread Cert.OutLnReferenceIdeal.nD Cert.OutLnReferenceIdeal.τ).loc Cert.OutLnReferenceIdeal.main_arg9) = m' ((c.tc : Thread Cert.OutLnReferenceIdeal.nD Cert.OutLnReferenceIdeal.τ).loc Cert.OutLnReferenceIdeal.main_arg9)
          ∧ r.2.mem ((c.tc : Thread Cert.OutLnReferenceIdeal.nD Cert.OutLnReferenceIdeal.τ).loc Cert.OutLnReferenceIdeal.main_arg10) = m' ((c.tc : Thread Cert.OutLnReferenceIdeal.nD Cert.OutLnReferenceIdeal.τ).loc Cert.OutLnReferenceIdeal.main_arg10))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hGw2 : Cert.Gw2.Facts) (hGw2Ideal : Cert.Gw2Ideal.Facts) (hGw2ReferenceIdeal : Cert.Gw2ReferenceIdeal.Facts) (hGw1 : Cert.Gw1.Facts) (hGw1Ideal : Cert.Gw1Ideal.Facts) (hGw1ReferenceIdeal : Cert.Gw1ReferenceIdeal.Facts) (hGwi : Cert.Gwi.Facts) (hGwiIdeal : Cert.GwiIdeal.Facts) (hGwiReferenceIdeal : Cert.GwiReferenceIdeal.Facts) (hGwo : Cert.Gwo.Facts) (hGwoIdeal : Cert.GwoIdeal.Facts) (hGwoReferenceIdeal : Cert.GwoReferenceIdeal.Facts) (hLnIn : Cert.LnIn.Facts) (hLnInIdeal : Cert.LnInIdeal.Facts) (hLnInReferenceIdeal : Cert.LnInReferenceIdeal.Facts) (hOutLn : Cert.OutLn.Facts) (hOutLnIdeal : Cert.OutLnIdeal.Facts) (hOutLnReferenceIdeal : Cert.OutLnReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Gw2 (hGw2 := hGw2)
    ∧ quiescent_Gw2Ideal (hGw2Ideal := hGw2Ideal)
    ∧ quiescent_Gw2ReferenceIdeal (hGw2ReferenceIdeal := hGw2ReferenceIdeal)
    ∧ quiescent_Gw1 (hGw1 := hGw1)
    ∧ quiescent_Gw1Ideal (hGw1Ideal := hGw1Ideal)
    ∧ quiescent_Gw1ReferenceIdeal (hGw1ReferenceIdeal := hGw1ReferenceIdeal)
    ∧ quiescent_Gwi (hGwi := hGwi)
    ∧ quiescent_GwiIdeal (hGwiIdeal := hGwiIdeal)
    ∧ quiescent_GwiReferenceIdeal (hGwiReferenceIdeal := hGwiReferenceIdeal)
    ∧ quiescent_Gwo (hGwo := hGwo)
    ∧ quiescent_GwoIdeal (hGwoIdeal := hGwoIdeal)
    ∧ quiescent_GwoReferenceIdeal (hGwoReferenceIdeal := hGwoReferenceIdeal)
    ∧ quiescent_LnIn (hLnIn := hLnIn)
    ∧ quiescent_LnInIdeal (hLnInIdeal := hLnInIdeal)
    ∧ quiescent_LnInReferenceIdeal (hLnInReferenceIdeal := hLnInReferenceIdeal)
    ∧ quiescent_OutLn (hOutLn := hOutLn)
    ∧ quiescent_OutLnIdeal (hOutLnIdeal := hOutLnIdeal)
    ∧ quiescent_OutLnReferenceIdeal (hOutLnReferenceIdeal := hOutLnReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpReferenceIdeal (hMlpIdeal := hMlpIdeal) (hMlpReferenceIdeal := hMlpReferenceIdeal)
    ∧ preserves_Gw2_Gw2Ideal
    ∧ algebraic_Gw2Ideal_Gw2ReferenceIdeal (hGw2Ideal := hGw2Ideal) (hGw2ReferenceIdeal := hGw2ReferenceIdeal)
    ∧ preserves_Gw1_Gw1Ideal
    ∧ algebraic_Gw1Ideal_Gw1ReferenceIdeal (hGw1Ideal := hGw1Ideal) (hGw1ReferenceIdeal := hGw1ReferenceIdeal)
    ∧ preserves_Gwi_GwiIdeal
    ∧ algebraic_GwiIdeal_GwiReferenceIdeal (hGwiIdeal := hGwiIdeal) (hGwiReferenceIdeal := hGwiReferenceIdeal)
    ∧ preserves_Gwo_GwoIdeal
    ∧ algebraic_GwoIdeal_GwoReferenceIdeal (hGwoIdeal := hGwoIdeal) (hGwoReferenceIdeal := hGwoReferenceIdeal)
    ∧ preserves_LnIn_LnInIdeal
    ∧ algebraic_LnInIdeal_LnInReferenceIdeal (hLnInIdeal := hLnInIdeal) (hLnInReferenceIdeal := hLnInReferenceIdeal)
    ∧ preserves_OutLn_OutLnIdeal
    ∧ algebraic_OutLnIdeal_OutLnReferenceIdeal (hOutLnIdeal := hOutLnIdeal) (hOutLnReferenceIdeal := hOutLnReferenceIdeal)
-- ==== Pre_finite.lean ====
abbrev S4096x1024 : Shape := ⟨2, ![4096, 1024]⟩
abbrev S4096x256 : Shape := ⟨2, ![4096, 256]⟩
abbrev S16 : Shape := ⟨1, ![16]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v16 : IVec S_ 1) (main_v17 : FVec F S16 .f32) : IVec S_ 1 :=
  let main_cst_4 : FVec F S_ .f32 := constant S_ .f32 0x7F800000#32
  let main_v18 : FVec F S16 .f32 := broadcastInDim S16 ![] bcast_S_S16 main_cst_4
  let main_v19 : IVec S16 1 := cmpf .olt main_v17 main_v18
  let main_c_5 : IVec S_ 1 := constantI S_ 1 1#1
  let main_v20 : IVec S_ 1 := (fun x v => Host.reduce IntOp.andi x v reducesTo_S16_S_d0 h_S_) main_v19 main_c_5
  let main_v21 : IVec S_ 1 := andi main_v16 main_v20
  main_v21

def fn {F : FTy → Type} [FloatOps F] (main_arg0 : FVec F S4096x1024 .bf16) (main_arg1 : FVec F S4096x256 .bf16) (main_arg2 : FVec F S4096x1024 .bf16) (main_arg3 : FVec F S16 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x256 .f32 := (extf .f32 · bitsLt_bf16_f32) main_arg1
  let main_v6 : FVec F S4096x256 .f32 := Host.absf main_v5
  let main_cst_0 : FVec F S_ .f32 := constant S_ .f32 0x7F800000#32
  let main_v7 : FVec F S4096x256 .f32 := broadcastInDim S4096x256 ![] bcast_S_S4096x256 main_cst_0
  let main_v8 : IVec S4096x256 1 := cmpf .olt main_v6 main_v7
  let main_c_1 : IVec S_ 1 := constantI S_ 1 1#1
  let main_v9 : IVec S_ 1 := (fun x v => Host.reduce IntOp.andi x v reducesTo_S4096x256_S_d0_1 h_S_) main_v8 main_c_1
  let main_v10 : IVec S_ 1 := andi main_v4 main_v9
  let main_v11 : FVec F S4096x1024 .f32 := (extf .f32 · bitsLt_bf16_f32) main_arg2
  let main_v12 : FVec F S4096x1024 .f32 := Host.absf main_v11
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v10 main_v15
  let main_v17 : FVec F S16 .f32 := Host.absf main_arg3
  fn_part1 (F := F) main_v16 main_v17
-- ==== Kernel.lean ====
abbrev S4096x1024 : Shape := ⟨2, ![4096, 1024]⟩
abbrev S4096x256 : Shape := ⟨2, ![4096, 256]⟩
abbrev S16 : Shape := ⟨1, ![16]⟩
abbrev S1x128 : Shape := ⟨2, ![1, 128]⟩
abbrev S128x1024 : Shape := ⟨2, ![128, 1024]⟩
abbrev S128x256 : Shape := ⟨2, ![128, 256]⟩
abbrev S1024x64 : Shape := ⟨2, ![1024, 64]⟩
abbrev S256x1024 : Shape := ⟨2, ![256, 1024]⟩
abbrev S256x128 : Shape := ⟨2, ![256, 128]⟩
abbrev S128x64 : Shape := ⟨2, ![128, 64]⟩
abbrev S256x64 : Shape := ⟨2, ![256, 64]⟩
abbrev S1 : Shape := ⟨1, ![1]⟩
abbrev S128 : Shape := ⟨1, ![128]⟩
abbrev S1x1x128 : Shape := ⟨3, ![1, 1, 128]⟩
abbrev S1x1x1 : Shape := ⟨3, ![1, 1, 1]⟩
abbrev S256x256 : Shape := ⟨2, ![256, 256]⟩

abbrev nBuf : Space → Nat
  | .hbm => 7
  | .vmem => 18
  | .smem => 1
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x1024, .bf16⟩
  | .hbm, ⟨3, _⟩ => ⟨S16, .f32⟩
  | .hbm, ⟨4, _⟩ => ⟨S4096x1024, .bf16⟩
  | .hbm, ⟨5, _⟩ => ⟨S4096x256, .f32⟩
  | .hbm, ⟨6, _⟩ => ⟨S1x128, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x256, .f32⟩
  | .local _ .vmem, ⟨11, _⟩ => ⟨S128x256, .f32⟩
  | .local _ .vmem, ⟨12, _⟩ => ⟨S1x128, .f32⟩
  | .local _ .vmem, ⟨13, _⟩ => ⟨S128x256, .f32⟩
  | .local _ .vmem, ⟨14, _⟩ => ⟨S1024x64, .bf16⟩
  | .local _ .vmem, ⟨15, _⟩ => ⟨S1024x64, .bf16⟩
  | .local _ .vmem, ⟨16, _⟩ => ⟨S256x1024, .bf16⟩
  | .local _ .vmem, ⟨17, _⟩ => ⟨S256x1024, .bf16⟩
  | .local _ .smem, ⟨0, _⟩ => ⟨S16, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4096x1024 : Shape := ⟨2, ![4096, 1024]⟩
abbrev S4096x256 : Shape := ⟨2, ![4096, 256]⟩
abbrev S16 : Shape := ⟨1, ![16]⟩
abbrev S1x4096x16x64 : Shape := ⟨4, ![1, 4096, 16, 64]⟩
abbrev S4096x128 : Shape := ⟨2, ![4096, 128]⟩
abbrev S1x4096x2x64 : Shape := ⟨4, ![1, 4096, 2, 64]⟩
abbrev S1x32x128x2x8x64 : Shape := ⟨6, ![1, 32, 128, 2, 8, 64]⟩
abbrev S1x32x128x2x64 : Shape := ⟨5, ![1, 32, 128, 2, 64]⟩
abbrev S1x1x128x2x64 : Shape := ⟨5, ![1, 1, 128, 2, 64]⟩
abbrev S_ : Shape := ⟨0, ![]⟩
abbrev S1x31x128x2x64 : Shape := ⟨5, ![1, 31, 128, 2, 64]⟩
abbrev S1x32x256x2x64 : Shape := ⟨5, ![1, 32, 256, 2, 64]⟩
abbrev S1x32x2x256x128x8 : Shape := ⟨6, ![1, 32, 2, 256, 128, 8]⟩
abbrev S1x32x2x8x128x256 : Shape := ⟨6, ![1, 32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S2x8 : Shape := ⟨2, ![2, 8]⟩
abbrev S2x8x1x1 : Shape := ⟨4, ![2, 8, 1, 1]⟩
abbrev S1x1x128x256 : Shape := ⟨4, ![1, 1, 128, 256]⟩
abbrev S2x8x128x256 : Shape := ⟨4, ![2, 8, 128, 256]⟩
abbrev S1x1x2x8x128x256 : Shape := ⟨6, ![1, 1, 2, 8, 128, 256]⟩
abbrev S1x32x1x1x128x256 : Shape := ⟨6, ![1, 32, 1, 1, 128, 256]⟩
abbrev S2x8x1 : Shape := ⟨3, ![2, 8, 1]⟩
abbrev S1x32x2x8x128 : Shape := ⟨5, ![1, 32, 2, 8, 128]⟩
abbrev S1x32x2x8x128x1 : Shape := ⟨6, ![1, 32, 2, 8, 128, 1]⟩
abbrev S1x1x2x8x1 : Shape := ⟨5, ![1, 1, 2, 8, 1]⟩
abbrev S1x32x2x64x8x128 : Shape := ⟨6, ![1, 32, 2, 64, 8, 128]⟩
abbrev S1x4096x1024 : Shape := ⟨3, ![1, 4096, 1024]⟩
abbrev S1x32x2x64x256 : Shape := ⟨5, ![1, 32, 2, 64, 256]⟩
abbrev S32x2x8x128 : Shape := ⟨4, ![32, 2, 8, 128]⟩
abbrev S1x2x8 : Shape := ⟨3, ![1, 2, 8]⟩
abbrev S1x32x2x128x8x64 : Shape := ⟨6, ![1, 32, 2, 128, 8, 64]⟩
abbrev S1x32x2x256x64 : Shape := ⟨5, ![1, 32, 2, 256, 64]⟩
abbrev S112 : Shape := ⟨1, ![112]⟩
abbrev S1x128 : Shape := ⟨2, ![1, 128]⟩

abbrev nBuf : Space → Nat
  | .hbm => 242
  | .vmem => 0
  | .smem => 0
  | _ => 0

abbrev hbmTy0_0 (i : Nat) : BufTy := match i % 128 with
  | 0 => ⟨S4096x1024, .bf16⟩
  | 1 => ⟨S4096x256, .bf16⟩
  | 2 => ⟨S4096x1024, .bf16⟩
  | 3 => ⟨S16, .f32⟩
  | 4 => ⟨S16, .f32⟩
  | 5 => ⟨S4096x1024, .f32⟩
  | 6 => ⟨S1x4096x16x64, .f32⟩
  | 7 => ⟨S4096x128, .bf16⟩
  | 8 => ⟨S4096x128, .f32⟩
  | 9 => ⟨S1x4096x2x64, .f32⟩
  | 10 => ⟨S4096x128, .bf16⟩
  | 11 => ⟨S4096x128, .f32⟩
  | 12 => ⟨S1x4096x2x64, .f32⟩
  | 13 => ⟨S1x32x128x2x8x64, .f32⟩
  | 14 => ⟨S1x32x128x2x64, .f32⟩
  | 15 => ⟨S1x32x128x2x64, .f32⟩
  | 16 => ⟨S1x1x128x2x64, .f32⟩
  | 17 => ⟨S_, .f32⟩
  | 18 => ⟨S1x1x128x2x64, .f32⟩
  | 19 => ⟨S1x31x128x2x64, .f32⟩
  | 20 => ⟨S1x32x128x2x64, .f32⟩
  | 21 => ⟨S_, .f32⟩
  | 22 => ⟨S1x1x128x2x64, .f32⟩
  | 23 => ⟨S1x32x256x2x64, .f32⟩
  | 24 => ⟨S1x1x128x2x64, .f32⟩
  | 25 => ⟨S_, .f32⟩
  | 26 => ⟨S1x1x128x2x64, .f32⟩
  | 27 => ⟨S1x31x128x2x64, .f32⟩
  | 28 => ⟨S1x32x128x2x64, .f32⟩
  | 29 => ⟨S_, .f32⟩
  | 30 => ⟨S1x1x128x2x64, .f32⟩
  | 31 => ⟨S1x32x256x2x64, .f32⟩
  | 32 => ⟨S1x32x2x256x128x8, .f32⟩
  | 33 => ⟨S1x32x2x8x128x256, .f32⟩
  | 34 => ⟨S_, .f32⟩
  | 35 => ⟨S1x32x2x8x128x256, .f32⟩
  | 36 => ⟨S1x32x2x8x128x256, .f32⟩
  | 37 => ⟨S128, .i32⟩
  | 38 => ⟨S128x1, .i32⟩
  | 39 => ⟨S_, .i32⟩
  | 40 => ⟨S128x1, .i32⟩
  | 41 => ⟨S128x1, .i32⟩
  | 42 => ⟨S256, .i32⟩
  | 43 => ⟨S1x256, .i32⟩
  | 44 => ⟨S128x256, .i32⟩
  | 45 => ⟨S128x256, .i32⟩
  | 46 => ⟨S128x256, .i32⟩
  | 47 => ⟨S32, .i32⟩
  | 48 => ⟨S32x1, .i32⟩
  | 49 => ⟨S_, .i32⟩
  | 50 => ⟨S32x1, .i32⟩
  | 51 => ⟨S32x1, .i32⟩
  | 52 => ⟨S256, .i32⟩
  | 53 => ⟨S1x256, .i32⟩
  | 54 => ⟨S32x256, .i32⟩
  | 55 => ⟨S32x256, .i32⟩
  | 56 => ⟨S32x256, .i32⟩
  | 57 => ⟨S_, .i32⟩
  | 58 => ⟨S32x256, .i32⟩
  | 59 => ⟨S32x256, .i32⟩
  | 60 => ⟨S_, .i32⟩
  | 61 => ⟨S128x256, .i32⟩
  | 62 => ⟨S128x256, .i1⟩
  | 63 => ⟨S_, .i32⟩
  | 64 => ⟨S128x256, .i32⟩
  | 65 => ⟨S128x256, .i1⟩
  | 66 => ⟨S128x256, .i1⟩
  | 67 => ⟨S1x128x256, .i1⟩
  | 68 => ⟨S_, .i32⟩
  | 69 => ⟨S32x256, .i32⟩
  | 70 => ⟨S32x256, .i1⟩
  | 71 => ⟨S32x1x256, .i1⟩
  | 72 => ⟨S32x128x256, .i1⟩
  | 73 => ⟨S32x128x256, .i1⟩
  | 74 => ⟨S32x128x256, .i1⟩
  | 75 => ⟨S2x8, .f32⟩
  | 76 => ⟨S2x8x1x1, .f32⟩
  | 77 => ⟨S128x256, .f32⟩
  | 78 => ⟨S1x1x128x256, .f32⟩
  | 79 => ⟨S2x8x128x256, .f32⟩
  | 80 => ⟨S2x8x128x256, .f32⟩
  | 81 => ⟨S2x8x128x256, .f32⟩
  | 82 => ⟨S1x1x2x8x128x256, .f32⟩
  | 83 => ⟨S1x32x2x8x128x256, .f32⟩
  | 84 => ⟨S1x32x2x8x128x256, .f32⟩
  | 85 => ⟨S1x32x1x1x128x256, .i1⟩
  | 86 => ⟨S_, .f32⟩
  | 87 => ⟨S_, .f32⟩
  | 88 => ⟨S1x32x2x8x128x256, .i1⟩
  | 89 => ⟨S1x32x2x8x128x256, .f32⟩
  | 90 => ⟨S1x32x2x8x128x256, .f32⟩
  | 91 => ⟨S_, .f32⟩
  | 92 => ⟨S1x32x2x8x128x256, .f32⟩
  | 93 => ⟨S2x8, .f32⟩
  | 94 => ⟨S2x8x1, .f32⟩
  | 95 => ⟨S_, .f32⟩
  | 96 => ⟨S1x32x2x8x128, .f32⟩
  | 97 => ⟨S1x32x2x8x128x1, .f32⟩
  | 98 => ⟨S1x32x2x8x128x256, .f32⟩
  | 99 => ⟨S1x32x2x8x128x256, .i1⟩
  | 100 => ⟨S1x32x2x8x128x256, .f32⟩
  | 101 => ⟨S_, .f32⟩
  | 102 => ⟨S1x32x2x8x128, .f32⟩
  | 103 => ⟨S1x1x2x8x1, .f32⟩
  | 104 => ⟨S1x32x2x8x128, .f32⟩
  | 105 => ⟨S1x32x2x8x128, .f32⟩
  | 106 => ⟨S1x32x2x8x128, .f32⟩
  | 107 => ⟨S1x32x2x8x128, .i1⟩
  | 108 => ⟨S1x32x2x8x128, .f32⟩
  | 109 => ⟨S1x32x2x8x128, .i1⟩
  | 110 => ⟨S_, .f32⟩
  | 111 => ⟨S1x32x2x8x128, .f32⟩
  | 112 => ⟨S_, .f32⟩
  | 113 => ⟨S1x32x2x8x128, .f32⟩
  | 114 => ⟨S_, .f32⟩
  | 115 => ⟨S1x32x2x8x128, .f32⟩
  | 116 => ⟨S1x32x2x8x128, .f32⟩
  | 117 => ⟨S1x32x2x8x128, .f32⟩
  | 118 => ⟨S1x32x2x8x128, .f32⟩
  | 119 => ⟨S1x32x2x8x128, .i1⟩
  | 120 => ⟨S1x32x2x8x128, .f32⟩
  | 121 => ⟨S1x32x2x8x128, .i1⟩
  | 122 => ⟨S_, .f32⟩
  | 123 => ⟨S1x32x2x8x128, .f32⟩
  | 124 => ⟨S_, .f32⟩
  | 125 => ⟨S1x32x2x8x128, .f32⟩
  | 126 => ⟨S_, .f32⟩
  | 127 => ⟨S1x32x2x8x128, .f32⟩
  | _ => ⟨S4096x1024, .bf16⟩

abbrev hbmTy0_1 (i : Nat) : BufTy := match i % 128 with
  | 0 => ⟨S1x32x2x8x128, .f32⟩
  | 1 => ⟨S1x32x2x8x128, .f32⟩
  | 2 => ⟨S1x32x2x8x128x1, .f32⟩
  | 3 => ⟨S1x32x2x8x128x256, .f32⟩
  | 4 => ⟨S1x32x2x8x128x256, .f32⟩
  | 5 => ⟨S1x32x2x8x128x256, .f32⟩
  | 6 => ⟨S_, .f32⟩
  | 7 => ⟨S1x32x2x8x128, .f32⟩
  | 8 => ⟨S1x1x2x8x1, .f32⟩
  | 9 => ⟨S1x32x2x8x128, .f32⟩
  | 10 => ⟨S1x32x2x8x128, .f32⟩
  | 11 => ⟨S1x32x2x8x128, .f32⟩
  | 12 => ⟨S1x32x2x8x128, .f32⟩
  | 13 => ⟨S1x32x2x8x128x1, .f32⟩
  | 14 => ⟨S1x32x2x8x128x256, .f32⟩
  | 15 => ⟨S1x32x2x8x128x256, .f32⟩
  | 16 => ⟨S1x32x2x8x128x1, .f32⟩
  | 17 => ⟨S_, .f32⟩
  | 18 => ⟨S1x32x2x8x128x1, .f32⟩
  | 19 => ⟨S1x32x2x8x128x1, .f32⟩
  | 20 => ⟨S1x32x2x64x8x128, .f32⟩
  | 21 => ⟨S1x32x128x2x8x64, .f32⟩
  | 22 => ⟨S1x4096x1024, .f32⟩
  | 23 => ⟨S4096x1024, .f32⟩
  | 24 => ⟨S1x4096x1024, .f32⟩
  | 25 => ⟨S1x32x128x2x8x64, .f32⟩
  | 26 => ⟨S1x32x2x64x8x128, .f32⟩
  | 27 => ⟨S1x32x2x8x128x256, .f32⟩
  | 28 => ⟨S1x32x2x64x256, .f32⟩
  | 29 => ⟨S1x32x256x2x64, .f32⟩
  | 30 => ⟨S1x32x2x8x128x256, .f32⟩
  | 31 => ⟨S1x32x2x8x128x256, .f32⟩
  | 32 => ⟨S1x32x2x8x128x256, .f32⟩
  | 33 => ⟨S_, .f32⟩
  | 34 => ⟨S1x32x2x8x128, .f32⟩
  | 35 => ⟨S1x32x2x8x128x1, .f32⟩
  | 36 => ⟨S1x32x2x8x128x1, .f32⟩
  | 37 => ⟨S1x32x2x8x128x256, .f32⟩
  | 38 => ⟨S1x32x2x8x128x256, .f32⟩
  | 39 => ⟨S_, .f32⟩
  | 40 => ⟨S32x2x8x128, .f32⟩
  | 41 => ⟨S1x32x2x8x128, .f32⟩
  | 42 => ⟨S1x32x2x8x128, .f32⟩
  | 43 => ⟨S_, .f32⟩
  | 44 => ⟨S1x2x8, .f32⟩
  | 45 => ⟨S1x1x2x8x1, .f32⟩
  | 46 => ⟨S1x32x2x8x128, .f32⟩
  | 47 => ⟨S_, .f32⟩
  | 48 => ⟨S2x8, .f32⟩
  | 49 => ⟨S2x8x1, .f32⟩
  | 50 => ⟨S1x32x2x8x128x256, .f32⟩
  | 51 => ⟨S1x32x2x8x128x256, .f32⟩
  | 52 => ⟨S1x32x2x8x128x256, .f32⟩
  | 53 => ⟨S1x32x2x8x128x256, .f32⟩
  | 54 => ⟨S_, .f32⟩
  | 55 => ⟨S1x32x2x8x128, .f32⟩
  | 56 => ⟨S1x32x2x8x128x1, .f32⟩
  | 57 => ⟨S_, .f32⟩
  | 58 => ⟨S32x2x8x128, .f32⟩
  | 59 => ⟨S1x32x2x8x128, .f32⟩
  | 60 => ⟨S1x32x2x8x128, .f32⟩
  | 61 => ⟨S1x32x2x8x128, .f32⟩
  | 62 => ⟨S_, .f32⟩
  | 63 => ⟨S1x2x8, .f32⟩
  | 64 => ⟨S1x1x2x8x1, .f32⟩
  | 65 => ⟨S1x32x2x8x128, .f32⟩
  | 66 => ⟨S_, .f32⟩
  | 67 => ⟨S2x8, .f32⟩
  | 68 => ⟨S2x8x1, .f32⟩
  | 69 => ⟨S2x8x1, .f32⟩
  | 70 => ⟨S1x32x2x8x128, .f32⟩
  | 71 => ⟨S1x32x2x8x128x256, .f32⟩
  | 72 => ⟨S1x32x2x8x128x256, .f32⟩
  | 73 => ⟨S1x32x2x8x128x256, .f32⟩
  | 74 => ⟨S_, .f32⟩
  | 75 => ⟨S2x8, .f32⟩
  | 76 => ⟨S16, .f32⟩
  | 77 => ⟨S_, .f32⟩
  | 78 => ⟨S1x32x2x8x128x256, .f32⟩
  | 79 => ⟨S1x32x2x8x128x256, .f32⟩
  | 80 => ⟨S_, .f32⟩
  | 81 => ⟨S1x32x2x8x128x256, .f32⟩
  | 82 => ⟨S1x32x2x8x128x256, .f32⟩
  | 83 => ⟨S1x32x2x256x128x8, .f32⟩
  | 84 => ⟨S1x32x2x128x8x64, .f32⟩
  | 85 => ⟨S1x32x128x2x8x64, .f32⟩
  | 86 => ⟨S1x32x2x256x64, .f32⟩
  | 87 => ⟨S1x32x256x2x64, .f32⟩
  | 88 => ⟨S1x32x128x2x64, .f32⟩
  | 89 => ⟨S1x32x128x2x64, .f32⟩
  | 90 => ⟨S1x1x128x2x64, .f32⟩
  | 91 => ⟨S1x31x128x2x64, .f32⟩
  | 92 => ⟨S_, .f32⟩
  | 93 => ⟨S1x32x128x2x64, .f32⟩
  | 94 => ⟨S1x32x128x2x64, .f32⟩
  | 95 => ⟨S1x32x128x2x64, .f32⟩
  | 96 => ⟨S1x32x128x2x64, .f32⟩
  | 97 => ⟨S1x1x128x2x64, .f32⟩
  | 98 => ⟨S1x31x128x2x64, .f32⟩
  | 99 => ⟨S_, .f32⟩
  | 100 => ⟨S1x32x128x2x64, .f32⟩
  | 101 => ⟨S1x32x128x2x64, .f32⟩
  | 102 => ⟨S1x4096x2x64, .f32⟩
  | 103 => ⟨S1x4096x2x64, .f32⟩
  | 104 => ⟨S1x4096x16x64, .f32⟩
  | 105 => ⟨S4096x128, .f32⟩
  | 106 => ⟨S4096x128, .f32⟩
  | 107 => ⟨S4096x256, .f32⟩
  | 108 => ⟨S_, .f32⟩
  | 109 => ⟨S112, .f32⟩
  | 110 => ⟨S128, .f32⟩
  | 111 => ⟨S1x128, .f32⟩
  | 112 => ⟨S4096x1024, .f32⟩
  | 113 => ⟨S4096x1024, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_6 : Ref sig .tc := ⟨.hbm, 57, rfl⟩
abbrev main_v45 : Ref sig .tc := ⟨.hbm, 58, rfl⟩
abbrev main_v46 : Ref sig .tc := ⟨.hbm, 59, rfl⟩
abbrev main_c_7 : Ref sig .tc := ⟨.hbm, 60, rfl⟩
abbrev main_v47 : Ref sig .tc := ⟨.hbm, 61, rfl⟩
abbrev main_v48 : Ref sig .tc := ⟨.hbm, 62, rfl⟩
abbrev main_c_8 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_c_9 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_10 : Ref sig .tc := ⟨.hbm, 86, rfl⟩
abbrev main_call0_v0 : Ref sig .tc := ⟨.hbm, 87, rfl⟩
abbrev main_v70_1 : Ref sig .tc := ⟨.hbm, 88, rfl⟩
abbrev main_call0_v2 : Ref sig .tc := ⟨.hbm, 89, rfl⟩
abbrev main_v70_0 : Ref sig .tc := ⟨.hbm, 90, rfl⟩
abbrev main_call0_cst : Ref sig .tc := ⟨.hbm, 91, rfl⟩
abbrev main_v70_2 : Ref sig .tc := ⟨.hbm, 92, rfl⟩
abbrev main_v71 : Ref sig .tc := ⟨.hbm, 93, rfl⟩
abbrev main_v72 : Ref sig .tc := ⟨.hbm, 94, rfl⟩
abbrev main_cst_11 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_12 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_13 : Ref sig .tc := ⟨.hbm, 110, rfl⟩
abbrev main_v86 : Ref sig .tc := ⟨.hbm, 111, rfl⟩
abbrev main_cst_14 : Ref sig .tc := ⟨.hbm, 112, rfl⟩
abbrev main_v87 : Ref sig .tc := ⟨.hbm, 113, rfl⟩
abbrev main_cst_15 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_16 : Ref sig .tc := ⟨.hbm, 122, rfl⟩
abbrev main_v95 : Ref sig .tc := ⟨.hbm, 123, rfl⟩
abbrev main_cst_17 : Ref sig .tc := ⟨.hbm, 124, rfl⟩
abbrev main_v96 : Ref sig .tc := ⟨.hbm, 125, rfl⟩
abbrev main_cst_18 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_19 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_cst_20 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_cst_21 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_22 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_cst_23 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_cst_24 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_cst_25 : Ref sig .tc := ⟨.hbm, 182, rfl⟩
abbrev main_v146 : Ref sig .tc := ⟨.hbm, 183, rfl⟩
abbrev main_v147 : Ref sig .tc := ⟨.hbm, 184, rfl⟩
abbrev main_cst_26 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_cst_27 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_cst_28 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_cst_29 : Ref sig .tc := ⟨.hbm, 202, rfl⟩
abbrev main_v162 : Ref sig .tc := ⟨.hbm, 203, rfl⟩
abbrev main_v163 : Ref sig .tc := ⟨.hbm, 204, rfl⟩
abbrev main_call1_cst : Ref sig .tc := ⟨.hbm, 205, rfl⟩
abbrev main_call1_v0 : Ref sig .tc := ⟨.hbm, 206, rfl⟩
abbrev main_v164 : Ref sig .tc := ⟨.hbm, 207, rfl⟩
abbrev main_cst_30 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_cst_31 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_cst_32 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_cst_33 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩

abbrev nD : Nat := 1
abbrev τ : Topo := Topo.v7x

variable {F : FTy → Type} [FloatOps F]
-- ==== Mlp.lean ====
abbrev S4096x1024 : Shape := ⟨2, ![4096, 1024]⟩
abbrev S4096x4096 : Shape := ⟨2, ![4096, 4096]⟩
abbrev S1x4096 : Shape := ⟨2, ![1, 4096]⟩
abbrev S1x1024 : Shape := ⟨2, ![1, 1024]⟩
abbrev S_ : Shape := ⟨0, ![]⟩
abbrev S512x1024 : Shape := ⟨2, ![512, 1024]⟩
abbrev S512x4096 : Shape := ⟨2, ![512, 4096]⟩
abbrev S1024 : Shape := ⟨1, ![1024]⟩
abbrev S512x512 : Shape := ⟨2, ![512, 512]⟩
abbrev S1x512 : Shape := ⟨2, ![1, 512]⟩
abbrev S512 : Shape := ⟨1, ![512]⟩

abbrev nBuf : Space → Nat
  | .hbm => 15
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1x4096, .f32⟩
  | .hbm, ⟨3, _⟩ => ⟨S4096x1024, .bf16⟩
  | .hbm, ⟨4, _⟩ => ⟨S1x1024, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S4096x1024, .bf16⟩
  | .hbm, ⟨12, _⟩ => ⟨S4096x4096, .bf16⟩
  | .hbm, ⟨13, _⟩ => ⟨S1x1024, .f32⟩
  | .hbm, ⟨14, _⟩ => ⟨S1x4096, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x4096, .bf16⟩
  | .local _ .vmem, ⟨9, _⟩ => ⟨S512x4096, .bf16⟩
  | .local _ .vmem, ⟨10, _⟩ => ⟨S1x1024, .f32⟩
  | .local _ .vmem, ⟨11, _⟩ => ⟨S1x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MlpReferenceIdeal.lean ====
abbrev S4096x1024 : Shape := ⟨2, ![4096, 1024]⟩
abbrev S4096x4096 : Shape := ⟨2, ![4096, 4096]⟩
abbrev S1x4096 : Shape := ⟨2, ![1, 4096]⟩
abbrev S1x1024 : Shape := ⟨2, ![1, 1024]⟩
abbrev S_ : Shape := ⟨0, ![]⟩
abbrev S1024 : Shape := ⟨1, ![1024]⟩
abbrev S4096 : Shape := ⟨1, ![4096]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1x4096, .f32⟩
  | .hbm, ⟨3, _⟩ => ⟨S4096x1024, .bf16⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .i1⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096, .f32⟩
  | .hbm, ⟨42, _⟩ => ⟨S1x4096, .f32⟩
  | .hbm, ⟨43, _⟩ => ⟨S4096x1024, .bf16⟩
  | .hbm, ⟨44, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Gw2.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Gw2ReferenceIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x4096, .f32⟩
  | .hbm, ⟨6, _⟩ => ⟨S4096x1024, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Gw1.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Gw1ReferenceIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Gwi.lean ====
abbrev S4096x1024 : Shape := ⟨2, ![4096, 1024]⟩
abbrev S4096x1536 : Shape := ⟨2, ![4096, 1536]⟩
abbrev S4096x128 : Shape := ⟨2, ![4096, 128]⟩
abbrev S4096x256 : Shape := ⟨2, ![4096, 256]⟩
abbrev S3856x1024 : Shape := ⟨2, ![3856, 1024]⟩
abbrev S512x1024 : Shape := ⟨2, ![512, 1024]⟩
abbrev S512x1536 : Shape := ⟨2, ![512, 1536]⟩
abbrev S512x128 : Shape := ⟨2, ![512, 128]⟩
abbrev S512x256 : Shape := ⟨2, ![512, 256]⟩
abbrev S1024x1024 : Shape := ⟨2, ![1024, 1024]⟩
abbrev S1536x1024 : Shape := ⟨2, ![1536, 1024]⟩
abbrev S256x1024 : Shape := ⟨2, ![256, 1024]⟩
abbrev S16x1024 : Shape := ⟨2, ![16, 1024]⟩
abbrev S128x1024 : Shape := ⟨2, ![128, 1024]⟩

abbrev nBuf : Space → Nat
  | .hbm => 7
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S4096x128, .f32⟩
  | .hbm, ⟨3, _⟩ => ⟨S4096x1024, .bf16⟩
  | .hbm, ⟨4, _⟩ => ⟨S4096x256, .f32⟩
  | .hbm, ⟨5, _⟩ => ⟨S4096x1024, .bf16⟩
  | .hbm, ⟨6, _⟩ => ⟨S3856x1024, .f32⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S512x128, .f32⟩
  | .local _ .vmem, ⟨5, _⟩ => ⟨S512x128, .f32⟩
  | .local _ .vmem, ⟨6, _⟩ => ⟨S512x1024, .bf16⟩
  | .local _ .vmem, ⟨7, _⟩ => ⟨S512x1024, .bf16⟩
  | .local _ .vmem, ⟨8, _⟩ => ⟨S512x256, .f32⟩
  | .local _ .vmem, ⟨9, _⟩ => ⟨S512x256, .f32⟩
  | .local _ .vmem, ⟨10, _⟩ => ⟨S512x1024, .bf16⟩
  | .local _ .vmem, ⟨11, _⟩ => ⟨S512x1024, .bf16⟩
  | .local _ .vmem, ⟨12, _⟩ => ⟨S3856x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3856x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GwiReferenceIdeal.lean ====
abbrev S4096x1024 : Shape := ⟨2, ![4096, 1024]⟩
abbrev S4096x1536 : Shape := ⟨2, ![4096, 1536]⟩
abbrev S4096x128 : Shape := ⟨2, ![4096, 128]⟩
abbrev S4096x256 : Shape := ⟨2, ![4096, 256]⟩
abbrev S4096x16 : Shape := ⟨2, ![4096, 16]⟩
abbrev S_ : Shape := ⟨0, ![]⟩
abbrev S1024x3856 : Shape := ⟨2, ![1024, 3856]⟩
abbrev S4096x3856 : Shape := ⟨2, ![4096, 3856]⟩
abbrev S3856x1024 : Shape := ⟨2, ![3856, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S4096x128, .f32⟩
  | .hbm, ⟨3, _⟩ => ⟨S4096x1024, .bf16⟩
  | .hbm, ⟨4, _⟩ => ⟨S4096x256, .f32⟩
  | .hbm, ⟨5, _⟩ => ⟨S4096x1024, .bf16⟩
  | .hbm, ⟨6, _⟩ => ⟨S4096x16, .f32⟩
  | .hbm, ⟨7, _⟩ => ⟨S4096x128, .f32⟩
  | .hbm, ⟨8, _⟩ => ⟨S4096x128, .f32⟩
  | .hbm, ⟨9, _⟩ => ⟨S_, .f32⟩
  | .hbm, ⟨10, _⟩ => ⟨S1024x3856, .f32⟩
  | .hbm, ⟨11, _⟩ => ⟨S4096x1024, .f32⟩
  | .hbm, ⟨12, _⟩ => ⟨S4096x3856, .f32⟩
  | .hbm, ⟨13, _⟩ => ⟨S4096x1024, .f32⟩
  | .hbm, ⟨14, _⟩ => ⟨S4096x1536, .f32⟩
  | .hbm, ⟨15, _⟩ => ⟨S4096x16, .f32⟩
  | .hbm, ⟨16, _⟩ => ⟨S4096x1024, .f32⟩
  | .hbm, ⟨17, _⟩ => ⟨S4096x128, .f32⟩
  | .hbm, ⟨18, _⟩ => ⟨S4096x128, .f32⟩
  | .hbm, ⟨19, _⟩ => ⟨S4096x1024, .f32⟩
  | .hbm, ⟨20, _⟩ => ⟨S4096x1536, .f32⟩
  | .hbm, ⟨21, _⟩ => ⟨S4096x1024, .f32⟩
  | .hbm, ⟨22, _⟩ => ⟨S4096x3856, .f32⟩
  | .hbm, ⟨23, _⟩ => ⟨S3856x1024, .f32⟩
  | .hbm, ⟨24, _⟩ => ⟨S1024x3856, .f32⟩
  | .hbm, ⟨25, _⟩ => ⟨S3856x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Gwo.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GwoReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== LnIn.lean ====
abbrev S4096x1024 : Shape := ⟨2, ![4096, 1024]⟩
abbrev S1x1024 : Shape := ⟨2, ![1, 1024]⟩
abbrev S3856x1024 : Shape := ⟨2, ![3856, 1024]⟩
abbrev S4096x1 : Shape := ⟨2, ![4096, 1]⟩
abbrev S4096x1536 : Shape := ⟨2, ![4096, 1536]⟩
abbrev S4096x256 : Shape := ⟨2, ![4096, 256]⟩
abbrev S4096x128 : Shape := ⟨2, ![4096, 128]⟩
abbrev S512x1024 : Shape := ⟨2, ![512, 1024]⟩
abbrev S512x1 : Shape := ⟨2, ![512, 1]⟩
abbrev S512x1536 : Shape := ⟨2, ![512, 1536]⟩
abbrev S512x256 : Shape := ⟨2, ![512, 256]⟩
abbrev S512x128 : Shape := ⟨2, ![512, 128]⟩
abbrev S512 : Shape := ⟨1, ![512]⟩
abbrev S1024x1024 : Shape := ⟨2, ![1024, 1024]⟩
abbrev S1536x1024 : Shape := ⟨2, ![1536, 1024]⟩
abbrev S256x1024 : Shape := ⟨2, ![256, 1024]⟩
abbrev S128x1024 : Shape := ⟨2, ![128, 1024]⟩

abbrev nBuf : Space → Nat
  | .hbm => 14
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S3856x1024, .bf16⟩
  | .hbm, ⟨6, _⟩ => ⟨S4096x1024, .f32⟩
  | .hbm, ⟨7, _⟩ => ⟨S4096x1, .f32⟩
  | .hbm, ⟨8, _⟩ => ⟨S4096x1024, .bf16⟩
  | .hbm, ⟨9, _⟩ => ⟨S4096x1024, .f32⟩
  | .hbm, ⟨10, _⟩ => ⟨S4096x1536, .f32⟩
  | .hbm, ⟨11, _⟩ => ⟨S4096x1024, .bf16⟩
  | .hbm, ⟨12, _⟩ => ⟨S4096x256, .bf16⟩
  | .hbm, ⟨13, _⟩ => ⟨S4096x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S3856x1024, .bf16⟩
  | .local _ .vmem, ⟨7, _⟩ => ⟨S512x1024, .f32⟩
  | .local _ .vmem, ⟨8, _⟩ => ⟨S512x1024, .f32⟩
  | .local _ .vmem, ⟨9, _⟩ => ⟨S512x1, .f32⟩
  | .local _ .vmem, ⟨10, _⟩ => ⟨S512x1, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1536, .f32⟩
  | .local _ .vmem, ⟨16, _⟩ => ⟨S512x1536, .f32⟩
  | .local _ .vmem, ⟨17, _⟩ => ⟨S512x1024, .bf16⟩
  | .local _ .vmem, ⟨18, _⟩ => ⟨S512x1024, .bf16⟩
  | .local _ .vmem, ⟨19, _⟩ => ⟨S512x256, .bf16⟩
  | .local _ .vmem, ⟨20, _⟩ => ⟨S512x256, .bf16⟩
  | .local _ .vmem, ⟨21, _⟩ => ⟨S512x128, .f32⟩
  | .local _ .vmem, ⟨22, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3856x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== LnInReferenceIdeal.lean ====
abbrev S4096x1024 : Shape := ⟨2, ![4096, 1024]⟩
abbrev S1x1024 : Shape := ⟨2, ![1, 1024]⟩
abbrev S3856x1024 : Shape := ⟨2, ![3856, 1024]⟩
abbrev S_ : Shape := ⟨0, ![]⟩
abbrev S4096 : Shape := ⟨1, ![4096]⟩
abbrev S4096x1 : Shape := ⟨2, ![4096, 1]⟩
abbrev S1024x3856 : Shape := ⟨2, ![1024, 3856]⟩
abbrev S4096x3856 : Shape := ⟨2, ![4096, 3856]⟩
abbrev S4096x1536 : Shape := ⟨2, ![4096, 1536]⟩
abbrev S4096x256 : Shape := ⟨2, ![4096, 256]⟩
abbrev S4096x128 : Shape := ⟨2, ![4096, 128]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S3856x1024, .bf16⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S3856x1024, .f32⟩
  | .hbm, ⟨41, _⟩ => ⟨S1024x3856, .f32⟩
  | .hbm, ⟨42, _⟩ => ⟨S4096x3856, .f32⟩
  | .hbm, ⟨43, _⟩ => ⟨S4096x1024, .bf16⟩
  | .hbm, ⟨44, _⟩ => ⟨S4096x1024, .f32⟩
  | .hbm, ⟨45, _⟩ => ⟨S4096x1536, .f32⟩
  | .hbm, ⟨46, _⟩ => ⟨S4096x1024, .f32⟩
  | .hbm, ⟨47, _⟩ => ⟨S4096x1024, .bf16⟩
  | .hbm, ⟨48, _⟩ => ⟨S4096x256, .f32⟩
  | .hbm, ⟨49, _⟩ => ⟨S4096x256, .bf16⟩
  | .hbm, ⟨50, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== OutLn.lean ====
abbrev S4096x1024 : Shape := ⟨2, ![4096, 1024]⟩
abbrev S2048x1024 : Shape := ⟨2, ![2048, 1024]⟩
abbrev S1x1024 : Shape := ⟨2, ![1, 1024]⟩
abbrev S_ : Shape := ⟨0, ![]⟩
abbrev S8x1024 : Shape := ⟨2, ![8, 1024]⟩
abbrev S4096x1 : Shape := ⟨2, ![4096, 1]⟩
abbrev S512x1024 : Shape := ⟨2, ![512, 1024]⟩
abbrev S512x1 : Shape := ⟨2, ![512, 1]⟩
abbrev S1024x1024 : Shape := ⟨2, ![1024, 1024]⟩
abbrev S512 : Shape := ⟨1, ![512]⟩

abbrev nBuf : Space → Nat
  | .hbm => 18
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2048x1024, .bf16⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S8x1024, .f32⟩
  | .hbm, ⟨14, _⟩ => ⟨S4096x1024, .f32⟩
  | .hbm, ⟨15, _⟩ => ⟨S4096x1024, .f32⟩
  | .hbm, ⟨16, _⟩ => ⟨S4096x1, .f32⟩
  | .hbm, ⟨17, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | .local _ .vmem, ⟨14, _⟩ => ⟨S512x1024, .bf16⟩
  | .local _ .vmem, ⟨15, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v2_2 : Ref sig .tc := ⟨.hbm, 16, rfl⟩
abbrev main_v2_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutLnReferenceIdeal.lean ====
abbrev S4096x1024 : Shape := ⟨2, ![4096, 1024]⟩
abbrev S2048x1024 : Shape := ⟨2, ![2048, 1024]⟩
abbrev S1x1024 : Shape := ⟨2, ![1, 1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2048x1024, .bf16⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x2048, .bf16⟩
  | .hbm, ⟨16, _⟩ => ⟨S4096x2048, .f32⟩
  | .hbm, ⟨17, _⟩ => ⟨S2048x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1x1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== Proof.Cases.lean ====
module

public import proofs.«01_k».proof.Proof.Gen.KernelIdeal.Frame
public import proofs.«01_k».proof.Proof.Gen.KernelIdeal.Skeleton
public import Idealize.ShloMosaic.Lib.Pipeline.TableIdle

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The three kinds of grid point of the backward attention call

The grid has 33 points. The first point clears the two accumulators and then works on block 0; points 1 to 31 work on
their block; point 32 only copies what is carried into the last block of the key/value gradient. -/

/-- The body's first branch is taken at this point: the accumulators are cleared. -/
abbrev clears (i : grid0.Coords) : Prop := k0_cond1 i = 1#1
/-- The body's second branch is taken: the point works on a block of queries. -/
abbrev works (i : grid0.Coords) : Prop := k0_cond2 i = 1#1
/-- The body's third branch is taken: the point only writes out what is carried. -/
abbrev closes (i : grid0.Coords) : Prop := k0_cond3 i = 1#1

/-- The accumulators are cleared at point 0 and nowhere else. -/
theorem clears_iff : ∀ t : Fin cfg0.N, clears (grid0.coords t) ↔ t.val = 0 :=
  (by decide +kernel : ∀ t : Fin grid0.N, clears (grid0.coords t) ↔ t.val = 0)
/-- The points before the last one work on a block. -/
theorem works_iff : ∀ t : Fin cfg0.N, works (grid0.coords t) ↔ t.val < 32 :=
  (by decide +kernel : ∀ t : Fin grid0.N, works (grid0.coords t) ↔ t.val < 32)
/-- Point 32 is the only one that only writes out. -/
theorem closes_iff : ∀ t : Fin cfg0.N, closes (grid0.coords t) ↔ t.val = 32 :=
  (by decide +kernel : ∀ t : Fin grid0.N, closes (grid0.coords t) ↔ t.val = 32)

/-- The number of points. -/
theorem lt33 (t : Fin cfg0.N) : t.val < 33 := lt_of_lt_of_eq t.isLt (show cfg0.N = 33 from N_0)

theorem clears_zero {t : Fin cfg0.N} (h : t.val = 0) : clears (grid0.coords t) := (clears_iff t).mpr h
theorem not_clears {t : Fin cfg0.N} (h : t.val ≠ 0) : ¬ clears (grid0.coords t) := fun g => h ((clears_iff t).mp g)
theorem works_lt {t : Fin cfg0.N} (h : t.val < 32) : works (grid0.coords t) := (works_iff t).mpr h
theorem not_works {t : Fin cfg0.N} (h : ¬ t.val < 32) : ¬ works (grid0.coords t) := fun g => h ((works_iff t).mp g)
theorem closes_last {t : Fin cfg0.N} (h : t.val = 32) : closes (grid0.coords t) := (closes_iff t).mpr h
theorem not_closes {t : Fin cfg0.N} (h : t.val < 32) : ¬ closes (grid0.coords t) :=
  fun g => by have := (closes_iff t).mp g; omega

/-! ## Which result blocks a point leaves alone -/

/-- The block of the query gradient is stored at every point but the last. -/
theorem idle5_iff : ∀ t : Fin cfg0.N, cfg0.idle 5 (grid0.coords t) = decide (t.val = 32) := by decide +kernel
/-- The block of the key/value gradient is stored at every point. -/
theorem idle6_iff : ∀ t : Fin cfg0.N, cfg0.idle 6 (grid0.coords t) = false := by decide +kernel
/-- The row of the sinks' gradient is stored at every point but the last. -/
theorem idle7_iff : ∀ t : Fin cfg0.N, cfg0.idle 7 (grid0.coords t) = decide (t.val = 32) := by decide +kernel

/-- Before each point: has the staging buffer of the query gradient been handed back since it was last stored? The
    blocks of points 0 to 30 are written back at once, the block of point 31 only after point 32. -/
def fresh5 : ℕ → Bool
  | 0 => true
  | n + 1 => decide (n ≠ 31)
theorem fresh5_step : ∀ t : Fin cfg0.N,
    fresh5 (t.val + 1) = ((cfg0.win 5).flush t || (cfg0.idle 5 (cfg0.grid.coords t) && fresh5 t.val)) := by decide +kernel
/-- The table above is the pipeline's own. -/
theorem fresh5_eq (t : Fin cfg0.N) : cfg0.fresh 5 t.val = fresh5 t.val :=
  Pipeline.Cfg.fresh_tab cfg0 5 fresh5 rfl fresh5_step t.val (Nat.le_of_lt t.isLt)

/-- The same for the row of the sinks' gradient, which is written back once, after the last point. -/
def fresh7 : ℕ → Bool
  | 0 => true
  | n + 1 => decide (n = 32)
theorem fresh7_step : ∀ t : Fin cfg0.N,
    fresh7 (t.val + 1) = ((cfg0.win 7).flush t || (cfg0.idle 7 (cfg0.grid.coords t) && fresh7 t.val)) := by decide +kernel
/-- The table above is the pipeline's own. -/
theorem fresh7_eq (t : Fin cfg0.N) : cfg0.fresh 7 t.val = fresh7 t.val :=
  Pipeline.Cfg.fresh_tab cfg0 7 fresh7 rfl fresh7_step t.val (Nat.le_of_lt t.isLt)

/-! ## The buffers the body is called with -/

/-- A buffer each result is read through (the contents do not depend on which). -/
abbrev VO5 : View sig .tc .vmem S128x1024 .bf16 := (Memref.whole cc0_stg5_0 : Memref sig .tc .vmem S128x1024 .bf16).view
abbrev VO6 : View sig .tc .vmem S128x256 .f32 := (Memref.whole cc0_stg6_0 : Memref sig .tc .vmem S128x256 .f32).view
abbrev VO7 : View sig .tc .vmem S1x128 .f32 := (Memref.whole cc0_stg7_0 : Memref sig .tc .vmem S1x128 .f32).view
/-- The staging buffer of array 0 at a point. -/
abbrev ms0 (t : Fin cfg0.N) : Memref sig .tc .vmem S128x1024 .bf16 := win0_0.stage (cfg0.slots t 0)
abbrev hs0 (t : Fin cfg0.N) : (ms0 t).IsWhole := hstage0_0 ((cfg0.slots t 0).cast nbuf0_0)
/-- The staging buffer of array 1 at a point. -/
abbrev ms1 (t : Fin cfg0.N) : Memref sig .tc .vmem S128x256 .bf16 := win0_1.stage (cfg0.slots t 1)
abbrev hs1 (t : Fin cfg0.N) : (ms1 t).IsWhole := hstage0_1 ((cfg0.slots t 1).cast nbuf0_1)
/-- The staging buffer of array 2 at a point. -/
abbrev ms2 (t : Fin cfg0.N) : Memref sig .tc .vmem S128x256 .bf16 := win0_2.stage (cfg0.slots t 2)
abbrev hs2 (t : Fin cfg0.N) : (ms2 t).IsWhole := hstage0_2 ((cfg0.slots t 2).cast nbuf0_2)
/-- The staging buffer of array 3 at a point. -/
abbrev ms3 (t : Fin cfg0.N) : Memref sig .tc .vmem S128x1024 .bf16 := win0_3.stage (cfg0.slots t 3)
abbrev hs3 (t : Fin cfg0.N) : (ms3 t).IsWhole := hstage0_3 ((cfg0.slots t 3).cast nbuf0_3)
/-- The staging buffer of array 4 at a point. -/
abbrev ms4 (t : Fin cfg0.N) : Memref sig .tc .smem S16 .f32 := win0_4.stage (cfg0.slots t 4)
abbrev hs4 (t : Fin cfg0.N) : (ms4 t).IsWhole := hstage0_4 ((cfg0.slots t 4).cast nbuf0_4)
/-- The staging buffer of array 5 at a point. -/
abbrev ms5 (t : Fin cfg0.N) : Memref sig .tc .vmem S128x1024 .bf16 := win0_5.stage (cfg0.slots t 5)
abbrev hs5 (t : Fin cfg0.N) : (ms5 t).IsWhole := hstage0_5 ((cfg0.slots t 5).cast nbuf0_5)
/-- The staging buffer of array 6 at a point. -/
abbrev ms6 (t : Fin cfg0.N) : Memref sig .tc .vmem S128x256 .f32 := win0_6.stage (cfg0.slots t 6)
abbrev hs6 (t : Fin cfg0.N) : (ms6 t).IsWhole := hstage0_6 ((cfg0.slots t 6).cast nbuf0_6)
/-- The staging buffer of array 7 at a point. -/
abbrev ms7 (t : Fin cfg0.N) : Memref sig .tc .vmem S1x128 .f32 := win0_7.stage (cfg0.slots t 7)
abbrev hs7 (t : Fin cfg0.N) : (ms7 t).IsWhole := hstage0_7 ((cfg0.slots t 7).cast nbuf0_7)
abbrev sc0 : Memref sig .tc .vmem S128x256 .f32 := Memref.whole cc0_scratch0
abbrev sc1 : Memref sig .tc .vmem S1024x64 .bf16 := Memref.whole cc0_scratch1
abbrev sc2 : Memref sig .tc .vmem S1024x64 .bf16 := Memref.whole cc0_scratch2
abbrev sc3 : Memref sig .tc .vmem S256x1024 .bf16 := Memref.whole cc0_scratch3
abbrev sc4 : Memref sig .tc .vmem S256x1024 .bf16 := Memref.whole cc0_scratch4
/-- The carried half of the key/value gradient, as a view. -/
abbrev VS : View sig .tc .vmem S128x256 .f32 := sc0.view

/-- What the region lends the body: the five scratch buffers and the generator's register. -/
theorem lent_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

end Cert.KernelIdeal.Attn

end
-- ==== Proof.RunFirst.lean ====
module

public import proofs.«01_k».proof.Proof.Cases

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x1024 .bf16) (harg4 : arg4.IsWhole) (arg5 : Memref sig .tc .smem S16 .f32) (harg5 : arg5.IsWhole) (arg6 : Memref sig .tc .vmem S128x1024 .bf16) (harg6 : arg6.IsWhole) (arg7 : Memref sig .tc .vmem S128x256 .f32) (harg7 : arg7.IsWhole) (arg8 : Memref sig .tc .vmem S1x128 .f32) (harg8 : arg8.IsWhole) (arg9 : Memref sig .tc .vmem S128x256 .f32) (harg9 : arg9.IsWhole) (arg10 : Memref sig .tc .vmem S1024x64 .bf16) (harg10 : arg10.IsWhole) (arg11 : Memref sig .tc .vmem S1024x64 .bf16) (harg11 : arg11.IsWhole) (arg12 : Memref sig .tc .vmem S256x1024 .bf16) (harg12 : arg12.IsWhole) (arg13 : Memref sig .tc .vmem S256x1024 .bf16) (harg13 : arg13.IsWhole)
variable (x0 : Vec F S128x1024 .bf16) (x1 : Vec F S128x256 .bf16) (x2 : Vec F S128x256 .bf16) (x3 : Vec F S128x1024 .bf16) (x4 : Vec F S16 .f32)

set_option maxHeartbeats 1800000 in
/-- The body at the first point. On buffers whose five inputs hold `x0` to `x4` and whose results and scratch hold anything, the body ends with the inputs as they were and each result and scratch buffer overwritten by a list of pieces (the latest first), which this definition names. -/
noncomputable def runFirst (c : Dev nD) (i : grid0.Coords) (hc0 : clears i) (hc1 : works i) (hc2 : ¬ closes i) :
    Σ' (L5 : List (View.Piece (Elt F) S128x1024 .bf16)) (L6 : List (View.Piece (Elt F) S128x256 .f32)) (L7 : List (View.Piece (Elt F) S1x128 .f32)) (LS : List (View.Piece (Elt F) S128x256 .f32)) (LT1 : List (View.Piece (Elt F) S1024x64 .bf16)) (LT2 : List (View.Piece (Elt F) S1024x64 .bf16)) (LT3 : List (View.Piece (Elt F) S256x1024 .bf16)), { LT4 : List (View.Piece (Elt F) S256x1024 .bf16) //
      ∀ (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ (∃ d, owns (c : Thread nD τ) arg6 fullShare d)
          ∗ (∃ d, owns (c : Thread nD τ) arg7 fullShare d)
          ∗ (∃ d, owns (c : Thread nD τ) arg8 fullShare d)
          ∗ (∃ d, owns (c : Thread nD τ) arg9 fullShare d)
          ∗ (∃ d, owns (c : Thread nD τ) arg10 fullShare d)
          ∗ (∃ d, owns (c : Thread nD τ) arg11 fullShare d)
          ∗ (∃ d, owns (c : Thread nD τ) arg12 fullShare d)
          ∗ (∃ d, owns (c : Thread nD τ) arg13 fullShare d)
          ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ (∃ f, arg6.view.loc (c : Thread nD τ) ↦[arg6.view.set]{fullShare} arg6.view.writes (Elt F) f L5)
          ∗ (∃ f, arg7.view.loc (c : Thread nD τ) ↦[arg7.view.set]{fullShare} arg7.view.writes (Elt F) f L6)
          ∗ (∃ f, arg8.view.loc (c : Thread nD τ) ↦[arg8.view.set]{fullShare} arg8.view.writes (Elt F) f L7)
          ∗ (∃ f, arg9.view.loc (c : Thread nD τ) ↦[arg9.view.set]{fullShare} arg9.view.writes (Elt F) f LS)
          ∗ (∃ f, arg10.view.loc (c : Thread nD τ) ↦[arg10.view.set]{fullShare} arg10.view.writes (Elt F) f LT1)
          ∗ (∃ f, arg11.view.loc (c : Thread nD τ) ↦[arg11.view.set]{fullShare} arg11.view.writes (Elt F) f LT2)
          ∗ (∃ f, arg12.view.loc (c : Thread nD τ) ↦[arg12.view.set]{fullShare} arg12.view.writes (Elt F) f LT3)
          ∗ (∃ f, arg13.view.loc (c : Thread nD τ) ↦[arg13.view.set]{fullShare} arg13.view.writes (Elt F) f LT4)) -∗ K ⟨⟩))
          ⊢ wp frame (wpE (defs₀ (F := F)) Variants.none c none) E (cc0_swa_bwd i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, ?_, fun E K => ?run⟩
  case run =>
    simp only [cc0_swa_bwd_eq_skeleton]; unfold cc0_swa_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    isplitl [HS1]; · iexists _; iexact HS1
    isplitl [HS2]; · iexists _; iexact HS2
    isplitl [HS3]; · iexists _; iexact HS3
    iexists _; iexact HS4

end Cert.KernelIdeal.Attn

end
-- ==== Proof.RunMiddle.lean ====
module

public import proofs.«01_k».proof.Proof.RunFirst

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x1024 .bf16) (harg4 : arg4.IsWhole) (arg5 : Memref sig .tc .smem S16 .f32) (harg5 : arg5.IsWhole) (arg6 : Memref sig .tc .vmem S128x1024 .bf16) (harg6 : arg6.IsWhole) (arg7 : Memref sig .tc .vmem S128x256 .f32) (harg7 : arg7.IsWhole) (arg8 : Memref sig .tc .vmem S1x128 .f32) (harg8 : arg8.IsWhole) (arg9 : Memref sig .tc .vmem S128x256 .f32) (harg9 : arg9.IsWhole) (arg10 : Memref sig .tc .vmem S1024x64 .bf16) (harg10 : arg10.IsWhole) (arg11 : Memref sig .tc .vmem S1024x64 .bf16) (harg11 : arg11.IsWhole) (arg12 : Memref sig .tc .vmem S256x1024 .bf16) (harg12 : arg12.IsWhole) (arg13 : Memref sig .tc .vmem S256x1024 .bf16) (harg13 : arg13.IsWhole)
variable (x0 : Vec F S128x1024 .bf16) (x1 : Vec F S128x256 .bf16) (x2 : Vec F S128x256 .bf16) (x3 : Vec F S128x1024 .bf16) (x4 : Vec F S16 .f32)

set_option maxHeartbeats 1800000 in
/-- The body at a point that works on a block and is not the first: as at the first point, but the row of the sinks' gradient holds `z7` and the carried half holds `zs` beforehand. -/
noncomputable def runMiddle (c : Dev nD) (i : grid0.Coords) (hc0 : ¬ clears i) (hc1 : works i) (hc2 : ¬ closes i) (z7 : Vec F S1x128 .f32) (zs : Vec F S128x256 .f32) :
    Σ' (L5 : List (View.Piece (Elt F) S128x1024 .bf16)) (L6 : List (View.Piece (Elt F) S128x256 .f32)) (L7 : List (View.Piece (Elt F) S1x128 .f32)) (LS : List (View.Piece (Elt F) S128x256 .f32)) (LT1 : List (View.Piece (Elt F) S1024x64 .bf16)) (LT2 : List (View.Piece (Elt F) S1024x64 .bf16)) (LT3 : List (View.Piece (Elt F) S256x1024 .bf16)), { LT4 : List (View.Piece (Elt F) S256x1024 .bf16) //
      ∀ (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ (∃ d, owns (c : Thread nD τ) arg6 fullShare d)
          ∗ (∃ d, owns (c : Thread nD τ) arg7 fullShare d)
          ∗ owns (c : Thread nD τ) arg8 fullShare z7
          ∗ owns (c : Thread nD τ) arg9 fullShare zs
          ∗ (∃ d, owns (c : Thread nD τ) arg10 fullShare d)
          ∗ (∃ d, owns (c : Thread nD τ) arg11 fullShare d)
          ∗ (∃ d, owns (c : Thread nD τ) arg12 fullShare d)
          ∗ (∃ d, owns (c : Thread nD τ) arg13 fullShare d)
          ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ (∃ f, arg6.view.loc (c : Thread nD τ) ↦[arg6.view.set]{fullShare} arg6.view.writes (Elt F) f L5)
          ∗ (∃ f, arg7.view.loc (c : Thread nD τ) ↦[arg7.view.set]{fullShare} arg7.view.writes (Elt F) f L6)
          ∗ (∃ f, arg8.view.loc (c : Thread nD τ) ↦[arg8.view.set]{fullShare} arg8.view.writes (Elt F) f L7)
          ∗ (∃ f, arg9.view.loc (c : Thread nD τ) ↦[arg9.view.set]{fullShare} arg9.view.writes (Elt F) f LS)
          ∗ (∃ f, arg10.view.loc (c : Thread nD τ) ↦[arg10.view.set]{fullShare} arg10.view.writes (Elt F) f LT1)
          ∗ (∃ f, arg11.view.loc (c : Thread nD τ) ↦[arg11.view.set]{fullShare} arg11.view.writes (Elt F) f LT2)
          ∗ (∃ f, arg12.view.loc (c : Thread nD τ) ↦[arg12.view.set]{fullShare} arg12.view.writes (Elt F) f LT3)
          ∗ (∃ f, arg13.view.loc (c : Thread nD τ) ↦[arg13.view.set]{fullShare} arg13.view.writes (Elt F) f LT4)) -∗ K ⟨⟩))
          ⊢ wp frame (wpE (defs₀ (F := F)) Variants.none c none) E (cc0_swa_bwd i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, ?_, fun E K => ?run⟩
  case run =>
    simp only [cc0_swa_bwd_eq_skeleton]; unfold cc0_swa_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hf7; obtain rfl := harg9.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    isplitl [HS1]; · iexists _; iexact HS1
    isplitl [HS2]; · iexists _; iexact HS2
    isplitl [HS3]; · iexists _; iexact HS3
    iexists _; iexact HS4

end Cert.KernelIdeal.Attn

end
-- ==== Proof.RunLast.lean ====
module

public import proofs.«01_k».proof.Proof.RunMiddle

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x1024 .bf16) (harg4 : arg4.IsWhole) (arg5 : Memref sig .tc .smem S16 .f32) (harg5 : arg5.IsWhole) (arg6 : Memref sig .tc .vmem S128x1024 .bf16) (harg6 : arg6.IsWhole) (arg7 : Memref sig .tc .vmem S128x256 .f32) (harg7 : arg7.IsWhole) (arg8 : Memref sig .tc .vmem S1x128 .f32) (harg8 : arg8.IsWhole) (arg9 : Memref sig .tc .vmem S128x256 .f32) (harg9 : arg9.IsWhole) (arg10 : Memref sig .tc .vmem S1024x64 .bf16) (harg10 : arg10.IsWhole) (arg11 : Memref sig .tc .vmem S1024x64 .bf16) (harg11 : arg11.IsWhole) (arg12 : Memref sig .tc .vmem S256x1024 .bf16) (harg12 : arg12.IsWhole) (arg13 : Memref sig .tc .vmem S256x1024 .bf16) (harg13 : arg13.IsWhole)
variable (x0 : Vec F S128x1024 .bf16) (x1 : Vec F S128x256 .bf16) (x2 : Vec F S128x256 .bf16) (x3 : Vec F S128x1024 .bf16) (x4 : Vec F S16 .f32)

set_option maxHeartbeats 1800000 in
/-- The body at the last point: it only stores the carried half `zs` into the block of the key/value gradient; the query gradient's block and the row of the sinks' gradient keep what they held. -/
noncomputable def runLast (c : Dev nD) (i : grid0.Coords) (hc0 : ¬ clears i) (hc1 : ¬ works i) (hc2 : closes i) (z5 : Vec F S128x1024 .bf16) (z7 : Vec F S1x128 .f32) (zs : Vec F S128x256 .f32) :
    { L6 : List (View.Piece (Elt F) S128x256 .f32) //
      ∀ (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare z5
          ∗ (∃ d, owns (c : Thread nD τ) arg7 fullShare d)
          ∗ owns (c : Thread nD τ) arg8 fullShare z7
          ∗ owns (c : Thread nD τ) arg9 fullShare zs
          ∗ (∃ d, owns (c : Thread nD τ) arg10 fullShare d)
          ∗ (∃ d, owns (c : Thread nD τ) arg11 fullShare d)
          ∗ (∃ d, owns (c : Thread nD τ) arg12 fullShare d)
          ∗ (∃ d, owns (c : Thread nD τ) arg13 fullShare d)
          ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare z5
          ∗ (∃ f, arg7.view.loc (c : Thread nD τ) ↦[arg7.view.set]{fullShare} arg7.view.writes (Elt F) f L6)
          ∗ owns (c : Thread nD τ) arg8 fullShare z7
          ∗ owns (c : Thread nD τ) arg9 fullShare zs
          ∗ (∃ d, owns (c : Thread nD τ) arg10 fullShare d)
          ∗ (∃ d, owns (c : Thread nD τ) arg11 fullShare d)
          ∗ (∃ d, owns (c : Thread nD τ) arg12 fullShare d)
          ∗ (∃ d, owns (c : Thread nD τ) arg13 fullShare d)) -∗ K ⟨⟩))
          ⊢ wp frame (wpE (defs₀ (F := F)) Variants.none c none) E (cc0_swa_bwd i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_swa_bwd_eq_skeleton]; unfold cc0_swa_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [HS0]
    · iexists _; isplitr; · ipureintro; exact harg9.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Attn

end
-- ==== Proof.KernelFrame.lean ====
module

public import proofs.«01_k».proof.Proof.RunLast
public import Idealize.ShloMosaic.Lib.Claim

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The backward attention call: what each point leaves, and the run of the whole call -/

/-! ## One point, on the buffers the pipeline hands it -/

/-- The first point. -/
abbrev ptFirst (c : Dev nD) (t : Fin cfg0.N) (h : t.val = 0) :=
  runFirst (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) c (grid0.coords t) (clears_zero h) (works_lt (by omega)) (not_closes (by omega))

/-- A later point that works on a block. -/
abbrev ptMiddle (c : Dev nD) (t : Fin cfg0.N) (h : t.val ≠ 0) (g : t.val < 32) (z7 : Vec F S1x128 .f32) (zs : Vec F S128x256 .f32) :=
  runMiddle (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) c (grid0.coords t) (not_clears h) (works_lt g) (not_closes g) z7 zs

/-- The last point. -/
abbrev ptLast (c : Dev nD) (t : Fin cfg0.N) (h : t.val = 32) (z5 : Vec F S128x1024 .bf16) (z7 : Vec F S1x128 .f32) (zs : Vec F S128x256 .f32) :=
  runLast (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) c (grid0.coords t) (not_clears (by omega)) (not_works (by omega)) (closes_last h) z5 z7 zs

/-- What a first point leaves in the query gradient's block. -/
def leftFirst5 (c : Dev nD) (t : Fin cfg0.N) (h : t.val = 0) : Vec F S128x1024 .bf16 :=
  VO5.read (Elt F) (VO5.writes (Elt F) VO5.junk (ptFirst m c t h).1)
/-- Its pieces cover the whole buffer. -/
theorem coverFirst5 (c : Dev nD) (t : Fin cfg0.N) (h : t.val = 0) (y : S128x1024.Idx) :
    ∃ pc ∈ (ptFirst m c t h).1, y ∈ pc.1.set :=
  View.cover_of_tiledL (ptFirst m c t h).1 S128x64.size (by sl_kernel_rfl) y

/-- What a first point leaves in the key/value gradient's block. -/
def leftFirst6 (c : Dev nD) (t : Fin cfg0.N) (h : t.val = 0) : Vec F S128x256 .f32 :=
  VO6.read (Elt F) (VO6.writes (Elt F) VO6.junk (ptFirst m c t h).2.1)
/-- Its pieces cover the whole buffer. -/
theorem coverFirst6 (c : Dev nD) (t : Fin cfg0.N) (h : t.val = 0) (y : S128x256.Idx) :
    ∃ pc ∈ (ptFirst m c t h).2.1, y ∈ pc.1.set :=
  View.cover_of_tiledL (ptFirst m c t h).2.1 S128x256.size (by sl_kernel_rfl) y

/-- What a first point leaves in the row of the sinks' gradient. -/
def leftFirst7 (c : Dev nD) (t : Fin cfg0.N) (h : t.val = 0) : Vec F S1x128 .f32 :=
  VO7.read (Elt F) (VO7.writes (Elt F) VO7.junk (ptFirst m c t h).2.2.1)
/-- Its pieces cover the whole buffer. -/
theorem coverFirst7 (c : Dev nD) (t : Fin cfg0.N) (h : t.val = 0) (y : S1x128.Idx) :
    ∃ pc ∈ (ptFirst m c t h).2.2.1, y ∈ pc.1.set :=
  View.cover_of_tiledL (ptFirst m c t h).2.2.1 S1x128.size (by sl_kernel_rfl) y

/-- What a first point leaves in the carried half. -/
def leftFirstS (c : Dev nD) (t : Fin cfg0.N) (h : t.val = 0) : Vec F S128x256 .f32 :=
  VS.read (Elt F) (VS.writes (Elt F) VS.junk (ptFirst m c t h).2.2.2.1)
/-- Its pieces cover the whole buffer. -/
theorem coverFirstS (c : Dev nD) (t : Fin cfg0.N) (h : t.val = 0) (y : S128x256.Idx) :
    ∃ pc ∈ (ptFirst m c t h).2.2.2.1, y ∈ pc.1.set :=
  View.cover_of_tiledL (ptFirst m c t h).2.2.2.1 S128x256.size (by sl_kernel_rfl) y

/-- What a middle point leaves in the query gradient's block. -/
def leftMiddle5 (c : Dev nD) (t : Fin cfg0.N) (h : t.val ≠ 0) (g : t.val < 32) (z7 : Vec F S1x128 .f32) (zs : Vec F S128x256 .f32) : Vec F S128x1024 .bf16 :=
  VO5.read (Elt F) (VO5.writes (Elt F) VO5.junk (ptMiddle m c t h g z7 zs).1)
/-- Its pieces cover the whole buffer. -/
theorem coverMiddle5 (c : Dev nD) (t : Fin cfg0.N) (h : t.val ≠ 0) (g : t.val < 32) (z7 : Vec F S1x128 .f32) (zs : Vec F S128x256 .f32) (y : S128x1024.Idx) :
    ∃ pc ∈ (ptMiddle m c t h g z7 zs).1, y ∈ pc.1.set :=
  View.cover_of_tiledL (ptMiddle m c t h g z7 zs).1 S128x64.size (by sl_kernel_rfl) y

/-- What a middle point leaves in the key/value gradient's block. -/
def leftMiddle6 (c : Dev nD) (t : Fin cfg0.N) (h : t.val ≠ 0) (g : t.val < 32) (z7 : Vec F S1x128 .f32) (zs : Vec F S128x256 .f32) : Vec F S128x256 .f32 :=
  VO6.read (Elt F) (VO6.writes (Elt F) VO6.junk (ptMiddle m c t h g z7 zs).2.1)
/-- Its pieces cover the whole buffer. -/
theorem coverMiddle6 (c : Dev nD) (t : Fin cfg0.N) (h : t.val ≠ 0) (g : t.val < 32) (z7 : Vec F S1x128 .f32) (zs : Vec F S128x256 .f32) (y : S128x256.Idx) :
    ∃ pc ∈ (ptMiddle m c t h g z7 zs).2.1, y ∈ pc.1.set :=
  View.cover_of_tiledL (ptMiddle m c t h g z7 zs).2.1 S128x256.size (by sl_kernel_rfl) y

/-- What a middle point leaves in the row of the sinks' gradient. -/
def leftMiddle7 (c : Dev nD) (t : Fin cfg0.N) (h : t.val ≠ 0) (g : t.val < 32) (z7 : Vec F S1x128 .f32) (zs : Vec F S128x256 .f32) : Vec F S1x128 .f32 :=
  VO7.read (Elt F) (VO7.writes (Elt F) VO7.junk (ptMiddle m c t h g z7 zs).2.2.1)
/-- Its pieces cover the whole buffer. -/
theorem coverMiddle7 (c : Dev nD) (t : Fin cfg0.N) (h : t.val ≠ 0) (g : t.val < 32) (z7 : Vec F S1x128 .f32) (zs : Vec F S128x256 .f32) (y : S1x128.Idx) :
    ∃ pc ∈ (ptMiddle m c t h g z7 zs).2.2.1, y ∈ pc.1.set :=
  View.cover_of_tiledL (ptMiddle m c t h g z7 zs).2.2.1 S1x128.size (by sl_kernel_rfl) y

/-- What a middle point leaves in the carried half. -/
def leftMiddleS (c : Dev nD) (t : Fin cfg0.N) (h : t.val ≠ 0) (g : t.val < 32) (z7 : Vec F S1x128 .f32) (zs : Vec F S128x256 .f32) : Vec F S128x256 .f32 :=
  VS.read (Elt F) (VS.writes (Elt F) VS.junk (ptMiddle m c t h g z7 zs).2.2.2.1)
/-- Its pieces cover the whole buffer. -/
theorem coverMiddleS (c : Dev nD) (t : Fin cfg0.N) (h : t.val ≠ 0) (g : t.val < 32) (z7 : Vec F S1x128 .f32) (zs : Vec F S128x256 .f32) (y : S128x256.Idx) :
    ∃ pc ∈ (ptMiddle m c t h g z7 zs).2.2.2.1, y ∈ pc.1.set :=
  View.cover_of_tiledL (ptMiddle m c t h g z7 zs).2.2.2.1 S128x256.size (by sl_kernel_rfl) y

/-- What the last point leaves in the key/value gradient's block. -/
def leftLast6 (c : Dev nD) (t : Fin cfg0.N) (h : t.val = 32) (z5 : Vec F S128x1024 .bf16) (z7 : Vec F S1x128 .f32) (zs : Vec F S128x256 .f32) : Vec F S128x256 .f32 :=
  VO6.read (Elt F) (VO6.writes (Elt F) VO6.junk (ptLast m c t h z5 z7 zs).1)
/-- Its pieces cover the whole buffer. -/
theorem coverLast6 (c : Dev nD) (t : Fin cfg0.N) (h : t.val = 32) (z5 : Vec F S128x1024 .bf16) (z7 : Vec F S1x128 .f32) (zs : Vec F S128x256 .f32) (y : S128x256.Idx) :
    ∃ pc ∈ (ptLast m c t h z5 z7 zs).1, y ∈ pc.1.set :=
  View.cover_of_tiledL (ptLast m c t h z5 z7 zs).1 S128x256.size (by sl_kernel_rfl) y

/-! ## All points -/

/-- The four buffers that matter after point `n`: the block of the query gradient, the block of the key/value gradient,
    the row of the sinks' gradient, and the half of the key/value gradient carried to the next point. -/
def leftAt (c : Dev nD) : (n : ℕ) → n < cfg0.N → Vec F S128x1024 .bf16 × Vec F S128x256 .f32 × Vec F S1x128 .f32 × Vec F S128x256 .f32
  | 0, hn => (leftFirst5 m c ⟨0, hn⟩ rfl, leftFirst6 m c ⟨0, hn⟩ rfl, leftFirst7 m c ⟨0, hn⟩ rfl, leftFirstS m c ⟨0, hn⟩ rfl)
  | n + 1, hn =>
    let r := leftAt c n (Nat.lt_of_succ_lt hn)
    if g : n + 1 < 32 then
      (leftMiddle5 m c ⟨n + 1, hn⟩ n.succ_ne_zero g r.2.2.1 r.2.2.2, leftMiddle6 m c ⟨n + 1, hn⟩ n.succ_ne_zero g r.2.2.1 r.2.2.2,
        leftMiddle7 m c ⟨n + 1, hn⟩ n.succ_ne_zero g r.2.2.1 r.2.2.2, leftMiddleS m c ⟨n + 1, hn⟩ n.succ_ne_zero g r.2.2.1 r.2.2.2)
    else
      (r.1, leftLast6 m c ⟨n + 1, hn⟩ (by have h33 : n + 1 < 33 := lt33 ⟨n + 1, hn⟩
                                          show n + 1 = 32; omega) r.1 r.2.2.1 r.2.2.2, r.2.2.1, r.2.2.2)

/-- The buffers before point `t`, which is not the first. -/
abbrev leftBefore (c : Dev nD) (t : Fin cfg0.N) := leftAt m c (t.val - 1) (Nat.lt_of_le_of_lt (Nat.sub_le _ _) t.isLt)

theorem leftAt_first (c : Dev nD) (t : Fin cfg0.N) (h : t.val = 0) :
    leftAt m c t.val t.isLt = (leftFirst5 m c t h, leftFirst6 m c t h, leftFirst7 m c t h, leftFirstS m c t h) := by
  obtain ⟨n, hn⟩ := t
  cases n with
  | zero => rfl
  | succ n => exact absurd h n.succ_ne_zero

theorem leftAt_middle (c : Dev nD) (t : Fin cfg0.N) (h : t.val ≠ 0) (g : t.val < 32) :
    leftAt m c t.val t.isLt
      = (leftMiddle5 m c t h g (leftBefore m c t).2.2.1 (leftBefore m c t).2.2.2, leftMiddle6 m c t h g (leftBefore m c t).2.2.1 (leftBefore m c t).2.2.2,
         leftMiddle7 m c t h g (leftBefore m c t).2.2.1 (leftBefore m c t).2.2.2, leftMiddleS m c t h g (leftBefore m c t).2.2.1 (leftBefore m c t).2.2.2) := by
  obtain ⟨n, hn⟩ := t
  cases n with
  | zero => exact absurd rfl h
  | succ n => exact (dif_pos g).trans rfl

theorem leftAt_last (c : Dev nD) (t : Fin cfg0.N) (h : t.val = 32) :
    leftAt m c t.val t.isLt
      = ((leftBefore m c t).1, leftLast6 m c t h (leftBefore m c t).1 (leftBefore m c t).2.2.1 (leftBefore m c t).2.2.2,
         (leftBefore m c t).2.2.1, (leftBefore m c t).2.2.2) := by
  obtain ⟨n, hn⟩ := t
  cases n with
  | zero => exact absurd (show (0 : ℕ) = 32 from h) (by omega)
  | succ n => exact (dif_neg (by simp only at h; omega)).trans rfl

/-- Between points the core keeps the carried half at its contents, the other four scratch buffers at any contents, and
    the generator's register. -/
def kept (c : Dev nD) : (n : ℕ) → n ≤ cfg0.N → sProp 𝕄
  | 0, _ => Pipeline.ΦA spec0 c
  | n + 1, hn => iprop(iprop(owns (c : Thread nD τ) sc0 fullShare (leftAt m c n hn).2.2.2 ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r))

theorem kept_zero (c : Dev nD) (n : ℕ) (h : n ≤ cfg0.N) (hz : n = 0) : kept m c n h = Pipeline.ΦA spec0 c := by
  subst hz; rfl

theorem kept_pos (c : Dev nD) (n : ℕ) (h : n ≤ cfg0.N) (hz : n ≠ 0) :
    kept m c n h = iprop(iprop(owns (c : Thread nD τ) sc0 fullShare (leftAt m c (n - 1) (by omega)).2.2.2 ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  cases n with
  | zero => exact absurd rfl hz
  | succ n => rfl

/-- The data of the pipeline: the arrays as the call finds them, what the body leaves in each staging buffer, and what
    the core keeps between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (leftAt m c t.val t.isLt).1
    | ⟨6, _⟩ => (leftAt m c t.val t.isLt).2.1
    | ⟨7, _⟩ => (leftAt m c t.val t.isLt).2.2.1
  Φ t := kept m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem kept_castSucc (c : Dev nD) (t : Fin cfg0.N) :
    (dats m 0 c).Φ t.castSucc = kept m c t.val (Nat.le_of_lt t.isLt) := by
  dsimp only [dats]; exact Pipeline.Dat.Φ_castSucc (kept m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (leftAt m c t.val t.isLt).1 := by dsimp only [dats]
theorem after6 (c : Dev nD) (t : Fin cfg0.N) : (dats m 0 c).after 6 t = (leftAt m c t.val t.isLt).2.1 := by dsimp only [dats]
theorem after7 (c : Dev nD) (t : Fin cfg0.N) : (dats m 0 c).after 7 t = (leftAt m c t.val t.isLt).2.2.1 := by dsimp only [dats]

/-- Input 0: the buffer holds its block when the body is called. -/
theorem before0 (c : Dev nD) (t : Fin cfg0.N) (d) : (dats m 0 c).before 0 t d = iblk m c 0 t :=
  before0_0_of m (dats m 0 c) (A_eq m c 0) (after0 m c) t d
/-- Input 1: the buffer holds its block when the body is called. -/
theorem before1 (c : Dev nD) (t : Fin cfg0.N) (d) : (dats m 0 c).before 1 t d = iblk m c 1 t :=
  before0_1_of m (dats m 0 c) (A_eq m c 1) (after1 m c) t d
/-- Input 2: the buffer holds its block when the body is called. -/
theorem before2 (c : Dev nD) (t : Fin cfg0.N) (d) : (dats m 0 c).before 2 t d = iblk m c 2 t :=
  before0_2_of m (dats m 0 c) (A_eq m c 2) (after2 m c) t d
/-- Input 3: the buffer holds its block when the body is called. -/
theorem before3 (c : Dev nD) (t : Fin cfg0.N) (d) : (dats m 0 c).before 3 t d = iblk m c 3 t :=
  before0_3_of m (dats m 0 c) (A_eq m c 3) (after3 m c) t d
/-- Input 4: the buffer holds its block when the body is called. -/
theorem before4 (c : Dev nD) (t : Fin cfg0.N) (d) : (dats m 0 c).before 4 t d = iblk m c 4 t :=
  before0_4_of m (dats m 0 c) (A_eq m c 4) (after4 m c) t d

/-- Where a point leaves the buffer of result 5 alone, the buffer holds what the point before left. -/
theorem carry5 (c : Dev nD) (t : Fin cfg0.N) (_ : t.val ≠ 0) (hi : cfg0.idle 5 (grid0.coords t) = true) (_ : cfg0.fresh 5 t.val = false) :
    (dats m 0 c).after 5 t = (dats m 0 c).after 5 ⟨t.val - 1, by omega⟩ := by
  rw [idle5_iff] at hi
  rw [after5, after5, leftAt_last m c t (of_decide_eq_true hi)]

/-- Result 5: what the body finds where the buffer has not been handed back. -/
theorem before5 (c : Dev nD) (t : Fin cfg0.N) (h : fresh5 t.val = false) (d) : (dats m 0 c).before 5 t d = (leftBefore m c t).1 := by
  rw [Dat.before_out_traj _ 5 rfl (fun _ _ => rfl) (carry5 m c) t.val t rfl d,
    if_neg (by rw [fresh5_eq, h]; exact Bool.false_ne_true)]
  dsimp only [dats]

/-- Where a point leaves the buffer of result 7 alone, the buffer holds what the point before left. -/
theorem carry7 (c : Dev nD) (t : Fin cfg0.N) (_ : t.val ≠ 0) (hi : cfg0.idle 7 (grid0.coords t) = true) (_ : cfg0.fresh 7 t.val = false) :
    (dats m 0 c).after 7 t = (dats m 0 c).after 7 ⟨t.val - 1, by omega⟩ := by
  rw [idle7_iff] at hi
  rw [after7, after7, leftAt_last m c t (of_decide_eq_true hi)]

/-- Result 7: what the body finds where the buffer has not been handed back. -/
theorem before7 (c : Dev nD) (t : Fin cfg0.N) (h : fresh7 t.val = false) (d) : (dats m 0 c).before 7 t d = (leftBefore m c t).2.2.1 := by
  rw [Dat.before_out_traj _ 7 rfl (fun _ _ => rfl) (carry7 m c) t.val t rfl d,
    if_neg (by rw [fresh7_eq, h]; exact Bool.false_ne_true)]
  dsimp only [dats]

theorem fresh5_last {t : Fin cfg0.N} (h : t.val = 32) : fresh5 t.val = false := by rw [h]; decide
theorem fresh7_pos {t : Fin cfg0.N} (h : t.val ≠ 0) : fresh7 t.val = false := by
  have := lt33 t
  obtain ⟨n, hn⟩ : ∃ n, t.val = n + 1 := ⟨t.val - 1, by omega⟩
  rw [hn]; exact decide_eq_false (by omega)

/-! ## What is handed back after a point -/

theorem leaves0 (c : Dev nD) (t : Fin cfg0.N) : (dats m 0 c).leavesExact 0 t = owns (c : Thread nD τ) (ms0 t) fullShare (iblk m c 0 t) := by
  rw [← after0 m c t]
theorem leaves1 (c : Dev nD) (t : Fin cfg0.N) : (dats m 0 c).leavesExact 1 t = owns (c : Thread nD τ) (ms1 t) fullShare (iblk m c 1 t) := by
  rw [← after1 m c t]
theorem leaves2 (c : Dev nD) (t : Fin cfg0.N) : (dats m 0 c).leavesExact 2 t = owns (c : Thread nD τ) (ms2 t) fullShare (iblk m c 2 t) := by
  rw [← after2 m c t]
theorem leaves3 (c : Dev nD) (t : Fin cfg0.N) : (dats m 0 c).leavesExact 3 t = owns (c : Thread nD τ) (ms3 t) fullShare (iblk m c 3 t) := by
  rw [← after3 m c t]
theorem leaves4 (c : Dev nD) (t : Fin cfg0.N) : (dats m 0 c).leavesExact 4 t = owns (c : Thread nD τ) (ms4 t) fullShare (iblk m c 4 t) := by
  rw [← after4 m c t]
theorem leaves5 (c : Dev nD) (t : Fin cfg0.N) (h : t.val < 32) : (dats m 0 c).leavesExact 5 t = owns (c : Thread nD τ) (ms5 t) fullShare (leftAt m c t.val t.isLt).1 := by
  rw [← after5 m c t]; unfold Dat.leavesExact
  rw [show cfg0.idle 5 (cfg0.grid.coords t) = false from (idle5_iff t).trans (decide_eq_false (by omega))]
theorem leaves6 (c : Dev nD) (t : Fin cfg0.N) : (dats m 0 c).leavesExact 6 t = owns (c : Thread nD τ) (ms6 t) fullShare (leftAt m c t.val t.isLt).2.1 := by
  rw [← after6 m c t]; unfold Dat.leavesExact
  rw [show cfg0.idle 6 (cfg0.grid.coords t) = false from idle6_iff t]
theorem leaves7 (c : Dev nD) (t : Fin cfg0.N) (h : t.val < 32) : (dats m 0 c).leavesExact 7 t = owns (c : Thread nD τ) (ms7 t) fullShare (leftAt m c t.val t.isLt).2.2.1 := by
  rw [← after7 m c t]; unfold Dat.leavesExact
  rw [show cfg0.idle 7 (cfg0.grid.coords t) = false from (idle7_iff t).trans (decide_eq_false (by omega))]

/-- At the last point the two results are written back without having been stored: the buffer must hold what was left. -/
theorem flush5_last : ∀ t : Fin cfg0.N, t.val = 32 → (cfg0.win 5).flush t = true := by decide +kernel
theorem flush7_last : ∀ t : Fin cfg0.N, t.val = 32 → (cfg0.win 7).flush t = true := by decide +kernel
theorem leaves5_last (c : Dev nD) (t : Fin cfg0.N) (h : t.val = 32) : (dats m 0 c).leavesExact 5 t = owns (c : Thread nD τ) (ms5 t) fullShare (leftBefore m c t).1 := by
  have e : (dats m 0 c).after 5 t = (leftBefore m c t).1 := by rw [after5, leftAt_last m c t h]
  rw [← e]; unfold Dat.leavesExact
  rw [show cfg0.idle 5 (cfg0.grid.coords t) = true from (idle5_iff t).trans (decide_eq_true h), flush5_last t h]
theorem leaves7_last (c : Dev nD) (t : Fin cfg0.N) (h : t.val = 32) : (dats m 0 c).leavesExact 7 t = owns (c : Thread nD τ) (ms7 t) fullShare (leftBefore m c t).2.2.1 := by
  have e : (dats m 0 c).after 7 t = (leftBefore m c t).2.2.1 := by rw [after7, leftAt_last m c t h]
  rw [← e]; unfold Dat.leavesExact
  rw [show cfg0.idle 7 (cfg0.grid.coords t) = true from (idle7_iff t).trans (decide_eq_true h), flush7_last t h]

/-! ## The body at a point -/

/-- What the body is called with. -/
def given (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- What the body gives back. -/
def returned (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at the first point. -/
theorem body_first (c : Dev nD) (t : Fin cfg0.N) (h : t.val = 0) :
    given m c t ⊢ wp frame (wpE (defs₀ (F := F)) Variants.none c none) Set.univ (bodyAt0 t) (fun _ => returned m c t) := by
  unfold given returned bodyAt0
  simp only [before0, before1, before2, before3, before4]
  rw [show (dats m 0 c).owesAt () t.succ = (dats m 0 c).owesAt () t.castSucc from rfl]
  rw [show (dats m 0 c).Φ t.succ = kept m c (t.val + 1) t.isLt from rfl, kept_pos m c _ _ (Nat.succ_ne_zero _)]
  rw [show (leftAt m c (t.val + 1 - 1) (Nat.lt_of_lt_of_le (by omega) (Nat.le_refl _))) = leftAt m c t.val t.isLt from rfl]
  rw [kept_castSucc m c t, leaves0, leaves1, leaves2, leaves3, leaves4, leaves5 m c t (by omega), leaves6, leaves7 m c t (by omega), kept_zero m c _ _ h, lent_eq, leftAt_first m c t h]
  unfold leftFirst5 leftFirst6 leftFirst7 leftFirstS
  dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((ptFirst m c t h).2.2.2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  iintro ⟨H0, H1, H2, H3, H4, ⟨%e5, H5⟩, ⟨%e6, H6⟩, ⟨%e7, H7⟩, ⟨%es0, HS0⟩, ⟨%fT1, HS1⟩, ⟨%fT2, HS2⟩, ⟨%fT3, HS3⟩, ⟨%fT4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (coverFirstS m c t h)
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (coverFirst5 m c t h)
  isplitl [H6]
  · unfold owns; iexists _; isplitr
    swap; · iexact H6
    ipureintro; exact View.read_writes_of_cover _ _ _ _ _ (coverFirst6 m c t h)
  unfold owns; iexists _; isplitr
  swap; · iexact H7
  ipureintro; exact View.read_writes_of_cover _ _ _ _ _ (coverFirst7 m c t h)

set_option maxHeartbeats 4000000 in
/-- The body at a later point that works on a block. -/
theorem body_middle (c : Dev nD) (t : Fin cfg0.N) (h : t.val ≠ 0) (g : t.val < 32) :
    given m c t ⊢ wp frame (wpE (defs₀ (F := F)) Variants.none c none) Set.univ (bodyAt0 t) (fun _ => returned m c t) := by
  unfold given returned bodyAt0
  simp only [before0, before1, before2, before3, before4]
  rw [show (dats m 0 c).owesAt () t.succ = (dats m 0 c).owesAt () t.castSucc from rfl]
  rw [show (dats m 0 c).Φ t.succ = kept m c (t.val + 1) t.isLt from rfl, kept_pos m c _ _ (Nat.succ_ne_zero _)]
  rw [show (leftAt m c (t.val + 1 - 1) (Nat.lt_of_lt_of_le (by omega) (Nat.le_refl _))) = leftAt m c t.val t.isLt from rfl]
  rw [kept_castSucc m c t, leaves0, leaves1, leaves2, leaves3, leaves4, leaves5 m c t g, leaves6, leaves7 m c t g, kept_pos m c _ _ h, leftAt_middle m c t h g]
  simp only [before7 m c t (fresh7_pos h)]
  unfold leftMiddle5 leftMiddle6 leftMiddle7 leftMiddleS
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((ptMiddle m c t h g _ _).2.2.2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [HS0]; · iexact HS0
  isplitl [HS1]; · iexact HS1
  isplitl [HS2]; · iexact HS2
  isplitl [HS3]; · iexact HS3
  isplitl [HS4]; · iexact HS4
  iintro ⟨H0, H1, H2, H3, H4, ⟨%e5, H5⟩, ⟨%e6, H6⟩, ⟨%e7, H7⟩, ⟨%es0, HS0⟩, ⟨%fT1, HS1⟩, ⟨%fT2, HS2⟩, ⟨%fT3, HS3⟩, ⟨%fT4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (coverMiddleS m c t h g _ _)
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (coverMiddle5 m c t h g _ _)
  isplitl [H6]
  · unfold owns; iexists _; isplitr
    swap; · iexact H6
    ipureintro; exact View.read_writes_of_cover _ _ _ _ _ (coverMiddle6 m c t h g _ _)
  unfold owns; iexists _; isplitr
  swap; · iexact H7
  ipureintro; exact View.read_writes_of_cover _ _ _ _ _ (coverMiddle7 m c t h g _ _)

set_option maxHeartbeats 4000000 in
/-- The body at the last point. -/
theorem body_last (c : Dev nD) (t : Fin cfg0.N) (h : t.val = 32) :
    given m c t ⊢ wp frame (wpE (defs₀ (F := F)) Variants.none c none) Set.univ (bodyAt0 t) (fun _ => returned m c t) := by
  unfold given returned bodyAt0
  simp only [before0, before1, before2, before3, before4]
  rw [show (dats m 0 c).owesAt () t.succ = (dats m 0 c).owesAt () t.castSucc from rfl]
  rw [show (dats m 0 c).Φ t.succ = kept m c (t.val + 1) t.isLt from rfl, kept_pos m c _ _ (Nat.succ_ne_zero _)]
  rw [show (leftAt m c (t.val + 1 - 1) (Nat.lt_of_lt_of_le (by omega) (Nat.le_refl _))) = leftAt m c t.val t.isLt from rfl]
  rw [kept_castSucc m c t, leaves0, leaves1, leaves2, leaves3, leaves4, leaves5_last m c t h, leaves6, leaves7_last m c t h, kept_pos m c _ _ (show t.val ≠ 0 by omega), leftAt_last m c t h]
  simp only [before5 m c t (fresh5_last h), before7 m c t (fresh7_pos (show t.val ≠ 0 by omega))]
  unfold leftLast6
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((ptLast m c t h _ _ _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%e6, H6⟩, H7, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (coverLast6 m c t h _ _ _)
  iexact H7

/-- The body at any point. -/
theorem body_any (c : Dev nD) (t : Fin cfg0.N) :
    given m c t ⊢ wp frame (wpE (defs₀ (F := F)) Variants.none c none) Set.univ (bodyAt0 t) (fun _ => returned m c t) := by
  by_cases h : t.val = 0
  · exact body_first m c t h
  · by_cases g : t.val < 32
    · exact body_middle m c t h g
    · exact body_last m c t (by have := lt33 t; omega)

theorem row_eq (t : Fin cfg0.N) :
    defs₀ (F := F) .tc cfg0.body (cfg0.bodyArgs t (cfg0.slots t)) = bodyAt0 t := by
  unfold defs₀; rw [Defs.onTc_tc]

/-- What the pipeline asks of the body. -/
theorem obligation (c : Dev nD) : BodyObligation (dats (F := F) m 0 c) (defs₀ (F := F)) Variants.none () Set.univ := fun t => by
  rw [bigSep_W0, bigSep_W0, row_eq]
  exact triple_restated (body_any m c t) rfl .rfl fun _ => .rfl

theorem enter (c : Dev nD) : Pipeline.ΦA spec0 c ⊢ (dats m 0 c).Φ 0 := by
  rw [show (dats m 0 c).Φ 0 = kept m c 0 (Nat.zero_le _) from rfl, kept_zero m c 0 _ rfl]
  try exact Idealize.SL.BI.Entails.refl _

theorem leave (c : Dev nD) : (dats m 0 c).Φ (Fin.last cfg0.N) ⊢ Pipeline.ΦA spec0 c := by
  rw [show (dats m 0 c).Φ (Fin.last cfg0.N) = kept m c cfg0.N (Nat.le_refl _) from rfl,
    kept_pos m c _ _ (by have : cfg0.N = 33 := N_0; omega), lent_eq]
  iintro ⟨⟨HS0, HS1, HS2, HS3, HS4⟩, Hg⟩
  isplitl [HS0 HS1 HS2 HS3 HS4]
  · isplitl [HS0]
    · iexists _; iexact HS0
    isplitl [HS1]; · iexact HS1
    isplitl [HS2]; · iexact HS2
    isplitl [HS3]; · iexact HS3
    iexact HS4
  iexact Hg

/-! ## The whole call -/

set_option backward.isDefEq.respectTransparency.types false in
/-- The call ends, with every array at what the points' write-backs make of it and all counters at zero. -/
theorem call_ends : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

/-- The arrays of the call at its end. -/
theorem call_arrays : θ_run defs (onTc (τ := τ) (main (F := F))) (s₀ m ρ) (Pipeline.FramePost cfgs (dats m) 0 (V m)) :=
  (θ_run defs _ _).mono (fun _ h => h.1) (call_ends m ρ)

/-- The call ends with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (call_arrays m ρ)) ((θ_run defs _ _).mono (fun _ h => h.2) (call_ends m ρ))

end Cert.KernelIdeal.Attn

end
-- ==== Proof.Finite.lean ====
module

public import proofs.«01_k».proof.Pre_finite
public import proofs.«01_k».proof.Proof.Gen.Pre_finite
public import Idealize.ShloMosaic.PureOps.Ideal
public import Idealize.ShloMosaic.Lib.ReduceAll
public import Idealize.ShloMosaic.Lib.Pointwise

@[expose] public section

set_option maxRecDepth 16384

noncomputable section

namespace Cert.Finite

open Idealize.ShloMosaic Idealize.ShloMosaic.TcCoe Idealize.ShloMosaic.Tactic
open Cert.Pre_finite Cert.Pre_finite.Facts

/-! # Arguments that are finite are real numbers -/

/-- The word the predicate compares with reads as the positive infinity. -/
theorem top_word : (Ideal.ofBits FTy.f32 0x7F800000#32 : EReal) = ⊤ := by
  simp [Ideal.ofBits, Ideal.ieee]

/-- An extended real whose absolute value lies below the positive infinity is real. -/
theorem real_of_abs_lt (x : EReal) (h : max x (-x) < ⊤) : ∃ r : ℝ, x = ((r : ℝ) : EReal) := by
  induction x with
  | bot => exact absurd h (by simp)
  | coe r => exact ⟨r, rfl⟩
  | top => exact absurd h (by simp)

/-- What one comparison of the predicate says of an entry. -/
theorem real_of_cmp {S : Shape} (x : FVec Ideal S .f32) (b : S_.BroadcastsInDim S (![] : Fin 0 → Fin S.rank)) (y : S.Idx)
    (h : cmpf (F := Ideal) .olt (Host.absf x) (broadcastInDim S ![] b (constant S_ .f32 0x7F800000#32)) y = 1#1) : ∃ r : ℝ, x y = ((r : ℝ) : EReal) := by
  refine real_of_abs_lt (x y) ?_
  rw [← top_word]
  by_contra hn
  have e : cmpf (F := Ideal) .olt (Host.absf x) (broadcastInDim S ![] b (constant S_ .f32 0x7F800000#32)) y = 0#1 := by
    show BitVec.ofBool (decide (max (x y) (-x y) < Ideal.ofBits FTy.f32 0x7F800000#32)) = 0#1
    rw [decide_eq_false hn]; rfl
  rw [e] at h
  exact absurd h (by decide)

variable [Facts]

/-- All entries of the arguments are real. -/
theorem entries (a0 : FVec Ideal S4096x1024 .bf16) (a1 : FVec Ideal S4096x256 .bf16) (a2 : FVec Ideal S4096x1024 .bf16) (a3 : FVec Ideal S16 .f32)
    (h : Cert.Pre_finite.fn (F := Ideal) a0 a1 a2 a3 = fun _ => 1#1) :
    (∀ y, ∃ r : ℝ, a0 y = ((r : ℝ) : EReal)) ∧ (∀ y, ∃ r : ℝ, a1 y = ((r : ℝ) : EReal))
    ∧ (∀ y, ∃ r : ℝ, a2 y = ((r : ℝ) : EReal)) ∧ (∀ y, ∃ r : ℝ, a3 y = ((r : ℝ) : EReal)) := by
  have e := congrFun h (Shape.Idx.first h_S_)
  unfold Cert.Pre_finite.fn fn_part1 at e
  obtain ⟨e, e3⟩ := IntOp.andi_eq_one.1 e
  obtain ⟨e, e2⟩ := IntOp.andi_eq_one.1 e
  obtain ⟨e0, e1⟩ := IntOp.andi_eq_one.1 e
  have sub : Subsingleton S_.Idx := ⟨fun a b => funext fun i => i.elim0⟩
  exact ⟨fun y => real_of_cmp _ _ y (Host.reduce_andi_all _ _ _ _ _ e0 y), fun y => real_of_cmp _ _ y (Host.reduce_andi_all _ _ _ _ _ e1 y),
    fun y => real_of_cmp _ _ y (Host.reduce_andi_all _ _ _ _ _ e2 y), fun y => real_of_cmp _ _ y (Host.reduce_andi_all _ _ _ _ _ e3 y)⟩

end Cert.Finite

end
-- ==== Proof.Formula.lean ====
module

public import Idealize.ShloMosaic.Lib.Pointwise

@[expose] public section

noncomputable section

namespace Cert.Attn

open Idealize.ShloMosaic

/-! # The gradient of one head over one block of queries, in the reals

A block has 128 queries `a`. It sees 256 keys `c`: the 128 keys of the block before it and its own. `S c a` is the inner
product of key `c` and query `a`, `E c a` that of value `c` and the incoming gradient of query `a`. -/

/-- Query `a` of block `n` may look at key `c`: the key is at most 127 places behind, and it exists. -/
def sees (n : ℕ) (c : Fin 256) (a : Fin 128) : Prop :=
  a.val + 1 ≤ c.val ∧ c.val ≤ a.val + 128 ∧ (128 ≤ c.val ∨ 0 < n)

instance (n : ℕ) (c : Fin 256) (a : Fin 128) : Decidable (sees n c a) := by unfold sees; infer_instance

/-- How far behind the query the key is. -/
def behind (c : Fin 256) (a : Fin 128) : ℝ := ((a.val : ℤ) + 128 - (c.val : ℤ) : ℤ)

variable (n : ℕ) (sl sk : ℝ) (S E : Fin 256 → Fin 128 → ℝ)

/-- The score: the scaled inner product less the head's slope times the distance. -/
def score (c : Fin 256) (a : Fin 128) : ℝ := S c a * (1 / 8) - sl * behind c a

/-- The weight of a key before it is divided by the sum. -/
def weight (c : Fin 256) (a : Fin 128) : ℝ := if sees n c a then Real.exp (score sl S c a) else 0

/-- The sum of the weights of all keys and of the sink. -/
def total (a : Fin 128) : ℝ := (∑ c, weight n sl S c a) + Real.exp sk

/-- The share of key `c`. -/
def prob (c : Fin 256) (a : Fin 128) : ℝ := weight n sl S c a / total n sl sk S a

/-- The share of the sink. -/
def sinkProb (a : Fin 128) : ℝ := Real.exp sk / total n sl sk S a

/-- The mean of `E` under the shares. -/
def mean (a : Fin 128) : ℝ := ∑ c, prob n sl sk S c a * E c a

/-- The gradient of the score. -/
def dscore (c : Fin 256) (a : Fin 128) : ℝ := prob n sl sk S c a * (E c a - mean n sl sk S E a)

theorem weight_nonneg (c : Fin 256) (a : Fin 128) : 0 ≤ weight n sl S c a := by
  unfold weight; split_ifs
  · exact (Real.exp_pos _).le
  · exact le_refl _

theorem total_pos (a : Fin 128) : 0 < total n sl sk S a :=
  add_pos_of_nonneg_of_pos (Finset.sum_nonneg fun c _ => weight_nonneg n sl S c a) (Real.exp_pos _)

/-- The weight after any number `m` is taken from the score first. -/
def weightLess (m : ℝ) (c : Fin 256) (a : Fin 128) : ℝ := if sees n c a then Real.exp (score sl S c a - m) else 0

theorem weightLess_eq (m : ℝ) (c : Fin 256) (a : Fin 128) : weightLess n sl S m c a = weight n sl S c a * Real.exp (-m) := by
  unfold weightLess weight; split_ifs
  · rw [← Real.exp_add, sub_eq_add_neg]
  · rw [zero_mul]

/-- The sum of the weights when `m` is taken from every score and from the sink. -/
theorem totalLess_eq (m : ℝ) (a : Fin 128) :
    (∑ c, weightLess n sl S m c a) + Real.exp (sk - m) = total n sl sk S a * Real.exp (-m) := by
  simp only [weightLess_eq, ← Finset.sum_mul]
  rw [total, add_mul, sub_eq_add_neg, Real.exp_add]

theorem totalLess_pos (m : ℝ) (a : Fin 128) : 0 < (∑ c, weightLess n sl S m c a) + Real.exp (sk - m) := by
  rw [totalLess_eq]; exact mul_pos (total_pos n sl sk S a) (Real.exp_pos _)

/-- Taking `m` from every score and from the sink changes no share. -/
theorem prob_eq (m : ℝ) (c : Fin 256) (a : Fin 128) :
    weightLess n sl S m c a / ((∑ c, weightLess n sl S m c a) + Real.exp (sk - m)) = prob n sl sk S c a := by
  rw [totalLess_eq, weightLess_eq, mul_div_mul_right _ _ (Real.exp_pos _).ne']; rfl

/-- Nor the share of the sink. -/
theorem sinkProb_eq (m : ℝ) (a : Fin 128) :
    Real.exp (sk - m) / ((∑ c, weightLess n sl S m c a) + Real.exp (sk - m)) = sinkProb n sl sk S a := by
  rw [totalLess_eq, sub_eq_add_neg, Real.exp_add, mul_div_mul_right _ _ (Real.exp_pos _).ne']; rfl

/-- A key that is not seen has share zero. -/
theorem prob_unseen {c : Fin 256} {a : Fin 128} (h : ¬ sees n c a) : prob n sl sk S c a = 0 := by
  rw [prob, weight, if_neg h, zero_div]

theorem dscore_unseen {c : Fin 256} {a : Fin 128} (h : ¬ sees n c a) : dscore n sl sk S E c a = 0 := by
  rw [dscore, prob_unseen n sl sk S h, zero_mul]

variable {S E} {S' E' : Fin 256 → Fin 128 → ℝ}

/-- The shares depend on the products of the keys that are seen only. -/
theorem prob_congr (hS : ∀ c a, sees n c a → S c a = S' c a) : prob n sl sk S = prob n sl sk S' := by
  have hw : weight n sl S = weight n sl S' := by
    funext c a; unfold weight score; split_ifs with h
    · rw [hS c a h]
    · rfl
  funext c a; unfold prob total; rw [hw]

theorem sinkProb_congr (hS : ∀ c a, sees n c a → S c a = S' c a) : sinkProb n sl sk S = sinkProb n sl sk S' := by
  have hw : weight n sl S = weight n sl S' := by
    funext c a; unfold weight score; split_ifs with h
    · rw [hS c a h]
    · rfl
  funext a; unfold sinkProb total; rw [hw]

theorem mean_congr (hS : ∀ c a, sees n c a → S c a = S' c a) (hE : ∀ c a, sees n c a → E c a = E' c a) :
    mean n sl sk S E = mean n sl sk S' E' := by
  funext a; unfold mean; rw [prob_congr n sl sk hS]
  refine Finset.sum_congr rfl fun c _ => ?_
  by_cases h : sees n c a
  · rw [hE c a h]
  · rw [prob_unseen n sl sk S' h, zero_mul, zero_mul]

theorem dscore_congr (hS : ∀ c a, sees n c a → S c a = S' c a) (hE : ∀ c a, sees n c a → E c a = E' c a) :
    dscore n sl sk S E = dscore n sl sk S' E' := by
  funext c a; by_cases h : sees n c a
  · unfold dscore; rw [mean_congr n sl sk hS hE, prob_congr n sl sk hS, hE c a h]
  · rw [dscore_unseen n sl sk S E h, dscore_unseen n sl sk S' E' h]

/-! ## All heads over one block

`K` and `V` are the keys and values of the two groups, `q` and `o` the queries and incoming gradients of the sixteen
heads. -/

/-- The group of head `h`. -/
def grp (h : Fin 16) : Fin 2 := ⟨h.val / 8, by omega⟩

/-- Head `r` of group `g`. -/
def headOf (g : Fin 2) (r : Fin 8) : Fin 16 := ⟨8 * g.val + r.val, by omega⟩

@[simp] theorem grp_headOf (g : Fin 2) (r : Fin 8) : grp (headOf g r) = g := by
  apply Fin.ext; show (8 * g.val + r.val) / 8 = g.val; omega

section Heads

variable (n : ℕ) (slope sink : Fin 16 → ℝ) (K V : Fin 2 → Fin 256 → Fin 64 → ℝ) (q o : Fin 16 → Fin 128 → Fin 64 → ℝ)

/-- The inner products of a group's keys (or values) and a head's queries (or gradients). -/
def inner (K : Fin 2 → Fin 256 → Fin 64 → ℝ) (q : Fin 16 → Fin 128 → Fin 64 → ℝ) (h : Fin 16) (c : Fin 256) (a : Fin 128) : ℝ :=
  ∑ d, K (grp h) c d * q h a d

/-- The shares of head `h`. -/
def headProb (h : Fin 16) : Fin 256 → Fin 128 → ℝ := prob n (slope h) (sink h) (inner K q h)
/-- The gradients of its scores. -/
def headDscore (h : Fin 16) : Fin 256 → Fin 128 → ℝ := dscore n (slope h) (sink h) (inner K q h) (inner V o h)
/-- The gradient of its queries. -/
def dQuery (h : Fin 16) (a : Fin 128) (d : Fin 64) : ℝ := (∑ c, headDscore n slope sink K V q o h c a * K (grp h) c d) * (1 / 8)
/-- The gradient of a group's keys. -/
def dKey (g : Fin 2) (c : Fin 256) (d : Fin 64) : ℝ :=
  (∑ r, ∑ a, headDscore n slope sink K V q o (headOf g r) c a * q (headOf g r) a d) * (1 / 8)
/-- The gradient of a group's values. -/
def dVal (g : Fin 2) (c : Fin 256) (d : Fin 64) : ℝ :=
  ∑ r, ∑ a, headProb n slope sink K q (headOf g r) c a * o (headOf g r) a d
/-- The gradient of a head's sink. -/
def dSink (h : Fin 16) : ℝ :=
  - ∑ a, sinkProb n (slope h) (sink h) (inner K q h) a * mean n (slope h) (sink h) (inner K q h) (inner V o h) a

end Heads

/-! ## Where the heads lie in the blocks -/

/-- The sixteen heads of a block of queries or of incoming gradients, 64 columns each. -/
def headsIn (X : Fin 128 → Fin 1024 → ℝ) (h : Fin 16) (a : Fin 128) (d : Fin 64) : ℝ := X a ⟨64 * h.val + d.val, by omega⟩

/-- The keys a block sees: those of the block before, then its own. -/
def keysIn (X2 X1 : Fin 128 → Fin 256 → ℝ) (g : Fin 2) (c : Fin 256) (d : Fin 64) : ℝ :=
  if h : c.val < 128 then X2 ⟨c.val, h⟩ ⟨64 * g.val + d.val, by omega⟩ else X1 ⟨c.val - 128, by omega⟩ ⟨64 * g.val + d.val, by omega⟩

/-- The values a block sees; they lie behind the keys of both groups. -/
def valsIn (X2 X1 : Fin 128 → Fin 256 → ℝ) (g : Fin 2) (c : Fin 256) (d : Fin 64) : ℝ :=
  if h : c.val < 128 then X2 ⟨c.val, h⟩ ⟨64 * (g.val + 2) + d.val, by omega⟩ else X1 ⟨c.val - 128, by omega⟩ ⟨64 * (g.val + 2) + d.val, by omega⟩

/-! ## The whole sequence

4096 queries in 32 blocks. -/

/-- Block `n` of an array of 4096 rows. -/
def blockOf {C : ℕ} (X : Fin 4096 → Fin C → ℝ) (n : Fin 32) (a : Fin 128) (j : Fin C) : ℝ := X ⟨128 * n.val + a.val, by omega⟩ j

/-- The block before; the first block stands for the one before itself, where no key is seen. -/
def before (n : Fin 32) : Fin 32 := ⟨n.val - 1, by omega⟩

section Whole

variable (slope sink : Fin 16 → ℝ) (Q O : Fin 4096 → Fin 1024 → ℝ) (KV : Fin 4096 → Fin 256 → ℝ)

/-- The gradient of the queries of block `n`. -/
def blockQuery (n : Fin 32) : Fin 16 → Fin 128 → Fin 64 → ℝ :=
  dQuery n.val slope sink (keysIn (blockOf KV (before n)) (blockOf KV n)) (valsIn (blockOf KV (before n)) (blockOf KV n))
    (headsIn (blockOf Q n)) (headsIn (blockOf O n))
/-- The gradient of the keys that block `n` sees. -/
def blockKey (n : Fin 32) : Fin 2 → Fin 256 → Fin 64 → ℝ :=
  dKey n.val slope sink (keysIn (blockOf KV (before n)) (blockOf KV n)) (valsIn (blockOf KV (before n)) (blockOf KV n))
    (headsIn (blockOf Q n)) (headsIn (blockOf O n))
/-- The gradient of the values that block `n` sees. -/
def blockVal (n : Fin 32) : Fin 2 → Fin 256 → Fin 64 → ℝ :=
  dVal n.val slope sink (keysIn (blockOf KV (before n)) (blockOf KV n)) (headsIn (blockOf Q n)) (headsIn (blockOf O n))
/-- The part of the sinks' gradient that comes from block `n`. -/
def blockSink (n : Fin 32) : Fin 16 → ℝ :=
  dSink n.val slope sink (keysIn (blockOf KV (before n)) (blockOf KV n)) (valsIn (blockOf KV (before n)) (blockOf KV n))
    (headsIn (blockOf Q n)) (headsIn (blockOf O n))

/-- The gradients of the keys and values that block `n` sees, side by side as the keys and values lie. -/
def blockBoth (n : Fin 32) (c : Fin 256) (j : Fin 256) : ℝ :=
  if h : j.val < 128 then blockKey slope sink Q O KV n ⟨j.val / 64, by omega⟩ c ⟨j.val % 64, by omega⟩
  else blockVal slope sink Q O KV n ⟨(j.val - 128) / 64, by omega⟩ c ⟨j.val % 64, by omega⟩

/-- The gradient of the queries. -/
def gradQuery (i : Fin 4096) (j : Fin 1024) : ℝ :=
  blockQuery slope sink Q O KV ⟨i.val / 128, by omega⟩ ⟨j.val / 64, by omega⟩ ⟨i.val % 128, by omega⟩ ⟨j.val % 64, by omega⟩
/-- The gradient of the keys and values: a key is seen by the block it lies in and by the next one. -/
def gradBoth (i : Fin 4096) (j : Fin 256) : ℝ :=
  blockBoth slope sink Q O KV ⟨i.val / 128, by omega⟩ ⟨128 + i.val % 128, by omega⟩ j
    + if h : i.val / 128 + 1 < 32 then blockBoth slope sink Q O KV ⟨i.val / 128 + 1, h⟩ ⟨i.val % 128, by omega⟩ j else 0
/-- The gradient of the sinks, in the first sixteen lanes of a row. -/
def gradSink (l : Fin 128) : ℝ :=
  if h : l.val < 16 then ∑ n, blockSink slope sink Q O KV n ⟨l.val, h⟩ else 0

end Whole

/-! ## Real numbers among the extended reals -/

/-- A sum of real numbers, taken among the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of finitely many extended reals below `⊤` and of one real is a real. -/
theorem exists_coe_max {ι : Type*} (s : Finset ι) (f : ι → EReal) (hf : ∀ i, f i ≠ ⊤) (x : ℝ) :
    ∃ m : ℝ, max (s.fold max ⊥ f) (x : EReal) = m := by
  have h : s.fold max ⊥ f ≠ ⊤ := by
    classical
    induction s using Finset.induction_on with
    | empty => simp
    | insert a s ha ih => rw [Finset.fold_insert ha]; exact (max_lt (lt_top_iff_ne_top.mpr (hf a)) (lt_top_iff_ne_top.mpr ih)).ne
  refine ⟨(max (s.fold max ⊥ f) (x : EReal)).toReal, (EReal.coe_toReal ?_ ?_).symm⟩
  · exact (max_lt (lt_top_iff_ne_top.mpr h) (EReal.coe_lt_top x)).ne
  · exact (lt_of_lt_of_le (EReal.bot_lt_coe x) (le_max_right _ _)).ne'

/-- Division of real numbers by one that is not zero. -/
theorem div_coe_coe (x y : ℝ) (h : y ≠ 0) : Ideal.div (x : EReal) (y : EReal) = ((x / y : ℝ) : EReal) := by
  rw [Ideal.div_coe h, ← EReal.coe_mul, mul_one_div]

/-- A sum over eight times 128 places, eight by 128. -/
theorem sum_stack {M : Type*} [AddCommMonoid M] (f : Fin 8 → Fin 128 → M) :
    ∑ i : Fin 1024, f ⟨i.val / 128, by omega⟩ ⟨i.val % 128, by omega⟩ = ∑ r, ∑ a, f r a := by
  rw [← Fintype.sum_prod_type']
  exact Fintype.sum_equiv (finProdFinEquiv (m := 8) (n := 128)).symm _ _ fun i => rfl

end Cert.Attn

end
-- ==== Proof.Head.lean ====
module

public import proofs.«01_k».proof.Proof.Formula
public import proofs.«01_k».proof.Proof.Cases

@[expose] public section

set_option maxRecDepth 16384

noncomputable section

namespace Cert.KernelIdeal.Attn

open Cert.KernelIdeal.Gen
open Idealize.ShloMosaic

/-! # The operations of one head, and what they compute among the extended reals

The body works through sixteen heads with the same operations. Here they are written once, over the vectors a head reads:
`ok` says which keys are seen, `dist` how far behind they are, `s` are the inner products of keys and queries, `e` those of
values and incoming gradients, `slope` and `sink` are the head's numbers. -/

section Ops

variable {F : FTy → Type} [FloatOps F] [Named F]
variable (ok : IVec S256x128 1) (dist s : FVec F S256x128 .f32) (slope sink : F .f32)

/-- The masked scores. -/
def opScore : FVec F S256x128 .f32 :=
  select ok (subf (mulf s (broadcast S256x128 (Scalar.ofBits .f32 0x3E000000#32))) (mulf (broadcast S256x128 slope) dist))
    (broadcast S256x128 (Named.named κ "mask" 0xF149F2CA#32))
/-- The largest score of each query, the sink among them. -/
def opPeak : FVec F S1x128 .f32 :=
  maximumf (shapeCast S1x128 (multiReduction .maximumf [0] S128 (opScore ok dist s slope) 0xFF800000#32 reduces_S256x128_S128 (.inl rfl) rfl) shapeCasts_S128_S1x128)
    (broadcast S1x128 sink)
/-- The weights. -/
def opWeight : FVec F S256x128 .f32 :=
  exp (subf (opScore ok dist s slope) (broadcastTo S256x128 (opPeak ok dist s slope sink) broadcasts_S1x128_S256x128))
/-- The sink's weight. -/
def opSinkWeight : FVec F S1x128 .f32 := exp (subf (broadcast S1x128 sink) (opPeak ok dist s slope sink))
/-- One over the sum of the weights. -/
def opInverse : FVec F S1x128 .f32 :=
  divf (broadcast S1x128 (Scalar.ofBits .f32 0x3F800000#32))
    (addf (shapeCast S1x128 (multiReduction .add [0] S128 (opWeight ok dist s slope sink) 0x00000000#32 reduces_S256x128_S128 (.inl rfl) rfl) shapeCasts_S128_S1x128)
      (opSinkWeight ok dist s slope sink))
/-- The shares of the keys. -/
def opProb : FVec F S256x128 .f32 :=
  mulf (opWeight ok dist s slope sink) (broadcastTo S256x128 (opInverse ok dist s slope sink) broadcasts_S1x128_S256x128)
/-- The share of the sink. -/
def opSinkProb : FVec F S1x128 .f32 := mulf (opSinkWeight ok dist s slope sink) (opInverse ok dist s slope sink)

variable (p e : FVec F S256x128 .f32)

/-- The mean of `e` under the shares `p`. -/
def opMean : FVec F S1x128 .f32 :=
  shapeCast S1x128 (multiReduction .add [0] S128 (mulf p e) 0x00000000#32 reduces_S256x128_S128 (.inl rfl) rfl) shapeCasts_S128_S1x128
/-- The shares as they are stored. -/
def opProbStored : FVec F S256x128 .bf16 :=
  shapeCast S256x128 (truncf .bf16 p bitsLt_bf16_f32) shapeCasts_S256x128_S256x128
/-- The gradients of the scores as they are stored. -/
def opDscoreStored : FVec F S256x128 .bf16 :=
  shapeCast S256x128 (truncf .bf16 (mulf p (subf e (broadcastTo S256x128 (opMean p e) broadcasts_S1x128_S256x128))) bitsLt_bf16_f32) shapeCasts_S256x128_S256x128

/-- A row with the gradient of one sink in lane `h`, added to the row `acc`. -/
def opSinkRow (h : BitVec 32) (acc ps mean : FVec F S1x128 .f32) : FVec F S1x128 .f32 :=
  addf acc (select (cmpi .eq (iota .tc S1x128 32 [1] iota_S1x128_d1_w32) (broadcast S1x128 h))
    (broadcast S1x128 (Scalar.subf (Scalar.ofBits .f32 0x00000000#32)
      (extractAt ![0, 0, 0] (shapeCast S1x1x1 (multiReduction .add [1, 2] S1 (shapeCast S1x1x128 (mulf ps mean) shapeCasts_S1x128_S1x1x128) 0x00000000#32 reduces_S1x1x128_S1 (.inl rfl) rfl) shapeCasts_S1_S1x1x1) inpos_S1x1x1_p0_0_0)))
    (broadcast S1x128 (Scalar.ofBits .f32 0x00000000#32)))

end Ops

/-! ## Their values -/

open Cert.Attn

/-- The word 0x3E000000 is one eighth. -/
theorem eighth : Ideal.ofBits .f32 0x3E000000#32 = ((1 / 8 : ℝ) : EReal) := by
  simp [Ideal.ofBits, Ideal.ieee, -EReal.coe_mul]; norm_num

/-- The word 0xFF800000 is minus infinity. -/
theorem bot_word : Ideal.ofBits .f32 0xFF800000#32 = ⊥ := by
  simp [Ideal.ofBits, Ideal.ieee]

/-- The masked scores hold minus infinity where nothing is seen. -/
theorem mask_word : (Named.named κ "mask" 0xF149F2CA#32 : Ideal .f32) = ⊥ := rfl

theorem select_ite {α : Type} (q : Prop) [Decidable q] (x y : α) :
    Scalar.select (if q then 1#1 else 0#1) x y = if q then x else y := by
  split_ifs <;> rfl

section Values

variable (n : ℕ) (sl sk : ℝ) (S E : Fin 256 → Fin 128 → ℝ)
variable {ok : IVec S256x128 1} {dist s e : FVec Ideal S256x128 .f32} {slope sink : Ideal .f32}
variable (hok : ∀ c a, ok (ix2 c a) = if sees n c a then 1#1 else 0#1)
  (hdist : ∀ c a, dist (ix2 c a) = (behind c a : ℝ))
  (hs : ∀ c a, s (ix2 c a) = (S c a : ℝ)) (he : ∀ c a, e (ix2 c a) = (E c a : ℝ))
  (hslope : slope = (sl : ℝ)) (hsink : sink = (sk : ℝ))

include hok hdist hs hslope in
/-- A masked score. -/
theorem opScore_apply (c : Fin 256) (a : Fin 128) :
    opScore ok dist s slope (ix2 c a) = if sees n c a then ((score sl S c a : ℝ) : EReal) else ⊥ := by
  pointwise [opScore]
  rw [hok, hdist, hs, hslope]
  rw [select_ite, mask_word, eighth, ← EReal.coe_mul, ← EReal.coe_mul, ← EReal.coe_sub]; rfl

include hok hdist hs hslope hsink in
/-- The largest score of a query is a real number. -/
theorem exists_peak (a : Fin 128) : ∃ m : ℝ, opPeak ok dist s slope sink (ix2 0 a) = m := by
  pointwise [opPeak]
  rw [bot_word, hsink]
  refine exists_coe_max _ _ (fun c => ?_) sk
  rw [opScore_apply n sl S hok hdist hs hslope]
  split_ifs
  · exact EReal.coe_ne_top _
  · exact bot_ne_top

include hok hdist hs hslope in
theorem opWeight_apply {m : ℝ} {a : Fin 128} (hm : opPeak ok dist s slope sink (ix2 0 a) = m) (c : Fin 256) :
    opWeight ok dist s slope sink (ix2 c a) = (weightLess n sl S m c a : ℝ) := by
  pointwise [opWeight]
  rw [hm, opScore_apply n sl S hok hdist hs hslope, weightLess]
  split_ifs
  · rw [← EReal.coe_sub, Ideal.exp_coe]
  · rw [EReal.bot_sub, Ideal.exp_bot]; rfl

include hsink in
theorem opSinkWeight_apply {m : ℝ} {a : Fin 128} (hm : opPeak ok dist s slope sink (ix2 0 a) = m) :
    opSinkWeight ok dist s slope sink (ix2 0 a) = (Real.exp (sk - m) : ℝ) := by
  pointwise [opSinkWeight]
  rw [hm, hsink, ← EReal.coe_sub, Ideal.exp_coe]

include hok hdist hs hslope hsink in
theorem opInverse_apply {m : ℝ} {a : Fin 128} (hm : opPeak ok dist s slope sink (ix2 0 a) = m) :
    opInverse ok dist s slope sink (ix2 0 a) = (1 / ((∑ c, weightLess n sl S m c a) + Real.exp (sk - m)) : ℝ) := by
  pointwise [opInverse]
  rw [opSinkWeight_apply sk hsink hm]
  simp only [opWeight_apply n sl S hok hdist hs hslope hm]
  rw [coe_sum, ← EReal.coe_add, ← EReal.coe_one, div_coe_coe _ _ (totalLess_pos n sl sk S m a).ne']

include hok hdist hs hslope hsink in
/-- The share of a key. -/
theorem opProb_apply (c : Fin 256) (a : Fin 128) :
    opProb ok dist s slope sink (ix2 c a) = (prob n sl sk S c a : ℝ) := by
  obtain ⟨m, hm⟩ := exists_peak n sl sk S hok hdist hs hslope hsink a
  pointwise [opProb]
  rw [opWeight_apply n sl S hok hdist hs hslope hm, opInverse_apply n sl sk S hok hdist hs hslope hsink hm,
    ← EReal.coe_mul, mul_one_div, prob_eq]

include hok hdist hs hslope hsink in
/-- The share of the sink. -/
theorem opSinkProb_apply (a : Fin 128) :
    opSinkProb ok dist s slope sink (ix2 0 a) = (Cert.Attn.sinkProb n sl sk S a : ℝ) := by
  obtain ⟨m, hm⟩ := exists_peak n sl sk S hok hdist hs hslope hsink a
  pointwise [opSinkProb]
  rw [opSinkWeight_apply sk hsink hm, opInverse_apply n sl sk S hok hdist hs hslope hsink hm,
    ← EReal.coe_mul, mul_one_div, sinkProb_eq]

include hok hdist hs hslope hsink he in
/-- The mean under the shares. -/
theorem opMean_apply (a : Fin 128) :
    opMean (opProb ok dist s slope sink) e (ix2 0 a) = (mean n sl sk S E a : ℝ) := by
  pointwise [opMean]
  simp only [opProb_apply n sl sk S hok hdist hs hslope hsink, he]
  simp only [← EReal.coe_mul, coe_sum]; rfl

include hok hdist hs hslope hsink in
/-- What is stored of the shares. -/
theorem opProbStored_apply (c : Fin 256) (a : Fin 128) :
    opProbStored (opProb ok dist s slope sink) (ix2 c a) = (prob n sl sk S c a : ℝ) := by
  pointwise [opProbStored]
  exact opProb_apply n sl sk S hok hdist hs hslope hsink c a

include hok hdist hs hslope hsink he in
/-- What is stored of the gradients of the scores. -/
theorem opDscoreStored_apply (c : Fin 256) (a : Fin 128) :
    opDscoreStored (opProb ok dist s slope sink) e (ix2 c a) = (dscore n sl sk S E c a : ℝ) := by
  pointwise [opDscoreStored]
  rw [opProb_apply n sl sk S hok hdist hs hslope hsink, opMean_apply n sl sk S E hok hdist hs he hslope hsink, he,
    ← EReal.coe_sub, ← EReal.coe_mul]; rfl

include hok hdist hs hslope hsink he in
/-- The row with one sink's gradient. -/
theorem opSinkRow_apply (h : ℕ) (hh : h < 16) (acc : FVec Ideal S1x128 .f32) (R : Fin 128 → ℝ) (hacc : ∀ l, acc (ix2 0 l) = (R l : ℝ)) (l : Fin 128) :
    opSinkRow (BitVec.ofNat 32 h) acc (opSinkProb ok dist s slope sink) (opMean (opProb ok dist s slope sink) e) (ix2 0 l)
      = ((R l + if l.val = h then - ∑ a, Cert.Attn.sinkProb n sl sk S a * mean n sl sk S E a else 0 : ℝ) : EReal) := by
  pointwise [opSinkRow]
  simp only [opSinkProb_apply n sl sk S hok hdist hs hslope hsink, opMean_apply n sl sk S E hok hdist hs he hslope hsink, hacc]
  simp only [← EReal.coe_mul, coe_sum, Finset.univ_unique, Finset.sum_singleton]
  have hc : IntOp.cmpi CmpIPredicate.eq (BitVec.ofNat 32 l.val) (BitVec.ofNat 32 h) = if l.val = h then 1#1 else 0#1 := by
    have hl := l.isLt
    have he : BitVec.ofNat 32 l.val = BitVec.ofNat 32 h ↔ l.val = h := by
      constructor
      · intro e
        have e' := congrArg BitVec.toNat e
        rw [BitVec.toNat_ofNat, BitVec.toNat_ofNat] at e'
        omega
      · intro e; rw [e]
    unfold IntOp.cmpi
    by_cases g : l.val = h
    · rw [if_pos g, g]; simp
    · rw [if_neg g]; exact congrArg BitVec.ofBool (beq_false_of_ne fun e => g (he.mp e))
  rw [hc, select_ite, ← EReal.coe_zero, ← EReal.coe_sub, ← apply_ite, ← EReal.coe_add, zero_sub]

end Values

end Cert.KernelIdeal.Attn

end
-- ==== Proof.Block.lean ====
module

public import proofs.«01_k».proof.Proof.Head
public import proofs.«01_k».proof.Proof.KernelFrame
public import Idealize.ShloMosaic.Lib.Pipeline.ValueKit
public import Idealize.ShloMosaic.Lib.Pipeline.ReadBack

@[expose] public section

set_option maxRecDepth 16384

noncomputable section

namespace Cert.KernelIdeal.Attn

open Cert.KernelIdeal.Gen
open Cert.Attn (headOf)
open Idealize.ShloMosaic Idealize.ShloMosaic.TcCoe Idealize.ShloMosaic.Tactic

/-! # The block of work of one point, as a function of the blocks it reads

The sixteen heads fall into two groups of eight; a group shares its keys and values. A group's queries and incoming
gradients are stacked in scratch, one head under the other, and its shares and score gradients beside one another. -/

variable {F : FTy → Type} [FloatOps F] [Named F]

/-- The slopes of the sixteen heads, as words. -/
def slopeWord : Fin 16 → BitVec 32 :=
  ![0x3F3504F3#32, 0x3F000000#32, 0x3EB504F3#32, 0x3E800000#32, 0x3E3504F3#32, 0x3E000000#32, 0x3DB504F3#32, 0x3D800000#32, 0x3D3504F3#32, 0x3D000000#32, 0x3CB504F3#32, 0x3C800000#32, 0x3C3504F3#32, 0x3C000000#32, 0x3BB504F3#32, 0x3B800000#32]

/-! ## What is loaded -/

section Loads

theorem inbHead (h : Fin 16) : ∀ a : Fin 2, (![0, 64 * h.val] : Fin 2 → ℕ) a + S128x64.size a ≤ S128x1024.size a := by
  have := h.isLt
  refine Fin.forall_fin_two.mpr ⟨?_, ?_⟩
  · show 0 + 128 ≤ 128; omega
  · show 64 * h.val + 64 ≤ 1024; omega

theorem inbPart (k : Fin 4) : ∀ a : Fin 2, (![0, 64 * k.val] : Fin 2 → ℕ) a + S128x64.size a ≤ S128x256.size a := by
  have := k.isLt
  refine Fin.forall_fin_two.mpr ⟨?_, ?_⟩
  · show 0 + 128 ≤ 128; omega
  · show 64 * k.val + 64 ≤ 256; omega

theorem inbSink (h : Fin 16) : ∀ a : Fin 1, (![h.val] : Fin 1 → ℕ) a + S1.size a ≤ S16.size a := by
  have := h.isLt
  intro a
  obtain rfl : a = 0 := Subsingleton.elim _ _
  show h.val + 1 ≤ 16; omega

theorem slicesHead (r : Fin 8) : S256x1024.Slices (![0, 128 * r.val] : Fin 2 → ℕ) S256x128 := by
  have := r.isLt
  refine ⟨rfl, Fin.forall_fin_two.mpr ⟨?_, ?_⟩⟩
  · show 0 + 256 ≤ 256; omega
  · show 128 * r.val + 128 ≤ 1024; omega

/-- The 64 columns of head `h` in a block of queries or of incoming gradients. -/
def headLoad (M : Memref sig .tc .vmem S128x1024 .bf16) (hM : M.IsWhole) (x : Vec F S128x1024 .bf16) (h : Fin 16) : Vec F S128x64 .bf16 :=
  View.readAt (Elt F) M.view (Rect.unit (s := S128x1024) ![0, 64 * h.val] S128x64.size (inbHead h)).toLoadRect (hM.unread x)

/-- A quarter of the columns of a block of keys and values: 0 and 1 are the two groups' keys, 2 and 3 their values. -/
def partLoad (M : Memref sig .tc .vmem S128x256 .bf16) (hM : M.IsWhole) (x : Vec F S128x256 .bf16) (k : Fin 4) : Vec F S128x64 .bf16 :=
  View.readAt (Elt F) M.view (Rect.unit (s := S128x256) ![0, 64 * k.val] S128x64.size (inbPart k)).toLoadRect (hM.unread x)

/-- The sink of head `h`. -/
def sinkLoad (M : Memref sig .tc .smem S16 .f32) (hM : M.IsWhole) (x : Vec F S16 .f32) (h : Fin 16) : F .f32 :=
  View.readAt (Elt F) M.view (Rect.unit (s := S16) ![h.val] S1.size (inbSink h)).toLoadRect (hM.unread x) (Shape.Idx.first (show 0 < S1.numel by decide))

end Loads

/-! ## What is kept in scratch -/

/-- Eight blocks, one under the other, as the stores that put them there. -/
def rowPieces (f : Fin 8 → FVec F S128x64 .bf16) : List (View.Piece (Elt F) S1024x64 .bf16) :=
  [⟨Rect.unit ![896, 0] S128x64.size inb_S1024x64_S128x64_896_0, f 7⟩,
   ⟨Rect.unit ![768, 0] S128x64.size inb_S1024x64_S128x64_768_0, f 6⟩,
   ⟨Rect.unit ![640, 0] S128x64.size inb_S1024x64_S128x64_640_0, f 5⟩,
   ⟨Rect.unit ![512, 0] S128x64.size inb_S1024x64_S128x64_512_0, f 4⟩,
   ⟨Rect.unit ![384, 0] S128x64.size inb_S1024x64_S128x64_384_0, f 3⟩,
   ⟨Rect.unit ![256, 0] S128x64.size inb_S1024x64_S128x64_256_0, f 2⟩,
   ⟨Rect.unit ![128, 0] S128x64.size inb_S1024x64_S128x64_128_0, f 1⟩,
   ⟨Rect.unit ![0, 0] S128x64.size inb_S1024x64_S128x64_0_0, f 0⟩]

/-- Eight blocks side by side, as the stores that put them there. -/
def colPieces (f : Fin 8 → FVec F S256x128 .bf16) : List (View.Piece (Elt F) S256x1024 .bf16) :=
  [⟨Rect.unit ![0, 896] S256x128.size inb_S256x1024_S256x128_0_896, f 7⟩,
   ⟨Rect.unit ![0, 768] S256x128.size inb_S256x1024_S256x128_0_768, f 6⟩,
   ⟨Rect.unit ![0, 640] S256x128.size inb_S256x1024_S256x128_0_640, f 5⟩,
   ⟨Rect.unit ![0, 512] S256x128.size inb_S256x1024_S256x128_0_512, f 4⟩,
   ⟨Rect.unit ![0, 384] S256x128.size inb_S256x1024_S256x128_0_384, f 3⟩,
   ⟨Rect.unit ![0, 256] S256x128.size inb_S256x1024_S256x128_0_256, f 2⟩,
   ⟨Rect.unit ![0, 128] S256x128.size inb_S256x1024_S256x128_0_128, f 1⟩,
   ⟨Rect.unit ![0, 0] S256x128.size inb_S256x1024_S256x128_0_0, f 0⟩]

/-- The eight blocks one under the other, read back. -/
def stacked (v : View sig .tc .vmem S1024x64 .bf16) (f : Fin 8 → FVec F S128x64 .bf16) (rest : List (View.Piece (Elt F) S1024x64 .bf16)) : Vec F S1024x64 .bf16 :=
  v.readCov (rowPieces f ++ rest) (Rect.unit ![0, 0] S1024x64.size inb_S1024x64_S1024x64_0_0).toLoadRect

/-- The eight blocks side by side, read back. -/
def abreast (v : View sig .tc .vmem S256x1024 .bf16) (f : Fin 8 → FVec F S256x128 .bf16) (rest : List (View.Piece (Elt F) S256x1024 .bf16)) : Vec F S256x1024 .bf16 :=
  v.readCov (colPieces f ++ rest) (Rect.unit ![0, 0] S256x1024.size inb_S256x1024_S256x1024_0_0).toLoadRect

/-- A block stored as it is. -/
def stored (x : Vec F S128x64 .bf16) : FVec F S128x64 .bf16 := shapeCast S128x64 x shapeCasts_S128x64_S128x64

/-! ## One group -/

section Group

variable (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x1024 .bf16) (harg4 : arg4.IsWhole) (arg5 : Memref sig .tc .smem S16 .f32) (harg5 : arg5.IsWhole)
variable (v10 v11 : View sig .tc .vmem S1024x64 .bf16) (v12 v13 : View sig .tc .vmem S256x1024 .bf16)
variable (x0 : Vec F S128x1024 .bf16) (x1 : Vec F S128x256 .bf16) (x2 : Vec F S128x256 .bf16) (x3 : Vec F S128x1024 .bf16) (x4 : Vec F S16 .f32)
variable (n : BitVec 32)

/-- The keys of group `g`: those of the block before, then the block's own. -/
def keysOf (g : Fin 2) : FVec F S256x64 .bf16 :=
  k0_pay8 (partLoad arg3 harg3 x2 ⟨g.val, by omega⟩) (partLoad arg2 harg2 x1 ⟨g.val, by omega⟩)
/-- Its values. -/
def valsOf (g : Fin 2) : FVec F S256x64 .bf16 :=
  k0_pay9 (partLoad arg3 harg3 x2 ⟨g.val + 2, by omega⟩) (partLoad arg2 harg2 x1 ⟨g.val + 2, by omega⟩)

/-- The stores of the heads of group `g` into a scratch buffer, over those of the group before. -/
def stackPieces (M : Memref sig .tc .vmem S128x1024 .bf16) (hM : M.IsWhole) (x : Vec F S128x1024 .bf16) : Fin 2 → List (View.Piece (Elt F) S1024x64 .bf16)
  | 0 => []
  | 1 => rowPieces (fun r => stored (headLoad M hM x (headOf 0 r)))
/-- The heads of group `g`, one under the other. -/
def stackOf (v : View sig .tc .vmem S1024x64 .bf16) (M : Memref sig .tc .vmem S128x1024 .bf16) (hM : M.IsWhole) (x : Vec F S128x1024 .bf16) (g : Fin 2) : Vec F S1024x64 .bf16 :=
  stacked v (fun r => stored (headLoad M hM x (headOf g r))) (stackPieces M hM x g)

/-- The inner products of keys and queries. -/
def innerOf (g : Fin 2) : FVec F S256x1024 .f32 := k0_pay26 (keysOf arg2 harg2 arg3 harg3 x1 x2 g) (stackOf v10 arg1 harg1 x0 g)
/-- The inner products of values and incoming gradients. -/
def outerOf (g : Fin 2) : FVec F S256x1024 .f32 := k0_pay27 (valsOf arg2 harg2 arg3 harg3 x1 x2 g) (stackOf v11 arg4 harg4 x3 g)

/-- The columns of head `r` of a group. -/
def headCols (X : FVec F S256x1024 .f32) (r : Fin 8) : FVec F S256x128 .f32 := extractStridedSlice S256x128 ![0, 128 * r.val] X (slicesHead r)

/-- The shares of head `r` of group `g`. -/
def probOf (g : Fin 2) (r : Fin 8) : FVec F S256x128 .f32 :=
  opProb (k0_pay5 n) k0_pay6 (headCols (innerOf arg1 harg1 arg2 harg2 arg3 harg3 v10 x0 x1 x2 g) r) (Scalar.ofBits .f32 (slopeWord (headOf g r))) (sinkLoad arg5 harg5 x4 (headOf g r))
/-- The share of its sink. -/
def sinkProbOf (g : Fin 2) (r : Fin 8) : FVec F S1x128 .f32 :=
  opSinkProb (k0_pay5 n) k0_pay6 (headCols (innerOf arg1 harg1 arg2 harg2 arg3 harg3 v10 x0 x1 x2 g) r) (Scalar.ofBits .f32 (slopeWord (headOf g r))) (sinkLoad arg5 harg5 x4 (headOf g r))
/-- The products of its values and incoming gradients. -/
def prodOf (g : Fin 2) (r : Fin 8) : FVec F S256x128 .f32 := headCols (outerOf arg2 harg2 arg3 harg3 arg4 harg4 v11 x1 x2 x3 g) r

/-- The stores of a group's shares, over those of the group before. -/
def probPieces : Fin 2 → List (View.Piece (Elt F) S256x1024 .bf16)
  | 0 => []
  | 1 => colPieces (fun r => opProbStored (probOf arg1 harg1 arg2 harg2 arg3 harg3 arg5 harg5 v10 x0 x1 x2 x4 n 0 r))
/-- The shares of a group, head beside head. -/
def probsOf (g : Fin 2) : Vec F S256x1024 .bf16 :=
  abreast v12 (fun r => opProbStored (probOf arg1 harg1 arg2 harg2 arg3 harg3 arg5 harg5 v10 x0 x1 x2 x4 n g r)) (probPieces arg1 harg1 arg2 harg2 arg3 harg3 arg5 harg5 v10 x0 x1 x2 x4 n g)

/-- The stores of a group's score gradients, over those of the group before. -/
def dscorePieces : Fin 2 → List (View.Piece (Elt F) S256x1024 .bf16)
  | 0 => []
  | 1 => colPieces (fun r => opDscoreStored (probOf arg1 harg1 arg2 harg2 arg3 harg3 arg5 harg5 v10 x0 x1 x2 x4 n 0 r) (prodOf arg2 harg2 arg3 harg3 arg4 harg4 v11 x1 x2 x3 0 r))
/-- The score gradients of a group, head beside head. -/
def dscoresOf (g : Fin 2) : Vec F S256x1024 .bf16 :=
  abreast v13 (fun r => opDscoreStored (probOf arg1 harg1 arg2 harg2 arg3 harg3 arg5 harg5 v10 x0 x1 x2 x4 n g r) (prodOf arg2 harg2 arg3 harg3 arg4 harg4 v11 x1 x2 x3 g r)) (dscorePieces arg1 harg1 arg2 harg2 arg3 harg3 arg4 harg4 arg5 harg5 v10 v11 x0 x1 x2 x3 x4 n g)

/-- The gradient of a group's keys. -/
def dkeysOf (g : Fin 2) : FVec F S256x64 .f32 := k0_pay128 (dscoresOf arg1 harg1 arg2 harg2 arg3 harg3 arg4 harg4 arg5 harg5 v10 v11 v13 x0 x1 x2 x3 x4 n g) (stackOf v10 arg1 harg1 x0 g)
/-- The gradient of its values. -/
def dvalsOf (g : Fin 2) : FVec F S256x64 .f32 := k0_pay129 (probsOf arg1 harg1 arg2 harg2 arg3 harg3 arg5 harg5 v10 v12 x0 x1 x2 x4 n g) (stackOf v11 arg4 harg4 x3 g)
/-- The gradient of its queries, one head under the other. -/
def dqueriesOf (g : Fin 2) : FVec F S1024x64 .f32 := k0_pay130 (keysOf arg2 harg2 arg3 harg3 x1 x2 g) (dscoresOf arg1 harg1 arg2 harg2 arg3 harg3 arg4 harg4 arg5 harg5 v10 v11 v13 x0 x1 x2 x3 x4 n g)

theorem slicesRows (r : Fin 8) : S1024x64.Slices (![128 * r.val, 0] : Fin 2 → ℕ) S128x64 := by
  have := r.isLt
  refine ⟨rfl, Fin.forall_fin_two.mpr ⟨?_, ?_⟩⟩
  · show 128 * r.val + 128 ≤ 1024; omega
  · show 0 + 64 ≤ 64; omega

/-- The gradient of the queries of head `r` of group `g`. -/
def dqueryOf (g : Fin 2) (r : Fin 8) : FVec F S128x64 .bf16 :=
  truncf .bf16 (extractStridedSlice S128x64 ![128 * r.val, 0] (dqueriesOf arg1 harg1 arg2 harg2 arg3 harg3 arg4 harg4 arg5 harg5 v10 v11 v13 x0 x1 x2 x3 x4 n g) (slicesRows r)) bitsLt_bf16_f32

/-- The row of the sinks' gradients after the first `k` heads. -/
def sinkRowOf : (k : ℕ) → k ≤ 16 → FVec F S1x128 .f32
  | 0, _ => k0_pay7
  | k + 1, hk =>
    opSinkRow (BitVec.ofNat 32 k) (sinkRowOf k (Nat.le_of_succ_le hk))
      (sinkProbOf arg1 harg1 arg2 harg2 arg3 harg3 arg5 harg5 v10 x0 x1 x2 x4 n ⟨k / 8, by omega⟩ ⟨k % 8, by omega⟩)
      (opMean (probOf arg1 harg1 arg2 harg2 arg3 harg3 arg5 harg5 v10 x0 x1 x2 x4 n ⟨k / 8, by omega⟩ ⟨k % 8, by omega⟩)
        (prodOf arg2 harg2 arg3 harg3 arg4 harg4 v11 x1 x2 x3 ⟨k / 8, by omega⟩ ⟨k % 8, by omega⟩))

end Group

/-- The stores of the sixteen heads' query gradients. -/
def headPieces (f : Fin 2 → Fin 8 → FVec F S128x64 .bf16) : List (View.Piece (Elt F) S128x1024 .bf16) :=
  [⟨Rect.unit ![0, 960] S128x64.size inb_S128x1024_S128x64_0_960, f 1 7⟩,
   ⟨Rect.unit ![0, 896] S128x64.size inb_S128x1024_S128x64_0_896, f 1 6⟩,
   ⟨Rect.unit ![0, 832] S128x64.size inb_S128x1024_S128x64_0_832, f 1 5⟩,
   ⟨Rect.unit ![0, 768] S128x64.size inb_S128x1024_S128x64_0_768, f 1 4⟩,
   ⟨Rect.unit ![0, 704] S128x64.size inb_S128x1024_S128x64_0_704, f 1 3⟩,
   ⟨Rect.unit ![0, 640] S128x64.size inb_S128x1024_S128x64_0_640, f 1 2⟩,
   ⟨Rect.unit ![0, 576] S128x64.size inb_S128x1024_S128x64_0_576, f 1 1⟩,
   ⟨Rect.unit ![0, 512] S128x64.size inb_S128x1024_S128x64_0_512, f 1 0⟩,
   ⟨Rect.unit ![0, 448] S128x64.size inb_S128x1024_S128x64_0_448, f 0 7⟩,
   ⟨Rect.unit ![0, 384] S128x64.size inb_S128x1024_S128x64_0_384, f 0 6⟩,
   ⟨Rect.unit ![0, 320] S128x64.size inb_S128x1024_S128x64_0_320, f 0 5⟩,
   ⟨Rect.unit ![0, 256] S128x64.size inb_S128x1024_S128x64_0_256, f 0 4⟩,
   ⟨Rect.unit ![0, 192] S128x64.size inb_S128x1024_S128x64_0_192, f 0 3⟩,
   ⟨Rect.unit ![0, 128] S128x64.size inb_S128x1024_S128x64_0_128, f 0 2⟩,
   ⟨Rect.unit ![0, 64] S128x64.size inb_S128x1024_S128x64_0_64, f 0 1⟩,
   ⟨Rect.unit ![0, 0] S128x64.size inb_S128x1024_S128x64_0_0, f 0 0⟩]

/-- The store of a whole block of the key/value gradient. -/
def wholePiece (x : FVec F S128x256 .f32) : View.Piece (Elt F) S128x256 .f32 := ⟨Rect.unit ![0, 0] ![128, 256] inb_S128x256_S128x256_0_0, x⟩
/-- The store of the whole row of the sinks' gradients. -/
def wholeRow (x : FVec F S1x128 .f32) : View.Piece (Elt F) S1x128 .f32 := ⟨Rect.unit ![0, 0] ![1, 128] inb_S1x128_S1x128_0_0, x⟩

/-! ## The stores of a point are these -/

section Runs

variable (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x1024 .bf16) (harg4 : arg4.IsWhole) (arg5 : Memref sig .tc .smem S16 .f32) (harg5 : arg5.IsWhole)
variable (arg6 : Memref sig .tc .vmem S128x1024 .bf16) (harg6 : arg6.IsWhole) (arg7 : Memref sig .tc .vmem S128x256 .f32) (harg7 : arg7.IsWhole) (arg8 : Memref sig .tc .vmem S1x128 .f32) (harg8 : arg8.IsWhole) (arg9 : Memref sig .tc .vmem S128x256 .f32) (harg9 : arg9.IsWhole)
variable (arg10 : Memref sig .tc .vmem S1024x64 .bf16) (harg10 : arg10.IsWhole) (arg11 : Memref sig .tc .vmem S1024x64 .bf16) (harg11 : arg11.IsWhole) (arg12 : Memref sig .tc .vmem S256x1024 .bf16) (harg12 : arg12.IsWhole) (arg13 : Memref sig .tc .vmem S256x1024 .bf16) (harg13 : arg13.IsWhole)
variable (x0 : Vec F S128x1024 .bf16) (x1 : Vec F S128x256 .bf16) (x2 : Vec F S128x256 .bf16) (x3 : Vec F S128x1024 .bf16) (x4 : Vec F S16 .f32)
variable (c : Dev nD) (i : grid0.Coords)

/-- The stores into the query gradient's block. -/
abbrev stores5 := headPieces (dqueryOf arg1 harg1 arg2 harg2 arg3 harg3 arg4 harg4 arg5 harg5 arg10.view arg11.view arg13.view x0 x1 x2 x3 x4 (BitVec.ofNat 32 (i 0)))
/-- The store into the key/value gradient's block: what was carried plus the part of the keys of the block before. -/
abbrev stores6 (z : FVec F S128x256 .f32) := [wholePiece (k0_pay274
  (dkeysOf arg1 harg1 arg2 harg2 arg3 harg3 arg4 harg4 arg5 harg5 arg10.view arg11.view arg13.view x0 x1 x2 x3 x4 (BitVec.ofNat 32 (i 0)) 0)
  (dvalsOf arg1 harg1 arg2 harg2 arg3 harg3 arg4 harg4 arg5 harg5 arg10.view arg11.view arg12.view x0 x1 x2 x3 x4 (BitVec.ofNat 32 (i 0)) 0)
  (dkeysOf arg1 harg1 arg2 harg2 arg3 harg3 arg4 harg4 arg5 harg5 arg10.view arg11.view arg13.view x0 x1 x2 x3 x4 (BitVec.ofNat 32 (i 0)) 1)
  (dvalsOf arg1 harg1 arg2 harg2 arg3 harg3 arg4 harg4 arg5 harg5 arg10.view arg11.view arg12.view x0 x1 x2 x3 x4 (BitVec.ofNat 32 (i 0)) 1) z)]
/-- What is carried to the next point: the part of the block's own keys. -/
abbrev carriedOf := k0_pay3 (k0_pay275
  (dkeysOf arg1 harg1 arg2 harg2 arg3 harg3 arg4 harg4 arg5 harg5 arg10.view arg11.view arg13.view x0 x1 x2 x3 x4 (BitVec.ofNat 32 (i 0)) 0)
  (dvalsOf arg1 harg1 arg2 harg2 arg3 harg3 arg4 harg4 arg5 harg5 arg10.view arg11.view arg12.view x0 x1 x2 x3 x4 (BitVec.ofNat 32 (i 0)) 0)
  (dkeysOf arg1 harg1 arg2 harg2 arg3 harg3 arg4 harg4 arg5 harg5 arg10.view arg11.view arg13.view x0 x1 x2 x3 x4 (BitVec.ofNat 32 (i 0)) 1)
  (dvalsOf arg1 harg1 arg2 harg2 arg3 harg3 arg4 harg4 arg5 harg5 arg10.view arg11.view arg12.view x0 x1 x2 x3 x4 (BitVec.ofNat 32 (i 0)) 1))
/-- The row of the sinks' gradients after a point, from the row `z` before it. -/
abbrev rowOf (z : FVec F S1x128 .f32) := k0_pay273 (sinkRowOf arg1 harg1 arg2 harg2 arg3 harg3 arg4 harg4 arg5 harg5 arg10.view arg11.view x0 x1 x2 x3 x4 (BitVec.ofNat 32 (i 0)) 16 (le_refl _)) z

variable (hc0 : clears i) (hn0 : ¬ clears i) (hc1 : works i) (hc2 : ¬ closes i) (z7 : Vec F S1x128 .f32) (zs : Vec F S128x256 .f32)

theorem runFirst_5 : (runFirst arg1 harg1 arg2 harg2 arg3 harg3 arg4 harg4 arg5 harg5 arg6 harg6 arg7 harg7 arg8 harg8 arg9 harg9 arg10 harg10 arg11 harg11 arg12 harg12 arg13 harg13 x0 x1 x2 x3 x4 c i hc0 hc1 hc2).1 = stores5 arg1 harg1 arg2 harg2 arg3 harg3 arg4 harg4 arg5 harg5 arg10 arg11 arg13 x0 x1 x2 x3 x4 i := by sl_kernel_rfl
theorem runFirst_6 : (runFirst arg1 harg1 arg2 harg2 arg3 harg3 arg4 harg4 arg5 harg5 arg6 harg6 arg7 harg7 arg8 harg8 arg9 harg9 arg10 harg10 arg11 harg11 arg12 harg12 arg13 harg13 x0 x1 x2 x3 x4 c i hc0 hc1 hc2).2.1 = stores6 arg1 harg1 arg2 harg2 arg3 harg3 arg4 harg4 arg5 harg5 arg10 arg11 arg12 arg13 x0 x1 x2 x3 x4 i (arg9.view.readCov [wholePiece (F := F) k0_pay1] (Rect.unit ![0, 0] S128x256.size inb_S128x256_S128x256_0_0).toLoadRect) := by sl_kernel_rfl
theorem runFirst_7 : (runFirst arg1 harg1 arg2 harg2 arg3 harg3 arg4 harg4 arg5 harg5 arg6 harg6 arg7 harg7 arg8 harg8 arg9 harg9 arg10 harg10 arg11 harg11 arg12 harg12 arg13 harg13 x0 x1 x2 x3 x4 c i hc0 hc1 hc2).2.2.1 = [wholeRow (rowOf arg1 harg1 arg2 harg2 arg3 harg3 arg4 harg4 arg5 harg5 arg10 arg11 x0 x1 x2 x3 x4 i (arg8.view.readCov [wholeRow (F := F) k0_pay2] (Rect.unit ![0, 0] S1x128.size inb_S1x128_S1x128_0_0).toLoadRect)), wholeRow k0_pay2] := by sl_kernel_rfl
theorem runFirst_S : (runFirst arg1 harg1 arg2 harg2 arg3 harg3 arg4 harg4 arg5 harg5 arg6 harg6 arg7 harg7 arg8 harg8 arg9 harg9 arg10 harg10 arg11 harg11 arg12 harg12 arg13 harg13 x0 x1 x2 x3 x4 c i hc0 hc1 hc2).2.2.2.1 = [wholePiece (carriedOf arg1 harg1 arg2 harg2 arg3 harg3 arg4 harg4 arg5 harg5 arg10 arg11 arg12 arg13 x0 x1 x2 x3 x4 i), wholePiece k0_pay1] := by sl_kernel_rfl
theorem runMiddle_5 : (runMiddle arg1 harg1 arg2 harg2 arg3 harg3 arg4 harg4 arg5 harg5 arg6 harg6 arg7 harg7 arg8 harg8 arg9 harg9 arg10 harg10 arg11 harg11 arg12 harg12 arg13 harg13 x0 x1 x2 x3 x4 c i hn0 hc1 hc2 z7 zs).1 = stores5 arg1 harg1 arg2 harg2 arg3 harg3 arg4 harg4 arg5 harg5 arg10 arg11 arg13 x0 x1 x2 x3 x4 i := by sl_kernel_rfl
theorem runMiddle_6 : (runMiddle arg1 harg1 arg2 harg2 arg3 harg3 arg4 harg4 arg5 harg5 arg6 harg6 arg7 harg7 arg8 harg8 arg9 harg9 arg10 harg10 arg11 harg11 arg12 harg12 arg13 harg13 x0 x1 x2 x3 x4 c i hn0 hc1 hc2 z7 zs).2.1 = stores6 arg1 harg1 arg2 harg2 arg3 harg3 arg4 harg4 arg5 harg5 arg10 arg11 arg12 arg13 x0 x1 x2 x3 x4 i (View.readAt (Elt F) arg9.view (Rect.unit ![0, 0] S128x256.size inb_S128x256_S128x256_0_0).toLoadRect (harg9.unread zs)) := by sl_kernel_rfl
theorem runMiddle_7 : (runMiddle arg1 harg1 arg2 harg2 arg3 harg3 arg4 harg4 arg5 harg5 arg6 harg6 arg7 harg7 arg8 harg8 arg9 harg9 arg10 harg10 arg11 harg11 arg12 harg12 arg13 harg13 x0 x1 x2 x3 x4 c i hn0 hc1 hc2 z7 zs).2.2.1 = [wholeRow (rowOf arg1 harg1 arg2 harg2 arg3 harg3 arg4 harg4 arg5 harg5 arg10 arg11 x0 x1 x2 x3 x4 i (View.readAt (Elt F) arg8.view (Rect.unit ![0, 0] S1x128.size inb_S1x128_S1x128_0_0).toLoadRect (harg8.unread z7)))] := by sl_kernel_rfl
theorem runMiddle_S : (runMiddle arg1 harg1 arg2 harg2 arg3 harg3 arg4 harg4 arg5 harg5 arg6 harg6 arg7 harg7 arg8 harg8 arg9 harg9 arg10 harg10 arg11 harg11 arg12 harg12 arg13 harg13 x0 x1 x2 x3 x4 c i hn0 hc1 hc2 z7 zs).2.2.2.1 = [wholePiece (carriedOf arg1 harg1 arg2 harg2 arg3 harg3 arg4 harg4 arg5 harg5 arg10 arg11 arg12 arg13 x0 x1 x2 x3 x4 i)] := by sl_kernel_rfl
variable (hn1 : ¬ works i) (hq2 : closes i) (z5 : Vec F S128x1024 .bf16)
theorem runLast_6 : (runLast arg1 harg1 arg2 harg2 arg3 harg3 arg4 harg4 arg5 harg5 arg6 harg6 arg7 harg7 arg8 harg8 arg9 harg9 arg10 harg10 arg11 harg11 arg12 harg12 arg13 harg13 x0 x1 x2 x3 x4 c i hn0 hn1 hq2 z5 z7 zs).1 = [wholePiece (View.readAt (Elt F) arg9.view (Rect.unit ![0, 0] S128x256.size inb_S128x256_S128x256_0_0).toLoadRect (harg9.unread zs))] := by sl_kernel_rfl

end Runs

end Cert.KernelIdeal.Attn

end
-- ==== Proof.Loaded.lean ====
module

public import proofs.«01_k».proof.Proof.Block

@[expose] public section

set_option maxRecDepth 16384

noncomputable section

namespace Cert.KernelIdeal.Attn

open Cert.KernelIdeal.Gen
open Cert.Attn
open Idealize.ShloMosaic Idealize.ShloMosaic.TcCoe Idealize.ShloMosaic.Tactic

/-! # What the block of work loads and keeps in scratch, entry by entry -/

variable {F : FTy → Type} [FloatOps F] [Named F]

/-! ## Loads -/

/-- Column `d` of head `h`, among the 1024 columns of a block. -/
abbrev headCol (h : Fin 16) (d : Fin 64) : Fin 1024 := ⟨64 * h.val + d.val, by omega⟩
/-- Column `d` of quarter `k`, among the 256 columns of a block of keys and values. -/
abbrev partCol (k : Fin 4) (d : Fin 64) : Fin 256 := ⟨64 * k.val + d.val, by omega⟩

theorem headLoad_apply (M : Memref sig .tc .vmem S128x1024 .bf16) (hM : M.IsWhole) (x : Vec F S128x1024 .bf16) (h : Fin 16) (a : Fin 128) (d : Fin 64) :
    headLoad M hM x h (ix2 a d) = x (ix2 a (headCol h d)) := by
  unfold headLoad
  rw [View.readAt_eq_ld, Memref.IsWhole.read_unread]
  refine View.ld_unit_apply_of _ _ _ _ _ _ (Fin.forall_fin_two.mpr ⟨?_, ?_⟩)
  · show a.val = 0 + a.val; omega
  · rfl

theorem partLoad_apply (M : Memref sig .tc .vmem S128x256 .bf16) (hM : M.IsWhole) (x : Vec F S128x256 .bf16) (k : Fin 4) (a : Fin 128) (d : Fin 64) :
    partLoad M hM x k (ix2 a d) = x (ix2 a (partCol k d)) := by
  unfold partLoad
  rw [View.readAt_eq_ld, Memref.IsWhole.read_unread]
  refine View.ld_unit_apply_of _ _ _ _ _ _ (Fin.forall_fin_two.mpr ⟨?_, ?_⟩)
  · show a.val = 0 + a.val; omega
  · rfl

theorem sinkLoad_apply (M : Memref sig .tc .smem S16 .f32) (hM : M.IsWhole) (x : Vec F S16 .f32) (h : Fin 16) :
    sinkLoad M hM x h = x (ix1 h) := by
  unfold sinkLoad
  rw [View.readAt_eq_ld, Memref.IsWhole.read_unread]
  refine View.ld_unit_apply_of _ _ _ _ _ _ (fun a => ?_)
  obtain rfl : a = 0 := Subsingleton.elim _ _
  rfl

/-! ## Scratch -/

/-- Eight blocks one under the other, as one array. -/
def rowsArray (f : Fin 8 → FVec F S128x64 .bf16) : Vec F S1024x64 .bf16 :=
  fun y => f ⟨(y 0).val / 128, Nat.div_lt_of_lt_mul (y 0).isLt⟩ (ix2 ⟨(y 0).val % 128, Nat.mod_lt _ (by decide)⟩ (y 1))

/-- One block of it. -/
theorem rowsArray_emb (f : Fin 8 → FVec F S128x64 .bf16) (k : Fin 8)
    (inb : ∀ a : Fin 2, (![128 * k.val, 0] : Fin 2 → ℕ) a + S128x64.size a ≤ S1024x64.size a)
    (x : (Rect.unit (s := S1024x64) ![128 * k.val, 0] S128x64.size inb).shape.Idx) :
    f k x = rowsArray f ((Rect.unit (s := S1024x64) ![128 * k.val, 0] S128x64.size inb).emb x) := by
  have h0 : (x 0).val < 128 := (x 0).isLt
  have hk := k.isLt
  have e0 : (((Rect.unit (s := S1024x64) ![128 * k.val, 0] S128x64.size inb).emb x) 0).val = 128 * k.val + 1 * (x 0).val := rfl
  have e1 : (((Rect.unit (s := S1024x64) ![128 * k.val, 0] S128x64.size inb).emb x) 1).val = 0 + 1 * (x 1).val := rfl
  unfold rowsArray
  have hq : (⟨(((Rect.unit (s := S1024x64) ![128 * k.val, 0] S128x64.size inb).emb x) 0).val / 128, Nat.div_lt_of_lt_mul (Fin.isLt _)⟩ : Fin 8) = k :=
    Fin.ext (by show _ / 128 = _; rw [e0]; omega)
  rw [hq]
  congr 1
  funext a
  refine Fin.ext ?_
  revert a
  refine Fin.forall_fin_two.mpr ⟨?_, ?_⟩
  · show (x 0).val = _ % 128; rw [e0]; omega
  · exact (show (x 1).val = 0 + 1 * (x 1).val by omega).trans e1.symm

theorem rowPieces_cover (f : Fin 8 → FVec F S128x64 .bf16) : ∀ y, ∃ p ∈ rowPieces f, y ∈ p.1.set :=
  View.cover_of_tiledL (rowPieces f) ![128, 64] (by sl_kernel_rfl)

theorem stacked_eq (v : View sig .tc .vmem S1024x64 .bf16) (f : Fin 8 → FVec F S128x64 .bf16) (rest : List (View.Piece (Elt F) S1024x64 .bf16)) :
    stacked v f rest = rowsArray f := by
  unfold stacked
  rw [View.readCov_eq_canon_ld v _ _ fun y => let ⟨p, hp, hy⟩ := rowPieces_cover f y; ⟨p, List.mem_append_left _ hp, hy⟩]
  funext y
  rw [View.ld_unit_apply_of _ _ _ _ y y (Fin.forall_fin_two.mpr ⟨by show _ = 0 + _; omega, by show _ = 0 + _; omega⟩)]
  refine View.canon_append_of_piecesOf (rowsArray f) rest (rowPieces f) ⟨?_, ?_, ?_, ?_, ?_, ?_, ?_, ?_, trivial⟩ y (rowPieces_cover f y)
  · exact rowsArray_emb f 7 inb_S1024x64_S128x64_896_0
  · exact rowsArray_emb f 6 inb_S1024x64_S128x64_768_0
  · exact rowsArray_emb f 5 inb_S1024x64_S128x64_640_0
  · exact rowsArray_emb f 4 inb_S1024x64_S128x64_512_0
  · exact rowsArray_emb f 3 inb_S1024x64_S128x64_384_0
  · exact rowsArray_emb f 2 inb_S1024x64_S128x64_256_0
  · exact rowsArray_emb f 1 inb_S1024x64_S128x64_128_0
  · exact rowsArray_emb f 0 inb_S1024x64_S128x64_0_0

/-- Eight blocks side by side, as one array. -/
def colsArray (f : Fin 8 → FVec F S256x128 .bf16) : Vec F S256x1024 .bf16 :=
  fun y => f ⟨(y 1).val / 128, Nat.div_lt_of_lt_mul (y 1).isLt⟩ (ix2 (y 0) ⟨(y 1).val % 128, Nat.mod_lt _ (by decide)⟩)

/-- One block of it. -/
theorem colsArray_emb (f : Fin 8 → FVec F S256x128 .bf16) (k : Fin 8)
    (inb : ∀ a : Fin 2, (![0, 128 * k.val] : Fin 2 → ℕ) a + S256x128.size a ≤ S256x1024.size a)
    (x : (Rect.unit (s := S256x1024) ![0, 128 * k.val] S256x128.size inb).shape.Idx) :
    f k x = colsArray f ((Rect.unit (s := S256x1024) ![0, 128 * k.val] S256x128.size inb).emb x) := by
  have h1 : (x 1).val < 128 := (x 1).isLt
  have hk := k.isLt
  have e0 : (((Rect.unit (s := S256x1024) ![0, 128 * k.val] S256x128.size inb).emb x) 0).val = 0 + 1 * (x 0).val := rfl
  have e1 : (((Rect.unit (s := S256x1024) ![0, 128 * k.val] S256x128.size inb).emb x) 1).val = 128 * k.val + 1 * (x 1).val := rfl
  unfold colsArray
  have hq : (⟨(((Rect.unit (s := S256x1024) ![0, 128 * k.val] S256x128.size inb).emb x) 1).val / 128, Nat.div_lt_of_lt_mul (Fin.isLt _)⟩ : Fin 8) = k :=
    Fin.ext (by show _ / 128 = _; rw [e1]; omega)
  rw [hq]
  congr 1
  funext a
  refine Fin.ext ?_
  revert a
  refine Fin.forall_fin_two.mpr ⟨?_, ?_⟩
  · exact (show (x 0).val = 0 + 1 * (x 0).val by omega).trans e0.symm
  · show (x 1).val = _ % 128; rw [e1]; omega

theorem colPieces_cover (f : Fin 8 → FVec F S256x128 .bf16) : ∀ y, ∃ p ∈ colPieces f, y ∈ p.1.set :=
  View.cover_of_tiledL (colPieces f) ![256, 128] (by sl_kernel_rfl)

theorem abreast_eq (v : View sig .tc .vmem S256x1024 .bf16) (f : Fin 8 → FVec F S256x128 .bf16) (rest : List (View.Piece (Elt F) S256x1024 .bf16)) :
    abreast v f rest = colsArray f := by
  unfold abreast
  rw [View.readCov_eq_canon_ld v _ _ fun y => let ⟨p, hp, hy⟩ := colPieces_cover f y; ⟨p, List.mem_append_left _ hp, hy⟩]
  funext y
  rw [View.ld_unit_apply_of _ _ _ _ y y (Fin.forall_fin_two.mpr ⟨by show _ = 0 + _; omega, by show _ = 0 + _; omega⟩)]
  refine View.canon_append_of_piecesOf (colsArray f) rest (colPieces f) ⟨?_, ?_, ?_, ?_, ?_, ?_, ?_, ?_, trivial⟩ y (colPieces_cover f y)
  · exact colsArray_emb f 7 inb_S256x1024_S256x128_0_896
  · exact colsArray_emb f 6 inb_S256x1024_S256x128_0_768
  · exact colsArray_emb f 5 inb_S256x1024_S256x128_0_640
  · exact colsArray_emb f 4 inb_S256x1024_S256x128_0_512
  · exact colsArray_emb f 3 inb_S256x1024_S256x128_0_384
  · exact colsArray_emb f 2 inb_S256x1024_S256x128_0_256
  · exact colsArray_emb f 1 inb_S256x1024_S256x128_0_128
  · exact colsArray_emb f 0 inb_S256x1024_S256x128_0_0

/-- The query gradients of the sixteen heads, as one array. -/
def headsArray (f : Fin 2 → Fin 8 → FVec F S128x64 .bf16) : Vec F S128x1024 .bf16 :=
  fun y => f ⟨(y 1).val / 512, Nat.div_lt_of_lt_mul (y 1).isLt⟩ ⟨(y 1).val / 64 % 8, Nat.mod_lt _ (by decide)⟩
    (ix2 (y 0) ⟨(y 1).val % 64, Nat.mod_lt _ (by decide)⟩)

/-- One block of it. -/
theorem headsArray_emb (f : Fin 2 → Fin 8 → FVec F S128x64 .bf16) (g : Fin 2) (k : Fin 8)
    (inb : ∀ a : Fin 2, (![0, 512 * g.val + 64 * k.val] : Fin 2 → ℕ) a + S128x64.size a ≤ S128x1024.size a)
    (x : (Rect.unit (s := S128x1024) ![0, 512 * g.val + 64 * k.val] S128x64.size inb).shape.Idx) :
    f g k x = headsArray f ((Rect.unit (s := S128x1024) ![0, 512 * g.val + 64 * k.val] S128x64.size inb).emb x) := by
  have h1 : (x 1).val < 64 := (x 1).isLt
  have hk := k.isLt
  have hg := g.isLt
  have e0 : (((Rect.unit (s := S128x1024) ![0, 512 * g.val + 64 * k.val] S128x64.size inb).emb x) 0).val = 0 + 1 * (x 0).val := rfl
  have e1 : (((Rect.unit (s := S128x1024) ![0, 512 * g.val + 64 * k.val] S128x64.size inb).emb x) 1).val = 512 * g.val + 64 * k.val + 1 * (x 1).val := rfl
  unfold headsArray
  have hq : (⟨(((Rect.unit (s := S128x1024) ![0, 512 * g.val + 64 * k.val] S128x64.size inb).emb x) 1).val / 512, Nat.div_lt_of_lt_mul (Fin.isLt _)⟩ : Fin 2) = g :=
    Fin.ext (by show _ / 512 = _; rw [e1]; omega)
  have hr : (⟨(((Rect.unit (s := S128x1024) ![0, 512 * g.val + 64 * k.val] S128x64.size inb).emb x) 1).val / 64 % 8, Nat.mod_lt _ (by decide)⟩ : Fin 8) = k :=
    Fin.ext (by show _ / 64 % 8 = _; rw [e1]; omega)
  rw [hq, hr]
  congr 1
  funext a
  refine Fin.ext ?_
  revert a
  refine Fin.forall_fin_two.mpr ⟨?_, ?_⟩
  · exact (show (x 0).val = 0 + 1 * (x 0).val by omega).trans e0.symm
  · show (x 1).val = _ % 64; rw [e1]; omega

theorem headPieces_cover (f : Fin 2 → Fin 8 → FVec F S128x64 .bf16) : ∀ y, ∃ p ∈ headPieces f, y ∈ p.1.set :=
  View.cover_of_tiledL (headPieces f) ![128, 64] (by sl_kernel_rfl)

theorem canon_headPieces (f : Fin 2 → Fin 8 → FVec F S128x64 .bf16) : View.canon (headPieces f) = headsArray f := by
  funext y
  rw [← List.append_nil (headPieces f)]
  refine View.canon_append_of_piecesOf (headsArray f) [] (headPieces f)
    ⟨?_, ?_, ?_, ?_, ?_, ?_, ?_, ?_, ?_, ?_, ?_, ?_, ?_, ?_, ?_, ?_, trivial⟩ y (headPieces_cover f y)
  · exact headsArray_emb f 1 7 inb_S128x1024_S128x64_0_960
  · exact headsArray_emb f 1 6 inb_S128x1024_S128x64_0_896
  · exact headsArray_emb f 1 5 inb_S128x1024_S128x64_0_832
  · exact headsArray_emb f 1 4 inb_S128x1024_S128x64_0_768
  · exact headsArray_emb f 1 3 inb_S128x1024_S128x64_0_704
  · exact headsArray_emb f 1 2 inb_S128x1024_S128x64_0_640
  · exact headsArray_emb f 1 1 inb_S128x1024_S128x64_0_576
  · exact headsArray_emb f 1 0 inb_S128x1024_S128x64_0_512
  · exact headsArray_emb f 0 7 inb_S128x1024_S128x64_0_448
  · exact headsArray_emb f 0 6 inb_S128x1024_S128x64_0_384
  · exact headsArray_emb f 0 5 inb_S128x1024_S128x64_0_320
  · exact headsArray_emb f 0 4 inb_S128x1024_S128x64_0_256
  · exact headsArray_emb f 0 3 inb_S128x1024_S128x64_0_192
  · exact headsArray_emb f 0 2 inb_S128x1024_S128x64_0_128
  · exact headsArray_emb f 0 1 inb_S128x1024_S128x64_0_64
  · exact headsArray_emb f 0 0 inb_S128x1024_S128x64_0_0

/-- Storing a whole block leaves it. -/
theorem canon_wholePiece (x : FVec F S128x256 .f32) (L : List (View.Piece (Elt F) S128x256 .f32)) : View.canon (wholePiece x :: L) = x := by
  refine View.canon_cons_unit_zero ?_ _ _ _
  funext a; revert a; exact Fin.forall_fin_two.mpr ⟨rfl, rfl⟩

theorem canon_wholeRow (x : FVec F S1x128 .f32) (L : List (View.Piece (Elt F) S1x128 .f32)) : View.canon (wholeRow x :: L) = x := by
  refine View.canon_cons_unit_zero ?_ _ _ _
  funext a; revert a; exact Fin.forall_fin_two.mpr ⟨rfl, rfl⟩

theorem wholePiece_cover (x : FVec F S128x256 .f32) : ∀ y, ∃ p ∈ [wholePiece x], y ∈ p.1.set :=
  View.cover_of_tiledL [wholePiece x] ![128, 256] (by sl_kernel_rfl)

theorem wholeRow_cover (x : FVec F S1x128 .f32) : ∀ y, ∃ p ∈ [wholeRow x], y ∈ p.1.set :=
  View.cover_of_tiledL [wholeRow x] ![1, 128] (by sl_kernel_rfl)

end Cert.KernelIdeal.Attn

end
-- ==== Proof.BlockValue.lean ====
module

public import proofs.«01_k».proof.Proof.Loaded

@[expose] public section

set_option maxRecDepth 16384

noncomputable section

namespace Cert.KernelIdeal.Attn

open Cert.KernelIdeal.Gen
open Cert.Attn
open Idealize.ShloMosaic Idealize.ShloMosaic.TcCoe Idealize.ShloMosaic.Tactic

/-! # What the block of work computes among the extended reals -/

/-- A small number, as a word, reads as itself. -/
theorem word_toInt {k : ℕ} (hk : k < 1024) : (BitVec.ofNat 32 k).toInt = k := by
  rw [BitVec.toInt_ofNat']
  exact Int.bmod_eq_of_le (by omega) (by omega)

/-! ## Constants -/

/-- The slope of a head. -/
def slopeOf (h : Fin 16) : ℝ := (Ideal.ofBits .f32 (slopeWord h)).toReal

theorem slopeWord_coe (h : Fin 16) : Ideal.ofBits .f32 (slopeWord h) = (slopeOf h : ℝ) := by
  refine (EReal.coe_toReal ?_ ?_).symm <;> revert h
  · intro h; fin_cases h <;> simp [slopeWord, Ideal.ofBits, Ideal.ieee, -EReal.coe_mul]
  · intro h; fin_cases h <;> simp [slopeWord, Ideal.ofBits, Ideal.ieee, -EReal.coe_mul]

/-- How far behind the query the key is, as the kernel counts it. -/
theorem k0_pay4_toInt (c : Fin 256) (a : Fin 128) : (k0_pay4 (ix2 c a)).toInt = (a.val : ℤ) + 128 - (c.val : ℤ) := by
  pointwise [k0_pay4]
  show (BitVec.ofNat 32 a.val + 128#32 - BitVec.ofNat 32 c.val).toInt = _
  have ha : (BitVec.ofNat 32 a.val).toInt = a.val := word_toInt (by omega)
  have hc : (BitVec.ofNat 32 c.val).toInt = c.val := word_toInt (by omega)
  have h8 : (128#32 : BitVec 32).toInt = 128 := by decide
  rw [BitVec.toInt_sub, BitVec.toInt_add, ha, hc, h8]
  have e : ((a.val : ℤ) + 128).bmod (2 ^ 32) = (a.val : ℤ) + 128 := Int.bmod_eq_of_le (by omega) (by omega)
  rw [e]
  exact Int.bmod_eq_of_le (by omega) (by omega)

theorem k0_pay6_apply (c : Fin 256) (a : Fin 128) : k0_pay6 (F := Ideal) (ix2 c a) = (behind c a : ℝ) := by
  pointwise [k0_pay6]
  show (((k0_pay4 (ix2 c a)).toInt : ℝ) : EReal) = _
  rw [k0_pay4_toInt]; rfl

/-- Which keys are seen, as the kernel decides it. -/
theorem k0_pay5_apply (n : ℕ) (hn : n < 33) (c : Fin 256) (a : Fin 128) :
    k0_pay5 (BitVec.ofNat 32 n) (ix2 c a) = if sees n c a then 1#1 else 0#1 := by
  have hc : (BitVec.ofNat 32 c.val).toInt = c.val := word_toInt (by omega)
  have hn' : (BitVec.ofNat 32 n).toInt = n := word_toInt (by omega)
  have h8 : (128#32 : BitVec 32).toInt = 128 := by decide
  have h0 : (0#32 : BitVec 32).toInt = 0 := by decide
  have h : k0_pay5 (BitVec.ofNat 32 n) (ix2 c a) = 1#1 ↔ sees n c a := by
    pointwise [k0_pay5]
    show IntOp.andi _ (IntOp.ori _ (IntOp.cmpi CmpIPredicate.sgt (BitVec.ofNat 32 n) 0#32)) = 1#1 ↔ _
    rw [IntOp.andi_eq_one, IntOp.andi_eq_one, IntOp.ori_eq_one, IntOp.cmpi_sge, IntOp.cmpi_slt, IntOp.cmpi_sge, IntOp.cmpi_sgt,
      k0_pay4_toInt, hc, hn', h8, h0]
    unfold sees
    omega
  split_ifs with g
  · exact h.mpr g
  · have : ∀ b : BitVec 1, b ≠ 1#1 → b = 0#1 := by decide
    exact this _ fun e => g (h.mp e)

/-! ## One group -/

section Group

variable (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x1024 .bf16) (harg4 : arg4.IsWhole) (arg5 : Memref sig .tc .smem S16 .f32) (harg5 : arg5.IsWhole)
variable (v10 v11 : View sig .tc .vmem S1024x64 .bf16) (v12 v13 : View sig .tc .vmem S256x1024 .bf16)
variable {x0 : Vec Ideal S128x1024 .bf16} {x1 : Vec Ideal S128x256 .bf16} {x2 : Vec Ideal S128x256 .bf16} {x3 : Vec Ideal S128x1024 .bf16} {x4 : Vec Ideal S16 .f32}
variable {X0 X3 : Fin 128 → Fin 1024 → ℝ} {X1 X2 : Fin 128 → Fin 256 → ℝ} {X4 : Fin 16 → ℝ}
variable (h0 : ∀ a j, x0 (ix2 a j) = (X0 a j : ℝ)) (h1 : ∀ a j, x1 (ix2 a j) = (X1 a j : ℝ)) (h2 : ∀ a j, x2 (ix2 a j) = (X2 a j : ℝ))
  (h3 : ∀ a j, x3 (ix2 a j) = (X3 a j : ℝ)) (h4 : ∀ h, x4 (ix1 h) = (X4 h : ℝ))
include h1 h2 in
theorem keysOf_apply (g : Fin 2) (c : Fin 256) (d : Fin 64) : keysOf arg2 harg2 arg3 harg3 x1 x2 g (ix2 c d) = (keysIn X2 X1 g c d : ℝ) := by
  unfold keysOf keysIn
  pointwise [k0_pay8]
  by_cases h : c.val < 128
  · rw [dif_pos h, dif_pos h, partLoad_apply, h2]
  · rw [dif_neg h, dif_neg h, partLoad_apply, h1]

include h1 h2 in
theorem valsOf_apply (g : Fin 2) (c : Fin 256) (d : Fin 64) : valsOf arg2 harg2 arg3 harg3 x1 x2 g (ix2 c d) = (valsIn X2 X1 g c d : ℝ) := by
  unfold valsOf valsIn
  pointwise [k0_pay9]
  by_cases h : c.val < 128
  · rw [dif_pos h, dif_pos h, partLoad_apply, h2]
  · rw [dif_neg h, dif_neg h, partLoad_apply, h1]

include h0 in
theorem stackOf_apply (v : View sig .tc .vmem S1024x64 .bf16) (g : Fin 2) (i : Fin 1024) (d : Fin 64) :
    stackOf v arg1 harg1 x0 g (ix2 i d) = (headsIn X0 (headOf g ⟨i.val / 128, by omega⟩) ⟨i.val % 128, by omega⟩ d : ℝ) := by
  unfold stackOf
  rw [stacked_eq]
  show stored (headLoad arg1 harg1 x0 _) (ix2 _ _) = _
  pointwise [stored]
  rw [headLoad_apply, h0]; rfl

/-- What lies in row `128 r + a` of the stack is head `r`'s. -/
theorem stackOf_row (x : Vec Ideal S128x1024 .bf16) (X : Fin 128 → Fin 1024 → ℝ) (hx : ∀ a j, x (ix2 a j) = (X a j : ℝ))
    (v : View sig .tc .vmem S1024x64 .bf16) (M : Memref sig .tc .vmem S128x1024 .bf16) (hM : M.IsWhole)
    (g : Fin 2) (r : Fin 8) (a : Fin 128) (hi : 128 * r.val + a.val < 1024) (d : Fin 64) :
    stackOf v M hM x g (ix2 ⟨128 * r.val + a.val, hi⟩ d) = (headsIn X (headOf g r) a d : ℝ) := by
  rw [stackOf_apply M hM hx]
  have hr : (⟨(128 * r.val + a.val) / 128, by omega⟩ : Fin 8) = r := Fin.ext (by show _ / 128 = _; omega)
  have ha : (⟨(128 * r.val + a.val) % 128, by omega⟩ : Fin 128) = a := Fin.ext (by show _ % 128 = _; omega)
  rw [hr, ha]

include h0 h1 h2 in
theorem innerOf_apply (g : Fin 2) (r : Fin 8) (c : Fin 256) (a : Fin 128) :
    headCols (innerOf arg1 harg1 arg2 harg2 arg3 harg3 v10 x0 x1 x2 g) r (ix2 c a) = (inner (keysIn X2 X1) (headsIn X0) (headOf g r) c a : ℝ) := by
  unfold innerOf
  pointwise [headCols, k0_pay26]
  simp only [keysOf_apply arg2 harg2 arg3 harg3 h1 h2, stackOf_row x0 X0 h0, ← EReal.coe_mul, coe_sum]
  unfold Cert.Attn.inner; rw [grp_headOf]

include h1 h2 h3 in
theorem prodOf_apply (g : Fin 2) (r : Fin 8) (c : Fin 256) (a : Fin 128) :
    prodOf arg2 harg2 arg3 harg3 arg4 harg4 v11 x1 x2 x3 g r (ix2 c a) = (inner (valsIn X2 X1) (headsIn X3) (headOf g r) c a : ℝ) := by
  unfold prodOf outerOf
  pointwise [headCols, k0_pay27]
  simp only [valsOf_apply arg2 harg2 arg3 harg3 h1 h2, stackOf_row x3 X3 h3, ← EReal.coe_mul, coe_sum]
  unfold Cert.Attn.inner; rw [grp_headOf]

variable (n : ℕ) (hn : n < 33)

include h0 h1 h2 h4 hn in
theorem probsOf_apply (g : Fin 2) (c : Fin 256) (i : Fin 1024) :
    probsOf arg1 harg1 arg2 harg2 arg3 harg3 arg5 harg5 v10 v12 x0 x1 x2 x4 (BitVec.ofNat 32 n) g (ix2 c i)
      = (headProb n slopeOf X4 (keysIn X2 X1) (headsIn X0) (headOf g ⟨i.val / 128, by omega⟩) c ⟨i.val % 128, by omega⟩ : ℝ) := by
  unfold probsOf
  rw [abreast_eq]
  refine opProbStored_apply n _ _ _ (k0_pay5_apply n hn) k0_pay6_apply
    (innerOf_apply arg1 harg1 arg2 harg2 arg3 harg3 v10 h0 h1 h2 g _) (slopeWord_coe _) ?_ c _
  rw [sinkLoad_apply, h4]; rfl

include h0 h1 h2 h3 h4 hn in
theorem dscoresOf_apply (g : Fin 2) (c : Fin 256) (i : Fin 1024) :
    dscoresOf arg1 harg1 arg2 harg2 arg3 harg3 arg4 harg4 arg5 harg5 v10 v11 v13 x0 x1 x2 x3 x4 (BitVec.ofNat 32 n) g (ix2 c i)
      = (headDscore n slopeOf X4 (keysIn X2 X1) (valsIn X2 X1) (headsIn X0) (headsIn X3) (headOf g ⟨i.val / 128, by omega⟩) c ⟨i.val % 128, by omega⟩ : ℝ) := by
  unfold dscoresOf
  rw [abreast_eq]
  refine opDscoreStored_apply n _ _ _ _ (k0_pay5_apply n hn) k0_pay6_apply
    (innerOf_apply arg1 harg1 arg2 harg2 arg3 harg3 v10 h0 h1 h2 g _) (prodOf_apply arg2 harg2 arg3 harg3 arg4 harg4 v11 h1 h2 h3 g _)
    (slopeWord_coe _) ?_ c _
  rw [sinkLoad_apply, h4]; rfl

include h0 h1 h2 h3 h4 hn in
/-- The gradient of a group's keys. -/
theorem dkeysOf_apply (g : Fin 2) (c : Fin 256) (d : Fin 64) :
    dkeysOf arg1 harg1 arg2 harg2 arg3 harg3 arg4 harg4 arg5 harg5 v10 v11 v13 x0 x1 x2 x3 x4 (BitVec.ofNat 32 n) g (ix2 c d)
      = (dKey n slopeOf X4 (keysIn X2 X1) (valsIn X2 X1) (headsIn X0) (headsIn X3) g c d : ℝ) := by
  unfold dkeysOf
  pointwise [k0_pay128]
  have hq : ∀ i : Fin 1024, _ := fun i => stackOf_apply arg1 harg1 h0 v10 g i d
  simp only [dscoresOf_apply arg1 harg1 arg2 harg2 arg3 harg3 arg4 harg4 arg5 harg5 v10 v11 v13 h0 h1 h2 h3 h4 n hn,
    hq, ← EReal.coe_mul, coe_sum, eighth]
  rw [dKey, ← sum_stack]

include h0 h1 h2 h3 h4 hn in
/-- The gradient of a group's values. -/
theorem dvalsOf_apply (g : Fin 2) (c : Fin 256) (d : Fin 64) :
    dvalsOf arg1 harg1 arg2 harg2 arg3 harg3 arg4 harg4 arg5 harg5 v10 v11 v12 x0 x1 x2 x3 x4 (BitVec.ofNat 32 n) g (ix2 c d)
      = (dVal n slopeOf X4 (keysIn X2 X1) (headsIn X0) (headsIn X3) g c d : ℝ) := by
  unfold dvalsOf
  pointwise [k0_pay129]
  have hq : ∀ i : Fin 1024, _ := fun i => stackOf_apply arg4 harg4 h3 v11 g i d
  simp only [probsOf_apply arg1 harg1 arg2 harg2 arg3 harg3 arg5 harg5 v10 v12 h0 h1 h2 h4 n hn,
    hq, ← EReal.coe_mul, coe_sum]
  rw [dVal, ← sum_stack]

include h0 h1 h2 h3 h4 hn in
/-- The gradient of a head's queries. -/
theorem dqueryOf_apply (g : Fin 2) (r : Fin 8) (a : Fin 128) (d : Fin 64) :
    dqueryOf arg1 harg1 arg2 harg2 arg3 harg3 arg4 harg4 arg5 harg5 v10 v11 v13 x0 x1 x2 x3 x4 (BitVec.ofNat 32 n) g r (ix2 a d)
      = (dQuery n slopeOf X4 (keysIn X2 X1) (valsIn X2 X1) (headsIn X0) (headsIn X3) (headOf g r) a d : ℝ) := by
  unfold dqueryOf dqueriesOf
  pointwise [k0_pay130]
  simp only [dscoresOf_apply arg1 harg1 arg2 harg2 arg3 harg3 arg4 harg4 arg5 harg5 v10 v11 v13 h0 h1 h2 h3 h4 n hn,
    keysOf_apply arg2 harg2 arg3 harg3 h1 h2, ← EReal.coe_mul, coe_sum, eighth]
  have hr : (⟨(128 * r.val + a.val) / 128, by omega⟩ : Fin 8) = r := Fin.ext (by show _ / 128 = _; omega)
  have ha : (⟨(128 * r.val + a.val) % 128, by omega⟩ : Fin 128) = a := Fin.ext (by show _ % 128 = _; omega)
  rw [dQuery, grp_headOf, hr, ha]

include h0 h1 h2 h3 h4 hn in
/-- The row of the sinks' gradients after the first `k` heads. -/
theorem sinkRowOf_apply (l : Fin 128) : ∀ (k : ℕ) (hk : k ≤ 16),
    sinkRowOf arg1 harg1 arg2 harg2 arg3 harg3 arg4 harg4 arg5 harg5 v10 v11 x0 x1 x2 x3 x4 (BitVec.ofNat 32 n) k hk (ix2 0 l)
      = ((if h : l.val < k then dSink n slopeOf X4 (keysIn X2 X1) (valsIn X2 X1) (headsIn X0) (headsIn X3) ⟨l.val, by omega⟩ else 0 : ℝ) : EReal)
  | 0, hk => by
    rw [dif_neg (Nat.not_lt_zero _), sinkRowOf]
    pointwise [k0_pay7]
    rfl
  | k + 1, hk => by
    have hkk : (8 * (k / 8) + k % 8) = k := Nat.div_add_mod k 8
    refine (opSinkRow_apply n _ _ _ _ (k0_pay5_apply n hn) k0_pay6_apply
      (innerOf_apply arg1 harg1 arg2 harg2 arg3 harg3 v10 h0 h1 h2 ⟨k / 8, by omega⟩ ⟨k % 8, by omega⟩)
      (prodOf_apply arg2 harg2 arg3 harg3 arg4 harg4 v11 h1 h2 h3 _ _)
      (slopeWord_coe _) ((sinkLoad_apply arg5 harg5 x4 _).trans (h4 _)) k (by omega) _
      (fun l => if h : l.val < k then dSink n slopeOf X4 (keysIn X2 X1) (valsIn X2 X1) (headsIn X0) (headsIn X3) ⟨l.val, by omega⟩ else 0)
      (fun l => sinkRowOf_apply l k _) l).trans ?_
    have hh : headOf ⟨k / 8, by omega⟩ ⟨k % 8, by omega⟩ = (⟨k, by omega⟩ : Fin 16) := Fin.ext hkk
    rw [hh]
    congr 1
    by_cases h : l.val < k
    · rw [dif_pos h, if_neg (by omega), dif_pos (by omega), add_zero]
    · by_cases e : l.val = k
      · rw [dif_neg h, if_pos e, dif_pos (by omega), zero_add]
        simp only [e]; rfl
      · rw [dif_neg h, if_neg e, dif_neg (by omega), add_zero]

end Group

end Cert.KernelIdeal.Attn

end
-- ==== Proof.Axes.lean ====
module

public import Idealize.ShloMosaic.Lib.Pointwise

@[expose] public section

namespace Cert.Attn

open Idealize.ShloMosaic

/-! # Sums and maxima along the axes of the reference

A host reduction at a result index runs over the source indices that drop to it; each theorem names them. -/

section General

variable {s t : Shape} {axes : List (Fin s.rank)} {κ : Type} [Fintype κ]

/-- A sum over the source indices that drop to `j`, where `g` lists them and `back` finds their places in the list. -/
theorem sum_along (h : s.ReducesTo axes t) (j : t.Idx) (g : κ → s.Idx) (back : s.Idx → κ) (h1 : ∀ k, h.drop (g k) = j)
    (h2 : ∀ i, h.drop i = j → g (back i) = i) (h3 : ∀ k, back (g k) = k) (v : s.Idx → EReal) (init : EReal) :
    Ideal.hostReduceAdd h v init j = init + ∑ k, v (g k) :=
  congrArg (init + ·) (Finset.sum_filter_eq_sum_of_fiber _ g (Function.LeftInverse.injective h3)
    (fun i => ⟨fun e => ⟨back i, h2 i e⟩, fun ⟨k, e⟩ => e ▸ h1 k⟩) v)

/-- The same for a fold. -/
theorem fold_along (h : s.ReducesTo axes t) (j : t.Idx) (g : κ → s.Idx) (back : s.Idx → κ) (h1 : ∀ k, h.drop (g k) = j)
    (h2 : ∀ i, h.drop i = j → g (back i) = i) (h3 : ∀ k, back (g k) = k) {α : Type} (op : α → α → α) [Std.Commutative op] [Std.Associative op]
    (b : α) (v : s.Idx → α) :
    (Finset.univ.filter (fun i => h.drop i = j)).fold op b v = (Finset.univ : Finset κ).fold op b (fun k => v (g k)) :=
  Finset.fold_filter_eq_fold_of_fiber op _ g (Function.LeftInverse.injective h3)
    (fun i => ⟨fun e => ⟨back i, h2 i e⟩, fun ⟨k, e⟩ => e ▸ h1 k⟩) b v

end General

variable {n0 n1 n2 n3 n4 n5 : ℕ}

section Last

variable (h : (⟨6, ![n0, n1, n2, n3, n4, n5]⟩ : Shape).ReducesTo [5] (⟨5, ![n0, n1, n2, n3, n4]⟩ : Shape))
variable (i0 : Fin n0) (i1 : Fin n1) (i2 : Fin n2) (i3 : Fin n3) (i4 : Fin n4)

theorem last_drop (k : Fin n5) : h.drop (ix6 i0 i1 i2 i3 i4 k) = ix5 i0 i1 i2 i3 i4 := by
  funext b; apply Fin.ext
  match b with
  | ⟨0, _⟩ => rfl
  | ⟨1, _⟩ => rfl
  | ⟨2, _⟩ => rfl
  | ⟨3, _⟩ => rfl
  | ⟨4, _⟩ => rfl

theorem last_back (i : (⟨6, ![n0, n1, n2, n3, n4, n5]⟩ : Shape).Idx) (e : h.drop i = ix5 i0 i1 i2 i3 i4) : ix6 i0 i1 i2 i3 i4 (i 5) = i := by
  funext a; apply Fin.ext
  match a with
  | ⟨0, _⟩ => exact (congrArg Fin.val (congrFun e 0)).symm
  | ⟨1, _⟩ => exact (congrArg Fin.val (congrFun e 1)).symm
  | ⟨2, _⟩ => exact (congrArg Fin.val (congrFun e 2)).symm
  | ⟨3, _⟩ => exact (congrArg Fin.val (congrFun e 3)).symm
  | ⟨4, _⟩ => exact (congrArg Fin.val (congrFun e 4)).symm
  | ⟨5, _⟩ => rfl

/-- A sum along the last of six axes. -/
@[pointwise] theorem sum_last (v : (⟨6, ![n0, n1, n2, n3, n4, n5]⟩ : Shape).Idx → EReal) (init : EReal) :
    Ideal.hostReduceAdd h v init (ix5 i0 i1 i2 i3 i4) = init + ∑ k : Fin n5, v (ix6 i0 i1 i2 i3 i4 k) :=
  sum_along h _ (fun k => ix6 i0 i1 i2 i3 i4 k) (fun i => i 5) (last_drop h i0 i1 i2 i3 i4) (last_back h i0 i1 i2 i3 i4) (fun _ => rfl) v init

/-- A fold along the last of six axes. -/
@[pointwise] theorem fold_last {α : Type} (op : α → α → α) [Std.Commutative op] [Std.Associative op] (b : α)
    (v : (⟨6, ![n0, n1, n2, n3, n4, n5]⟩ : Shape).Idx → α) :
    (Finset.univ.filter (fun i => h.drop i = ix5 i0 i1 i2 i3 i4)).fold op b v = (Finset.univ : Finset (Fin n5)).fold op b (fun k => v (ix6 i0 i1 i2 i3 i4 k)) :=
  fold_along h _ (fun k => ix6 i0 i1 i2 i3 i4 k) (fun i => i 5) (last_drop h i0 i1 i2 i3 i4) (last_back h i0 i1 i2 i3 i4) (fun _ => rfl) op b v

end Last

/-- A sum along the first and the last of six axes, both of one place. -/
@[pointwise] theorem sum_ends (h : (⟨6, ![1, n1, n2, n3, n4, 1]⟩ : Shape).ReducesTo [0, 5] (⟨4, ![n1, n2, n3, n4]⟩ : Shape))
    (i1 : Fin n1) (i2 : Fin n2) (i3 : Fin n3) (i4 : Fin n4) (v : (⟨6, ![1, n1, n2, n3, n4, 1]⟩ : Shape).Idx → EReal) (init : EReal) :
    Ideal.hostReduceAdd h v init (ix4 i1 i2 i3 i4) = init + v (ix6 0 i1 i2 i3 i4 0) := by
  refine (sum_along (κ := Unit) h _ (fun _ => ix6 0 i1 i2 i3 i4 0) (fun _ => ()) (fun _ => ?_) (fun i e => ?_) (fun _ => rfl) v init).trans (by simp)
  · funext b; apply Fin.ext
    match b with
    | ⟨0, _⟩ => rfl
    | ⟨1, _⟩ => rfl
    | ⟨2, _⟩ => rfl
    | ⟨3, _⟩ => rfl
  · funext a; apply Fin.ext
    match a with
    | ⟨0, _⟩ => exact (Nat.lt_one_iff.mp (i 0).isLt).symm
    | ⟨1, _⟩ => exact (congrArg Fin.val (congrFun e 0)).symm
    | ⟨2, _⟩ => exact (congrArg Fin.val (congrFun e 1)).symm
    | ⟨3, _⟩ => exact (congrArg Fin.val (congrFun e 2)).symm
    | ⟨4, _⟩ => exact (congrArg Fin.val (congrFun e 3)).symm
    | ⟨5, _⟩ => exact (Nat.lt_one_iff.mp (i 5).isLt).symm

/-- A sum along the second and the last of five axes. -/
@[pointwise] theorem sum_blocks (h : (⟨5, ![n0, n1, n2, n3, n4]⟩ : Shape).ReducesTo [1, 4] (⟨3, ![n0, n2, n3]⟩ : Shape))
    (i0 : Fin n0) (i2 : Fin n2) (i3 : Fin n3) (v : (⟨5, ![n0, n1, n2, n3, n4]⟩ : Shape).Idx → EReal) (init : EReal) :
    Ideal.hostReduceAdd h v init (ix3 i0 i2 i3) = init + ∑ k : Fin n1 × Fin n4, v (ix5 i0 k.1 i2 i3 k.2) := by
  refine sum_along h _ (fun k : Fin n1 × Fin n4 => ix5 i0 k.1 i2 i3 k.2) (fun i => (i 1, i 4)) (fun _ => ?_) (fun i e => ?_) (fun _ => rfl) v init
  · funext b; apply Fin.ext
    match b with
    | ⟨0, _⟩ => rfl
    | ⟨1, _⟩ => rfl
    | ⟨2, _⟩ => rfl
  · funext a; apply Fin.ext
    match a with
    | ⟨0, _⟩ => exact (congrArg Fin.val (congrFun e 0)).symm
    | ⟨1, _⟩ => rfl
    | ⟨2, _⟩ => exact (congrArg Fin.val (congrFun e 1)).symm
    | ⟨3, _⟩ => exact (congrArg Fin.val (congrFun e 2)).symm
    | ⟨4, _⟩ => rfl

/-- A sum along the first two and the last of five axes, all of one place. -/
@[pointwise] theorem sum_outer (h : (⟨5, ![1, 1, n2, n3, 1]⟩ : Shape).ReducesTo [0, 1, 4] (⟨2, ![n2, n3]⟩ : Shape))
    (i2 : Fin n2) (i3 : Fin n3) (v : (⟨5, ![1, 1, n2, n3, 1]⟩ : Shape).Idx → EReal) (init : EReal) :
    Ideal.hostReduceAdd h v init (ix2 i2 i3) = init + v (ix5 0 0 i2 i3 0) := by
  refine (sum_along (κ := Unit) h _ (fun _ => ix5 0 0 i2 i3 0) (fun _ => ()) (fun _ => ?_) (fun i e => ?_) (fun _ => rfl) v init).trans (by simp)
  · funext b; apply Fin.ext
    match b with
    | ⟨0, _⟩ => rfl
    | ⟨1, _⟩ => rfl
  · funext a; apply Fin.ext
    match a with
    | ⟨0, _⟩ => exact (Nat.lt_one_iff.mp (i 0).isLt).symm
    | ⟨1, _⟩ => exact (Nat.lt_one_iff.mp (i 1).isLt).symm
    | ⟨2, _⟩ => exact (congrArg Fin.val (congrFun e 0)).symm
    | ⟨3, _⟩ => exact (congrArg Fin.val (congrFun e 1)).symm
    | ⟨4, _⟩ => exact (Nat.lt_one_iff.mp (i 4).isLt).symm

end Cert.Attn
-- ==== Proof.RefArgs.lean ====
module

public import proofs.«01_k».proof.Proof.Gen.ReferenceIdeal.Run
public import proofs.«01_k».proof.Proof.BlockValue
public import proofs.«01_k».proof.Proof.Axes
public import Idealize.ShloMosaic.Lib.Tactic.CleanTypes

@[expose] public section

set_option maxRecDepth 16384

noncomputable section

namespace Cert.ReferenceIdeal.Attn

open Cert.ReferenceIdeal Cert.ReferenceIdeal.Gen Cert.ReferenceIdeal.Value
open Cert.Attn
open Cert.KernelIdeal.Attn (slopeOf slopeWord slopeWord_coe word_toInt eighth bot_word select_ite)
open Idealize.ShloMosaic Idealize.ShloMosaic.TcCoe Idealize.ShloMosaic.Tactic

/-! # The reference's operands, by blocks and heads

The reference sets zeros where the first block has no block before it; no query looks there. -/

/-- The block before block `n`, zeros before the first. -/
def prevOf (KV : Fin 4096 → Fin 256 → ℝ) (n : Fin 32) (a : Fin 128) (j : Fin 256) : ℝ := if n.val < 1 then 0 else blockOf KV (before n) a j

/-- The products of the keys of a block and its queries. -/
def keyProd (Q : Fin 4096 → Fin 1024 → ℝ) (KV : Fin 4096 → Fin 256 → ℝ) (n : Fin 32) : Fin 16 → Fin 256 → Fin 128 → ℝ :=
  Cert.Attn.inner (keysIn (prevOf KV n) (blockOf KV n)) (headsIn (blockOf Q n))
/-- The products of the values of a block and its incoming gradients. -/
def valProd (O : Fin 4096 → Fin 1024 → ℝ) (KV : Fin 4096 → Fin 256 → ℝ) (n : Fin 32) : Fin 16 → Fin 256 → Fin 128 → ℝ :=
  Cert.Attn.inner (valsIn (prevOf KV n) (blockOf KV n)) (headsIn (blockOf O n))

variable (V : Valuation τ sig (Elt Ideal)) {Q O : Fin 4096 → Fin 1024 → ℝ} {KV : Fin 4096 → Fin 256 → ℝ} {sink : Fin 16 → ℝ}
variable (hQ : ∀ i j, (V (Proc.devRef .tc main_arg0) : Vec Ideal S4096x1024 .bf16) (ix2 i j) = ((Q i j : ℝ) : EReal))
variable (hKV : ∀ i j, (V (Proc.devRef .tc main_arg1) : Vec Ideal S4096x256 .bf16) (ix2 i j) = ((KV i j : ℝ) : EReal))
variable (hO : ∀ i j, (V (Proc.devRef .tc main_arg2) : Vec Ideal S4096x1024 .bf16) (ix2 i j) = ((O i j : ℝ) : EReal))
variable (hsink : ∀ h, (V (Proc.devRef .tc main_arg3) : Vec Ideal S16 .f32) (ix1 h) = ((sink h : ℝ) : EReal))
variable (n : Fin 32) (g : Fin 2) (r : Fin 8) (a : Fin 128) (c : Fin 256) (d : Fin 64)

include hQ in
/-- The queries. -/
theorem v8_apply : (res_main_v8 V : Vec Ideal S1x32x128x2x8x64 .f32) (ix6 0 n a g r d) = ((headsIn (blockOf Q n) (headOf g r) a d : ℝ) : EReal) := by
  unfold res_main_v8
  clean_types
  pointwise
  have e0 : (⟨n.val * 128 + a.val, by omega⟩ : Fin 4096) = ⟨128 * n.val + a.val, by omega⟩ := Fin.ext (by show n.val * 128 + a.val = 128 * n.val + a.val; omega)
  have e1 : (⟨g.val * 512 + r.val * 64 + d.val, by omega⟩ : Fin 1024) = ⟨64 * (headOf g r).val + d.val, by omega⟩ :=
    Fin.ext (by show g.val * 512 + r.val * 64 + d.val = 64 * (8 * g.val + r.val) + d.val; omega)
  rw [e0, e1]
  exact hQ _ _

include hO in
/-- The incoming gradients. -/
theorem v122_apply : (res_main_v122 V : Vec Ideal S1x32x2x64x8x128 .f32) (ix6 0 n g d r a) = ((headsIn (blockOf O n) (headOf g r) a d : ℝ) : EReal) := by
  unfold res_main_v122
  clean_types
  pointwise
  have e0 : (⟨n.val * 128 + a.val, by omega⟩ : Fin 4096) = ⟨128 * n.val + a.val, by omega⟩ := Fin.ext (by show n.val * 128 + a.val = 128 * n.val + a.val; omega)
  have e1 : (⟨g.val * 512 + r.val * 64 + d.val, by omega⟩ : Fin 1024) = ⟨64 * (headOf g r).val + d.val, by omega⟩ :=
    Fin.ext (by show g.val * 512 + r.val * 64 + d.val = 64 * (8 * g.val + r.val) + d.val; omega)
  rw [e0, e1]
  exact hO _ _

include hKV in
/-- The keys of a block. -/
theorem v9_apply : (res_main_v9 V : Vec Ideal S1x32x128x2x64 .f32) (ix5 0 n a g d) = ((blockOf KV n a ⟨64 * g.val + d.val, by omega⟩ : ℝ) : EReal) := by
  unfold res_main_v9
  clean_types
  pointwise
  have e0 : (⟨n.val * 128 + a.val, by omega⟩ : Fin 4096) = ⟨128 * n.val + a.val, by omega⟩ := Fin.ext (by show n.val * 128 + a.val = 128 * n.val + a.val; omega)
  have e1 : (⟨g.val * 64 + d.val, by omega⟩ : Fin 256) = ⟨64 * g.val + d.val, by omega⟩ := Fin.ext (by show g.val * 64 + d.val = 64 * g.val + d.val; omega)
  rw [e0, e1]
  exact hKV _ _

include hKV in
/-- The values of a block. -/
theorem v10_apply : (res_main_v10 V : Vec Ideal S1x32x128x2x64 .f32) (ix5 0 n a g d) = ((blockOf KV n a ⟨64 * (g.val + 2) + d.val, by omega⟩ : ℝ) : EReal) := by
  unfold res_main_v10
  clean_types
  pointwise
  refine (congrArg _ ?_).trans (hKV ⟨128 * n.val + a.val, by omega⟩ ⟨64 * (g.val + 2) + d.val, by omega⟩)
  refine congrArg₂ ix2 (Fin.ext ?_) (Fin.ext ?_)
  · show n.val * 128 + a.val = 128 * n.val + a.val; omega
  · show 128 + (g.val * 64 + d.val) = 64 * (g.val + 2) + d.val; omega

include hKV in
/-- The keys a block sees. -/
theorem v16_apply : (res_main_v16 V : Vec Ideal S1x32x256x2x64 .f32) (ix5 0 n c g d) = ((keysIn (prevOf KV n) (blockOf KV n) g c d : ℝ) : EReal) := by
  unfold res_main_v16
  clean_types
  pointwise
  unfold keysIn prevOf
  by_cases h : c.val < 128
  · rw [dif_pos h, dif_pos h]
    by_cases h1 : n.val < 1
    · rw [dif_pos h1, if_pos h1]; rfl
    · rw [dif_neg h1, if_neg h1]; exact v9_apply V hKV _ _ _ _
  · rw [dif_neg h, dif_neg h]; exact v9_apply V hKV _ _ _ _

include hKV in
/-- The values a block sees. -/
theorem v22_apply : (res_main_v22 V : Vec Ideal S1x32x256x2x64 .f32) (ix5 0 n c g d) = ((valsIn (prevOf KV n) (blockOf KV n) g c d : ℝ) : EReal) := by
  unfold res_main_v22
  clean_types
  pointwise
  unfold valsIn prevOf
  by_cases h : c.val < 128
  · rw [dif_pos h, dif_pos h]
    by_cases h1 : n.val < 1
    · rw [dif_pos h1, if_pos h1]; rfl
    · rw [dif_neg h1, if_neg h1]; exact v10_apply V hKV _ _ _ _
  · rw [dif_neg h, dif_neg h]; exact v10_apply V hKV _ _ _ _

/-! ## Which keys are seen, and the scores -/

/-- How far behind the query the key is. -/
theorem v35_toInt : ((res_main_v35 V : IVec S128x256 32) (ix2 a c)).toInt = (a.val : ℤ) + 128 - (c.val : ℤ) := by
  have e : (res_main_v35 V : IVec S128x256 32) (ix2 a c) = BitVec.ofNat 32 a.val + 128#32 - BitVec.ofNat 32 c.val := by
    unfold res_main_v35
    clean_types
    pointwise
    rfl
  rw [e, BitVec.toInt_sub, BitVec.toInt_add, word_toInt (by omega : a.val < 1024), word_toInt (by omega : c.val < 1024), show (128#32 : BitVec 32).toInt = 128 by decide,
    show ((a.val : ℤ) + 128).bmod (2 ^ 32) = (a.val : ℤ) + 128 from Int.bmod_eq_of_le (by omega) (by omega)]
  exact Int.bmod_eq_of_le (by omega) (by omega)

/-- The place of the key in the sequence, 128 less. -/
theorem place_toInt : (BitVec.ofNat 32 n.val * 128#32 + BitVec.ofNat 32 c.val - 128#32 : BitVec 32).toInt = 128 * (n.val : ℤ) + c.val - 128 := by
  rw [BitVec.toInt_sub, BitVec.toInt_add, BitVec.toInt_mul, word_toInt (by omega : n.val < 1024), word_toInt (by omega : c.val < 1024), show (128#32 : BitVec 32).toInt = 128 by decide,
    show ((n.val : ℤ) * 128).bmod (2 ^ 32) = (n.val : ℤ) * 128 from Int.bmod_eq_of_le (by omega) (by omega),
    show ((n.val : ℤ) * 128 + c.val).bmod (2 ^ 32) = (n.val : ℤ) * 128 + c.val from Int.bmod_eq_of_le (by omega) (by omega),
    show ((n.val : ℤ) * 128 + c.val - 128).bmod (2 ^ 32) = (n.val : ℤ) * 128 + c.val - 128 from Int.bmod_eq_of_le (by omega) (by omega)]
  omega

/-- Which keys are seen. -/
theorem v70_1_apply : (res_main_v70_1 V : IVec S1x32x2x8x128x256 1) (ix6 0 n g r a c) = if sees n.val c a then 1#1 else 0#1 := by
  have h : (res_main_v70_1 V : IVec S1x32x2x8x128x256 1) (ix6 0 n g r a c) = 1#1 ↔ sees n.val c a := by
    unfold res_main_v70_1
    clean_types
    pointwise
    have e1 := v35_toInt V a c
    have e2 := place_toInt n c
    rw [IntOp.andi_eq_one, IntOp.andi_eq_one, IntOp.cmpi_sge, IntOp.cmpi_slt, IntOp.cmpi_sge]
    show ((0#32 : BitVec 32).toInt ≤ ((res_main_v35 V : IVec S128x256 32) (ix2 a c)).toInt ∧ ((res_main_v35 V : IVec S128x256 32) (ix2 a c)).toInt < (128#32 : BitVec 32).toInt)
      ∧ (0#32 : BitVec 32).toInt ≤ (BitVec.ofNat 32 n.val * 128#32 + BitVec.ofNat 32 c.val - 128#32 : BitVec 32).toInt ↔ _
    rw [e1, e2, show (128#32 : BitVec 32).toInt = 128 by decide, show (0#32 : BitVec 32).toInt = 0 by decide]
    unfold sees
    omega
  split_ifs with k
  · exact h.mpr k
  · have : ∀ b : BitVec 1, b ≠ 1#1 → b = 0#1 := by decide
    exact this _ fun e => k (h.mp e)

/-- The reference's table of slopes is the kernel's. -/
theorem slopes_eq : ∀ h : Fin 16, lit0 h = slopeWord h := by decide

include hQ hKV in
/-- The scores; minus infinity where the key is not seen. -/
theorem v70_0_apply : (res_main_v70_0 V : Vec Ideal S1x32x2x8x128x256 .f32) (ix6 0 n g r a c)
    = if sees n.val c a then ((score (slopeOf (headOf g r)) (keyProd Q KV n (headOf g r)) c a : ℝ) : EReal) else ⊥ := by
  unfold res_main_v70_0
  clean_types
  pointwise
  have e3 : Ideal.ofBits FTy.f32 (slopeWord ⟨g.val * 8 + r.val, by omega⟩) = ((slopeOf (headOf g r) : ℝ) : EReal) := by
    rw [slopeWord_coe]
    exact congrArg (fun h => ((slopeOf h : ℝ) : EReal)) (Fin.ext (by show g.val * 8 + r.val = 8 * g.val + r.val; omega))
  have e4 : (FloatOps.sitofp (F := Ideal) FTy.f32 ((res_main_v35 V : IVec S128x256 32) (ix2 a c)) : EReal) = ((behind c a : ℝ) : EReal) := by
    show ((((res_main_v35 V : IVec S128x256 32) (ix2 a c)).toInt : ℝ) : EReal) = _
    rw [v35_toInt]; unfold behind; push_cast; rfl
  have e5 : (∑ x, ((keysIn (prevOf KV n) (blockOf KV n) g c x : ℝ) : EReal) * ((headsIn (blockOf Q n) (headOf g r) a x : ℝ) : EReal)) = ((keyProd Q KV n (headOf g r) c a : ℝ) : EReal) := by
    unfold keyProd Cert.Attn.inner
    rw [← coe_sum, grp_headOf]
    exact Finset.sum_congr rfl fun x _ => (EReal.coe_mul _ _).symm
  have e6 : Ideal.ofBits FTy.f32 (lit0 (S16.rowMajor (ix1 ⟨g.val * 8 + r.val, by omega⟩))) = Ideal.ofBits FTy.f32 (slopeWord ⟨g.val * 8 + r.val, by omega⟩) :=
    (congrArg (fun k : Fin 16 => Ideal.ofBits FTy.f32 (lit0 k)) (Fin.ext (by exact Shape.rowMajor_val_one _))).trans (congrArg _ (slopes_eq _))
  simp only [v70_1_apply V n g r a c, v16_apply V hKV, v8_apply V hQ]
  rw [select_ite, e5, e4]
  refine congrArg₂ (fun x y => if sees n.val c a then x else y) ((congrArg₂ (fun x y => x - y * _) (congrArg (fun y => _ * y) eighth) (e6.trans e3)).trans ?_) bot_word
  rw [← EReal.coe_mul, ← EReal.coe_mul, ← EReal.coe_sub]
  rfl

include hsink in
/-- The sinks. -/
theorem v79_apply : (res_main_v79 V : Vec Ideal S1x1x2x8x1 .f32) (ix5 0 0 g r 0) = ((sink (headOf g r) : ℝ) : EReal) := by
  unfold res_main_v79 res_main_v72
  clean_types
  pointwise
  refine (congrArg _ ?_).trans (hsink (headOf g r))
  exact congrArg ix1 (Fin.ext (by show g.val * 8 + r.val = 8 * g.val + r.val; omega))

end Cert.ReferenceIdeal.Attn

end
-- ==== Proof.RefValue.lean ====
module

public import proofs.«01_k».proof.Proof.RefArgs

@[expose] public section

set_option maxRecDepth 16384

noncomputable section

namespace Cert.ReferenceIdeal.Attn

open Cert.ReferenceIdeal Cert.ReferenceIdeal.Gen Cert.ReferenceIdeal.Value
open Cert.Attn
open Cert.KernelIdeal.Attn (slopeOf bot_word select_ite eighth)
open Idealize.ShloMosaic Idealize.ShloMosaic.TcCoe Idealize.ShloMosaic.Tactic

/-! # The values of the reference's stages

The reference takes the largest score from every score first, then divides by the sum of the weights. Its derivative also
differentiates that largest score; this part of it is zero, since taking any number from the scores changes no share. -/

section Reals

variable (Q O : Fin 4096 → Fin 1024 → ℝ) (KV : Fin 4096 → Fin 256 → ℝ) (sink : Fin 16 → ℝ) (n : Fin 32) (h : Fin 16)

/-- The weights of head `h` in block `n` when `m` is taken from the scores. -/
def refWeight (m : ℝ) : Fin 256 → Fin 128 → ℝ := weightLess n.val (slopeOf h) (keyProd Q KV n h) m
/-- Their sum with the sink's weight. -/
def refSum (m : ℝ) (a : Fin 128) : ℝ := (∑ c, refWeight Q KV n h m c a) + Real.exp (sink h - m)
/-- The shares. -/
def refProb : Fin 256 → Fin 128 → ℝ := prob n.val (slopeOf h) (sink h) (keyProd Q KV n h)
/-- The sink's share. -/
def refSinkProb : Fin 128 → ℝ := sinkProb n.val (slopeOf h) (sink h) (keyProd Q KV n h)
/-- The mean of the values' products. -/
def refMean : Fin 128 → ℝ := mean n.val (slopeOf h) (sink h) (keyProd Q KV n h) (valProd O KV n h)
/-- The gradients of the scores. -/
def refDscore : Fin 256 → Fin 128 → ℝ := dscore n.val (slopeOf h) (sink h) (keyProd Q KV n h) (valProd O KV n h)

variable (m : ℝ) (a : Fin 128) (c : Fin 256)

theorem refSum_ne : refSum Q KV sink n h m a ≠ 0 := (totalLess_pos n.val (slopeOf h) (sink h) (keyProd Q KV n h) m a).ne'

theorem refProb_eq : refWeight Q KV n h m c a / refSum Q KV sink n h m a = refProb Q KV sink n h c a := prob_eq _ _ _ _ _ _ _

theorem refSinkProb_eq : Real.exp (sink h - m) / refSum Q KV sink n h m a = refSinkProb Q KV sink n h a := sinkProb_eq _ _ _ _ _ _

/-- The mean over the sum, as the derivative of the division has it. -/
theorem refMean_div : ∑ c, valProd O KV n h c a * (1 / (refSum Q KV sink n h m a * refSum Q KV sink n h m a)) * refWeight Q KV n h m c a
    = refMean Q O KV sink n h a / refSum Q KV sink n h m a := by
  have e : refMean Q O KV sink n h a = ∑ c, refProb Q KV sink n h c a * valProd O KV n h c a := rfl
  rw [e, Finset.sum_div]
  refine Finset.sum_congr rfl fun c _ => ?_
  rw [← refProb_eq Q KV sink n h m a c]
  have := refSum_ne Q KV sink n h m a
  field_simp

/-- The gradient of a score, as the derivative of the division has it. -/
theorem refDscore_eq : (valProd O KV n h c a / refSum Q KV sink n h m a + -(refMean Q O KV sink n h a / refSum Q KV sink n h m a)) * refWeight Q KV n h m c a
    = refDscore Q O KV sink n h c a := by
  have e : refDscore Q O KV sink n h c a = refProb Q KV sink n h c a * (valProd O KV n h c a - refMean Q O KV sink n h a) := rfl
  rw [e, ← refProb_eq Q KV sink n h m a c]
  have := refSum_ne Q KV sink n h m a
  field_simp
  ring

/-- The shares of the keys and of the sink sum to one. -/
theorem refProb_sum : (∑ c, refProb Q KV sink n h c a) + refSinkProb Q KV sink n h a = 1 := by
  have e : ∀ c, refProb Q KV sink n h c a = refWeight Q KV n h 0 c a / refSum Q KV sink n h 0 a := fun c => (refProb_eq Q KV sink n h 0 a c).symm
  simp only [e]
  rw [← refSinkProb_eq Q KV sink n h 0 a, ← Finset.sum_div, ← add_div]
  exact div_self (refSum_ne Q KV sink n h 0 a)

/-- The derivative of the largest score. -/
theorem refDscore_sum : refMean Q O KV sink n h a * refSinkProb Q KV sink n h a + ∑ c, -refDscore Q O KV sink n h c a = 0 := by
  have e : ∀ c, refDscore Q O KV sink n h c a = refProb Q KV sink n h c a * valProd O KV n h c a - refProb Q KV sink n h c a * refMean Q O KV sink n h a := fun c => by
    rw [← mul_sub]; rfl
  have e1 : refMean Q O KV sink n h a = ∑ c, refProb Q KV sink n h c a * valProd O KV n h c a := rfl
  have e2 := refProb_sum Q KV sink n h a
  simp only [e, Finset.sum_neg_distrib, Finset.sum_sub_distrib, ← Finset.sum_mul]
  rw [← e1]
  linear_combination refMean Q O KV sink n h a * e2

end Reals

/-- Zero over a count of true answers, times any one of the answers. -/
theorem div_count {ι : Type} [Fintype ι] (b : ι → BitVec 1) (i : ι) :
    Ideal.div 0 (∑ k, (((b k).toNat : ℝ) : EReal)) * (((b i).toNat : ℝ) : EReal) = 0 := by
  rw [coe_sum]
  by_cases h : (∑ k, ((b k).toNat : ℝ)) = 0
  · have h1 := (Finset.sum_eq_zero_iff_of_nonneg fun k _ => Nat.cast_nonneg ((b k).toNat)).mp h i (Finset.mem_univ i)
    rw [h1, EReal.coe_zero, mul_zero]
  · rw [← EReal.coe_zero, div_coe_coe _ _ h, zero_div, ← EReal.coe_mul, zero_mul]

variable (V : Valuation τ sig (Elt Ideal)) {Q O : Fin 4096 → Fin 1024 → ℝ} {KV : Fin 4096 → Fin 256 → ℝ} {sink : Fin 16 → ℝ}
variable (hQ : ∀ i j, (V (Proc.devRef .tc main_arg0) : Vec Ideal S4096x1024 .bf16) (ix2 i j) = ((Q i j : ℝ) : EReal))
variable (hKV : ∀ i j, (V (Proc.devRef .tc main_arg1) : Vec Ideal S4096x256 .bf16) (ix2 i j) = ((KV i j : ℝ) : EReal))
variable (hO : ∀ i j, (V (Proc.devRef .tc main_arg2) : Vec Ideal S4096x1024 .bf16) (ix2 i j) = ((O i j : ℝ) : EReal))
variable (hsink : ∀ h, (V (Proc.devRef .tc main_arg3) : Vec Ideal S16 .f32) (ix1 h) = ((sink h : ℝ) : EReal))
variable (n : Fin 32) (g : Fin 2) (r : Fin 8) (a : Fin 128) (c : Fin 256) (d : Fin 64)

/-- The largest of the scores of a query. -/
theorem v73_apply : (res_main_v73 V : Vec Ideal S1x32x2x8x128 .f32) (ix5 0 n g r a)
    = Finset.univ.fold (max : EReal → EReal → EReal) (⊥ : EReal) fun k => (res_main_v70_0 V : Vec Ideal S1x32x2x8x128x256 .f32) (ix6 0 n g r a k) := by
  unfold res_main_v73
  generalize res_main_v70_0 V = x
  clean_types
  pointwise
  exact congrArg (fun b : EReal => Finset.univ.fold (max : EReal → EReal → EReal) b fun k => x (ix6 0 n g r a k)) bot_word

/-- The sinks, the same for every block and query. -/
theorem sinks_spread (y : FVec Ideal S1x1x2x8x1 .f32) :
    broadcastInDim S1x32x2x8x128 ![0, 1, 2, 3, 4] bcast_S1x1x2x8x1_S1x32x2x8x128_0_1_2_3_4 y (ix5 0 n g r a) = y (ix5 0 0 g r 0) := by
  unfold broadcastInDim
  refine congrArg y (funext fun k => Fin.ext ?_)
  match k with
  | ⟨0, _⟩ => rfl
  | ⟨1, _⟩ => rfl
  | ⟨2, _⟩ => rfl
  | ⟨3, _⟩ => rfl
  | ⟨4, _⟩ => rfl

/-- A maximum at an index. -/
theorem max_read (x y : FVec Ideal S1x32x2x8x128 .f32) (i : S1x32x2x8x128.Idx) : maximumf x y i = (max : EReal → EReal → EReal) (x i) (y i) := rfl

/-- The largest score, the sink's among them. -/
theorem v81_apply : (res_main_v81 V : Vec Ideal S1x32x2x8x128 .f32) (ix5 0 n g r a)
    = (max : EReal → EReal → EReal) ((res_main_v73 V : Vec Ideal S1x32x2x8x128 .f32) (ix5 0 n g r a)) ((res_main_v79 V : Vec Ideal S1x1x2x8x1 .f32) (ix5 0 0 g r 0)) := by
  unfold res_main_v81
  exact (max_read (res_main_v73 V) _ (ix5 0 n g r a)).trans (congrArg ((max : EReal → EReal → EReal) ((res_main_v73 V : Vec Ideal S1x32x2x8x128 .f32) (ix5 0 n g r a))) (sinks_spread n g r a _))

include hQ hKV hsink in
/-- It is a real number. -/
theorem exists_peak : ∃ m : ℝ, (res_main_v81 V : Vec Ideal S1x32x2x8x128 .f32) (ix5 0 n g r a) = ((m : ℝ) : EReal) := by
  obtain ⟨m, hm⟩ := exists_coe_max Finset.univ (fun k => (res_main_v70_0 V : Vec Ideal S1x32x2x8x128x256 .f32) (ix6 0 n g r a k)) (fun k => by
    rw [v70_0_apply V hQ hKV]
    split_ifs
    · exact EReal.coe_ne_top _
    · exact bot_ne_top) (sink (headOf g r))
  refine ⟨m, (v81_apply V n g r a).trans (Eq.trans ?_ hm)⟩
  exact congrArg₂ (max : EReal → EReal → EReal) (v73_apply V n g r a) (v79_apply V hsink g r)

/-- Which keys have the largest score, as numbers. -/
theorem v77_apply : ∃ b : Fin 256 → BitVec 1, ∀ k, (res_main_v77 V : Vec Ideal S1x32x2x8x128x256 .f32) (ix6 0 n g r a k) = (((b k).toNat : ℝ) : EReal) := by
  unfold res_main_v77
  generalize res_main_v70_0 V = x
  generalize res_main_v73 V = y
  clean_types
  pointwise
  exact ⟨_, fun k => rfl⟩

/-- The gradients of the products, in terms of the vectors they are made from. -/
theorem scaled_read (x1 : IVec S1x32x2x8x128x256 1) (x2 x4 : FVec Ideal S1x32x2x8x128x256 .f32) (x3 z : FVec Ideal S1x32x2x8x128 .f32)
    {o : BitVec 1} {x y : EReal} {w : Fin 256 → EReal}
    (h1 : x1 (ix6 0 n g r a c) = o) (h2 : x2 (ix6 0 n g r a c) = x) (h3 : x3 (ix5 0 n g r a) = y) (h4 : ∀ k, x4 (ix6 0 n g r a k) = w k) :
    (transpose S1x32x2x256x128x8 [0, 1, 2, 5, 4, 3] (mulf (select x1 (addf x2 (mulf (broadcastInDim S1x32x2x8x128x256 ![0, 1, 2, 3, 4] bcast_S1x32x2x8x128_S1x32x2x8x128x256_0_1_2_3_4 (Host.divf (mulf x3 z) (Host.reduceAdd x4 (constant S_ .f32 0x00000000#32) reducesTo_S1x32x2x8x128x256_S1x32x2x8x128_d5 h_S_))) x4)) (broadcastInDim S1x32x2x8x128x256 ![] bcast_S_S1x32x2x8x128x256 (constant S_ .f32 0x00000000#32))) (broadcastInDim S1x32x2x8x128x256 ![] bcast_S_S1x32x2x8x128x256 (constant S_ .f32 0x3E000000#32))) transposes_S1x32x2x8x128x256_S1x32x2x256x128x8_0_1_2_5_4_3) (ix6 0 n g c a r)
      = Scalar.select o (x + Ideal.div (y * z (ix5 0 n g r a)) (∑ k, w k) * w c) (0 : EReal) * Ideal.ofBits FTy.f32 0x3E000000#32 := by
  pointwise
  simp only [h1, h2, h3, h4]

/-- The same of the reference's vectors. -/
theorem v167_read {o : BitVec 1} {x y : EReal} {w : Fin 256 → EReal}
    (h1 : (res_main_v70_1 V : IVec S1x32x2x8x128x256 1) (ix6 0 n g r a c) = o)
    (h2 : (res_main_v144 V : Vec Ideal S1x32x2x8x128x256 .f32) (ix6 0 n g r a c) = x)
    (h3 : (res_main_v150 V : Vec Ideal S1x32x2x8x128 .f32) (ix5 0 n g r a) = y)
    (h4 : ∀ k, (res_main_v77 V : Vec Ideal S1x32x2x8x128x256 .f32) (ix6 0 n g r a k) = w k) :
    ∃ z : EReal, (res_main_v167 V : Vec Ideal S1x32x2x256x128x8 .f32) (ix6 0 n g c a r)
      = Scalar.select o (x + Ideal.div (y * z) (∑ k, w k) * w c) (0 : EReal) * Ideal.ofBits FTy.f32 0x3E000000#32 := by
  unfold res_main_v167
  exact ⟨_, scaled_read n g r a c (res_main_v70_1 V) (res_main_v144 V) (res_main_v77 V) (res_main_v150 V) _ h1 h2 h3 h4⟩

include hsink in
/-- The sinks, from the table. -/
theorem v72_apply : (res_main_v72 V : Vec Ideal S2x8x1 .f32) (ix3 g r 0) = ((sink (headOf g r) : ℝ) : EReal) := by
  refine Eq.trans ?_ (v79_apply V hsink g r)
  unfold res_main_v79
  generalize res_main_v72 V = x
  clean_types
  pointwise

include hKV hO in
/-- The products of the values and the incoming gradients. -/
theorem v123_apply : (res_main_v123 V : Vec Ideal S1x32x2x8x128x256 .f32) (ix6 0 n g r a c) = ((valProd O KV n (headOf g r) c a : ℝ) : EReal) := by
  unfold res_main_v123
  clean_types
  pointwise
  simp only [v122_apply V hO, v22_apply V hKV]
  unfold valProd Cert.Attn.inner
  rw [← coe_sum, grp_headOf]
  exact Finset.sum_congr rfl fun x _ => by rw [← EReal.coe_mul, mul_comm]

section Peak

variable {m : ℝ} (hm : (res_main_v81 V : Vec Ideal S1x32x2x8x128 .f32) (ix5 0 n g r a) = ((m : ℝ) : EReal))

include hQ hKV hm in
/-- The weights. -/
theorem v103_apply : (res_main_v103 V : Vec Ideal S1x32x2x8x128x256 .f32) (ix6 0 n g r a c) = ((refWeight Q KV n (headOf g r) m c a : ℝ) : EReal) := by
  unfold res_main_v103
  clean_types
  pointwise
  rw [hm, v70_0_apply V hQ hKV, refWeight, weightLess]
  split_ifs
  · rw [← EReal.coe_sub, Ideal.exp_coe]
  · rw [EReal.bot_sub, Ideal.exp_bot]; rfl

include hsink hm in
/-- The sink's weight. -/
theorem v108_apply : (res_main_v108 V : Vec Ideal S1x32x2x8x128 .f32) (ix5 0 n g r a) = ((Real.exp (sink (headOf g r) - m) : ℝ) : EReal) := by
  unfold res_main_v108
  clean_types
  pointwise
  rw [hm, v72_apply V hsink, ← EReal.coe_sub, Ideal.exp_coe]

include hQ hKV hsink hm in
/-- The sum of the weights. -/
theorem v110_apply : (res_main_v110 V : Vec Ideal S1x32x2x8x128x1 .f32) (ix6 0 n g r a 0) = ((refSum Q KV sink n (headOf g r) m a : ℝ) : EReal) := by
  unfold res_main_v110
  clean_types
  pointwise
  simp only [v103_apply V hQ hKV n g r a _ hm, v108_apply V hsink n g r a hm]
  rw [coe_sum, ← EReal.coe_add]; rfl

include hQ hKV hO hsink hm in
/-- The gradient of one over the sum. -/
theorem v135_apply : (res_main_v135 V : Vec Ideal S1x32x2x8x128 .f32) (ix5 0 n g r a)
    = ((-(refMean Q O KV sink n (headOf g r) a / refSum Q KV sink n (headOf g r) m a) : ℝ) : EReal) := by
  unfold res_main_v135
  clean_types
  pointwise
  simp only [v103_apply V hQ hKV n g r a _ hm, v110_apply V hQ hKV hsink n g r a hm, v123_apply V hKV hO n g r a]
  have e := refSum_ne Q KV sink n (headOf g r) m a
  rw [← refMean_div, EReal.coe_neg, ← coe_sum, ← EReal.coe_mul, ← EReal.coe_one, div_coe_coe _ _ (mul_ne_zero e e)]
  simp only [EReal.coe_mul]

end Peak

include hQ hKV hsink in
/-- The shares. -/
theorem v112_apply : (res_main_v112 V : Vec Ideal S1x32x2x8x128x256 .f32) (ix6 0 n g r a c) = ((refProb Q KV sink n (headOf g r) c a : ℝ) : EReal) := by
  obtain ⟨m, hm⟩ := exists_peak V hQ hKV hsink n g r a
  unfold res_main_v112
  clean_types
  pointwise
  rw [v103_apply V hQ hKV n g r a c hm, v110_apply V hQ hKV hsink n g r a hm, div_coe_coe _ _ (refSum_ne Q KV sink n (headOf g r) m a), refProb_eq]

include hQ hKV hO hsink in
/-- The gradient of the sink's score, query by query. -/
theorem v136_apply : (res_main_v136 V : Vec Ideal S1x32x2x8x128 .f32) (ix5 0 n g r a)
    = ((-(refSinkProb Q KV sink n (headOf g r) a * refMean Q O KV sink n (headOf g r) a) : ℝ) : EReal) := by
  obtain ⟨m, hm⟩ := exists_peak V hQ hKV hsink n g r a
  unfold res_main_v136
  clean_types
  pointwise
  rw [v135_apply V hQ hKV hO hsink n g r a hm, v108_apply V hsink n g r a hm, ← EReal.coe_mul, ← refSinkProb_eq Q KV sink n (headOf g r) m a]
  exact congrArg _ (by ring)

include hQ hKV hO hsink in
/-- The gradients of the scores. -/
theorem v144_apply : (res_main_v144 V : Vec Ideal S1x32x2x8x128x256 .f32) (ix6 0 n g r a c) = ((refDscore Q O KV sink n (headOf g r) c a : ℝ) : EReal) := by
  obtain ⟨m, hm⟩ := exists_peak V hQ hKV hsink n g r a
  unfold res_main_v144
  clean_types
  pointwise
  rw [v123_apply V hKV hO, v110_apply V hQ hKV hsink n g r a hm, v135_apply V hQ hKV hO hsink n g r a hm, v103_apply V hQ hKV n g r a c hm,
    div_coe_coe _ _ (refSum_ne Q KV sink n (headOf g r) m a), ← EReal.coe_add, ← EReal.coe_mul, refDscore_eq]

include hQ hKV hO hsink in
/-- The gradient of the largest score is zero. -/
theorem v150_apply : (res_main_v150 V : Vec Ideal S1x32x2x8x128 .f32) (ix5 0 n g r a) = ((0 : ℝ) : EReal) := by
  unfold res_main_v150
  clean_types
  pointwise
  simp only [v136_apply V hQ hKV hO hsink, v144_apply V hQ hKV hO hsink]
  simp only [← EReal.coe_neg]
  rw [coe_sum, ← EReal.coe_add]
  refine congrArg _ (Eq.trans ?_ (refDscore_sum Q O KV sink n (headOf g r) a))
  ring

include hQ hKV hO hsink in
/-- The gradients of the products of keys and queries. -/
theorem v167_apply : (res_main_v167 V : Vec Ideal S1x32x2x256x128x8 .f32) (ix6 0 n g c a r) = ((refDscore Q O KV sink n (headOf g r) c a * (1 / 8) : ℝ) : EReal) := by
  obtain ⟨b, hb⟩ := v77_apply V n g r a
  obtain ⟨z, hz⟩ := v167_read V n g r a c (v70_1_apply V n g r a c) (v144_apply V hQ hKV hO hsink n g r a c) (v150_apply V hQ hKV hO hsink n g r a) hb
  rw [hz, EReal.coe_zero, zero_mul, div_count, add_zero, select_ite]
  refine (congrArg (fun y => _ * y) eighth).trans ?_
  split_ifs with h
  · rw [← EReal.coe_mul]
  · have e : refDscore Q O KV sink n (headOf g r) c a = 0 := dscore_unseen _ _ _ _ _ h
    rw [e, zero_mul, zero_mul, EReal.coe_zero]

end Cert.ReferenceIdeal.Attn

end
-- ==== Proof.Points.lean ====
module

public import proofs.«01_k».proof.Proof.BlockValue

@[expose] public section

set_option maxRecDepth 16384

noncomputable section

namespace Cert.KernelIdeal.Attn

open Cert.KernelIdeal.Gen
open Cert.Attn
open Idealize.ShloMosaic Idealize.ShloMosaic.TcCoe Idealize.ShloMosaic.Tactic

/-! # What each point leaves, among the extended reals -/

variable (m : (ℓ : Loc nD τ sig) → Buf (Elt Ideal) ℓ)

/-! ## The blocks a point reads -/

theorem coords_val : ∀ t : Fin cfg0.N, (grid0.coords t 0).val = t.val :=
  (by decide +kernel : ∀ t : Fin grid0.N, (grid0.coords t 0).val = t.val)

theorem index0 : ∀ t : Fin cfg0.N, win0_0.index t = ![min t.val 31, 0] := (by decide +kernel : ∀ t : Fin grid0.N, _)
theorem index1 : ∀ t : Fin cfg0.N, win0_1.index t = ![min t.val 31, 0] := (by decide +kernel : ∀ t : Fin grid0.N, _)
theorem index2 : ∀ t : Fin cfg0.N, win0_2.index t = ![t.val - 1, 0] := (by decide +kernel : ∀ t : Fin grid0.N, _)
theorem index3 : ∀ t : Fin cfg0.N, win0_3.index t = ![min t.val 31, 0] := (by decide +kernel : ∀ t : Fin grid0.N, _)
theorem index4 : ∀ t : Fin cfg0.N, win0_4.index t = ![0] := (by decide +kernel : ∀ t : Fin grid0.N, _)

/-! ## Side by side -/

/-- The four gradients of a block's keys and values side by side. -/
theorem side_by_side {k0 v0 k1 v1 : FVec Ideal S256x64 .f32} {kk vv : Fin 2 → Fin 256 → Fin 64 → ℝ}
    (hk0 : ∀ c d, k0 (ix2 c d) = ((kk 0 c d : ℝ) : EReal)) (hk1 : ∀ c d, k1 (ix2 c d) = ((kk 1 c d : ℝ) : EReal))
    (hv0 : ∀ c d, v0 (ix2 c d) = ((vv 0 c d : ℝ) : EReal)) (hv1 : ∀ c d, v1 (ix2 c d) = ((vv 1 c d : ℝ) : EReal)) (b : Fin 256) (j : Fin 256) :
    k0_pay272 k0 v0 k1 v1 (ix2 b j)
      = ((if h : j.val < 128 then kk ⟨j.val / 64, by omega⟩ b ⟨j.val % 64, by omega⟩ else vv ⟨(j.val - 128) / 64, by omega⟩ b ⟨j.val % 64, by omega⟩ : ℝ) : EReal) := by
  pointwise [k0_pay272]
  have key : ∀ (f : Fin 2 → Fin 256 → Fin 64 → ℝ) (q q' r r' : ℕ) (hq : q < 2) (hq' : q' < 2) (hr : r < 64) (hr' : r' < 64),
      q = q' → r = r' → ((f ⟨q, hq⟩ b ⟨r, hr⟩ : ℝ) : EReal) = ((f ⟨q', hq'⟩ b ⟨r', hr'⟩ : ℝ) : EReal) := by
    intro f q q' r r' hq hq' hr hr' e e'; subst e; subst e'; rfl
  by_cases h1 : j.val < 64
  · rw [dif_pos h1, dif_pos (by omega), hk0]; exact key kk 0 _ j.val _ (by omega) (by omega) (by omega) (by omega) (by omega) (by omega)
  rw [dif_neg h1]
  by_cases h2 : j.val - 64 < 64
  · rw [dif_pos h2, dif_pos (by omega), hk1]; exact key kk 1 _ (j.val - 64) _ (by omega) (by omega) (by omega) (by omega) (by omega) (by omega)
  rw [dif_neg h2, dif_neg (by omega : ¬ j.val < 128)]
  by_cases h3 : j.val - 64 - 64 < 64
  · rw [dif_pos h3, hv0]; exact key vv 0 _ (j.val - 64 - 64) _ (by omega) (by omega) (by omega) (by omega) (by omega) (by omega)
  · rw [dif_neg h3, hv1]; exact key vv 1 _ (j.val - 64 - 64 - 64) _ (by omega) (by omega) (by omega) (by omega) (by omega) (by omega)

section Blocks

variable (c : Dev nD) {Q O : Fin 4096 → Fin 1024 → ℝ} {KV : Fin 4096 → Fin 256 → ℝ} {sink : Fin 16 → ℝ}
variable (hQ : ∀ i j, (m ((c.tc : Thread nD τ).loc main_arg0) : Vec Ideal S4096x1024 .bf16) (ix2 i j) = ((Q i j : ℝ) : EReal))
  (hKV : ∀ i j, (m ((c.tc : Thread nD τ).loc main_arg1) : Vec Ideal S4096x256 .bf16) (ix2 i j) = ((KV i j : ℝ) : EReal))
  (hO : ∀ i j, (m ((c.tc : Thread nD τ).loc main_arg2) : Vec Ideal S4096x1024 .bf16) (ix2 i j) = ((O i j : ℝ) : EReal))
  (hsink : ∀ h, (m ((c.tc : Thread nD τ).loc main_arg3) : Vec Ideal S16 .f32) (ix1 h) = ((sink h : ℝ) : EReal))

include hQ in
theorem block0 (t : Fin cfg0.N) (h : t.val < 32) (a : Fin 128) (j : Fin 1024) :
    (iblk m c 0 t : Vec Ideal S128x1024 .bf16) (ix2 a j) = ((blockOf Q ⟨t.val, h⟩ a j : ℝ) : EReal) := by
  unfold blockOf
  rw [← hQ]
  blk_simp [iblk]
  refine congrArg _ ?_
  blk_ext [index0]

include hKV in
theorem block1 (t : Fin cfg0.N) (h : t.val < 32) (a : Fin 128) (j : Fin 256) :
    (iblk m c 1 t : Vec Ideal S128x256 .bf16) (ix2 a j) = ((blockOf KV ⟨t.val, h⟩ a j : ℝ) : EReal) := by
  unfold blockOf
  rw [← hKV]
  blk_simp [iblk]
  refine congrArg _ ?_
  blk_ext [index1]

include hKV in
theorem block2 (t : Fin cfg0.N) (h : t.val < 32) (a : Fin 128) (j : Fin 256) :
    (iblk m c 2 t : Vec Ideal S128x256 .bf16) (ix2 a j) = ((blockOf KV (before ⟨t.val, h⟩) a j : ℝ) : EReal) := by
  unfold blockOf before
  rw [← hKV]
  blk_simp [iblk]
  refine congrArg _ ?_
  blk_ext [index2]

include hO in
theorem block3 (t : Fin cfg0.N) (h : t.val < 32) (a : Fin 128) (j : Fin 1024) :
    (iblk m c 3 t : Vec Ideal S128x1024 .bf16) (ix2 a j) = ((blockOf O ⟨t.val, h⟩ a j : ℝ) : EReal) := by
  unfold blockOf
  rw [← hO]
  blk_simp [iblk]
  refine congrArg _ ?_
  blk_ext [index3]

include hsink in
theorem block4 (t : Fin cfg0.N) (h : Fin 16) : (iblk m c 4 t : Vec Ideal S16 .f32) (ix1 h) = ((sink h : ℝ) : EReal) := by
  rw [← hsink]
  blk_simp [iblk]
  refine congrArg _ ?_
  blk_ext [index4]

/-! ## What a point stores -/

variable (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x1024 .bf16) (harg4 : arg4.IsWhole) (arg5 : Memref sig .tc .smem S16 .f32) (harg5 : arg5.IsWhole)
variable (arg10 : Memref sig .tc .vmem S1024x64 .bf16) (arg11 : Memref sig .tc .vmem S1024x64 .bf16) (arg12 : Memref sig .tc .vmem S256x1024 .bf16) (arg13 : Memref sig .tc .vmem S256x1024 .bf16)
variable (t : Fin cfg0.N) (h : t.val < 32)

include hQ hKV hO hsink in
/-- The query gradients a working point stores. -/
theorem canon_stores5 (a : Fin 128) (j : Fin 1024) :
    View.canon (stores5 arg1 harg1 arg2 harg2 arg3 harg3 arg4 harg4 arg5 harg5 arg10 arg11 arg13 (iblk m c 0 t) (iblk m c 1 t) (iblk m c 2 t) (iblk m c 3 t) (iblk m c 4 t) (grid0.coords t)) (ix2 a j)
      = ((blockQuery slopeOf sink Q O KV ⟨t.val, h⟩ ⟨j.val / 64, by omega⟩ a ⟨j.val % 64, by omega⟩ : ℝ) : EReal) := by
  rw [canon_headPieces, coords_val]
  refine (dqueryOf_apply arg1 harg1 arg2 harg2 arg3 harg3 arg4 harg4 arg5 harg5 arg10.view arg11.view arg13.view
    (block0 m c hQ t h) (block1 m c hKV t h) (block2 m c hKV t h) (block3 m c hO t h) (block4 m c hsink t) t.val (by omega) _ _ a _).trans ?_
  have e : headOf ⟨j.val / 512, by omega⟩ ⟨j.val / 64 % 8, by omega⟩ = (⟨j.val / 64, by omega⟩ : Fin 16) :=
    Fin.ext (by show 8 * (j.val / 512) + j.val / 64 % 8 = j.val / 64; omega)
  exact congrArg (fun k => ((blockQuery slopeOf sink Q O KV ⟨t.val, h⟩ k a ⟨j.val % 64, by omega⟩ : ℝ) : EReal)) e

include hQ hKV hO hsink in
/-- The key and value gradients of a working point. -/
theorem both_value (b j : Fin 256) :
    k0_pay272
      (dkeysOf arg1 harg1 arg2 harg2 arg3 harg3 arg4 harg4 arg5 harg5 arg10.view arg11.view arg13.view (iblk m c 0 t) (iblk m c 1 t) (iblk m c 2 t) (iblk m c 3 t) (iblk m c 4 t) (BitVec.ofNat 32 t.val) 0)
      (dvalsOf arg1 harg1 arg2 harg2 arg3 harg3 arg4 harg4 arg5 harg5 arg10.view arg11.view arg12.view (iblk m c 0 t) (iblk m c 1 t) (iblk m c 2 t) (iblk m c 3 t) (iblk m c 4 t) (BitVec.ofNat 32 t.val) 0)
      (dkeysOf arg1 harg1 arg2 harg2 arg3 harg3 arg4 harg4 arg5 harg5 arg10.view arg11.view arg13.view (iblk m c 0 t) (iblk m c 1 t) (iblk m c 2 t) (iblk m c 3 t) (iblk m c 4 t) (BitVec.ofNat 32 t.val) 1)
      (dvalsOf arg1 harg1 arg2 harg2 arg3 harg3 arg4 harg4 arg5 harg5 arg10.view arg11.view arg12.view (iblk m c 0 t) (iblk m c 1 t) (iblk m c 2 t) (iblk m c 3 t) (iblk m c 4 t) (BitVec.ofNat 32 t.val) 1) (ix2 b j)
      = ((blockBoth slopeOf sink Q O KV ⟨t.val, h⟩ b j : ℝ) : EReal) :=
  side_by_side (kk := blockKey slopeOf sink Q O KV ⟨t.val, h⟩) (vv := blockVal slopeOf sink Q O KV ⟨t.val, h⟩)
    (dkeysOf_apply arg1 harg1 arg2 harg2 arg3 harg3 arg4 harg4 arg5 harg5 arg10.view arg11.view arg13.view
      (block0 m c hQ t h) (block1 m c hKV t h) (block2 m c hKV t h) (block3 m c hO t h) (block4 m c hsink t) t.val (by omega) 0)
    (dkeysOf_apply arg1 harg1 arg2 harg2 arg3 harg3 arg4 harg4 arg5 harg5 arg10.view arg11.view arg13.view
      (block0 m c hQ t h) (block1 m c hKV t h) (block2 m c hKV t h) (block3 m c hO t h) (block4 m c hsink t) t.val (by omega) 1)
    (dvalsOf_apply arg1 harg1 arg2 harg2 arg3 harg3 arg4 harg4 arg5 harg5 arg10.view arg11.view arg12.view
      (block0 m c hQ t h) (block1 m c hKV t h) (block2 m c hKV t h) (block3 m c hO t h) (block4 m c hsink t) t.val (by omega) 0)
    (dvalsOf_apply arg1 harg1 arg2 harg2 arg3 harg3 arg4 harg4 arg5 harg5 arg10.view arg11.view arg12.view
      (block0 m c hQ t h) (block1 m c hKV t h) (block2 m c hKV t h) (block3 m c hO t h) (block4 m c hsink t) t.val (by omega) 1) b j

include hQ hKV hO hsink in
/-- What a working point stores of the key/value gradient, on top of what was carried. -/
theorem canon_stores6 (z : FVec Ideal S128x256 .f32) (Z : Fin 128 → Fin 256 → ℝ) (hz : ∀ a j, z (ix2 a j) = ((Z a j : ℝ) : EReal)) (a : Fin 128) (j : Fin 256) :
    View.canon (stores6 arg1 harg1 arg2 harg2 arg3 harg3 arg4 harg4 arg5 harg5 arg10 arg11 arg12 arg13 (iblk m c 0 t) (iblk m c 1 t) (iblk m c 2 t) (iblk m c 3 t) (iblk m c 4 t) (grid0.coords t) z) (ix2 a j)
      = ((Z a j + blockBoth slopeOf sink Q O KV ⟨t.val, h⟩ ⟨a.val, by omega⟩ j : ℝ) : EReal) := by
  rw [canon_wholePiece, coords_val]
  pointwise [k0_pay274]
  rw [hz, both_value m c hQ hKV hO hsink arg1 harg1 arg2 harg2 arg3 harg3 arg4 harg4 arg5 harg5 arg10 arg11 arg12 arg13 t h, EReal.coe_add]

include hQ hKV hO hsink in
/-- What a working point carries on. -/
theorem carriedOf_value (a : Fin 128) (j : Fin 256) :
    carriedOf arg1 harg1 arg2 harg2 arg3 harg3 arg4 harg4 arg5 harg5 arg10 arg11 arg12 arg13 (iblk m c 0 t) (iblk m c 1 t) (iblk m c 2 t) (iblk m c 3 t) (iblk m c 4 t) (grid0.coords t) (ix2 a j)
      = ((blockBoth slopeOf sink Q O KV ⟨t.val, h⟩ ⟨128 + a.val, by omega⟩ j : ℝ) : EReal) := by
  unfold carriedOf
  rw [coords_val]
  pointwise [k0_pay3, k0_pay275]
  rw [both_value m c hQ hKV hO hsink arg1 harg1 arg2 harg2 arg3 harg3 arg4 harg4 arg5 harg5 arg10 arg11 arg12 arg13 t h]

include hQ hKV hO hsink in
/-- The row of the sinks' gradient after a working point. -/
theorem rowOf_value (z : FVec Ideal S1x128 .f32) (Z : Fin 128 → ℝ) (hz : ∀ l, z (ix2 0 l) = ((Z l : ℝ) : EReal)) (l : Fin 128) :
    rowOf arg1 harg1 arg2 harg2 arg3 harg3 arg4 harg4 arg5 harg5 arg10 arg11 (iblk m c 0 t) (iblk m c 1 t) (iblk m c 2 t) (iblk m c 3 t) (iblk m c 4 t) (grid0.coords t) z (ix2 0 l)
      = ((Z l + if g : l.val < 16 then blockSink slopeOf sink Q O KV ⟨t.val, h⟩ ⟨l.val, g⟩ else 0 : ℝ) : EReal) := by
  unfold rowOf
  rw [coords_val]
  pointwise [k0_pay273]
  rw [hz, sinkRowOf_apply arg1 harg1 arg2 harg2 arg3 harg3 arg4 harg4 arg5 harg5 arg10.view arg11.view
      (block0 m c hQ t h) (block1 m c hKV t h) (block2 m c hKV t h) (block3 m c hO t h) (block4 m c hsink t) t.val (by omega) l 16 (le_refl _), EReal.coe_add]
  rfl

end Blocks

end Cert.KernelIdeal.Attn

end
-- ==== Proof.Left.lean ====
module

public import proofs.«01_k».proof.Proof.Points

@[expose] public section

set_option maxRecDepth 16384

noncomputable section

namespace Cert.KernelIdeal.Attn

open Cert.KernelIdeal.Gen
open Cert.Attn
open Idealize.ShloMosaic Idealize.ShloMosaic.TcCoe Idealize.ShloMosaic.Tactic

/-! # The buffers after each point -/

/-! ## What a point finds in the two accumulators -/

/-- The cleared carry holds zeros. -/
theorem cleared_piece (v : View sig .tc .vmem S128x256 .f32) (a : Fin 128) (j : Fin 256) :
    v.readCov [wholePiece (F := Ideal) k0_pay1] (Rect.unit (s := S128x256) ![0, 0] S128x256.size inb_S128x256_S128x256_0_0).toLoadRect (ix2 a j) = ((0 : ℝ) : EReal) := by
  rw [View.readCov_eq_canon_ld v _ _ (wholePiece_cover _), canon_wholePiece]
  refine (View.ld_unit_apply_of _ _ _ _ _ (ix2 a j) (Fin.forall_fin_two.mpr ⟨by show a.val = 0 + a.val; omega, by show j.val = 0 + j.val; omega⟩)).trans ?_
  pointwise [k0_pay1]
  rfl

/-- The cleared row holds zeros. -/
theorem cleared_row (v : View sig .tc .vmem S1x128 .f32) (l : Fin 128) :
    v.readCov [wholeRow (F := Ideal) k0_pay2] (Rect.unit (s := S1x128) ![0, 0] S1x128.size inb_S1x128_S1x128_0_0).toLoadRect (ix2 0 l) = ((0 : ℝ) : EReal) := by
  rw [View.readCov_eq_canon_ld v _ _ (wholeRow_cover _), canon_wholeRow]
  refine (View.ld_unit_apply_of _ _ _ _ _ (ix2 0 l) (Fin.forall_fin_two.mpr ⟨rfl, by show l.val = 0 + l.val; omega⟩)).trans ?_
  pointwise [k0_pay2]
  rfl

/-- The carry of the point before. -/
theorem kept_piece (M : Memref sig .tc .vmem S128x256 .f32) (hM : M.IsWhole) (z : Vec Ideal S128x256 .f32) (a : Fin 128) (j : Fin 256) :
    View.readAt (Elt Ideal) M.view (Rect.unit (s := S128x256) ![0, 0] S128x256.size inb_S128x256_S128x256_0_0).toLoadRect (hM.unread z) (ix2 a j) = z (ix2 a j) := by
  rw [View.readAt_eq_ld, Memref.IsWhole.read_unread]
  exact View.ld_unit_apply_of _ _ _ _ _ _ (Fin.forall_fin_two.mpr ⟨by show a.val = 0 + a.val; omega, by show j.val = 0 + j.val; omega⟩)

/-- The row of the point before. -/
theorem kept_row (M : Memref sig .tc .vmem S1x128 .f32) (hM : M.IsWhole) (z : Vec Ideal S1x128 .f32) (l : Fin 128) :
    View.readAt (Elt Ideal) M.view (Rect.unit (s := S1x128) ![0, 0] S1x128.size inb_S1x128_S1x128_0_0).toLoadRect (hM.unread z) (ix2 0 l) = z (ix2 0 l) := by
  rw [View.readAt_eq_ld, Memref.IsWhole.read_unread]
  exact View.ld_unit_apply_of _ _ _ _ _ _ (Fin.forall_fin_two.mpr ⟨rfl, by show l.val = 0 + l.val; omega⟩)

variable (m : (ℓ : Loc nD τ sig) → Buf (Elt Ideal) ℓ)
variable (c : Dev nD) {Q O : Fin 4096 → Fin 1024 → ℝ} {KV : Fin 4096 → Fin 256 → ℝ} {sink : Fin 16 → ℝ}
variable (hQ : ∀ i j, (m ((c.tc : Thread nD τ).loc main_arg0) : Vec Ideal S4096x1024 .bf16) (ix2 i j) = ((Q i j : ℝ) : EReal))
  (hKV : ∀ i j, (m ((c.tc : Thread nD τ).loc main_arg1) : Vec Ideal S4096x256 .bf16) (ix2 i j) = ((KV i j : ℝ) : EReal))
  (hO : ∀ i j, (m ((c.tc : Thread nD τ).loc main_arg2) : Vec Ideal S4096x1024 .bf16) (ix2 i j) = ((O i j : ℝ) : EReal))
  (hsink : ∀ h, (m ((c.tc : Thread nD τ).loc main_arg3) : Vec Ideal S16 .f32) (ix1 h) = ((sink h : ℝ) : EReal))

/-! ## The first point -/

include hQ hKV hO hsink in
theorem leftFirst5_value (t : Fin cfg0.N) (h : t.val = 0) (a : Fin 128) (j : Fin 1024) :
    leftFirst5 m c t h (ix2 a j) = ((blockQuery slopeOf sink Q O KV ⟨t.val, by omega⟩ ⟨j.val / 64, by omega⟩ a ⟨j.val % 64, by omega⟩ : ℝ) : EReal) := by
  unfold leftFirst5
  rw [View.read_writes_eq_canon _ _ _ (coverFirst5 m c t h), runFirst_5]
  exact canon_stores5 m c hQ hKV hO hsink (ms0 t) (hs0 t) (ms1 t) (hs1 t) (ms2 t) (hs2 t) (ms3 t) (hs3 t) (ms4 t) (hs4 t) sc1 sc2 sc4 t (by omega) a j

include hQ hKV hO hsink in
theorem leftFirst6_value (t : Fin cfg0.N) (h : t.val = 0) (a : Fin 128) (j : Fin 256) :
    leftFirst6 m c t h (ix2 a j) = ((0 + blockBoth slopeOf sink Q O KV ⟨t.val, by omega⟩ ⟨a.val, by omega⟩ j : ℝ) : EReal) := by
  unfold leftFirst6
  rw [View.read_writes_eq_canon _ _ _ (coverFirst6 m c t h), runFirst_6]
  exact canon_stores6 m c hQ hKV hO hsink (ms0 t) (hs0 t) (ms1 t) (hs1 t) (ms2 t) (hs2 t) (ms3 t) (hs3 t) (ms4 t) (hs4 t) sc1 sc2 sc3 sc4 t (by omega) _ (fun _ _ => 0) (cleared_piece _) a j

include hQ hKV hO hsink in
theorem leftFirst7_value (t : Fin cfg0.N) (h : t.val = 0) (l : Fin 128) :
    leftFirst7 m c t h (ix2 0 l) = ((0 + if g : l.val < 16 then blockSink slopeOf sink Q O KV ⟨t.val, by omega⟩ ⟨l.val, g⟩ else 0 : ℝ) : EReal) := by
  unfold leftFirst7
  rw [View.read_writes_eq_canon _ _ _ (coverFirst7 m c t h), runFirst_7, canon_wholeRow]
  exact rowOf_value m c hQ hKV hO hsink (ms0 t) (hs0 t) (ms1 t) (hs1 t) (ms2 t) (hs2 t) (ms3 t) (hs3 t) (ms4 t) (hs4 t) sc1 sc2 t (by omega) _ (fun _ => 0) (cleared_row _) l

include hQ hKV hO hsink in
theorem leftFirstS_value (t : Fin cfg0.N) (h : t.val = 0) (a : Fin 128) (j : Fin 256) :
    leftFirstS m c t h (ix2 a j) = ((blockBoth slopeOf sink Q O KV ⟨t.val, by omega⟩ ⟨128 + a.val, by omega⟩ j : ℝ) : EReal) := by
  unfold leftFirstS
  rw [View.read_writes_eq_canon _ _ _ (coverFirstS m c t h), runFirst_S, canon_wholePiece]
  exact carriedOf_value m c hQ hKV hO hsink (ms0 t) (hs0 t) (ms1 t) (hs1 t) (ms2 t) (hs2 t) (ms3 t) (hs3 t) (ms4 t) (hs4 t) sc1 sc2 sc3 sc4 t (by omega) a j

/-! ## A later working point -/

include hQ hKV hO hsink in
theorem leftMiddle5_value (t : Fin cfg0.N) (h : t.val ≠ 0) (g : t.val < 32) (z7 : Vec Ideal S1x128 .f32) (zs : Vec Ideal S128x256 .f32) (a : Fin 128) (j : Fin 1024) :
    leftMiddle5 m c t h g z7 zs (ix2 a j) = ((blockQuery slopeOf sink Q O KV ⟨t.val, g⟩ ⟨j.val / 64, by omega⟩ a ⟨j.val % 64, by omega⟩ : ℝ) : EReal) := by
  unfold leftMiddle5
  rw [View.read_writes_eq_canon _ _ _ (coverMiddle5 m c t h g z7 zs), runMiddle_5]
  exact canon_stores5 m c hQ hKV hO hsink (ms0 t) (hs0 t) (ms1 t) (hs1 t) (ms2 t) (hs2 t) (ms3 t) (hs3 t) (ms4 t) (hs4 t) sc1 sc2 sc4 t g a j

include hQ hKV hO hsink in
theorem leftMiddle6_value (t : Fin cfg0.N) (h : t.val ≠ 0) (g : t.val < 32) (z7 : Vec Ideal S1x128 .f32) (zs : Vec Ideal S128x256 .f32) (Z : Fin 128 → Fin 256 → ℝ) (hz : ∀ a j, zs (ix2 a j) = ((Z a j : ℝ) : EReal)) (a : Fin 128) (j : Fin 256) :
    leftMiddle6 m c t h g z7 zs (ix2 a j) = ((Z a j + blockBoth slopeOf sink Q O KV ⟨t.val, g⟩ ⟨a.val, by omega⟩ j : ℝ) : EReal) := by
  unfold leftMiddle6
  rw [View.read_writes_eq_canon _ _ _ (coverMiddle6 m c t h g z7 zs), runMiddle_6]
  exact canon_stores6 m c hQ hKV hO hsink (ms0 t) (hs0 t) (ms1 t) (hs1 t) (ms2 t) (hs2 t) (ms3 t) (hs3 t) (ms4 t) (hs4 t) sc1 sc2 sc3 sc4 t g _ Z (fun a j => (kept_piece sc0 _ zs a j).trans (hz a j)) a j

include hQ hKV hO hsink in
theorem leftMiddle7_value (t : Fin cfg0.N) (h : t.val ≠ 0) (g : t.val < 32) (z7 : Vec Ideal S1x128 .f32) (zs : Vec Ideal S128x256 .f32) (Z : Fin 128 → ℝ) (hz : ∀ l, z7 (ix2 0 l) = ((Z l : ℝ) : EReal)) (l : Fin 128) :
    leftMiddle7 m c t h g z7 zs (ix2 0 l) = ((Z l + if k : l.val < 16 then blockSink slopeOf sink Q O KV ⟨t.val, g⟩ ⟨l.val, k⟩ else 0 : ℝ) : EReal) := by
  unfold leftMiddle7
  rw [View.read_writes_eq_canon _ _ _ (coverMiddle7 m c t h g z7 zs), runMiddle_7, canon_wholeRow]
  exact rowOf_value m c hQ hKV hO hsink (ms0 t) (hs0 t) (ms1 t) (hs1 t) (ms2 t) (hs2 t) (ms3 t) (hs3 t) (ms4 t) (hs4 t) sc1 sc2 t g _ Z (fun l => (kept_row (ms7 t) _ z7 l).trans (hz l)) l

include hQ hKV hO hsink in
theorem leftMiddleS_value (t : Fin cfg0.N) (h : t.val ≠ 0) (g : t.val < 32) (z7 : Vec Ideal S1x128 .f32) (zs : Vec Ideal S128x256 .f32) (a : Fin 128) (j : Fin 256) :
    leftMiddleS m c t h g z7 zs (ix2 a j) = ((blockBoth slopeOf sink Q O KV ⟨t.val, g⟩ ⟨128 + a.val, by omega⟩ j : ℝ) : EReal) := by
  unfold leftMiddleS
  rw [View.read_writes_eq_canon _ _ _ (coverMiddleS m c t h g z7 zs), runMiddle_S, canon_wholePiece]
  exact carriedOf_value m c hQ hKV hO hsink (ms0 t) (hs0 t) (ms1 t) (hs1 t) (ms2 t) (hs2 t) (ms3 t) (hs3 t) (ms4 t) (hs4 t) sc1 sc2 sc3 sc4 t g a j

/-- The last point writes out what is carried. -/
theorem leftLast6_value (t : Fin cfg0.N) (h : t.val = 32) (z5 : Vec Ideal S128x1024 .bf16) (z7 : Vec Ideal S1x128 .f32) (zs : Vec Ideal S128x256 .f32) (a : Fin 128) (j : Fin 256) :
    leftLast6 m c t h z5 z7 zs (ix2 a j) = zs (ix2 a j) := by
  unfold leftLast6
  rw [View.read_writes_eq_canon _ _ _ (coverLast6 m c t h z5 z7 zs), runLast_6, canon_wholePiece]
  exact kept_piece sc0 _ zs a j

/-! ## All points -/

/-- The part of the sinks' gradient from the blocks before the `k`-th. -/
def sinkUpTo (slope sink : Fin 16 → ℝ) (Q O : Fin 4096 → Fin 1024 → ℝ) (KV : Fin 4096 → Fin 256 → ℝ) (k : ℕ) (l : Fin 128) : ℝ :=
  ∑ n ∈ Finset.range k, if h : n < 32 then (if g : l.val < 16 then blockSink slope sink Q O KV ⟨n, h⟩ ⟨l.val, g⟩ else 0) else 0

/-- What the key/value gradient's block holds after point `n`: the carry of the point before and the own part. -/
def bothAt (slope sink : Fin 16 → ℝ) (Q O : Fin 4096 → Fin 1024 → ℝ) (KV : Fin 4096 → Fin 256 → ℝ) (n : Fin 32) (a : Fin 128) (j : Fin 256) : ℝ :=
  (if n.val = 0 then 0 else blockBoth slope sink Q O KV (before n) ⟨128 + a.val, by omega⟩ j) + blockBoth slope sink Q O KV n ⟨a.val, by omega⟩ j

/-- The contents of the four buffers after the point of the `n`-th block: the block's query gradient, the key/value
gradient of the block before it, the sinks' gradient so far and the part of its own rows' key/value gradient. -/
def Holds (slope sink : Fin 16 → ℝ) (Q O : Fin 4096 → Fin 1024 → ℝ) (KV : Fin 4096 → Fin 256 → ℝ) (n : Fin 32)
    (x5 : Vec Ideal S128x1024 .bf16) (x6 : Vec Ideal S128x256 .f32) (x7 : Vec Ideal S1x128 .f32) (xS : Vec Ideal S128x256 .f32) : Prop :=
  (∀ a j, x5 (ix2 a j) = ((blockQuery slope sink Q O KV n ⟨j.val / 64, by omega⟩ a ⟨j.val % 64, by omega⟩ : ℝ) : EReal))
    ∧ (∀ a j, x6 (ix2 a j) = ((bothAt slope sink Q O KV n a j : ℝ) : EReal))
    ∧ (∀ l, x7 (ix2 0 l) = ((sinkUpTo slope sink Q O KV (n.val + 1) l : ℝ) : EReal))
    ∧ (∀ a j, xS (ix2 a j) = ((blockBoth slope sink Q O KV n ⟨128 + a.val, by omega⟩ j : ℝ) : EReal))

include hQ hKV hO hsink in
/-- The buffers after the first point. -/
theorem holds_first (t : Fin cfg0.N) (h : t.val = 0) (h' : t.val < 32) : Holds slopeOf sink Q O KV ⟨t.val, h'⟩ (leftFirst5 m c t h) (leftFirst6 m c t h) (leftFirst7 m c t h) (leftFirstS m c t h) := by
  refine ⟨leftFirst5_value m c hQ hKV hO hsink t h, fun a j => ?_, fun l => ?_, leftFirstS_value m c hQ hKV hO hsink t h⟩
  · rw [bothAt, if_pos h]; exact leftFirst6_value m c hQ hKV hO hsink t h a j
  · have e : sinkUpTo slopeOf sink Q O KV (t.val + 1) l = 0 + if k : l.val < 16 then blockSink slopeOf sink Q O KV ⟨t.val, h'⟩ ⟨l.val, k⟩ else 0 := by
      rw [sinkUpTo, Finset.sum_range_succ, dif_pos h']
      refine congrArg (· + _) ?_
      rw [h, Finset.sum_range_zero]
    exact (leftFirst7_value m c hQ hKV hO hsink t h l).trans (congrArg _ e.symm)

include hQ hKV hO hsink in
/-- The buffers after a later working point. -/
theorem holds_middle (t : Fin cfg0.N) (h : t.val ≠ 0) (g : t.val < 32) (z5 : Vec Ideal S128x1024 .bf16) (z6 : Vec Ideal S128x256 .f32) (z7 : Vec Ideal S1x128 .f32) (zs : Vec Ideal S128x256 .f32)
    (w : Holds slopeOf sink Q O KV ⟨t.val - 1, by omega⟩ z5 z6 z7 zs) :
    Holds slopeOf sink Q O KV ⟨t.val, g⟩ (leftMiddle5 m c t h g z7 zs) (leftMiddle6 m c t h g z7 zs) (leftMiddle7 m c t h g z7 zs) (leftMiddleS m c t h g z7 zs) := by
  obtain ⟨-, -, i7, iS⟩ := w
  refine ⟨leftMiddle5_value m c hQ hKV hO hsink t h g z7 zs, fun a j => ?_, fun l => ?_, leftMiddleS_value m c hQ hKV hO hsink t h g z7 zs⟩
  · rw [bothAt, if_neg h]; exact leftMiddle6_value m c hQ hKV hO hsink t h g z7 zs _ iS a j
  · have e : sinkUpTo slopeOf sink Q O KV (t.val + 1) l = sinkUpTo slopeOf sink Q O KV (t.val - 1 + 1) l + if k : l.val < 16 then blockSink slopeOf sink Q O KV ⟨t.val, g⟩ ⟨l.val, k⟩ else 0 := by
      rw [Nat.sub_add_cancel (Nat.pos_of_ne_zero h), sinkUpTo, Finset.sum_range_succ, dif_pos g]; rfl
    exact (leftMiddle7_value m c hQ hKV hO hsink t h g z7 zs _ i7 l).trans (congrArg _ e.symm)

/-- The contents of a tuple of buffers, by parts. -/
theorem Holds.of_eq {slope sink : Fin 16 → ℝ} {Q O : Fin 4096 → Fin 1024 → ℝ} {KV : Fin 4096 → Fin 256 → ℝ} {n : Fin 32}
    {x : Vec Ideal S128x1024 .bf16 × Vec Ideal S128x256 .f32 × Vec Ideal S1x128 .f32 × Vec Ideal S128x256 .f32}
    {x5 : Vec Ideal S128x1024 .bf16} {x6 : Vec Ideal S128x256 .f32} {x7 : Vec Ideal S1x128 .f32} {xS : Vec Ideal S128x256 .f32}
    (e : x = (x5, x6, x7, xS)) (w : Holds slope sink Q O KV n x5 x6 x7 xS) : Holds slope sink Q O KV n x.1 x.2.1 x.2.2.1 x.2.2.2 := by
  subst e; exact w

include hQ hKV hO hsink in
/-- The buffers after every working point. -/
theorem holds_at (n : ℕ) : ∀ (t : Fin cfg0.N) (_ : t.val = n) (h : t.val < 32),
    Holds slopeOf sink Q O KV ⟨t.val, h⟩ (leftAt m c t.val t.isLt).1 (leftAt m c t.val t.isLt).2.1 (leftAt m c t.val t.isLt).2.2.1 (leftAt m c t.val t.isLt).2.2.2 := by
  induction n with
  | zero => exact fun t e h => Holds.of_eq (leftAt_first m c t e) (holds_first m c hQ hKV hO hsink t e h)
  | succ n ih =>
    intro t e h
    have h0 : t.val ≠ 0 := fun k => n.succ_ne_zero (e.symm.trans k)
    have hp : t.val - 1 = n := by rw [e]; rfl
    have w := ih ⟨t.val - 1, Nat.lt_of_le_of_lt (Nat.sub_le _ _) t.isLt⟩ hp (Nat.lt_of_le_of_lt (Nat.sub_le _ _) h)
    exact Holds.of_eq (leftAt_middle m c t h0 h) (holds_middle m c hQ hKV hO hsink t h0 h _ _ _ _ w)

/-- The buffers after the last point from those before it. -/
theorem last_of_eq {slope sink : Fin 16 → ℝ} {Q O : Fin 4096 → Fin 1024 → ℝ} {KV : Fin 4096 → Fin 256 → ℝ} {n : Fin 32}
    {x p : Vec Ideal S128x1024 .bf16 × Vec Ideal S128x256 .f32 × Vec Ideal S1x128 .f32 × Vec Ideal S128x256 .f32} {x6 : Vec Ideal S128x256 .f32}
    (e : x = (p.1, x6, p.2.2.1, p.2.2.2)) (e6 : ∀ a j, x6 (ix2 a j) = p.2.2.2 (ix2 a j)) (w : Holds slope sink Q O KV n p.1 p.2.1 p.2.2.1 p.2.2.2) :
    (∀ a j, x.1 (ix2 a j) = ((blockQuery slope sink Q O KV n ⟨j.val / 64, by omega⟩ a ⟨j.val % 64, by omega⟩ : ℝ) : EReal))
    ∧ (∀ a j, x.2.1 (ix2 a j) = ((blockBoth slope sink Q O KV n ⟨128 + a.val, by omega⟩ j : ℝ) : EReal))
    ∧ (∀ l, x.2.2.1 (ix2 0 l) = ((sinkUpTo slope sink Q O KV (n.val + 1) l : ℝ) : EReal)) := by
  subst e
  exact ⟨w.1, fun a j => (e6 a j).trans (w.2.2.2 a j), w.2.2.1⟩

include hQ hKV hO hsink in
/-- The outputs' buffers after the last point. -/
theorem holds_last (t : Fin cfg0.N) (h : t.val = 32) :
    (∀ a j, (leftAt m c t.val t.isLt).1 (ix2 a j) = ((blockQuery slopeOf sink Q O KV ⟨31, by omega⟩ ⟨j.val / 64, by omega⟩ a ⟨j.val % 64, by omega⟩ : ℝ) : EReal))
    ∧ (∀ a j, (leftAt m c t.val t.isLt).2.1 (ix2 a j) = ((blockBoth slopeOf sink Q O KV ⟨31, by omega⟩ ⟨128 + a.val, by omega⟩ j : ℝ) : EReal))
    ∧ (∀ l, (leftAt m c t.val t.isLt).2.2.1 (ix2 0 l) = ((sinkUpTo slopeOf sink Q O KV 32 l : ℝ) : EReal)) := by
  have hp : t.val - 1 = 31 := by rw [h]
  have hl : t.val - 1 < 32 := by rw [hp]; omega
  have e : (⟨t.val - 1, hl⟩ : Fin 32) = ⟨31, by omega⟩ := Fin.ext hp
  have w := holds_at m c hQ hKV hO hsink (t.val - 1) ⟨t.val - 1, Nat.lt_of_le_of_lt (Nat.sub_le _ _) t.isLt⟩ rfl hl
  have r := last_of_eq (leftAt_last m c t h) (leftLast6_value m c t h _ _ _) w
  rw [show (⟨(⟨t.val - 1, Nat.lt_of_le_of_lt (Nat.sub_le _ _) t.isLt⟩ : Fin cfg0.N).val, hl⟩ : Fin 32) = ⟨31, by omega⟩ from e] at r
  exact r

end Cert.KernelIdeal.Attn

end
-- ==== Proof.Arrays.lean ====
module

public import proofs.«01_k».proof.Proof.Left

@[expose] public section

set_option maxRecDepth 16384

noncomputable section

namespace Cert.KernelIdeal.Attn

open Cert.KernelIdeal.Gen
open Cert.Attn
open Idealize.ShloMosaic Idealize.ShloMosaic.TcCoe Idealize.ShloMosaic.Tactic

/-! # The arrays the call leaves -/

/-- The query gradient's block at a point. -/
theorem index5 : ∀ t : Fin cfg0.N, win0_5.index t = ![min t.val 31, 0] := (by decide +kernel : ∀ t : Fin grid0.N, _)
/-- The key/value gradient's block at a point. -/
theorem index6 : ∀ t : Fin cfg0.N, win0_6.index t = ![t.val - 1, 0] := (by decide +kernel : ∀ t : Fin grid0.N, _)
/-- The sinks' gradient's block at a point. -/
theorem index7 : ∀ t : Fin cfg0.N, win0_7.index t = ![0, 0] := (by decide +kernel : ∀ t : Fin grid0.N, _)

/-- The points that write the query gradient's block back. -/
theorem flushes5 : ∀ t : Fin cfg0.N, (cfg0.win 5).flush t = true → t.val ≠ 31 := (by decide +kernel : ∀ t : Fin grid0.N, _)
/-- The point that writes the sinks' gradient back. -/
theorem flushes7 : ∀ t : Fin cfg0.N, (cfg0.win 7).flush t = true → t.val = 32 := (by decide +kernel : ∀ t : Fin grid0.N, _)
/-- The points that write the key/value gradient's block back. -/
theorem flushes6 : ∀ t : Fin cfg0.N, (cfg0.win 6).flush t = true → t.val ≠ 0 := (by decide +kernel : ∀ t : Fin grid0.N, _)

variable (m : (ℓ : Loc nD τ sig) → Buf (Elt Ideal) ℓ)
variable (c : Dev nD) {Q O : Fin 4096 → Fin 1024 → ℝ} {KV : Fin 4096 → Fin 256 → ℝ} {sink : Fin 16 → ℝ}
variable (hQ : ∀ i j, (m ((c.tc : Thread nD τ).loc main_arg0) : Vec Ideal S4096x1024 .bf16) (ix2 i j) = ((Q i j : ℝ) : EReal))
variable (hKV : ∀ i j, (m ((c.tc : Thread nD τ).loc main_arg1) : Vec Ideal S4096x256 .bf16) (ix2 i j) = ((KV i j : ℝ) : EReal))
variable (hO : ∀ i j, (m ((c.tc : Thread nD τ).loc main_arg2) : Vec Ideal S4096x1024 .bf16) (ix2 i j) = ((O i j : ℝ) : EReal))
variable (hsink : ∀ h, (m ((c.tc : Thread nD τ).loc main_arg3) : Vec Ideal S16 .f32) (ix1 h) = ((sink h : ℝ) : EReal))

/-- An array given at rows and columns, at an index. -/
theorem at_index {r w : ℕ} {x : (⟨2, ![r, w]⟩ : Shape).Idx → EReal} {f : Fin r → Fin w → ℝ}
    (h : ∀ a j, x (ix2 a j) = ((f a j : ℝ) : EReal)) (y : (⟨2, ![r, w]⟩ : Shape).Idx) : x y = ((f (y 0) (y 1) : ℝ) : EReal) :=
  (congrArg x (ix2_eta y).symm).trans (h (y 0) (y 1))

/-- A row of the query gradient lies in the block of its number. -/
theorem gradQuery_block (slope sink : Fin 16 → ℝ) (Q O : Fin 4096 → Fin 1024 → ℝ) (KV : Fin 4096 → Fin 256 → ℝ) (n : Fin 32) (a : Fin 128)
    (i : Fin 4096) (j : Fin 1024) (h : i.val = n.val * 128 + a.val) :
    gradQuery slope sink Q O KV i j = blockQuery slope sink Q O KV n ⟨j.val / 64, by omega⟩ a ⟨j.val % 64, by omega⟩ := by
  have h1 : (⟨i.val / 128, by omega⟩ : Fin 32) = n := Fin.ext (by show i.val / 128 = n.val; omega)
  have h2 : (⟨i.val % 128, by omega⟩ : Fin 128) = a := Fin.ext (by show i.val % 128 = a.val; omega)
  rw [gradQuery, h1, h2]

/-- A row of the key/value gradient is seen by the block of its number and by the next one. -/
theorem gradBoth_block (slope sink : Fin 16 → ℝ) (Q O : Fin 4096 → Fin 1024 → ℝ) (KV : Fin 4096 → Fin 256 → ℝ) (n : Fin 32) (a : Fin 128)
    (i : Fin 4096) (j : Fin 256) (h : i.val = n.val * 128 + a.val) :
    gradBoth slope sink Q O KV i j = blockBoth slope sink Q O KV n ⟨128 + a.val, by omega⟩ j
      + if h : n.val + 1 < 32 then blockBoth slope sink Q O KV ⟨n.val + 1, h⟩ ⟨a.val, by omega⟩ j else 0 := by
  obtain ⟨i, hi⟩ := i
  obtain ⟨n, hn⟩ := n
  obtain ⟨a, ha⟩ := a
  have h1 : i / 128 = n := by simp only at h; omega
  have h2 : i % 128 = a := by simp only at h; omega
  subst h1 h2
  rfl

/-- The sinks' gradient is the sum over all blocks. -/
theorem gradSink_upTo (slope sink : Fin 16 → ℝ) (Q O : Fin 4096 → Fin 1024 → ℝ) (KV : Fin 4096 → Fin 256 → ℝ) (l : Fin 128) :
    gradSink slope sink Q O KV l = sinkUpTo slope sink Q O KV 32 l := by
  rw [gradSink, sinkUpTo, Finset.sum_range]
  by_cases h : l.val < 16
  · rw [dif_pos h]
    exact Finset.sum_congr rfl fun n _ => by rw [dif_pos n.isLt, dif_pos h]
  · rw [dif_neg h]
    exact (Finset.sum_eq_zero fun n _ => by rw [dif_pos n.isLt, dif_neg h]).symm

/-- The query gradient as an array. -/
def arrQuery (slope sink : Fin 16 → ℝ) (Q O : Fin 4096 → Fin 1024 → ℝ) (KV : Fin 4096 → Fin 256 → ℝ) : Vec Ideal S4096x1024 .bf16 :=
  fun y => ((gradQuery slope sink Q O KV (y 0) (y 1) : ℝ) : EReal)

/-- The key/value gradient as an array. -/
def arrBoth (slope sink : Fin 16 → ℝ) (Q O : Fin 4096 → Fin 1024 → ℝ) (KV : Fin 4096 → Fin 256 → ℝ) : Vec Ideal S4096x256 .f32 :=
  fun y => ((gradBoth slope sink Q O KV (y 0) (y 1) : ℝ) : EReal)

/-- The sinks' gradient as an array. -/
def arrSink (slope sink : Fin 16 → ℝ) (Q O : Fin 4096 → Fin 1024 → ℝ) (KV : Fin 4096 → Fin 256 → ℝ) : Vec Ideal S1x128 .f32 :=
  fun y => ((gradSink slope sink Q O KV (y 1) : ℝ) : EReal)

include hQ hKV hO hsink in
/-- The query gradient's array after the call. -/
theorem array5 : (dats m 0 c).arrAt 5 (cfgs 0).N = arrQuery slopeOf sink Q O KV := by
  refine (dats m 0 c).arrAt_eq_of_covers 5 _ (by decide +kernel) fun t hf y => ?_
  blk_simp
  rw [after5]
  have e0 : (((win0_5.blk t).view.emb y 0 : Fin 4096) : ℕ) = min t.val 31 * 128 + (y 0).val := by blk_simp [index5]
  have e1 : ((win0_5.blk t).view.emb y 1 : Fin 1024) = y 1 := Fin.ext (by blk_simp [index5])
  have ht : t.val < 33 := lt33 t
  refine Eq.trans ?_ (congrArg (fun r : ℝ => (r : EReal)) (gradQuery_block slopeOf sink Q O KV ⟨min t.val 31, by omega⟩ (y 0) _ _ e0).symm)
  rw [e1]
  by_cases h : t.val = 32
  · refine (at_index (holds_last m c hQ hKV hO hsink t h).1 y).trans ?_
    rw [show (⟨min t.val 31, by omega⟩ : Fin 32) = ⟨31, by omega⟩ from Fin.ext (by show min t.val 31 = 31; omega)]
  · have hl : t.val < 32 := by omega
    refine (at_index (holds_at m c hQ hKV hO hsink t.val t rfl hl).1 y).trans ?_
    rw [show (⟨min t.val 31, by omega⟩ : Fin 32) = ⟨t.val, hl⟩ from Fin.ext (by show min t.val 31 = t.val; omega)]

include hQ hKV hO hsink in
/-- The key/value gradient's array after the call. -/
theorem array6 : (dats m 0 c).arrAt 6 (cfgs 0).N = arrBoth slopeOf sink Q O KV := by
  refine (dats m 0 c).arrAt_eq_of_covers 6 _ (by decide +kernel) fun t hf y => ?_
  blk_simp
  rw [after6]
  have e0 : (((win0_6.blk t).view.emb y 0 : Fin 4096) : ℕ) = (t.val - 1) * 128 + (y 0).val := by blk_simp [index6]
  have e1 : ((win0_6.blk t).view.emb y 1 : Fin 256) = y 1 := Fin.ext (by blk_simp [index6])
  have ht : t.val < 33 := lt33 t
  have h0 : t.val ≠ 0 := flushes6 t hf
  refine Eq.trans ?_ (congrArg (fun r : ℝ => (r : EReal)) (gradBoth_block slopeOf sink Q O KV ⟨t.val - 1, by omega⟩ (y 0) _ _ e0).symm)
  rw [e1]
  by_cases h : t.val = 32
  · refine (at_index (holds_last m c hQ hKV hO hsink t h).2.1 y).trans ?_
    rw [dif_neg (show ¬ t.val - 1 + 1 < 32 by omega), add_zero,
      show (⟨t.val - 1, by omega⟩ : Fin 32) = ⟨31, by omega⟩ from Fin.ext (by show t.val - 1 = 31; omega)]
  · have hl : t.val < 32 := by omega
    refine (at_index (holds_at m c hQ hKV hO hsink t.val t rfl hl).2.1 y).trans ?_
    unfold bothAt
    rw [dif_pos (show t.val - 1 + 1 < 32 by omega), if_neg h0,
      show (⟨t.val - 1 + 1, by omega⟩ : Fin 32) = ⟨t.val, hl⟩ from Fin.ext (by show t.val - 1 + 1 = t.val; omega)]
    rfl

include hQ hKV hO hsink in
/-- The sinks' gradient's array after the call. -/
theorem array7 : (dats m 0 c).arrAt 7 (cfgs 0).N = arrSink slopeOf sink Q O KV := by
  refine (dats m 0 c).arrAt_eq_of_covers 7 _ (by decide +kernel) fun t hf y => ?_
  blk_simp
  rw [after7]
  have e1 : ((win0_7.blk t).view.emb y 1 : Fin 128) = y 1 := Fin.ext (by blk_simp [index7])
  refine Eq.trans ?_ (congrArg (fun r : ℝ => (r : EReal)) (gradSink_upTo slopeOf sink Q O KV _).symm)
  rw [e1]
  exact at_index (f := fun _ l => sinkUpTo slopeOf sink Q O KV 32 l)
    (fun a l => by rw [Subsingleton.elim a 0]; exact (holds_last m c hQ hKV hO hsink t (flushes7 t hf)).2.2 l) y

/-- The reals behind an array all of whose entries are real. -/
theorem exists_real {S : Shape} (x : S.Idx → EReal) (h : ∀ y, ∃ r : ℝ, x y = ((r : ℝ) : EReal)) : ∃ f : S.Idx → ℝ, ∀ y, x y = ((f y : ℝ) : EReal) :=
  ⟨fun y => (h y).choose, fun y => (h y).choose_spec⟩

variable (ρ : Dev nD → PrngReg)

include hQ hKV hO hsink in
/-- The results of the call at its end. -/
theorem results_of (r : _) (h : Pipeline.FramePost cfgs (dats m) 0 (V m) r) :
    r.2.mem ((c.tc : Thread nD τ).loc main_v0_0) = arrQuery slopeOf sink Q O KV
    ∧ r.2.mem ((c.tc : Thread nD τ).loc main_v0_1) = arrBoth slopeOf sink Q O KV
    ∧ r.2.mem ((c.tc : Thread nD τ).loc main_v0_2) = arrSink slopeOf sink Q O KV := by
  refine ⟨?_, ?_, ?_⟩
  · exact (h.out_eq c 5).trans (array5 m c hQ hKV hO hsink)
  · exact (h.out_eq c 6).trans (array6 m c hQ hKV hO hsink)
  · exact (h.out_eq c 7).trans (array7 m c hQ hKV hO hsink)

end Cert.KernelIdeal.Attn

end
-- ==== Proof.RefResult.lean ====
module

public import proofs.«01_k».proof.Proof.RefValue
public import proofs.«01_k».proof.Proof.Arrays

@[expose] public section

set_option maxRecDepth 16384

noncomputable section

namespace Cert.ReferenceIdeal.Attn

open Cert.ReferenceIdeal Cert.ReferenceIdeal.Gen Cert.ReferenceIdeal.Value
open Cert.Attn
open Cert.KernelIdeal.Attn (slopeOf arrQuery arrBoth arrSink)
open Idealize.ShloMosaic Idealize.ShloMosaic.TcCoe Idealize.ShloMosaic.Tactic

/-! # The reference's results

The three arrays the reference ends with, in the real numbers of the formula. The formula takes the first block to be its own
predecessor where the reference takes zeros; no query sees a key there, so nothing depends on it. -/

section Seen

variable (Q O : Fin 4096 → Fin 1024 → ℝ) (KV : Fin 4096 → Fin 256 → ℝ) (sink : Fin 16 → ℝ) (n : Fin 32) (h : Fin 16)

/-- A key that some query sees is the same in both. -/
theorem keys_seen (g : Fin 2) (c : Fin 256) (a : Fin 128) (s : sees n.val c a) (d : Fin 64) :
    keysIn (prevOf KV n) (blockOf KV n) g c d = keysIn (blockOf KV (before n)) (blockOf KV n) g c d := by
  unfold keysIn prevOf
  split_ifs with h1 h2
  · exact absurd s.2.2 (by omega)
  · rfl
  · rfl

/-- So is its value. -/
theorem vals_seen (g : Fin 2) (c : Fin 256) (a : Fin 128) (s : sees n.val c a) (d : Fin 64) :
    valsIn (prevOf KV n) (blockOf KV n) g c d = valsIn (blockOf KV (before n)) (blockOf KV n) g c d := by
  unfold valsIn prevOf
  split_ifs with h1 h2
  · exact absurd s.2.2 (by omega)
  · rfl
  · rfl

theorem keyProd_seen (c : Fin 256) (a : Fin 128) (s : sees n.val c a) :
    keyProd Q KV n h c a = Cert.Attn.inner (keysIn (blockOf KV (before n)) (blockOf KV n)) (headsIn (blockOf Q n)) h c a := by
  unfold keyProd Cert.Attn.inner
  exact Finset.sum_congr rfl fun d _ => by rw [keys_seen KV n (grp h) c a s d]

theorem valProd_seen (c : Fin 256) (a : Fin 128) (s : sees n.val c a) :
    valProd O KV n h c a = Cert.Attn.inner (valsIn (blockOf KV (before n)) (blockOf KV n)) (headsIn (blockOf O n)) h c a := by
  unfold valProd Cert.Attn.inner
  exact Finset.sum_congr rfl fun d _ => by rw [vals_seen KV n (grp h) c a s d]

/-- The shares are those of the formula. -/
theorem refProb_head : refProb Q KV sink n h
    = headProb n.val slopeOf sink (keysIn (blockOf KV (before n)) (blockOf KV n)) (headsIn (blockOf Q n)) h :=
  prob_congr _ _ _ (keyProd_seen Q KV n h)

/-- The gradients of the scores are those of the formula. -/
theorem refDscore_head : refDscore Q O KV sink n h
    = headDscore n.val slopeOf sink (keysIn (blockOf KV (before n)) (blockOf KV n)) (valsIn (blockOf KV (before n)) (blockOf KV n)) (headsIn (blockOf Q n)) (headsIn (blockOf O n)) h :=
  dscore_congr _ _ _ (keyProd_seen Q KV n h) (valProd_seen O KV n h)

/-- The gradient of a sink over one block is that of the formula. -/
theorem refSink_block : ∑ a, -(refSinkProb Q KV sink n h a * refMean Q O KV sink n h a) = blockSink slopeOf sink Q O KV n h := by
  have e1 : refSinkProb Q KV sink n h = _ := sinkProb_congr _ _ _ (keyProd_seen Q KV n h)
  have e2 : refMean Q O KV sink n h = _ := mean_congr _ _ _ (keyProd_seen Q KV n h) (valProd_seen O KV n h)
  rw [e1, e2, Finset.sum_neg_distrib]
  rfl

end Seen

variable (V : Valuation τ sig (Elt Ideal)) {Q O : Fin 4096 → Fin 1024 → ℝ} {KV : Fin 4096 → Fin 256 → ℝ} {sink : Fin 16 → ℝ}
variable (hQ : ∀ i j, (V (Proc.devRef .tc main_arg0) : Vec Ideal S4096x1024 .bf16) (ix2 i j) = ((Q i j : ℝ) : EReal))
variable (hKV : ∀ i j, (V (Proc.devRef .tc main_arg1) : Vec Ideal S4096x256 .bf16) (ix2 i j) = ((KV i j : ℝ) : EReal))
variable (hO : ∀ i j, (V (Proc.devRef .tc main_arg2) : Vec Ideal S4096x1024 .bf16) (ix2 i j) = ((O i j : ℝ) : EReal))
variable (hsink : ∀ h, (V (Proc.devRef .tc main_arg3) : Vec Ideal S16 .f32) (ix1 h) = ((sink h : ℝ) : EReal))
variable (n : Fin 32) (g : Fin 2) (r : Fin 8) (a : Fin 128) (c : Fin 256) (d : Fin 64)

include hQ hKV hO hsink in
/-- The gradient of the values that a block sees. -/
theorem v125_apply : (res_main_v125 V : Vec Ideal S1x32x256x2x64 .f32) (ix5 0 n c g d) = ((blockVal slopeOf sink Q O KV n g c d : ℝ) : EReal) := by
  unfold res_main_v125
  clean_types
  pointwise
  simp only [v122_apply V hO, v112_apply V hQ hKV hsink, ← EReal.coe_mul, coe_sum]
  unfold blockVal dVal
  refine congrArg _ (Finset.sum_congr rfl fun r _ => Finset.sum_congr rfl fun a _ => ?_)
  rw [mul_comm, refProb_head]

include hQ hKV hO hsink in
/-- The gradient of the keys that a block sees. -/
theorem v171_apply : (res_main_v171 V : Vec Ideal S1x32x256x2x64 .f32) (ix5 0 n c g d) = ((blockKey slopeOf sink Q O KV n g c d : ℝ) : EReal) := by
  unfold res_main_v171
  clean_types
  pointwise
  simp only [v8_apply V hQ, v167_apply V hQ hKV hO hsink, ← EReal.coe_mul, coe_sum]
  refine congrArg _ (Finset.sum_comm.trans ?_)
  unfold blockKey dKey
  simp only [Finset.sum_mul]
  refine Finset.sum_congr rfl fun r _ => Finset.sum_congr rfl fun a _ => ?_
  rw [refDscore_head]
  ring

include hQ hKV hO hsink in
/-- The first 128 of them, the values. -/
theorem v172_apply (c : Fin 128) : (res_main_v172 V : Vec Ideal S1x32x128x2x64 .f32) (ix5 0 n c g d) = ((blockVal slopeOf sink Q O KV n g ⟨c.val, by omega⟩ d : ℝ) : EReal) := by
  unfold res_main_v172
  clean_types
  pointwise
  exact v125_apply V hQ hKV hO hsink n g _ d

include hQ hKV hO hsink in
/-- The first 128 of them, the keys. -/
theorem v178_apply (c : Fin 128) : (res_main_v178 V : Vec Ideal S1x32x128x2x64 .f32) (ix5 0 n c g d) = ((blockKey slopeOf sink Q O KV n g ⟨c.val, by omega⟩ d : ℝ) : EReal) := by
  unfold res_main_v178
  clean_types
  pointwise
  exact v171_apply V hQ hKV hO hsink n g _ d

/-! ## How the results are read -/

/-- The query gradient at an index. -/
theorem query_read (x : FVec Ideal S1x32x2x256x128x8 .f32) (y : FVec Ideal S1x32x256x2x64 .f32) (i : Fin 4096) (j : Fin 1024) :
    truncf .bf16 (shapeCast S4096x1024 (shapeCast S1x4096x16x64 (transpose S1x32x128x2x8x64 [0, 1, 3, 2, 4, 5] (Host.dotGeneral (φ₂ := .f32) dot_S1x32x2x256x128x8_S1x32x256x2x64_S1x32x2x128x8x64_3_2_45_4_012_013 none x y) transposes_S1x32x2x128x8x64_S1x32x128x2x8x64_0_1_3_2_4_5) shapeCasts_S1x32x128x2x8x64_S1x4096x16x64) shapeCasts_S1x4096x16x64_S4096x1024) bitsLt_bf16_f32 (ix2 i j)
      = ∑ c, x (ix6 0 ⟨i.val / 128, by omega⟩ ⟨j.val / 512, by omega⟩ c ⟨i.val % 128, by omega⟩ ⟨j.val / 64 % 8, by omega⟩)
          * y (ix5 0 ⟨i.val / 128, by omega⟩ c ⟨j.val / 512, by omega⟩ ⟨j.val % 64, by omega⟩) := by
  pointwise

/-- The gradients of the keys, or of the values, at an index: those from the block itself and from the one after it. -/
theorem half_read (x : FVec Ideal S1x32x256x2x64 .f32) (y : FVec Ideal S1x32x128x2x64 .f32) (i : Fin 4096) (k : Fin 128) :
    shapeCast S4096x128 (shapeCast S1x4096x2x64 (addf (extractStridedSlice S1x32x128x2x64 ![0, 0, 128, 0, 0] x slices_S1x32x256x2x64_S1x32x128x2x64_0_0_128_0_0) (pad S1x32x128x2x64 ![0, 0, 0, 0, 0] ![0, 1, 0, 0, 0] ![0, 0, 0, 0, 0] (extractStridedSlice S1x31x128x2x64 ![0, 1, 0, 0, 0] y slices_S1x32x128x2x64_S1x31x128x2x64_0_1_0_0_0) (constant (F := Ideal) S_ .f32 0x00000000#32) pads_S1x31x128x2x64_S1x32x128x2x64_000_010_000_000_000 h_S_)) shapeCasts_S1x32x128x2x64_S1x4096x2x64) shapeCasts_S1x4096x2x64_S4096x128 (ix2 i k)
      = x (ix5 0 ⟨i.val / 128, by omega⟩ ⟨128 + i.val % 128, by omega⟩ ⟨k.val / 64, by omega⟩ ⟨k.val % 64, by omega⟩)
        + (if h : i.val / 128 < 31 ∧ i.val % 128 < 128 ∧ k.val / 64 < 2 ∧ k.val % 64 < 64 then
            y (ix5 0 ⟨1 + i.val / 128, by omega⟩ ⟨i.val % 128, by omega⟩ ⟨k.val / 64, by omega⟩ ⟨k.val % 64, by omega⟩) else (0 : EReal)) := by
  pointwise

/-- Their value, from those of the two blocks. -/
theorem half_value (x : FVec Ideal S1x32x256x2x64 .f32) (y : FVec Ideal S1x32x128x2x64 .f32) {X : Fin 32 → Fin 2 → Fin 256 → Fin 64 → ℝ}
    (hx : ∀ n g c d, x (ix5 0 n c g d) = ((X n g c d : ℝ) : EReal)) (hy : ∀ n g (c : Fin 128) d, y (ix5 0 n c g d) = ((X n g ⟨c.val, by omega⟩ d : ℝ) : EReal))
    (i : Fin 4096) (k : Fin 128) :
    shapeCast S4096x128 (shapeCast S1x4096x2x64 (addf (extractStridedSlice S1x32x128x2x64 ![0, 0, 128, 0, 0] x slices_S1x32x256x2x64_S1x32x128x2x64_0_0_128_0_0) (pad S1x32x128x2x64 ![0, 0, 0, 0, 0] ![0, 1, 0, 0, 0] ![0, 0, 0, 0, 0] (extractStridedSlice S1x31x128x2x64 ![0, 1, 0, 0, 0] y slices_S1x32x128x2x64_S1x31x128x2x64_0_1_0_0_0) (constant (F := Ideal) S_ .f32 0x00000000#32) pads_S1x31x128x2x64_S1x32x128x2x64_000_010_000_000_000 h_S_)) shapeCasts_S1x32x128x2x64_S1x4096x2x64) shapeCasts_S1x4096x2x64_S4096x128 (ix2 i k)
      = ((X ⟨i.val / 128, by omega⟩ ⟨k.val / 64, by omega⟩ ⟨128 + i.val % 128, by omega⟩ ⟨k.val % 64, by omega⟩
          + (if h : i.val / 128 + 1 < 32 then X ⟨i.val / 128 + 1, h⟩ ⟨k.val / 64, by omega⟩ ⟨i.val % 128, by omega⟩ ⟨k.val % 64, by omega⟩ else 0) : ℝ) : EReal) := by
  refine (half_read x y i k).trans ?_
  by_cases h : i.val / 128 + 1 < 32
  · have h' : i.val / 128 < 31 ∧ i.val % 128 < 128 ∧ k.val / 64 < 2 ∧ k.val % 64 < 64 := by omega
    rw [dif_pos h, dif_pos h', hx, hy, EReal.coe_add]
    have e : (⟨1 + i.val / 128, by omega⟩ : Fin 32) = ⟨i.val / 128 + 1, h⟩ := Fin.ext (Nat.add_comm _ _)
    rw [e]
  · have h' : ¬(i.val / 128 < 31 ∧ i.val % 128 < 128 ∧ k.val / 64 < 2 ∧ k.val % 64 < 64) := by omega
    rw [dif_neg h, dif_neg h', hx, add_zero, add_zero]

/-- The two halves side by side. -/
theorem both_read (x y : FVec Ideal S4096x128 .f32) (i : Fin 4096) (j : Fin 256) :
    concatenate S4096x256 1 [⟨S4096x128, (x)⟩, ⟨S4096x128, (y)⟩] concatenates_S4096x128_S4096x128_S4096x256_d1 (ix2 i j)
      = if h : j.val < 128 then x (ix2 i ⟨j.val, h⟩) else y (ix2 i ⟨j.val - 128, by omega⟩) := by
  pointwise

/-- The sinks' gradient at an index. -/
theorem sink_read (x z : FVec Ideal S1x32x2x8x128 .f32) (l : Fin 128) :
    shapeCast S1x128 (concatenate S128 0 [⟨S16, (shapeCast S16 (Host.reduceAdd (addf (broadcastInDim S2x8x1 ![0, 1] bcast_S2x8_S2x8x1_0_1 (Host.reduceAdd (shapeCast S1x1x2x8x1 (Host.reduceAdd x (constant (F := Ideal) S_ .f32 0x00000000#32) reducesTo_S1x32x2x8x128_S1x2x8_d1_4 h_S_) shapeCasts_S1x2x8_S1x1x2x8x1) (constant (F := Ideal) S_ .f32 0x00000000#32) reducesTo_S1x1x2x8x1_S2x8_d0_1_4 h_S_)) (broadcastInDim S2x8x1 ![0, 1] bcast_S2x8_S2x8x1_0_1 (Host.reduceAdd (shapeCast S1x1x2x8x1 (Host.reduceAdd z (constant (F := Ideal) S_ .f32 0x00000000#32) reducesTo_S1x32x2x8x128_S1x2x8_d1_4 h_S_) shapeCasts_S1x2x8_S1x1x2x8x1) (constant (F := Ideal) S_ .f32 0x00000000#32) reducesTo_S1x1x2x8x1_S2x8_d0_1_4 h_S_))) (constant (F := Ideal) S_ .f32 0x00000000#32) reducesTo_S2x8x1_S2x8_d2 h_S_) shapeCasts_S2x8_S16)⟩, ⟨S112, (broadcastInDim S112 ![] bcast_S_S112 (constant (F := Ideal) S_ .f32 0x00000000#32))⟩] concatenates_S16_S112_S128_d0) shapeCasts_S128_S1x128 (ix2 0 l)
      = if h : l.val < 16 then ∑ _u : Fin 1, ((∑ k : Fin 32 × Fin 128, x (ix5 0 k.1 ⟨l.val / 8, by omega⟩ ⟨l.val % 8, by omega⟩ k.2))
          + ∑ k : Fin 32 × Fin 128, z (ix5 0 k.1 ⟨l.val / 8, by omega⟩ ⟨l.val % 8, by omega⟩ k.2)) else (0 : EReal) := by
  pointwise

/-! ## The results -/

include hQ hKV hO hsink in
/-- The query gradient. -/
theorem query_eq : truncf .bf16 (shapeCast S4096x1024 (shapeCast S1x4096x16x64 (transpose S1x32x128x2x8x64 [0, 1, 3, 2, 4, 5] (Host.dotGeneral (φ₂ := .f32) dot_S1x32x2x256x128x8_S1x32x256x2x64_S1x32x2x128x8x64_3_2_45_4_012_013 none (res_main_v167 V) (res_main_v16 V)) transposes_S1x32x2x128x8x64_S1x32x128x2x8x64_0_1_3_2_4_5) shapeCasts_S1x32x128x2x8x64_S1x4096x16x64) shapeCasts_S1x4096x16x64_S4096x1024) bitsLt_bf16_f32 = arrQuery slopeOf sink Q O KV := by
  funext y
  obtain ⟨i, j, rfl⟩ : ∃ i j, y = ix2 i j := ⟨y 0, y 1, (ix2_eta y).symm⟩
  refine (query_read (res_main_v167 V) (res_main_v16 V) i j).trans ?_
  have e : ∀ c, (_ : EReal) = _ := fun c => congrArg₂ (fun x y : EReal => x * y)
    (v167_apply V hQ hKV hO hsink ⟨i.val / 128, by omega⟩ ⟨j.val / 512, by omega⟩ ⟨j.val / 64 % 8, by omega⟩ ⟨i.val % 128, by omega⟩ c)
    (v16_apply V hKV ⟨i.val / 128, by omega⟩ ⟨j.val / 512, by omega⟩ c ⟨j.val % 64, by omega⟩)
  refine (Finset.sum_congr rfl fun c _ => e c).trans ?_
  simp only [← EReal.coe_mul]
  rw [coe_sum]
  refine congrArg (fun x : ℝ => (x : EReal)) ?_
  have eh : headOf ⟨j.val / 512, by omega⟩ ⟨j.val / 64 % 8, by omega⟩ = (⟨j.val / 64, by omega⟩ : Fin 16) :=
    Fin.ext (by show 8 * (j.val / 512) + j.val / 64 % 8 = j.val / 64; omega)
  have eg : grp (⟨j.val / 64, by omega⟩ : Fin 16) = ⟨j.val / 512, by omega⟩ := Fin.ext (by show j.val / 64 / 8 = j.val / 512; omega)
  rw [eh]
  show _ = gradQuery slopeOf sink Q O KV i j
  unfold gradQuery blockQuery dQuery
  rw [Finset.sum_mul, eg, ← refDscore_head]
  refine Finset.sum_congr rfl fun c _ => ?_
  by_cases s : sees (i.val / 128) c ⟨i.val % 128, by omega⟩
  · rw [keys_seen KV ⟨i.val / 128, by omega⟩ _ c _ s]; ring
  · have e : refDscore Q O KV sink ⟨i.val / 128, by omega⟩ ⟨j.val / 64, by omega⟩ c ⟨i.val % 128, by omega⟩ = 0 := dscore_unseen _ _ _ _ _ s
    rw [e]; ring

include hQ hKV hO hsink in
/-- The key/value gradient. -/
theorem both_eq : concatenate S4096x256 1 [⟨S4096x128, (shapeCast S4096x128 (shapeCast S1x4096x2x64 (addf (extractStridedSlice S1x32x128x2x64 ![0, 0, 128, 0, 0] (res_main_v171 V) slices_S1x32x256x2x64_S1x32x128x2x64_0_0_128_0_0) (pad S1x32x128x2x64 ![0, 0, 0, 0, 0] ![0, 1, 0, 0, 0] ![0, 0, 0, 0, 0] (extractStridedSlice S1x31x128x2x64 ![0, 1, 0, 0, 0] (res_main_v178 V) slices_S1x32x128x2x64_S1x31x128x2x64_0_1_0_0_0) (constant (F := Ideal) S_ .f32 0x00000000#32) pads_S1x31x128x2x64_S1x32x128x2x64_000_010_000_000_000 h_S_)) shapeCasts_S1x32x128x2x64_S1x4096x2x64) shapeCasts_S1x4096x2x64_S4096x128)⟩, ⟨S4096x128, (shapeCast S4096x128 (shapeCast S1x4096x2x64 (addf (extractStridedSlice S1x32x128x2x64 ![0, 0, 128, 0, 0] (res_main_v125 V) slices_S1x32x256x2x64_S1x32x128x2x64_0_0_128_0_0) (pad S1x32x128x2x64 ![0, 0, 0, 0, 0] ![0, 1, 0, 0, 0] ![0, 0, 0, 0, 0] (extractStridedSlice S1x31x128x2x64 ![0, 1, 0, 0, 0] (res_main_v172 V) slices_S1x32x128x2x64_S1x31x128x2x64_0_1_0_0_0) (constant (F := Ideal) S_ .f32 0x00000000#32) pads_S1x31x128x2x64_S1x32x128x2x64_000_010_000_000_000 h_S_)) shapeCasts_S1x32x128x2x64_S1x4096x2x64) shapeCasts_S1x4096x2x64_S4096x128)⟩] concatenates_S4096x128_S4096x128_S4096x256_d1 = arrBoth slopeOf sink Q O KV := by
  funext y
  obtain ⟨i, j, rfl⟩ : ∃ i j, y = ix2 i j := ⟨y 0, y 1, (ix2_eta y).symm⟩
  refine (both_read _ _ i j).trans ?_
  show _ = ((gradBoth slopeOf sink Q O KV i j : ℝ) : EReal)
  unfold gradBoth blockBoth
  by_cases h : j.val < 128
  · simp only [dif_pos h]
    exact half_value (res_main_v171 V) (res_main_v178 V) (fun n g c d => v171_apply V hQ hKV hO hsink n g c d) (fun n g c d => v178_apply V hQ hKV hO hsink n g d c) i ⟨j.val, h⟩
  · simp only [dif_neg h]
    refine (half_value (res_main_v125 V) (res_main_v172 V) (fun n g c d => v125_apply V hQ hKV hO hsink n g c d) (fun n g c d => v172_apply V hQ hKV hO hsink n g d c) i ⟨j.val - 128, by omega⟩).trans ?_
    have e : (⟨(j.val - 128) % 64, by omega⟩ : Fin 64) = ⟨j.val % 64, by omega⟩ := Fin.ext (by show (j.val - 128) % 64 = j.val % 64; omega)
    rw [e]

include hQ hKV hO hsink in
/-- The sinks' gradient. -/
theorem sink_eq (w : FVec Ideal S1x32x2x8x128 .f32) : shapeCast S1x128 (concatenate S128 0 [⟨S16, (shapeCast S16 (Host.reduceAdd (addf (broadcastInDim S2x8x1 ![0, 1] bcast_S2x8_S2x8x1_0_1 (Host.reduceAdd (shapeCast S1x1x2x8x1 (Host.reduceAdd (res_main_v136 V) (constant (F := Ideal) S_ .f32 0x00000000#32) reducesTo_S1x32x2x8x128_S1x2x8_d1_4 h_S_) shapeCasts_S1x2x8_S1x1x2x8x1) (constant (F := Ideal) S_ .f32 0x00000000#32) reducesTo_S1x1x2x8x1_S2x8_d0_1_4 h_S_)) (broadcastInDim S2x8x1 ![0, 1] bcast_S2x8_S2x8x1_0_1 (Host.reduceAdd (shapeCast S1x1x2x8x1 (Host.reduceAdd (mulf (res_main_v150 V) w) (constant (F := Ideal) S_ .f32 0x00000000#32) reducesTo_S1x32x2x8x128_S1x2x8_d1_4 h_S_) shapeCasts_S1x2x8_S1x1x2x8x1) (constant (F := Ideal) S_ .f32 0x00000000#32) reducesTo_S1x1x2x8x1_S2x8_d0_1_4 h_S_))) (constant (F := Ideal) S_ .f32 0x00000000#32) reducesTo_S2x8x1_S2x8_d2 h_S_) shapeCasts_S2x8_S16)⟩, ⟨S112, (broadcastInDim S112 ![] bcast_S_S112 (constant (F := Ideal) S_ .f32 0x00000000#32))⟩] concatenates_S16_S112_S128_d0) shapeCasts_S128_S1x128 = arrSink slopeOf sink Q O KV := by
  funext y
  obtain ⟨l, rfl⟩ : ∃ l, y = ix2 0 l := ⟨y 1, by rw [← Fin.eq_zero (y 0)]; exact (ix2_eta y).symm⟩
  refine (sink_read (res_main_v136 V) (mulf (res_main_v150 V) w) l).trans ?_
  show _ = ((gradSink slopeOf sink Q O KV l : ℝ) : EReal)
  unfold gradSink
  by_cases h : l.val < 16
  · rw [dif_pos h, dif_pos h, Fin.sum_univ_one]
    have e1 : ∀ k : Fin 32 × Fin 128, _ := fun k => v136_apply V hQ hKV hO hsink k.1 ⟨l.val / 8, by omega⟩ ⟨l.val % 8, by omega⟩ k.2
    have e2 : ∀ k : Fin 32 × Fin 128, (mulf (res_main_v150 V) w : FVec Ideal S1x32x2x8x128 .f32) (ix5 0 k.1 ⟨l.val / 8, by omega⟩ ⟨l.val % 8, by omega⟩ k.2) = (0 : EReal) := fun k =>
      (congrArg (fun x : EReal => x * _) (v150_apply V hQ hKV hO hsink k.1 ⟨l.val / 8, by omega⟩ ⟨l.val % 8, by omega⟩ k.2)).trans (by rw [EReal.coe_zero, zero_mul])
    refine (congrArg₂ (fun x y : EReal => x + y) (Finset.sum_congr rfl fun k _ => e1 k) (Finset.sum_eq_zero fun k _ => e2 k)).trans ?_
    rw [add_zero, coe_sum]
    refine congrArg (fun x : ℝ => (x : EReal)) ?_
    rw [Fintype.sum_prod_type]
    have eh : headOf ⟨l.val / 8, by omega⟩ ⟨l.val % 8, by omega⟩ = (⟨l.val, h⟩ : Fin 16) := Fin.ext (by show 8 * (l.val / 8) + l.val % 8 = l.val; omega)
    rw [eh]
    exact Finset.sum_congr rfl fun n _ => refSink_block Q O KV sink n ⟨l.val, h⟩
  · rw [dif_neg h, dif_neg h, EReal.coe_zero]

end Cert.ReferenceIdeal.Attn

end
-- ==== Proof.Agree.lean ====
module

public import proofs.«01_k».proof.Defs
public import proofs.«01_k».proof.Proof.Finite
public import proofs.«01_k».proof.Proof.RefResult
public import proofs.«01_k».proof.Proof.Gen.Pre_finite

@[expose] public section

set_option maxRecDepth 16384

noncomputable section

namespace Cert.Agree

open Cert.KernelIdeal.Attn (slopeOf arrQuery arrBoth arrSink)
open Idealize.ShloMosaic Idealize.ShloMosaic.TcCoe Idealize.SL.Sem

/-! # The kernel and the reference end with equal results

Both end with the three arrays of the formula, taken of the real numbers their arguments are. -/

section Kernel

open Cert.KernelIdeal Cert.KernelIdeal.Gen

variable (m : (ℓ : Loc nD τ sig) → Buf (Elt Ideal) ℓ) (c : Dev nD)

/-- The queries, as real numbers. -/
def queries (i : Fin 4096) (j : Fin 1024) : ℝ := ((m ((c.tc : Thread nD τ).loc main_arg0) : Vec Ideal S4096x1024 .bf16) (ix2 i j)).toReal
/-- The keys and values. -/
def keyvals (i : Fin 4096) (j : Fin 256) : ℝ := ((m ((c.tc : Thread nD τ).loc main_arg1) : Vec Ideal S4096x256 .bf16) (ix2 i j)).toReal
/-- The incoming gradients. -/
def incoming (i : Fin 4096) (j : Fin 1024) : ℝ := ((m ((c.tc : Thread nD τ).loc main_arg2) : Vec Ideal S4096x1024 .bf16) (ix2 i j)).toReal
/-- The sinks. -/
def sinks (h : Fin 16) : ℝ := ((m ((c.tc : Thread nD τ).loc main_arg3) : Vec Ideal S16 .f32) (ix1 h)).toReal

/-- An extended real that is a real number is the one it is read as. -/
theorem real_eq {x : EReal} (h : ∃ r : ℝ, x = ((r : ℝ) : EReal)) : x = ((x.toReal : ℝ) : EReal) := by
  obtain ⟨r, rfl⟩ := h; rw [EReal.toReal_coe]

variable [Cert.Pre_finite.Facts] (hm : Cert.Pre_KernelIdeal_finite m)

include hm in
/-- Where the arguments are finite they are real numbers. -/
theorem arguments :
    (∀ i j, (m ((c.tc : Thread nD τ).loc main_arg0) : Vec Ideal S4096x1024 .bf16) (ix2 i j) = ((queries m c i j : ℝ) : EReal))
    ∧ (∀ i j, (m ((c.tc : Thread nD τ).loc main_arg1) : Vec Ideal S4096x256 .bf16) (ix2 i j) = ((keyvals m c i j : ℝ) : EReal))
    ∧ (∀ i j, (m ((c.tc : Thread nD τ).loc main_arg2) : Vec Ideal S4096x1024 .bf16) (ix2 i j) = ((incoming m c i j : ℝ) : EReal))
    ∧ (∀ h, (m ((c.tc : Thread nD τ).loc main_arg3) : Vec Ideal S16 .f32) (ix1 h) = ((sinks m c h : ℝ) : EReal)) := by
  obtain ⟨h0, h1, h2, h3⟩ := Cert.Finite.entries _ _ _ _ (hm c)
  exact ⟨fun i j => real_eq (h0 (ix2 i j)), fun i j => real_eq (h1 (ix2 i j)), fun i j => real_eq (h2 (ix2 i j)), fun h => real_eq (h3 (ix1 h))⟩

include hm in
/-- What the kernel ends with. -/
theorem kernel_ends (ρ : Dev nD → PrngReg) :
    θ_run defs (onTc (τ := τ) (main (F := Ideal))) ⟨m, fun _ => 0, ρ⟩ fun r => ∀ c : Dev nD,
      r.2.mem ((c.tc : Thread nD τ).loc main_v0_0) = arrQuery slopeOf (sinks m c) (queries m c) (incoming m c) (keyvals m c)
      ∧ r.2.mem ((c.tc : Thread nD τ).loc main_v0_1) = arrBoth slopeOf (sinks m c) (queries m c) (incoming m c) (keyvals m c)
      ∧ r.2.mem ((c.tc : Thread nD τ).loc main_v0_2) = arrSink slopeOf (sinks m c) (queries m c) (incoming m c) (keyvals m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun r h c => by
      obtain ⟨hQ, hKV, hO, hsink⟩ := arguments m c hm
      obtain ⟨e0, e1, e2⟩ := Cert.KernelIdeal.Attn.results_of m c hQ hKV hO hsink r h.1
      exact ⟨e0, e1, e2, h.2.1 c⟩)
    (θ_run_and (Cert.KernelIdeal.Attn.call_arrays m ρ) (Cert.KernelIdeal.Attn.frame m ρ))

end Kernel

section Reference

open Cert.ReferenceIdeal Cert.ReferenceIdeal.Gen Cert.ReferenceIdeal.Value

variable (m : (ℓ : Loc nD τ sig) → Buf (Elt Ideal) ℓ)
variable {Q O : Dev nD → Fin 4096 → Fin 1024 → ℝ} {KV : Dev nD → Fin 4096 → Fin 256 → ℝ} {sink : Dev nD → Fin 16 → ℝ}
variable (hQ : ∀ c i j, (m ((c.tc : Thread nD τ).loc main_arg0) : Vec Ideal S4096x1024 .bf16) (ix2 i j) = ((Q c i j : ℝ) : EReal))
variable (hKV : ∀ c i j, (m ((c.tc : Thread nD τ).loc main_arg1) : Vec Ideal S4096x256 .bf16) (ix2 i j) = ((KV c i j : ℝ) : EReal))
variable (hO : ∀ c i j, (m ((c.tc : Thread nD τ).loc main_arg2) : Vec Ideal S4096x1024 .bf16) (ix2 i j) = ((O c i j : ℝ) : EReal))
variable (hsink : ∀ c h, (m ((c.tc : Thread nD τ).loc main_arg3) : Vec Ideal S16 .f32) (ix1 h) = ((sink c h : ℝ) : EReal))

include hQ hKV hO hsink in
/-- What the reference ends with. -/
theorem reference_ends (ρ : Dev nD → PrngReg) :
    θ_run defs (onTc (τ := τ) (main (F := Ideal))) ⟨m, fun _ => 0, ρ⟩ fun r => ∀ c : Dev nD,
      r.2.mem ((c.tc : Thread nD τ).loc main_v194) = arrQuery slopeOf (sink c) (Q c) (O c) (KV c)
      ∧ r.2.mem ((c.tc : Thread nD τ).loc main_v189) = arrBoth slopeOf (sink c) (Q c) (O c) (KV c)
      ∧ r.2.mem ((c.tc : Thread nD τ).loc main_v192) = arrSink slopeOf (sink c) (Q c) (O c) (KV c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun r h c => ⟨(h c).1.trans (Cert.ReferenceIdeal.Attn.query_eq (StableHlo.launchContents m c) (hQ c) (hKV c) (hO c) (hsink c)),
      (h c).2.1.trans (Cert.ReferenceIdeal.Attn.both_eq (StableHlo.launchContents m c) (hQ c) (hKV c) (hO c) (hsink c)),
      (h c).2.2.1.trans (Cert.ReferenceIdeal.Attn.sink_eq (StableHlo.launchContents m c) (hQ c) (hKV c) (hO c) (hsink c) _),
      (h c).2.2.2⟩)
    (Cert.ReferenceIdeal.Value.run m ρ)

end Reference

/-- From finite arguments, equal in both, the kernel and the reference end with equal results. -/
theorem results_equal : Cert.algebraic_KernelIdeal_ReferenceIdeal_pre_finite
    (hKernelIdeal := Cert.KernelIdeal.Gen.facts) (hReferenceIdeal := Cert.ReferenceIdeal.Gen.facts) (hPre_finite := Cert.Pre_finite.Gen.facts) := by
  intro m g m' g' hm hargs
  have real := fun c => arguments m c hm
  exact ⟨_, _, _, kernel_ends m hm g, reference_ends m'
    (fun c i j => (congrFun (hargs c).1 (ix2 i j)).trans ((real c).1 i j))
    (fun c i j => (congrFun (hargs c).2.1 (ix2 i j)).trans ((real c).2.1 i j))
    (fun c i j => (congrFun (hargs c).2.2.1 (ix2 i j)).trans ((real c).2.2.1 i j))
    (fun c h => (congrFun (hargs c).2.2.2 (ix1 h)).trans ((real c).2.2.2 h)) g'⟩

end Cert.Agree

end
-- ==== Proof.BlockSum.lean ====
module

public import Idealize.ShloMosaic.Lib.Pointwise

@[expose] public section

namespace Cert.Blocks

open Idealize.ShloMosaic

/-! # Sums taken block by block

Sums of extended reals, whose addition is commutative and associative, need no precondition. -/

/-- A sum over `n * k` places is the sum over `n` blocks of the sums over the `k` places of a block. -/
theorem sum_blocks {n k N : ℕ} (h : n * k = N) (f : Fin N → EReal) :
    ∑ r, f r = ∑ b : Fin n, ∑ l : Fin k, f ⟨k * b.val + l.val, by
      have hb := b.isLt; have hl := l.isLt
      calc k * b.val + l.val < k * b.val + k := by omega
        _ = k * (b.val + 1) := by ring
        _ ≤ k * n := Nat.mul_le_mul_left _ hb
        _ = N := by rw [← h, Nat.mul_comm]⟩ := by
  subst h
  rw [← Fintype.sum_prod_type', ← finProdFinEquiv.sum_comp]
  refine Finset.sum_congr rfl fun x _ => congrArg f (Fin.ext ?_)
  show x.2.val + k * x.1.val = k * x.1.val + x.2.val
  omega

/-- An accumulator that is cleared at every fourth point and adds one term at each holds the four terms at the last. -/
theorem run_of_four (s p : ℕ → EReal) (q : ℕ) (h0 : s (4 * q) = 0 + p (4 * q)) (h1 : s (4 * q + 1) = s (4 * q) + p (4 * q + 1))
    (h2 : s (4 * q + 2) = s (4 * q + 1) + p (4 * q + 2)) (h3 : s (4 * q + 3) = s (4 * q + 2) + p (4 * q + 3)) :
    s (4 * q + 3) = ∑ b : Fin 4, p (4 * q + b.val) := by
  rw [Fin.sum_univ_four, h3, h2, h1, h0, zero_add]
  rfl

/-- An accumulator that starts from zero and adds one term at each point holds the sum of the terms so far. -/
theorem running (N : ℕ) (s p : ℕ → EReal) (h0 : s 0 = 0 + p 0) (h1 : ∀ n, n + 1 < N → s (n + 1) = s n + p (n + 1)) :
    ∀ n, n < N → s n = ∑ b ∈ Finset.range (n + 1), p b
  | 0, _ => by rw [h0, Finset.sum_range_one, zero_add]
  | n + 1, h => by rw [h1 n h, running N s p h0 h1 n (by omega), Finset.sum_range_succ _ (n + 1)]

end Cert.Blocks
-- ==== Proof.MlpCases.lean ====
module

public import proofs.«01_k».proof.Proof.BlockSum
public import proofs.«01_k».proof.Proof.Gen.MlpIdeal.Value
public import Idealize.ShloMosaic.Lib.Pipeline.ReadBack
public import Idealize.ShloMosaic.Lib.Pipeline.ValueKit.Tiles

@[expose] public section

set_option maxRecDepth 16384

noncomputable section

namespace Cert.MlpIdeal.Grad

open Cert.MlpIdeal Cert.MlpIdeal.Gen
open Idealize.ShloMosaic Idealize.ShloMosaic.TcCoe Idealize.ShloMosaic.Tactic

/-! # The feed-forward layer's backward call: what one point leaves

A point takes 512 rows. It scales the incoming gradients by the gate, multiplies them with the second weights, eight
chunks of 512 hidden columns in turn, and adds both column sums to the two bias gradients, which the first point clears. -/

/-- Offsets that are all zero. -/
theorem zeros : (![0, 0] : Fin 2 → Nat) = fun _ => 0 := funext fun a => by fin_cases a <;> rfl

/-! ## The four arithmetic steps -/

section Steps

variable {F : FTy → Type} [FloatOps F]

/-- The gradient before the activation, for one chunk of hidden columns. -/
def preStep (f w : FVec F S512x1024 .bf16) (r : FVec F S512x512 .bf16) : FVec F S512x512 .f32 := k0_pay3 f w r
/-- The same, rounded. -/
def preRound (f w : FVec F S512x1024 .bf16) (r : FVec F S512x512 .bf16) : FVec F S512x512 .bf16 := k0_pay5 f w r
/-- The bias gradient of one chunk, with this point's column sums added. -/
def biasStep (f w : FVec F S512x1024 .bf16) (r : FVec F S512x512 .bf16) (s : FVec F S1x512 .f32) : FVec F S1x512 .f32 := k0_pay4 f w r s

/-- The fifth chunk's bias gradient is taken in two parts. -/
theorem biasStep_fifth (f w : FVec F S512x1024 .bf16) (r : FVec F S512x512 .bf16) (s : FVec F S1x512 .f32) :
    k0_pay26 (k0_pay24 s) (k0_pay25 f w r) = biasStep f w r s := rfl
/-- So is the seventh chunk's. -/
theorem biasStep_seventh (f w : FVec F S512x1024 .bf16) (r : FVec F S512x512 .bf16) (s : FVec F S1x512 .f32) :
    k0_pay1 (k0_pay31 f w r) (k0_pay32 s) = biasStep f w r s := rfl

end Steps

/-- The word of the constant 2. -/
theorem two_word : (Ideal.ofBits FTy.f32 0x40000000#32 : EReal) = 2 := by
  have h : (Ideal.ofBits FTy.f32 0x40000000#32 : EReal) = ((2 : ℝ) : EReal) := by
    simp [Ideal.ofBits, Ideal.ieee]
    rw [← EReal.coe_mul, EReal.coe_eq_coe_iff]
    norm_num
  rw [h]; rfl

/-- One scaled gradient. -/
theorem scaled_apply (g : Vec Ideal S1x1024 .f32) (x : Vec Ideal S512x1024 .f32) (l : Fin 512) (d : Fin 1024) :
    (k0_pay10 g x : Vec Ideal S512x1024 .bf16) (ix2 l d) = (1 + g (ix2 0 d)) * x (ix2 l d) := by
  pointwise [k0_pay10, k0_pay8]

/-- One column sum added to the second bias gradient. -/
theorem outBias_apply (g : Vec Ideal S1x1024 .f32) (x : Vec Ideal S512x1024 .f32) (s : Vec Ideal S1x1024 .f32) (d : Fin 1024) :
    (k0_pay9 g x s : Vec Ideal S1x1024 .f32) (ix2 0 d) = s (ix2 0 d) + ∑ l : Fin 512, (1 + g (ix2 0 d)) * x (ix2 l d) := by
  pointwise [k0_pay9, k0_pay8]

/-- One gradient before the activation. -/
theorem preRound_apply (f w : Vec Ideal S512x1024 .bf16) (r : Vec Ideal S512x512 .bf16) (l n : Fin 512) :
    (preRound (F := Ideal) f w r : Vec Ideal S512x512 .bf16) (ix2 l n) = (∑ d : Fin 1024, f (ix2 l d) * w (ix2 n d)) * (2 * r (ix2 l n)) := by
  pointwise [preRound, k0_pay5, k0_pay3]
  rw [two_word]

/-- One column sum added to the first bias gradient. -/
theorem biasStep_apply (f w : Vec Ideal S512x1024 .bf16) (r : Vec Ideal S512x512 .bf16) (s : Vec Ideal S1x512 .f32) (n : Fin 512) :
    (biasStep (F := Ideal) f w r s : Vec Ideal S1x512 .f32) (ix2 0 n)
      = s (ix2 0 n) + ∑ l : Fin 512, (∑ d : Fin 1024, f (ix2 l d) * w (ix2 n d)) * (2 * r (ix2 l n)) := by
  pointwise [biasStep, k0_pay4, k0_pay3]
  rw [two_word]

/-! ## A whole point, entry by entry -/

section Point

variable (x0 : Vec Ideal S512x1024 .f32) (x1 : Vec Ideal S512x4096 .bf16) (x2 : Vec Ideal S4096x1024 .bf16) (x3 : Vec Ideal S1x1024 .f32)

/-- The gradient before the activation, at row `l` and hidden column `n` of a point. -/
def preAt (l : Fin 512) (n : Fin 4096) : EReal :=
  (∑ d : Fin 1024, ((1 + x3 (ix2 0 d)) * x0 (ix2 l d)) * x2 (ix2 n d)) * (2 * x1 (ix2 l n))

/-- All of them, as one block. -/
def preBlock : Vec Ideal S512x4096 .bf16 := fun y => preAt x0 x1 x2 x3 (y 0) (y 1)

/-- The first bias gradient `s` with a point's column sums added. -/
def biasRow (s : Vec Ideal S1x4096 .f32) : Vec Ideal S1x4096 .f32 := fun y => s y + ∑ l : Fin 512, preAt x0 x1 x2 x3 l (y 1)

/-- A chunk starting at hidden column `o` reads the weights and activations of column `o + n`. -/
theorem chunk_apply (o : ℕ) (iw : ∀ a : Fin 2, (![o, 0] : Fin 2 → ℕ) a + S512x1024.size a ≤ S4096x1024.size a)
    (ir : ∀ a : Fin 2, (![0, o] : Fin 2 → ℕ) a + S512x512.size a ≤ S512x4096.size a) (l n : Fin 512) (n' : Fin 4096) (hn : n'.val = o + n.val) :
    (∑ d : Fin 1024, (k0_pay10 x3 x0 : Vec Ideal S512x1024 .bf16) (ix2 l d) * (View.ld x2 (Rect.unit (s := S4096x1024) ![o, 0] S512x1024.size iw) : Vec Ideal S512x1024 .bf16) (ix2 n d))
        * (2 * (View.ld x1 (Rect.unit (s := S512x4096) ![0, o] S512x512.size ir) : Vec Ideal S512x512 .bf16) (ix2 l n)) = preAt x0 x1 x2 x3 l n' := by
  unfold preAt
  refine congrArg₂ (fun u v : EReal => u * v) (Finset.sum_congr (M := EReal) rfl fun d _ => congrArg₂ (fun u v : EReal => u * v) (scaled_apply x3 x0 l d) ?_) (congrArg (fun u : EReal => 2 * u) ?_)
  · exact View.ld_unit_apply_of x2 _ _ iw (ix2 n d) (ix2 n' d) (Fin.forall_fin_two.mpr ⟨hn, (Nat.zero_add _).symm⟩)
  · exact View.ld_unit_apply_of x1 _ _ ir (ix2 l n) (ix2 l n') (Fin.forall_fin_two.mpr ⟨(Nat.zero_add _).symm, hn⟩)

/-- A chunk of hidden columns is that part of the block. -/
theorem preRound_emb (o : ℕ) (iw : ∀ a : Fin 2, (![o, 0] : Fin 2 → ℕ) a + S512x1024.size a ≤ S4096x1024.size a)
    (ir : ∀ a : Fin 2, (![0, o] : Fin 2 → ℕ) a + S512x512.size a ≤ S512x4096.size a)
    (y : (Rect.unit (s := S512x4096) ![0, o] S512x512.size ir).shape.Idx) :
    preRound (F := Ideal) (k0_pay10 x3 x0) (View.ld x2 (Rect.unit (s := S4096x1024) ![o, 0] S512x1024.size iw))
        (View.ld x1 (Rect.unit (s := S512x4096) ![0, o] S512x512.size ir)) y
      = preBlock x0 x1 x2 x3 ((Rect.unit (s := S512x4096) ![0, o] S512x512.size ir).emb y) := by
  have e0 : ((Rect.unit (s := S512x4096) ![0, o] S512x512.size ir).emb y) 0 = y 0 := Fin.ext (by show 0 + 1 * (y 0).val = (y 0).val; omega)
  have e1 : (((Rect.unit (s := S512x4096) ![0, o] S512x512.size ir).emb y) 1).val = o + (y 1).val := by show o + 1 * (y 1).val = _; omega
  refine (congrArg _ (eq_ix2 y)).trans ((preRound_apply _ _ _ (y 0) (y 1)).trans ?_)
  unfold preBlock
  rw [e0]
  exact chunk_apply x0 x1 x2 x3 o iw ir (y 0) (y 1) _ e1

/-- The same of the bias gradient. -/
theorem biasStep_emb (s : Vec Ideal S1x4096 .f32) (o : ℕ) (iw : ∀ a : Fin 2, (![o, 0] : Fin 2 → ℕ) a + S512x1024.size a ≤ S4096x1024.size a)
    (ir : ∀ a : Fin 2, (![0, o] : Fin 2 → ℕ) a + S512x512.size a ≤ S512x4096.size a)
    (ib : ∀ a : Fin 2, (![0, o] : Fin 2 → ℕ) a + S1x512.size a ≤ S1x4096.size a)
    (w : Vec Ideal S1x512 .f32) (hw : w = View.ld s (Rect.unit (s := S1x4096) ![0, o] S1x512.size ib))
    (y : (Rect.unit (s := S1x4096) ![0, o] S1x512.size ib).shape.Idx) :
    biasStep (F := Ideal) (k0_pay10 x3 x0) (View.ld x2 (Rect.unit (s := S4096x1024) ![o, 0] S512x1024.size iw))
        (View.ld x1 (Rect.unit (s := S512x4096) ![0, o] S512x512.size ir)) w y
      = biasRow x0 x1 x2 x3 s ((Rect.unit (s := S1x4096) ![0, o] S1x512.size ib).emb y) := by
  have e1 : (((Rect.unit (s := S1x4096) ![0, o] S1x512.size ib).emb y) 1).val = o + (y 1).val := by show o + 1 * (y 1).val = _; omega
  have hy : y = ix2 0 (y 1) := (eq_ix2 y).trans (congrArg (fun a => ix2 a (y 1)) (Subsingleton.elim (α := Fin 1) _ _))
  refine (congrArg _ hy).trans ((biasStep_apply _ _ _ _ (y 1)).trans ?_)
  unfold biasRow
  refine congrArg₂ (fun u v : EReal => u + v) ?_ (Finset.sum_congr (M := EReal) rfl fun l _ => chunk_apply x0 x1 x2 x3 o iw ir l (y 1) _ e1)
  rw [hw]
  exact (congrArg (View.ld s (Rect.unit (s := S1x4096) ![0, o] S1x512.size ib)) hy.symm).trans rfl

end Point

/-! ## Loads from the row of the bias gradient -/

section Loads

variable {F : FTy → Type} [FloatOps F]

/-- A store into earlier columns does not change what a chunk is loaded with. -/
theorem load_skip (v : View sig .tc .vmem S1x4096 .f32) {off off' size size' : Fin 2 → ℕ} (inb : ∀ a, off a + size a ≤ S1x4096.size a)
    (inb' : ∀ a, off' a + size' a ≤ S1x4096.size a) (w : (Rect.unit (s := S1x4096) off size inb).shape.Idx → Elt F .f32)
    (L : List (View.Piece (Elt F) S1x4096 .f32)) (h : off 1 + size 1 ≤ off' 1) :
    v.readCov (⟨Rect.unit off size inb, w⟩ :: L) (Rect.unit (s := S1x4096) off' size' inb').toLoadRect
      = v.readCov L (Rect.unit (s := S1x4096) off' size' inb').toLoadRect := by
  rw [View.readCov_eq_canon', View.readCov_eq_canon']
  funext j
  refine View.canon_cons_of_not_mem _ _ fun hm => ?_
  have h1 := (Rect.mem_set_unit (inb := inb).mp hm 1).2
  have h2 : (((Rect.unit (s := S1x4096) off' size' inb').toLoadRect.idx j) 1).val = off' 1 + 1 * (j 1).val := rfl
  omega

/-- After clearing, a load finds zero. -/
theorem load_clear (v : View sig .tc .vmem S1x4096 .f32) (inb : ∀ a, (![0, 0] : Fin 2 → ℕ) a + S1x4096.size a ≤ S1x4096.size a)
    (z : Vec F S1x4096 .f32) (r : Rect S1x4096) :
    v.readCov [⟨Rect.unit ![0, 0] S1x4096.size inb, z⟩] r.toLoadRect = View.ld z r :=
  View.readCov_fill v inb z [] r (Fin.forall_fin_two.mpr ⟨rfl, rfl⟩)

end Loads

/-! ## What the first point and the others leave -/

section Cases

variable (c : Dev nD) (i : grid0.Coords) (a1 : Memref sig .tc .vmem S512x1024 .f32) (h1 : a1.IsWhole) (a2 : Memref sig .tc .vmem S512x4096 .bf16) (h2 : a2.IsWhole) (a3 : Memref sig .tc .vmem S4096x1024 .bf16) (h3 : a3.IsWhole) (a4 : Memref sig .tc .vmem S1x1024 .f32) (h4 : a4.IsWhole) (a5 : Memref sig .tc .vmem S512x1024 .bf16) (h5 : a5.IsWhole) (a6 : Memref sig .tc .vmem S512x4096 .bf16) (h6 : a6.IsWhole) (a7 : Memref sig .tc .vmem S1x1024 .f32) (h7 : a7.IsWhole) (a8 : Memref sig .tc .vmem S1x4096 .f32) (h8 : a8.IsWhole)
  (x0 : Vec Ideal S512x1024 .f32) (x1 : Vec Ideal S512x4096 .bf16) (x2 : Vec Ideal S4096x1024 .bf16) (x3 : Vec Ideal S1x1024 .f32) (s6 : Vec Ideal S1x1024 .f32) (s7 : Vec Ideal S1x4096 .f32)

/-- The first point's scaled gradients. -/
theorem first_scaled (hc0 : cond0_0 i) :
    out0_A_4 c i a1 h1 a2 h2 a3 h3 a4 h4 a5 h5 a6 h6 a7 h7 a8 h8 hc0 x0 x1 x2 x3 = k0_pay10 x3 x0 := by
  unfold out0_A_4
  rw [View.read_writes_eq_canon _ _ _ (cover0_A_4 c i a1 h1 a2 h2 a3 h3 a4 h4 a5 h5 a6 h6 a7 h7 a8 h8 hc0 x0 x1 x2 x3)]
  unfold kernelRun0_A
  dsimp only
  sl_unfold_words
  rw [View.canon_unit_zero (S := S512x1024) zeros]
  simp only [View.readAt_eq_ld, h1.read_unread, h4.read_unread, View.ld_unit_zero (S := S512x1024) zeros, View.ld_unit_zero (S := S1x1024) zeros]

/-- A later point's scaled gradients. -/
theorem later_scaled (hc0 : ¬cond0_0 i) :
    out0_B_4 c i a1 h1 a2 h2 a3 h3 a4 h4 a5 h5 a6 h6 a7 h7 a8 h8 hc0 x0 x1 x2 x3 s6 s7 = k0_pay10 x3 x0 := by
  unfold out0_B_4
  rw [View.read_writes_eq_canon _ _ _ (cover0_B_4 c i a1 h1 a2 h2 a3 h3 a4 h4 a5 h5 a6 h6 a7 h7 a8 h8 hc0 x0 x1 x2 x3 s6 s7)]
  unfold kernelRun0_B
  dsimp only
  sl_unfold_words
  rw [View.canon_unit_zero (S := S512x1024) zeros]
  simp only [View.readAt_eq_ld, h1.read_unread, h4.read_unread, View.ld_unit_zero (S := S512x1024) zeros, View.ld_unit_zero (S := S1x1024) zeros]

/-- The second bias gradient after the first point. -/
theorem first_outBias (hc0 : cond0_0 i) :
    out0_A_6 c i a1 h1 a2 h2 a3 h3 a4 h4 a5 h5 a6 h6 a7 h7 a8 h8 hc0 x0 x1 x2 x3 = k0_pay9 x3 x0 (k0_pay6 (F := Ideal)) := by
  unfold out0_A_6
  rw [View.read_writes_eq_canon _ _ _ (cover0_A_6 c i a1 h1 a2 h2 a3 h3 a4 h4 a5 h5 a6 h6 a7 h7 a8 h8 hc0 x0 x1 x2 x3)]
  unfold kernelRun0_A
  dsimp only
  sl_unfold_words
  rw [View.canon_cons_unit_zero (S := S1x1024) zeros, View.readCov_unit_zero (S := S1x1024) _ zeros]
  simp only [View.readAt_eq_ld, h1.read_unread, h4.read_unread, View.ld_unit_zero (S := S512x1024) zeros, View.ld_unit_zero (S := S1x1024) zeros]

/-- The second bias gradient after a later point. -/
theorem later_outBias (hc0 : ¬cond0_0 i) :
    out0_B_6 c i a1 h1 a2 h2 a3 h3 a4 h4 a5 h5 a6 h6 a7 h7 a8 h8 hc0 x0 x1 x2 x3 s6 s7 = k0_pay9 x3 x0 s6 := by
  unfold out0_B_6
  rw [View.read_writes_eq_canon _ _ _ (cover0_B_6 c i a1 h1 a2 h2 a3 h3 a4 h4 a5 h5 a6 h6 a7 h7 a8 h8 hc0 x0 x1 x2 x3 s6 s7)]
  unfold kernelRun0_B
  dsimp only
  sl_unfold_words
  rw [View.canon_unit_zero (S := S1x1024) zeros]
  simp only [View.readAt_eq_ld, h1.read_unread, h4.read_unread, h7.read_unread, View.ld_unit_zero (S := S512x1024) zeros, View.ld_unit_zero (S := S1x1024) zeros]

/-- The first point's gradients before the activation. -/
theorem first_pre (hc0 : cond0_0 i) :
    out0_A_5 c i a1 h1 a2 h2 a3 h3 a4 h4 a5 h5 a6 h6 a7 h7 a8 h8 hc0 x0 x1 x2 x3 = preBlock x0 x1 x2 x3 := by
  unfold out0_A_5
  rw [View.read_writes_eq_canon _ _ _ (cover0_A_5 c i a1 h1 a2 h2 a3 h3 a4 h4 a5 h5 a6 h6 a7 h7 a8 h8 hc0 x0 x1 x2 x3)]
  unfold kernelRun0_A
  dsimp only
  sl_unfold_words
  simp only [View.readAt_eq_ld, h1.read_unread, h2.read_unread, h3.read_unread, h4.read_unread, View.ld_unit_zero (S := S512x1024) zeros, View.ld_unit_zero (S := S1x1024) zeros]
  funext y
  refine (View.canon_append_of_piecesOf (preBlock x0 x1 x2 x3) [] [_, _, _, _, _, _, _, _] ⟨?_, ?_, ?_, ?_, ?_, ?_, ?_, ?_, trivial⟩ y (View.cover_of_tiledL (s := S512x4096) _ S512x512.size (by sl_kernel_rfl) y))
  all_goals exact preRound_emb x0 x1 x2 x3 _ _ _

/-- A later point's. -/
theorem later_pre (hc0 : ¬cond0_0 i) :
    out0_B_5 c i a1 h1 a2 h2 a3 h3 a4 h4 a5 h5 a6 h6 a7 h7 a8 h8 hc0 x0 x1 x2 x3 s6 s7 = preBlock x0 x1 x2 x3 := by
  unfold out0_B_5
  rw [View.read_writes_eq_canon _ _ _ (cover0_B_5 c i a1 h1 a2 h2 a3 h3 a4 h4 a5 h5 a6 h6 a7 h7 a8 h8 hc0 x0 x1 x2 x3 s6 s7)]
  unfold kernelRun0_B
  dsimp only
  sl_unfold_words
  simp only [View.readAt_eq_ld, h1.read_unread, h2.read_unread, h3.read_unread, h4.read_unread, View.ld_unit_zero (S := S512x1024) zeros, View.ld_unit_zero (S := S1x1024) zeros]
  funext y
  refine (View.canon_append_of_piecesOf (preBlock x0 x1 x2 x3) [] [_, _, _, _, _, _, _, _] ⟨?_, ?_, ?_, ?_, ?_, ?_, ?_, ?_, trivial⟩ y (View.cover_of_tiledL (s := S512x4096) _ S512x512.size (by sl_kernel_rfl) y))
  all_goals exact preRound_emb x0 x1 x2 x3 _ _ _

/-- The first bias gradient after the first point. -/
theorem first_bias (hc0 : cond0_0 i) :
    out0_A_7 c i a1 h1 a2 h2 a3 h3 a4 h4 a5 h5 a6 h6 a7 h7 a8 h8 hc0 x0 x1 x2 x3 = biasRow x0 x1 x2 x3 (k0_pay7 (F := Ideal)) := by
  unfold out0_A_7
  rw [View.read_writes_eq_canon _ _ _ (cover0_A_7 c i a1 h1 a2 h2 a3 h3 a4 h4 a5 h5 a6 h6 a7 h7 a8 h8 hc0 x0 x1 x2 x3)]
  unfold kernelRun0_A
  dsimp only
  sl_unfold_words
  simp only [View.readAt_eq_ld, h1.read_unread, h2.read_unread, h3.read_unread, h4.read_unread, View.ld_unit_zero (S := S512x1024) zeros, View.ld_unit_zero (S := S1x1024) zeros, biasStep_fifth, biasStep_seventh]
  funext y
  refine (View.canon_append_of_piecesOf (biasRow x0 x1 x2 x3 (k0_pay7 (F := Ideal))) [_] [_, _, _, _, _, _, _, _] ⟨?_, ?_, ?_, ?_, ?_, ?_, ?_, ?_, trivial⟩ y (View.cover_of_tiledL (s := S1x4096) _ S1x512.size (by sl_kernel_rfl) y))
  all_goals
    refine biasStep_emb x0 x1 x2 x3 _ _ _ _ (by decide) _ ?_
    repeat refine (load_skip _ _ _ _ _ (by decide)).trans ?_
    exact load_clear _ _ _ _

/-- The first bias gradient after a later point. -/
theorem later_bias (hc0 : ¬cond0_0 i) :
    out0_B_7 c i a1 h1 a2 h2 a3 h3 a4 h4 a5 h5 a6 h6 a7 h7 a8 h8 hc0 x0 x1 x2 x3 s6 s7 = biasRow x0 x1 x2 x3 s7 := by
  unfold out0_B_7
  rw [View.read_writes_eq_canon _ _ _ (cover0_B_7 c i a1 h1 a2 h2 a3 h3 a4 h4 a5 h5 a6 h6 a7 h7 a8 h8 hc0 x0 x1 x2 x3 s6 s7)]
  unfold kernelRun0_B
  dsimp only
  sl_unfold_words
  simp only [View.readAt_eq_ld, h1.read_unread, h2.read_unread, h3.read_unread, h4.read_unread, h8.read_unread, View.ld_unit_zero (S := S512x1024) zeros, View.ld_unit_zero (S := S1x1024) zeros, biasStep_fifth, biasStep_seventh]
  funext y
  refine (View.canon_append_of_piecesOf (biasRow x0 x1 x2 x3 s7) [] [_, _, _, _, _, _, _, _] ⟨?_, ?_, ?_, ?_, ?_, ?_, ?_, ?_, trivial⟩ y (View.cover_of_tiledL (s := S1x4096) _ S1x512.size (by sl_kernel_rfl) y))
  all_goals exact biasStep_emb x0 x1 x2 x3 _ _ _ _ (by decide) _ rfl

end Cases

end Cert.MlpIdeal.Grad

end
-- ==== Proof.MlpGrad.lean ====
module

public import proofs.«01_k».proof.Proof.MlpCases

@[expose] public section

set_option maxRecDepth 16384

noncomputable section

namespace Cert.MlpIdeal.Grad

open Cert.MlpIdeal Cert.MlpIdeal.Gen
open Idealize.ShloMosaic Idealize.ShloMosaic.TcCoe Idealize.ShloMosaic.Tactic
open Idealize.ShloMosaic.StableHlo

/-! # The feed-forward layer's backward call: its four results, entry by entry

Eight points in turn take 512 rows each; the two bias gradients run through all of them. -/

variable (m : (ℓ : Loc nD τ sig) → Buf (Elt Ideal) ℓ) (c : Dev nD)

/-- The incoming gradients, as launched. -/
abbrev inc : Vec Ideal S4096x1024 .f32 := m ((c : Thread nD τ).loc main_arg0)
/-- The first product, as launched. -/
abbrev raw : Vec Ideal S4096x4096 .f32 := m ((c : Thread nD τ).loc main_arg1)
/-- The first bias, as launched. -/
abbrev bias : Vec Ideal S1x4096 .f32 := m ((c : Thread nD τ).loc main_arg2)
/-- The second weights, as launched. -/
abbrev wts : Vec Ideal S4096x1024 .bf16 := m ((c : Thread nD τ).loc main_arg3)
/-- The gate, as launched. -/
abbrev gate : Vec Ideal S1x1024 .f32 := m ((c : Thread nD τ).loc main_arg4)

/-! ## What a point is handed -/

/-- One activation, over any arrays. -/
theorem act_apply (s : Vec Ideal S4096x4096 .f32) (b : Vec Ideal S1x4096 .f32) (r n : Fin 4096) :
    (truncf .bf16 (maximumf (addf s (broadcastInDim S4096x4096 ![0, 1] bcast_S1x4096_S4096x4096_0_1 b)) (broadcastInDim S4096x4096 ![] bcast_S_S4096x4096 (constant (F := Ideal) S_ .f32 0x00000000#32))) bitsLt_bf16_f32 : Vec Ideal S4096x4096 .bf16) (ix2 r n)
      = max (s (ix2 r n) + b (ix2 0 n)) 0 := by
  pointwise

/-- The activations, as the kernel finds them. -/
theorem act_found : V m c main_v3 = truncf .bf16 (maximumf (addf (raw m c) (broadcastInDim S4096x4096 ![0, 1] bcast_S1x4096_S4096x4096_0_1 (bias m c))) (broadcastInDim S4096x4096 ![] bcast_S_S4096x4096 (constant (F := Ideal) S_ .f32 0x00000000#32))) bitsLt_bf16_f32 := by
  show StableHlo.after _ _ _ = _
  simp only [hostOps0, hostOps0_1, hostOps0_2, List.flatten_cons, List.flatten_nil, List.append_nil, List.cons_append, List.nil_append, TRef.binary, TRef.nullary, TRef.unary, TRef.toBuf, TRef.ofBuf, cast_eq]
  after_results_simp <;> rfl

/-- The blocks of incoming gradients follow the points. -/
theorem index0 : ∀ t : Fin cfg0.N, win0_0.index t = ![t.val, 0] := (by decide +kernel : ∀ t : Fin grid0.N, _)
/-- So do those of activations. -/
theorem index1 : ∀ t : Fin cfg0.N, win0_1.index t = ![t.val, 0] := (by decide +kernel : ∀ t : Fin grid0.N, _)
/-- The weights are one block. -/
theorem index2 : ∀ t : Fin cfg0.N, win0_2.index t = ![0, 0] := (by decide +kernel : ∀ t : Fin grid0.N, _)
/-- The gate is one block. -/
theorem index3 : ∀ t : Fin cfg0.N, win0_3.index t = ![0, 0] := (by decide +kernel : ∀ t : Fin grid0.N, _)
/-- The blocks of scaled gradients follow the points. -/
theorem index4 : ∀ t : Fin cfg0.N, win0_4.index t = ![t.val, 0] := (by decide +kernel : ∀ t : Fin grid0.N, _)
/-- So do those of the gradients before the activation. -/
theorem index5 : ∀ t : Fin cfg0.N, win0_5.index t = ![t.val, 0] := (by decide +kernel : ∀ t : Fin grid0.N, _)

/-- A row of a point, among all rows. -/
def row (t : Fin cfg0.N) (l : Fin 512) : Fin 4096 := ⟨512 * t.val + l.val, by have := lt_of_lt_of_eq t.isLt N_0; omega⟩

/-- A point's incoming gradients. -/
abbrev incAt (t : Fin cfg0.N) : Vec Ideal S512x1024 .f32 := iblk m c 0 t
/-- A point's activations. -/
abbrev actAt (t : Fin cfg0.N) : Vec Ideal S512x4096 .bf16 := iblk m c 1 t
/-- A point's weights. -/
abbrev wtsAt (t : Fin cfg0.N) : Vec Ideal S4096x1024 .bf16 := iblk m c 2 t
/-- A point's gate. -/
abbrev gateAt (t : Fin cfg0.N) : Vec Ideal S1x1024 .f32 := iblk m c 3 t

/-- Where a point's incoming gradients lie. -/
theorem inc_block (t : Fin cfg0.N) (l : Fin 512) (d : Fin 1024) : incAt m c t (ix2 l d) = inc m c (ix2 (row t l) d) := by
  show (iblk m c 0 t : Vec Ideal S512x1024 .f32) _ = _
  unfold iblk
  rw [View.read_apply]
  show V m c main_arg0 _ = _
  rw [V_main_arg0]
  congr 1
  funext a
  apply Fin.ext
  match a with
  | ⟨0, _⟩ => show win0_0.index t 0 * 512 + 1 * l.val = _; rw [index0]; show t.val * 512 + 1 * l.val = 512 * t.val + l.val; omega
  | ⟨1, _⟩ => show win0_0.index t 1 * 1024 + 1 * d.val = _; rw [index0]; show 0 * 1024 + 1 * d.val = d.val; omega

/-- Where a point's activations lie. -/
theorem act_block (t : Fin cfg0.N) (l : Fin 512) (n : Fin 4096) :
    actAt m c t (ix2 l n) = max (raw m c (ix2 (row t l) n) + bias m c (ix2 0 n)) 0 := by
  refine Eq.trans ?_ (act_apply (raw m c) (bias m c) (row t l) n)
  rw [← act_found]
  show (iblk m c 1 t : Vec Ideal S512x4096 .bf16) _ = _
  unfold iblk
  rw [View.read_apply]
  show V m c main_v3 _ = V m c main_v3 _
  congr 1
  funext a
  apply Fin.ext
  match a with
  | ⟨0, _⟩ => show win0_1.index t 0 * 512 + 1 * l.val = _; rw [index1]; show t.val * 512 + 1 * l.val = 512 * t.val + l.val; omega
  | ⟨1, _⟩ => show win0_1.index t 1 * 4096 + 1 * n.val = _; rw [index1]; show 0 * 4096 + 1 * n.val = n.val; omega

/-- A point's weights are all of them. -/
theorem wts_block (t : Fin cfg0.N) (n : Fin 4096) (d : Fin 1024) : wtsAt m c t (ix2 n d) = wts m c (ix2 n d) := by
  show (iblk m c 2 t : Vec Ideal S4096x1024 .bf16) _ = _
  unfold iblk
  rw [View.read_apply]
  show V m c main_arg3 _ = _
  rw [V_main_arg3]
  congr 1
  funext a
  apply Fin.ext
  match a with
  | ⟨0, _⟩ => show win0_2.index t 0 * 4096 + 1 * n.val = _; rw [index2]; show 0 * 4096 + 1 * n.val = n.val; omega
  | ⟨1, _⟩ => show win0_2.index t 1 * 1024 + 1 * d.val = _; rw [index2]; show 0 * 1024 + 1 * d.val = d.val; omega

/-- A point's gate is the whole gate. -/
theorem gate_block (t : Fin cfg0.N) (d : Fin 1024) : gateAt m c t (ix2 0 d) = gate m c (ix2 0 d) := by
  show (iblk m c 3 t : Vec Ideal S1x1024 .f32) _ = _
  unfold iblk
  rw [View.read_apply]
  show V m c main_arg4 _ = _
  rw [V_main_arg4]
  congr 1
  funext a
  apply Fin.ext
  match a with
  | ⟨0, _⟩ => show win0_3.index t 0 * 1 + 1 * 0 = _; rw [index3]; rfl
  | ⟨1, _⟩ => show win0_3.index t 1 * 1024 + 1 * d.val = _; rw [index3]; show 0 * 1024 + 1 * d.val = d.val; omega

/-! ## The four results as formulas -/

/-- One scaled gradient. -/
def scaledAt (r : Fin 4096) (d : Fin 1024) : EReal := (1 + gate m c (ix2 0 d)) * inc m c (ix2 r d)

/-- One gradient before the activation. -/
def hidAt (r n : Fin 4096) : EReal :=
  (∑ d : Fin 1024, scaledAt m c r d * wts m c (ix2 n d)) * (2 * max (raw m c (ix2 r n) + bias m c (ix2 0 n)) 0)

/-- The scaled gradients. -/
def scaled : Vec Ideal S4096x1024 .bf16 := fun e => scaledAt m c (e 0) (e 1)
/-- The gradients before the activation. -/
def hidden : Vec Ideal S4096x4096 .bf16 := fun e => hidAt m c (e 0) (e 1)
/-- The second bias gradient. -/
def outBias : Vec Ideal S1x1024 .f32 := fun e => ∑ r : Fin 4096, scaledAt m c r (e 1)
/-- The first bias gradient. -/
def hidBias : Vec Ideal S1x4096 .f32 := fun e => ∑ r : Fin 4096, hidAt m c r (e 1)

/-- A point's gradients before the activation are those of its rows. -/
theorem pre_block (t : Fin cfg0.N) (l : Fin 512) (n : Fin 4096) :
    preAt (incAt m c t) (actAt m c t) (wtsAt m c t) (gateAt m c t) l n = hidAt m c (row t l) n := by
  unfold preAt hidAt scaledAt
  rw [act_block]
  refine congrArg (fun u : EReal => u * _) (Finset.sum_congr (M := EReal) rfl fun d _ => ?_)
  rw [gate_block, inc_block, wts_block]

/-- What a point leaves of scaled gradients. -/
theorem scaled_left (t : Fin cfg0.N) (l : Fin 512) (d : Fin 1024) :
    ((outsAt0 m c t.val t.isLt).1 : Vec Ideal S512x1024 .bf16) (ix2 l d) = scaledAt m c (row t l) d := by
  unfold scaledAt
  by_cases h0 : t.val % 8 = 0
  · rw [outsAt0_A m c t h0]
    dsimp only
    rw [first_scaled, scaled_apply, ← gate_block m c t, ← inc_block]
  · rw [outsAt0_B m c t h0]
    dsimp only
    rw [later_scaled, scaled_apply, ← gate_block m c t, ← inc_block]

/-- What a point leaves of gradients before the activation. -/
theorem hidden_left (t : Fin cfg0.N) (l : Fin 512) (n : Fin 4096) :
    ((outsAt0 m c t.val t.isLt).2.1 : Vec Ideal S512x4096 .bf16) (ix2 l n) = hidAt m c (row t l) n := by
  refine Eq.trans ?_ (pre_block m c t l n)
  by_cases h0 : t.val % 8 = 0
  · rw [outsAt0_A m c t h0]
    dsimp only
    rw [first_pre]
    rfl
  · rw [outsAt0_B m c t h0]
    dsimp only
    rw [later_pre]
    rfl

/-! ## The bias gradients, point after point -/

/-- What a point adds to the second bias gradient (zero beyond the last point). -/
def outTerm (d : Fin 1024) (p : ℕ) : EReal := if h : p < cfg0.N then ∑ l : Fin 512, scaledAt m c (row ⟨p, h⟩ l) d else 0
/-- The second bias gradient after a point. -/
def outHeld (d : Fin 1024) (p : ℕ) : EReal := if h : p < cfg0.N then ((outsAt0 m c p h).2.2.1 : Vec Ideal S1x1024 .f32) (ix2 0 d) else 0
/-- What a point adds to the first bias gradient. -/
def hidTerm (n : Fin 4096) (p : ℕ) : EReal := if h : p < cfg0.N then ∑ l : Fin 512, hidAt m c (row ⟨p, h⟩ l) n else 0
/-- The first bias gradient after a point. -/
def hidHeld (n : Fin 4096) (p : ℕ) : EReal := if h : p < cfg0.N then ((outsAt0 m c p h).2.2.2 : Vec Ideal S1x4096 .f32) (ix2 0 n) else 0

/-- The second bias gradient is cleared to zero. -/
theorem clearOut_apply (d : Fin 1024) : (k0_pay6 (F := Ideal) : Vec Ideal S1x1024 .f32) (ix2 0 d) = 0 := by
  pointwise [k0_pay6]

/-- So is the first. -/
theorem clearHid_apply (n : Fin 4096) : (k0_pay7 (F := Ideal) : Vec Ideal S1x4096 .f32) (ix2 0 n) = 0 := by
  pointwise [k0_pay7]

/-- A point's column sum of scaled gradients. -/
theorem outSum (t : Fin cfg0.N) (d : Fin 1024) :
    ∑ l : Fin 512, (1 + gateAt m c t (ix2 0 d)) * incAt m c t (ix2 l d) = ∑ l : Fin 512, scaledAt m c (row t l) d := by
  refine Finset.sum_congr (M := EReal) rfl fun l _ => ?_
  unfold scaledAt
  rw [gate_block, inc_block]

/-- The second bias gradient after the first point. -/
theorem outHeld_first (d : Fin 1024) : outHeld m c d 0 = 0 + outTerm m c d 0 := by
  have hN : cfg0.N = 8 := N_0
  have h : 0 < cfg0.N := by omega
  unfold outHeld outTerm
  rw [dif_pos h, dif_pos h, outsAt0_A m c ⟨0, h⟩ rfl]
  dsimp only
  rw [first_outBias, outBias_apply, clearOut_apply, outSum]

/-- The others add theirs. -/
theorem outHeld_next (d : Fin 1024) (p : ℕ) (h : p + 1 < 8) : outHeld m c d (p + 1) = outHeld m c d p + outTerm m c d (p + 1) := by
  have hN : cfg0.N = 8 := N_0
  have h1 : p + 1 < cfg0.N := by omega
  unfold outHeld outTerm
  rw [dif_pos h1, dif_pos h1, dif_pos (Nat.lt_of_succ_lt h1), outsAt0_B m c ⟨p + 1, h1⟩ (by dsimp only; omega)]
  dsimp only
  rw [later_outBias, outBias_apply, outSum]
  rfl

/-- The first bias gradient after the first point. -/
theorem hidHeld_first (n : Fin 4096) : hidHeld m c n 0 = 0 + hidTerm m c n 0 := by
  have hN : cfg0.N = 8 := N_0
  have h : 0 < cfg0.N := by omega
  unfold hidHeld hidTerm
  rw [dif_pos h, dif_pos h, outsAt0_A m c ⟨0, h⟩ rfl]
  dsimp only
  rw [first_bias]
  exact congrArg₂ (fun u v : EReal => u + v) (clearHid_apply n) (Finset.sum_congr (M := EReal) rfl fun l _ => pre_block m c ⟨0, h⟩ l n)

/-- The others add theirs. -/
theorem hidHeld_next (n : Fin 4096) (p : ℕ) (h : p + 1 < 8) : hidHeld m c n (p + 1) = hidHeld m c n p + hidTerm m c n (p + 1) := by
  have hN : cfg0.N = 8 := N_0
  have h1 : p + 1 < cfg0.N := by omega
  unfold hidHeld hidTerm
  rw [dif_pos h1, dif_pos h1, dif_pos (Nat.lt_of_succ_lt h1), outsAt0_B m c ⟨p + 1, h1⟩ (by dsimp only; omega)]
  dsimp only
  rw [later_bias]
  exact congrArg (fun v : EReal => _ + v) (Finset.sum_congr (M := EReal) rfl fun l _ => pre_block m c ⟨p + 1, h1⟩ l n)

/-- A running total over the eight points is a sum over all rows. -/
theorem total (s p : ℕ → EReal) (f : Fin 4096 → EReal) (h0 : s 0 = 0 + p 0) (h1 : ∀ n, n + 1 < 8 → s (n + 1) = s n + p (n + 1))
    (hp : ∀ t : Fin cfg0.N, p t.val = ∑ l : Fin 512, f (row t l)) : s 7 = ∑ r, f r := by
  have hN : cfg0.N = 8 := N_0
  rw [Cert.Blocks.running 8 s p h0 h1 7 (by omega), Cert.Blocks.sum_blocks (n := 8) (k := 512) rfl, Finset.sum_range]
  exact Finset.sum_congr (M := EReal) rfl fun b _ => hp ⟨b.val, by omega⟩

/-- The second bias gradient after the last point. -/
theorem outBias_left (h : 7 < cfg0.N) : ((outsAt0 m c 7 h).2.2.1 : Vec Ideal S1x1024 .f32) = outBias m c := by
  funext e
  have he : e = ix2 0 (e 1) := (eq_ix2 e).trans (congrArg (fun a => ix2 a (e 1)) (Subsingleton.elim (α := Fin 1) _ _))
  refine (congrArg _ he).trans (Eq.trans ?_ (total (outHeld m c (e 1)) (outTerm m c (e 1)) (fun r => scaledAt m c r (e 1)) (outHeld_first m c _) (outHeld_next m c _) fun t => ?_))
  · unfold outHeld
    rw [dif_pos h]
    rfl
  · unfold outTerm
    rw [dif_pos t.isLt]

/-- The first bias gradient after the last point. -/
theorem hidBias_left (h : 7 < cfg0.N) : ((outsAt0 m c 7 h).2.2.2 : Vec Ideal S1x4096 .f32) = hidBias m c := by
  funext e
  have he : e = ix2 0 (e 1) := (eq_ix2 e).trans (congrArg (fun a => ix2 a (e 1)) (Subsingleton.elim (α := Fin 1) _ _))
  refine (congrArg _ he).trans (Eq.trans ?_ (total (hidHeld m c (e 1)) (hidTerm m c (e 1)) (fun r => hidAt m c r (e 1)) (hidHeld_first m c _) (hidHeld_next m c _) fun t => ?_))
  · unfold hidHeld
    rw [dif_pos h]
    rfl
  · unfold hidTerm
    rw [dif_pos t.isLt]

/-! ## The final arrays -/

/-- The point that takes a row. -/
def pointOf (r : Fin 4096) : Fin cfg0.N := ⟨r.val / 512, by have hN : cfg0.N = 8 := N_0; omega⟩

/-- The scaled gradients at the end. -/
theorem scaled_final : (dats m 0 c).arrAt 4 cfg0.N = scaled m c := by
  refine (dats m 0 c).arrAt_eq_of_cover 4 (scaled m c) (fun t _ => ?_) fun i => ⟨pointOf (i 0), flush0_4 _, ?_⟩
  · rw [Value.flushed4]
    funext x
    rw [View.read_apply]
    refine (congrArg (outsAt0 m c t.val t.isLt).1 (eq_ix2 (n0 := 512) (n1 := 1024) x)).trans ((scaled_left m c t (x 0) (x 1)).trans ?_)
    refine congrArg (scaled m c) (a₁ := ix2 (row t (x 0)) (x 1)) ?_
    funext a
    apply Fin.ext
    match a with
    | ⟨0, _⟩ => show 512 * t.val + (x 0).val = win0_4.index t 0 * 512 + 1 * (x 0).val; rw [index4]; show _ = t.val * 512 + 1 * (x 0).val; omega
    | ⟨1, _⟩ => show (x 1).val = win0_4.index t 1 * 1024 + 1 * (x 1).val; rw [index4]; show _ = 0 * 1024 + 1 * (x 1).val; omega
  · show i ∈ ((View.whole main_v4_0).slice (win0_4.rect (pointOf (i 0)))).set
    rw [View.set_slice_whole, Rect.mem_set_unit]
    have h0 : (i 0 : Nat) < 4096 := (i 0).isLt
    have h1 : (i 1 : Nat) < 1024 := (i 1).isLt
    intro a
    match a with
    | ⟨0, _⟩ => show win0_4.index (pointOf (i 0)) 0 * 512 ≤ (i 0 : Nat) ∧ (i 0 : Nat) < win0_4.index (pointOf (i 0)) 0 * 512 + 512
                rw [index4]; show (i 0 : Nat) / 512 * 512 ≤ (i 0 : Nat) ∧ (i 0 : Nat) < (i 0 : Nat) / 512 * 512 + 512; omega
    | ⟨1, _⟩ => show win0_4.index (pointOf (i 0)) 1 * 1024 ≤ (i 1 : Nat) ∧ (i 1 : Nat) < win0_4.index (pointOf (i 0)) 1 * 1024 + 1024
                rw [index4]; show 0 * 1024 ≤ (i 1 : Nat) ∧ (i 1 : Nat) < 0 * 1024 + 1024; omega

/-- The gradients before the activation at the end. -/
theorem hidden_final : (dats m 0 c).arrAt 5 cfg0.N = hidden m c := by
  refine (dats m 0 c).arrAt_eq_of_cover 5 (hidden m c) (fun t _ => ?_) fun i => ⟨pointOf (i 0), flush0_5 _, ?_⟩
  · rw [Value.flushed5]
    funext x
    rw [View.read_apply]
    refine (congrArg (outsAt0 m c t.val t.isLt).2.1 (eq_ix2 (n0 := 512) (n1 := 4096) x)).trans ((hidden_left m c t (x 0) (x 1)).trans ?_)
    refine congrArg (hidden m c) (a₁ := ix2 (row t (x 0)) (x 1)) ?_
    funext a
    apply Fin.ext
    match a with
    | ⟨0, _⟩ => show 512 * t.val + (x 0).val = win0_5.index t 0 * 512 + 1 * (x 0).val; rw [index5]; show _ = t.val * 512 + 1 * (x 0).val; omega
    | ⟨1, _⟩ => show (x 1).val = win0_5.index t 1 * 4096 + 1 * (x 1).val; rw [index5]; show _ = 0 * 4096 + 1 * (x 1).val; omega
  · show i ∈ ((View.whole main_v4_1).slice (win0_5.rect (pointOf (i 0)))).set
    rw [View.set_slice_whole, Rect.mem_set_unit]
    have h0 : (i 0 : Nat) < 4096 := (i 0).isLt
    have h1 : (i 1 : Nat) < 4096 := (i 1).isLt
    intro a
    match a with
    | ⟨0, _⟩ => show win0_5.index (pointOf (i 0)) 0 * 512 ≤ (i 0 : Nat) ∧ (i 0 : Nat) < win0_5.index (pointOf (i 0)) 0 * 512 + 512
                rw [index5]; show (i 0 : Nat) / 512 * 512 ≤ (i 0 : Nat) ∧ (i 0 : Nat) < (i 0 : Nat) / 512 * 512 + 512; omega
    | ⟨1, _⟩ => show win0_5.index (pointOf (i 0)) 1 * 4096 ≤ (i 1 : Nat) ∧ (i 1 : Nat) < win0_5.index (pointOf (i 0)) 1 * 4096 + 4096
                rw [index5]; show 0 * 4096 ≤ (i 1 : Nat) ∧ (i 1 : Nat) < 0 * 4096 + 4096; omega

/-- The last point. -/
def last : Fin cfg0.N := ⟨7, by have hN : cfg0.N = 8 := N_0; omega⟩

/-- The second bias gradient at the end: its one block is written back by the last point. -/
theorem outBias_final : (dats m 0 c).arrAt 6 cfg0.N = outBias m c := by
  have hN : cfg0.N = 8 := N_0
  refine (dats m 0 c).arrAt_eq_of_cover 6 (outBias m c) (fun t hf => ?_) fun i => ⟨last, (flush0_6 last).mpr rfl, ?_⟩
  · have h7 : t.val = 7 := by have := (flush0_6 t).mp hf; have := t.isLt; omega
    obtain rfl : t = last := Fin.ext h7
    rw [Value.flushed6]
    refine (congrArg ((cfg0.win 6).cut (grid0.coords last)) (outBias_left m c last.isLt)).trans ?_
    have hz : (fun a => win0_6.index last a * main_v4_2.ty.shape.size a) = fun _ => 0 := funext fun a => by fin_cases a <;> decide
    exact (Memref.read_access_unit_zero (Elt Ideal) main_v4_2 hz (fun a => by rw [congrFun hz a]; simp) (outBias m c)).symm
  · show i ∈ ((View.whole main_v4_2).slice (win0_6.rect last)).set
    rw [View.set_slice_whole, Rect.mem_set_unit]
    have h0 : (i 0 : Nat) < 1 := (i 0).isLt
    have h1 : (i 1 : Nat) < 1024 := (i 1).isLt
    intro a
    match a with
    | ⟨0, _⟩ => show win0_6.index last 0 * 1 ≤ (i 0 : Nat) ∧ (i 0 : Nat) < win0_6.index last 0 * 1 + 1
                rw [show win0_6.index last 0 = 0 from by decide +kernel]; omega
    | ⟨1, _⟩ => show win0_6.index last 1 * 1024 ≤ (i 1 : Nat) ∧ (i 1 : Nat) < win0_6.index last 1 * 1024 + 1024
                rw [show win0_6.index last 1 = 0 from by decide +kernel]; omega

/-- The first bias gradient at the end. -/
theorem hidBias_final : (dats m 0 c).arrAt 7 cfg0.N = hidBias m c := by
  have hN : cfg0.N = 8 := N_0
  refine (dats m 0 c).arrAt_eq_of_cover 7 (hidBias m c) (fun t hf => ?_) fun i => ⟨last, (flush0_7 last).mpr rfl, ?_⟩
  · have h7 : t.val = 7 := by have := (flush0_7 t).mp hf; have := t.isLt; omega
    obtain rfl : t = last := Fin.ext h7
    rw [Value.flushed7]
    refine (congrArg ((cfg0.win 7).cut (grid0.coords last)) (hidBias_left m c last.isLt)).trans ?_
    have hz : (fun a => win0_7.index last a * main_v4_3.ty.shape.size a) = fun _ => 0 := funext fun a => by fin_cases a <;> decide
    exact (Memref.read_access_unit_zero (Elt Ideal) main_v4_3 hz (fun a => by rw [congrFun hz a]; simp) (hidBias m c)).symm
  · show i ∈ ((View.whole main_v4_3).slice (win0_7.rect last)).set
    rw [View.set_slice_whole, Rect.mem_set_unit]
    have h0 : (i 0 : Nat) < 1 := (i 0).isLt
    have h1 : (i 1 : Nat) < 4096 := (i 1).isLt
    intro a
    match a with
    | ⟨0, _⟩ => show win0_7.index last 0 * 1 ≤ (i 0 : Nat) ∧ (i 0 : Nat) < win0_7.index last 0 * 1 + 1
                rw [show win0_7.index last 0 = 0 from by decide +kernel]; omega
    | ⟨1, _⟩ => show win0_7.index last 1 * 4096 ≤ (i 1 : Nat) ∧ (i 1 : Nat) < win0_7.index last 1 * 4096 + 4096
                rw [show win0_7.index last 1 = 0 from by decide +kernel]; omega

end Cert.MlpIdeal.Grad

end
-- ==== Proof.MlpAgree.lean ====
module

public import proofs.«01_k».proof.Defs
public import proofs.«01_k».proof.Proof.Axes
public import proofs.«01_k».proof.Proof.MlpGrad
public import proofs.«01_k».proof.Proof.Gen.MlpReferenceIdeal.Run

@[expose] public section

set_option maxRecDepth 16384

noncomputable section

namespace Cert.MlpAgree

open Idealize.ShloMosaic Idealize.ShloMosaic.TcCoe Idealize.ShloMosaic.Tactic Idealize.SL.Sem

/-! # The feed-forward layer's backward call: kernel and reference agree -/

/-! ## Column sums -/

section Columns

variable {n0 n1 : ℕ}

/-- A sum along the first of two axes. -/
@[pointwise] theorem sum_first (h : (⟨2, ![n0, n1]⟩ : Shape).ReducesTo [0] (⟨1, ![n1]⟩ : Shape)) (i : Fin n1)
    (v : (⟨2, ![n0, n1]⟩ : Shape).Idx → EReal) (init : EReal) :
    Ideal.hostReduceAdd h v init (ix1 i) = init + ∑ k : Fin n0, v (ix2 k i) := by
  refine Cert.Attn.sum_along h _ (fun k => ix2 k i) (fun e => e 0) (fun k => ?_) (fun e he => ?_) (fun _ => rfl) v init
  · funext b; apply Fin.ext
    match b with
    | ⟨0, _⟩ => rfl
  · funext a; apply Fin.ext
    match a with
    | ⟨0, _⟩ => rfl
    | ⟨1, _⟩ => exact (congrArg Fin.val (congrFun he 0)).symm

end Columns

/-! ## The reference's four results, entry by entry -/

section Reading

open Cert.MlpReferenceIdeal Cert.MlpReferenceIdeal.Gen

variable (x : FVec Ideal S4096x1024 .f32) (s : FVec Ideal S4096x4096 .f32) (b : FVec Ideal S1x4096 .f32) (w : FVec Ideal S4096x1024 .bf16) (g : FVec Ideal S1x1024 .f32)

/-- The incoming gradients times the gate, as the reference forms them. -/
abbrev gated : FVec Ideal S4096x1024 .f32 :=
  mulf (broadcastInDim S4096x1024 ![0, 1] bcast_S1x1024_S4096x1024_0_1 (addf (broadcastInDim S1x1024 ![] bcast_S_S1x1024 (constant (F := Ideal) S_ .f32 0x3F800000#32)) g)) x

/-- The first product with its bias. -/
abbrev shifted : FVec Ideal S4096x4096 .f32 := addf s (broadcastInDim S4096x4096 ![0, 1] bcast_S1x4096_S4096x4096_0_1 b)

/-- A constant zero of the hidden values' shape. -/
abbrev nought : FVec Ideal S4096x4096 .f32 := broadcastInDim S4096x4096 ![] bcast_S_S4096x4096 (constant (F := Ideal) S_ .f32 0x00000000#32)

/-- The gradient before the activation, as the reference forms it: nothing passes where the activation is cut off. -/
abbrev passed : FVec Ideal S4096x4096 .f32 :=
  select (cmpf .ogt (shifted s b) nought) (mulf (Host.dotGeneral (φ₂ := .f32) dot_S4096x1024_S4096x1024_S4096x4096_1_1_0_0_n_n none (gated x g) (extf .f32 w bitsLt_bf16_f32)) (mulf (broadcastInDim S4096x4096 ![] bcast_S_S4096x4096 (constant (F := Ideal) S_ .f32 0x40000000#32)) (maximumf (shifted s b) nought))) nought

/-- One scaled gradient. -/
theorem gated_apply (r : Fin 4096) (d : Fin 1024) : gated x g (ix2 r d) = (1 + g (ix2 0 d)) * x (ix2 r d) := by
  pointwise

/-- One gradient before the activation. -/
theorem passed_apply (r n : Fin 4096) : passed x s b w g (ix2 r n)
    = (∑ d : Fin 1024, ((1 + g (ix2 0 d)) * x (ix2 r d)) * w (ix2 n d)) * (2 * max (s (ix2 r n) + b (ix2 0 n)) 0) := by
  pointwise
  rw [Cert.MlpIdeal.Grad.two_word]
  split_ifs with h
  · rfl
  · rw [max_eq_right (not_lt.mp h), mul_zero, mul_zero]

/-- One column sum over the layer's outputs. -/
theorem outColumn_apply (v : FVec Ideal S4096x1024 .f32) (d : Fin 1024) :
    shapeCast S1x1024 (Host.reduceAdd v (constant (F := Ideal) S_ .f32 0x00000000#32) reducesTo_S4096x1024_S1024_d0 h_S_) shapeCasts_S1024_S1x1024 (ix2 0 d)
      = ∑ r : Fin 4096, v (ix2 r d) := by
  pointwise

/-- One column sum over the hidden values. -/
theorem hidColumn_apply (v : FVec Ideal S4096x4096 .f32) (n : Fin 4096) :
    shapeCast S1x4096 (Host.reduceAdd v (constant (F := Ideal) S_ .f32 0x00000000#32) reducesTo_S4096x4096_S4096_d0 h_S_) shapeCasts_S4096_S1x4096 (ix2 0 n)
      = ∑ r : Fin 4096, v (ix2 r n) := by
  pointwise

end Reading

open Cert.MlpIdeal.Grad in
/-- The four results of the feed-forward layer's backward call. -/
theorem equal : Cert.algebraic_MlpIdeal_MlpReferenceIdeal
    (hMlpIdeal := Cert.MlpIdeal.Gen.facts) (hMlpReferenceIdeal := Cert.MlpReferenceIdeal.Gen.facts) := by
  intro m g m' g' _ h
  refine ⟨fun c => scaled m c, fun c => hidden m c, fun c => outBias m c, fun c => hidBias m c, ?_, ?_⟩
  · exact (θ_run Cert.MlpIdeal.defs _ _).mono (fun r hr c => ⟨(hr c).1.trans (scaled_final m c), (hr c).2.1.trans (hidden_final m c), (hr c).2.2.1.trans (outBias_final m c), (hr c).2.2.2.1.trans (hidBias_final m c), (hr c).2.2.2.2⟩)
      (Cert.MlpIdeal.Value.run_blocks m g)
  · refine (θ_run Cert.MlpReferenceIdeal.defs _ _).mono (fun r hr c => ⟨(hr c).1.trans ?_, (hr c).2.1.trans ?_, (hr c).2.2.1.trans ?_, (hr c).2.2.2.1.trans ?_, (hr c).2.2.2.2⟩) (Cert.MlpReferenceIdeal.Value.run (F := Ideal) m' g')
    all_goals
      obtain ⟨h0, h1, h2, h3, h4⟩ := h c
    · rw [h0, h4]
      funext e
      exact (congrArg _ (eq_ix2 e)).trans (gated_apply _ _ (e 0) (e 1))
    · rw [h0, h1, h2, h3, h4]
      funext e
      exact (congrArg _ (eq_ix2 e)).trans (passed_apply _ _ _ _ _ (e 0) (e 1))
    · rw [h0, h4]
      funext e
      have he : e = ix2 0 (e 1) := (eq_ix2 e).trans (congrArg (fun a => ix2 a (e 1)) (Subsingleton.elim (α := Fin 1) _ _))
      exact (congrArg _ he).trans ((outColumn_apply _ (e 1)).trans (Finset.sum_congr (M := EReal) rfl fun r _ => gated_apply _ _ r (e 1)))
    · rw [h0, h1, h2, h3, h4]
      funext e
      have he : e = ix2 0 (e 1) := (eq_ix2 e).trans (congrArg (fun a => ix2 a (e 1)) (Subsingleton.elim (α := Fin 1) _ _))
      exact (congrArg _ he).trans ((hidColumn_apply _ (e 1)).trans (Finset.sum_congr (M := EReal) rfl fun r _ => passed_apply _ _ _ _ _ r (e 1)))

end Cert.MlpAgree

end
-- ==== Proof.Gw2Grad.lean ====
module

public import proofs.«01_k».proof.Proof.BlockSum
public import proofs.«01_k».proof.Proof.Gen.Gw2Ideal.Value

@[expose] public section

set_option maxRecDepth 16384

noncomputable section

namespace Cert.Gw2Ideal.Grad

open Cert.Gw2Ideal Cert.Gw2Ideal.Gen
open Idealize.ShloMosaic Idealize.ShloMosaic.TcCoe Idealize.ShloMosaic.Tactic

/-! # The gradient of the second feed-forward weights, block by block

Four points in a row add up one block of the result: each squares a block of hidden values and multiplies its transpose
with a block of incoming gradients. -/

/-- Offsets that are all zero. -/
theorem zeros : (![0, 0] : Fin 2 → Nat) = fun _ => 0 := funext fun a => by fin_cases a <;> rfl

section Cases

variable {F : FTy → Type} [FloatOps F]
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .bf16) (h5 : a5.IsWhole)
  (a6 : Memref sig .tc .vmem S1024x1024 .f32) (h6 : a6.IsWhole) (x y : Vec F S1024x1024 .bf16) (s : Vec F S1024x1024 .f32)

/-- The first of four points leaves in the accumulator its own product, added to zero. -/
theorem first_leaves (hc0 : cond0_0 i) (hc1 : ¬cond0_1 i) :
    sout0_A_0 c i a3 h3 a4 h4 a5 h5 a6 h6 hc0 hc1 x y = k0_pay2 x (k0_pay1 (F := F)) y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) zeros, View.readCov_unit_zero (S := S1024x1024) _ zeros]
  simp only [View.readAt_eq_ld, h3.read_unread, h4.read_unread, View.ld_unit_zero (S := S1024x1024) zeros]

/-- A middle point adds its product to what the accumulator holds. -/
theorem middle_leaves (hc0 : ¬cond0_0 i) (hc1 : ¬cond0_1 i) :
    sout0_B_0 c i a3 h3 a4 h4 a5 h5 a6 h6 hc0 hc1 x y s = k0_pay2 x s y := by
  unfold sout0_B_0
  rw [View.read_writes_eq_canon _ _ _ (scover0_B_0 c i a3 h3 a4 h4 a5 h5 a6 h6 hc0 hc1 x y s)]
  unfold kernelRun0_B
  dsimp only
  rw [View.canon_unit_zero (S := S1024x1024) zeros]
  simp only [View.readAt_eq_ld, h3.read_unread, h4.read_unread, h6.read_unread, View.ld_unit_zero (S := S1024x1024) zeros]

/-- The last point does so too. -/
theorem last_leaves (hc0 : ¬cond0_0 i) (hc1 : cond0_1 i) :
    sout0_C_0 c i a3 h3 a4 h4 a5 h5 a6 h6 hc0 hc1 x y s = k0_pay2 x s y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero (S := S1024x1024) zeros]
  simp only [View.readAt_eq_ld, h3.read_unread, h4.read_unread, h6.read_unread, View.ld_unit_zero (S := S1024x1024) zeros]

/-- The last point writes the accumulator out, rounded. -/
theorem last_writes (hc0 : ¬cond0_0 i) (hc1 : cond0_1 i) :
    out0_C_2 c i a3 h3 a4 h4 a5 h5 a6 h6 hc0 hc1 x y s = k0_pay3 (k0_pay2 x s y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S1024x1024) zeros, View.readCov_unit_zero (S := S1024x1024) _ zeros]
  simp only [View.readAt_eq_ld, h3.read_unread, h4.read_unread, h6.read_unread, View.ld_unit_zero (S := S1024x1024) zeros]

end Cases

/-! ## Among the extended reals -/

/-- One entry of what a point adds: the products of a column of squares with a column of gradients. -/
theorem step_apply (x y : Vec Ideal S1024x1024 .bf16) (s : Vec Ideal S1024x1024 .f32) (k n : Fin 1024) :
    (k0_pay2 x s y : Vec Ideal S1024x1024 .f32) (ix2 k n)
      = s (ix2 k n) + ∑ l : Fin 1024, (x (ix2 l k) * x (ix2 l k)) * y (ix2 l n) := by
  pointwise [k0_pay2]

/-- The accumulator is cleared to zero. -/
theorem clear_apply (k n : Fin 1024) : (k0_pay1 (F := Ideal) : Vec Ideal S1024x1024 .f32) (ix2 k n) = 0 := by
  pointwise [k0_pay1]

variable (m : (ℓ : Loc nD τ sig) → Buf (Elt Ideal) ℓ) (c : Dev nD)

/-- Which block the first argument's window reads. -/
theorem index0 : ∀ t : Fin cfg0.N, win0_0.index t = ![t.val % 4, t.val / 4] := (by decide +kernel : ∀ t : Fin grid0.N, _)
/-- Which block the second argument's window reads. -/
theorem index1 : ∀ t : Fin cfg0.N, win0_1.index t = ![t.val % 4, 0] := (by decide +kernel : ∀ t : Fin grid0.N, _)

/-- The hidden values, as launched. -/
abbrev hid : Vec Ideal S4096x4096 .bf16 := m ((c : Thread nD τ).loc main_arg0)
/-- The incoming gradients, as launched. -/
abbrev grad : Vec Ideal S4096x1024 .bf16 := m ((c : Thread nD τ).loc main_arg1)

/-- A point's block of hidden values. -/
abbrev hidAt (t : Fin cfg0.N) : Vec Ideal S1024x1024 .bf16 := iblk m c 0 t
/-- A point's block of incoming gradients. -/
abbrev gradAt (t : Fin cfg0.N) : Vec Ideal S1024x1024 .bf16 := iblk m c 1 t

/-- Where the block of hidden values of a point lies. -/
theorem hid_block (t : Fin cfg0.N) (l k : Fin 1024) :
    hidAt m c t (ix2 l k)
      = hid m c (ix2 ⟨1024 * (t.val % 4) + l.val, by omega⟩ ⟨1024 * (t.val / 4) + k.val, by have := lt_of_lt_of_eq t.isLt N_0; omega⟩) := by
  show (iblk m c 0 t : Vec Ideal S1024x1024 .bf16) _ = _
  unfold iblk
  rw [View.read_apply]
  show m ((c : Thread nD τ).loc main_arg0) _ = m ((c : Thread nD τ).loc main_arg0) _
  congr 1
  funext a
  apply Fin.ext
  match a with
  | ⟨0, _⟩ => show win0_0.index t 0 * 1024 + 1 * l.val = _; rw [index0]; show t.val % 4 * 1024 + 1 * l.val = 1024 * (t.val % 4) + l.val; omega
  | ⟨1, _⟩ => show win0_0.index t 1 * 1024 + 1 * k.val = _; rw [index0]; show t.val / 4 * 1024 + 1 * k.val = 1024 * (t.val / 4) + k.val; omega

/-- Where the block of incoming gradients of a point lies. -/
theorem grad_block (t : Fin cfg0.N) (l n : Fin 1024) :
    gradAt m c t (ix2 l n) = grad m c (ix2 ⟨1024 * (t.val % 4) + l.val, by omega⟩ n) := by
  show (iblk m c 1 t : Vec Ideal S1024x1024 .bf16) _ = _
  unfold iblk
  rw [View.read_apply]
  show m ((c : Thread nD τ).loc main_arg1) _ = m ((c : Thread nD τ).loc main_arg1) _
  congr 1
  funext a
  apply Fin.ext
  match a with
  | ⟨0, _⟩ => show win0_1.index t 0 * 1024 + 1 * l.val = _; rw [index1]; show t.val % 4 * 1024 + 1 * l.val = 1024 * (t.val % 4) + l.val; omega
  | ⟨1, _⟩ => show win0_1.index t 1 * 1024 + 1 * n.val = _; rw [index1]; show 0 * 1024 + 1 * n.val = n.val; omega

/-! ## The four points of a block -/

/-- One entry of the product a point forms (zero beyond the last point). -/
def term (k n : Fin 1024) (p : ℕ) : EReal :=
  if h : p < cfg0.N then ∑ l : Fin 1024, (hidAt m c ⟨p, h⟩ (ix2 l k) * hidAt m c ⟨p, h⟩ (ix2 l k)) * gradAt m c ⟨p, h⟩ (ix2 l n) else 0

/-- One entry of the accumulator after a point (zero beyond the last point). -/
def held (k n : Fin 1024) (p : ℕ) : EReal :=
  if h : p < cfg0.N then ((outsAt0 m c p h).2 : Vec Ideal S1024x1024 .f32) (ix2 k n) else 0

/-- At the first of four points the accumulator is started anew. -/
theorem held_first (k n : Fin 1024) (p : ℕ) (h : p < cfg0.N) (h0 : p % 4 = 0) : held m c k n p = 0 + term m c k n p := by
  unfold held term
  rw [dif_pos h, dif_pos h, outsAt0_A m c ⟨p, h⟩ h0 (by dsimp only; omega)]
  dsimp only
  rw [first_leaves, step_apply, clear_apply]

/-- At the others the point's product is added. -/
theorem held_next (k n : Fin 1024) (p : ℕ) (h : p + 1 < cfg0.N) (h0 : (p + 1) % 4 ≠ 0) :
    held m c k n (p + 1) = held m c k n p + term m c k n (p + 1) := by
  unfold held term
  rw [dif_pos h, dif_pos h, dif_pos (Nat.lt_of_succ_lt h)]
  by_cases h1 : (p + 1) % 4 = 3
  · rw [outsAt0_C m c ⟨p + 1, h⟩ h0 h1]
    dsimp only
    rw [last_leaves, step_apply]
    rfl
  · rw [outsAt0_B m c ⟨p + 1, h⟩ h0 h1]
    dsimp only
    rw [middle_leaves, step_apply]
    rfl

/-- What the fourth point writes out. -/
theorem written (k n : Fin 1024) (p : ℕ) (h : p < cfg0.N) (h3 : p % 4 = 3) :
    ((outsAt0 m c p h).1 : Vec Ideal S1024x1024 .bf16) (ix2 k n) = held m c k n p := by
  unfold held
  rw [dif_pos h, outsAt0_C m c ⟨p, h⟩ (by dsimp only; omega) h3]
  dsimp only
  rw [last_leaves, last_writes]
  pointwise [k0_pay3]

/-- The four terms of a block are the whole column product. -/
theorem column (q : Fin 4) (k n : Fin 1024) :
    held m c k n (4 * q.val + 3)
      = ∑ r : Fin 4096, (hid m c (ix2 r ⟨1024 * q.val + k.val, by omega⟩) * hid m c (ix2 r ⟨1024 * q.val + k.val, by omega⟩)) * grad m c (ix2 r n) := by
  have hN : cfg0.N = 16 := N_0
  rw [Cert.Blocks.run_of_four (held m c k n) (term m c k n) q.val (held_first m c k n _ (by omega) (by omega))
    (held_next m c k n _ (by omega) (by omega)) (held_next m c k n _ (by omega) (by omega)) (held_next m c k n _ (by omega) (by omega)),
    Cert.Blocks.sum_blocks (n := 4) (k := 1024) rfl]
  refine Finset.sum_congr rfl fun b _ => ?_
  unfold term
  rw [dif_pos (by omega)]
  refine Finset.sum_congr rfl fun l _ => ?_
  rw [hid_block, grad_block]
  have e1 : (4 * q.val + b.val) % 4 = b.val := by omega
  have e2 : (4 * q.val + b.val) / 4 = q.val := by omega
  simp only [e1, e2]

/-- The result the kernel ends with, entry by entry. -/
theorem result_apply (i : Fin 4096) (j : Fin 1024) :
    (Value.G2 m c : Vec Ideal S4096x1024 .bf16) (ix2 i j)
      = ∑ r : Fin 4096, (hid m c (ix2 r i) * hid m c (ix2 r i)) * grad m c (ix2 r j) := by
  have hN : cfg0.N = 16 := N_0
  have hp : Value.pt2Of (ix2 i j) = 4 * (i.val / 1024) + 3 := by
    show 4 * (1 * (i.val / 1024 - 0) + 1 * (j.val / 1024 - 0)) + 3 = _
    have : j.val / 1024 = 0 := Nat.div_eq_of_lt j.isLt
    omega
  have hl : Value.loc2Of (ix2 i j) = ix2 (⟨i.val % 1024, Nat.mod_lt _ (by decide)⟩ : Fin 1024) j := by
    funext a; apply Fin.ext
    match a with
    | ⟨0, _⟩ => rfl
    | ⟨1, _⟩ => exact Nat.mod_eq_of_lt j.isLt
  have hlt : 4 * (i.val / 1024) + 3 < cfg0.N := by have := i.isLt; omega
  have e : (Value.G2 m c : Vec Ideal S4096x1024 .bf16) (ix2 i j)
      = ((outsAt0 m c (4 * (i.val / 1024) + 3) hlt).1 : Vec Ideal S1024x1024 .bf16) (ix2 (⟨i.val % 1024, Nat.mod_lt _ (by decide)⟩ : Fin 1024) j) := by
    unfold Value.G2
    rw [dif_pos (by rw [hp]; exact hlt), hl, Value.fold0_congr m c _ _ _ (by omega) hp, ← Value.outsAt0_sweep m c _ hlt]
  rw [e, written m c _ _ _ hlt (by omega)]
  refine (column m c ⟨i.val / 1024, by omega⟩ _ j).trans ?_
  have ei : (⟨1024 * (i.val / 1024) + i.val % 1024, by omega⟩ : Fin 4096) = i := Fin.ext (Nat.div_add_mod _ _)
  simp only [ei]

end Cert.Gw2Ideal.Grad

end
-- ==== Proof.Gw1Grad.lean ====
module

public import proofs.«01_k».proof.Proof.BlockSum
public import proofs.«01_k».proof.Proof.Gen.Gw1Ideal.Value

@[expose] public section

set_option maxRecDepth 16384

noncomputable section

namespace Cert.Gw1Ideal.Grad

open Cert.Gw1Ideal Cert.Gw1Ideal.Gen
open Idealize.ShloMosaic Idealize.ShloMosaic.TcCoe Idealize.ShloMosaic.Tactic

/-! # The gradient of the first feed-forward weights, block by block

Four points in a row add up one block of the result: each multiplies the transpose of a block of incoming gradients with a
block of the layer's inputs. -/

/-- Offsets that are all zero. -/
theorem zeros : (![0, 0] : Fin 2 → Nat) = fun _ => 0 := funext fun a => by fin_cases a <;> rfl

section Cases

variable {F : FTy → Type} [FloatOps F]
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .bf16) (h5 : a5.IsWhole)
  (a6 : Memref sig .tc .vmem S1024x1024 .f32) (h6 : a6.IsWhole) (x y : Vec F S1024x1024 .bf16) (s : Vec F S1024x1024 .f32)

/-- The first of four points leaves in the accumulator its own product, added to zero. -/
theorem first_leaves (hc0 : cond0_0 i) (hc1 : ¬cond0_1 i) :
    sout0_A_0 c i a3 h3 a4 h4 a5 h5 a6 h6 hc0 hc1 x y = k0_pay2 x (k0_pay1 (F := F)) y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) zeros, View.readCov_unit_zero (S := S1024x1024) _ zeros]
  simp only [View.readAt_eq_ld, h3.read_unread, h4.read_unread, View.ld_unit_zero (S := S1024x1024) zeros]

/-- A middle point adds its product to what the accumulator holds. -/
theorem middle_leaves (hc0 : ¬cond0_0 i) (hc1 : ¬cond0_1 i) :
    sout0_B_0 c i a3 h3 a4 h4 a5 h5 a6 h6 hc0 hc1 x y s = k0_pay2 x s y := by
  unfold sout0_B_0
  rw [View.read_writes_eq_canon _ _ _ (scover0_B_0 c i a3 h3 a4 h4 a5 h5 a6 h6 hc0 hc1 x y s)]
  unfold kernelRun0_B
  dsimp only
  rw [View.canon_unit_zero (S := S1024x1024) zeros]
  simp only [View.readAt_eq_ld, h3.read_unread, h4.read_unread, h6.read_unread, View.ld_unit_zero (S := S1024x1024) zeros]

/-- The last point does so too. -/
theorem last_leaves (hc0 : ¬cond0_0 i) (hc1 : cond0_1 i) :
    sout0_C_0 c i a3 h3 a4 h4 a5 h5 a6 h6 hc0 hc1 x y s = k0_pay2 x s y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero (S := S1024x1024) zeros]
  simp only [View.readAt_eq_ld, h3.read_unread, h4.read_unread, h6.read_unread, View.ld_unit_zero (S := S1024x1024) zeros]

/-- The last point writes the accumulator out, rounded. -/
theorem last_writes (hc0 : ¬cond0_0 i) (hc1 : cond0_1 i) :
    out0_C_2 c i a3 h3 a4 h4 a5 h5 a6 h6 hc0 hc1 x y s = k0_pay3 (k0_pay2 x s y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S1024x1024) zeros, View.readCov_unit_zero (S := S1024x1024) _ zeros]
  simp only [View.readAt_eq_ld, h3.read_unread, h4.read_unread, h6.read_unread, View.ld_unit_zero (S := S1024x1024) zeros]

end Cases

/-! ## Among the extended reals -/

/-- One entry of what a point adds: the products of a column of gradients with a column of inputs. -/
theorem step_apply (x y : Vec Ideal S1024x1024 .bf16) (s : Vec Ideal S1024x1024 .f32) (k n : Fin 1024) :
    (k0_pay2 x s y : Vec Ideal S1024x1024 .f32) (ix2 k n)
      = s (ix2 k n) + ∑ l : Fin 1024, x (ix2 l k) * y (ix2 l n) := by
  pointwise [k0_pay2]

/-- The accumulator is cleared to zero. -/
theorem clear_apply (k n : Fin 1024) : (k0_pay1 (F := Ideal) : Vec Ideal S1024x1024 .f32) (ix2 k n) = 0 := by
  pointwise [k0_pay1]

variable (m : (ℓ : Loc nD τ sig) → Buf (Elt Ideal) ℓ) (c : Dev nD)

/-- Which block the first argument's window reads. -/
theorem index0 : ∀ t : Fin cfg0.N, win0_0.index t = ![t.val % 4, t.val / 4] := (by decide +kernel : ∀ t : Fin grid0.N, _)
/-- Which block the second argument's window reads. -/
theorem index1 : ∀ t : Fin cfg0.N, win0_1.index t = ![t.val % 4, 0] := (by decide +kernel : ∀ t : Fin grid0.N, _)

/-- The incoming gradients, as launched. -/
abbrev dpre : Vec Ideal S4096x4096 .bf16 := m ((c : Thread nD τ).loc main_arg0)
/-- The layer's inputs, as launched. -/
abbrev inp : Vec Ideal S4096x1024 .bf16 := m ((c : Thread nD τ).loc main_arg1)

/-- A point's block of incoming gradients. -/
abbrev dpreAt (t : Fin cfg0.N) : Vec Ideal S1024x1024 .bf16 := iblk m c 0 t
/-- A point's block of inputs. -/
abbrev inpAt (t : Fin cfg0.N) : Vec Ideal S1024x1024 .bf16 := iblk m c 1 t

/-- Where the block of incoming gradients of a point lies. -/
theorem dpre_block (t : Fin cfg0.N) (l k : Fin 1024) :
    dpreAt m c t (ix2 l k)
      = dpre m c (ix2 ⟨1024 * (t.val % 4) + l.val, by omega⟩ ⟨1024 * (t.val / 4) + k.val, by have := lt_of_lt_of_eq t.isLt N_0; omega⟩) := by
  show (iblk m c 0 t : Vec Ideal S1024x1024 .bf16) _ = _
  unfold iblk
  rw [View.read_apply]
  show m ((c : Thread nD τ).loc main_arg0) _ = m ((c : Thread nD τ).loc main_arg0) _
  congr 1
  funext a
  apply Fin.ext
  match a with
  | ⟨0, _⟩ => show win0_0.index t 0 * 1024 + 1 * l.val = _; rw [index0]; show t.val % 4 * 1024 + 1 * l.val = 1024 * (t.val % 4) + l.val; omega
  | ⟨1, _⟩ => show win0_0.index t 1 * 1024 + 1 * k.val = _; rw [index0]; show t.val / 4 * 1024 + 1 * k.val = 1024 * (t.val / 4) + k.val; omega

/-- Where the block of inputs of a point lies. -/
theorem inp_block (t : Fin cfg0.N) (l n : Fin 1024) :
    inpAt m c t (ix2 l n) = inp m c (ix2 ⟨1024 * (t.val % 4) + l.val, by omega⟩ n) := by
  show (iblk m c 1 t : Vec Ideal S1024x1024 .bf16) _ = _
  unfold iblk
  rw [View.read_apply]
  show m ((c : Thread nD τ).loc main_arg1) _ = m ((c : Thread nD τ).loc main_arg1) _
  congr 1
  funext a
  apply Fin.ext
  match a with
  | ⟨0, _⟩ => show win0_1.index t 0 * 1024 + 1 * l.val = _; rw [index1]; show t.val % 4 * 1024 + 1 * l.val = 1024 * (t.val % 4) + l.val; omega
  | ⟨1, _⟩ => show win0_1.index t 1 * 1024 + 1 * n.val = _; rw [index1]; show 0 * 1024 + 1 * n.val = n.val; omega

/-! ## The four points of a block -/

/-- One entry of the product a point forms (zero beyond the last point). -/
def term (k n : Fin 1024) (p : ℕ) : EReal :=
  if h : p < cfg0.N then ∑ l : Fin 1024, dpreAt m c ⟨p, h⟩ (ix2 l k) * inpAt m c ⟨p, h⟩ (ix2 l n) else 0

/-- One entry of the accumulator after a point (zero beyond the last point). -/
def held (k n : Fin 1024) (p : ℕ) : EReal :=
  if h : p < cfg0.N then ((outsAt0 m c p h).2 : Vec Ideal S1024x1024 .f32) (ix2 k n) else 0

/-- At the first of four points the accumulator is started anew. -/
theorem held_first (k n : Fin 1024) (p : ℕ) (h : p < cfg0.N) (h0 : p % 4 = 0) : held m c k n p = 0 + term m c k n p := by
  unfold held term
  rw [dif_pos h, dif_pos h, outsAt0_A m c ⟨p, h⟩ h0 (by dsimp only; omega)]
  dsimp only
  rw [first_leaves, step_apply, clear_apply]

/-- At the others the point's product is added. -/
theorem held_next (k n : Fin 1024) (p : ℕ) (h : p + 1 < cfg0.N) (h0 : (p + 1) % 4 ≠ 0) :
    held m c k n (p + 1) = held m c k n p + term m c k n (p + 1) := by
  unfold held term
  rw [dif_pos h, dif_pos h, dif_pos (Nat.lt_of_succ_lt h)]
  by_cases h1 : (p + 1) % 4 = 3
  · rw [outsAt0_C m c ⟨p + 1, h⟩ h0 h1]
    dsimp only
    rw [last_leaves, step_apply]
    rfl
  · rw [outsAt0_B m c ⟨p + 1, h⟩ h0 h1]
    dsimp only
    rw [middle_leaves, step_apply]
    rfl

/-- What the fourth point writes out. -/
theorem written (k n : Fin 1024) (p : ℕ) (h : p < cfg0.N) (h3 : p % 4 = 3) :
    ((outsAt0 m c p h).1 : Vec Ideal S1024x1024 .bf16) (ix2 k n) = held m c k n p := by
  unfold held
  rw [dif_pos h, outsAt0_C m c ⟨p, h⟩ (by dsimp only; omega) h3]
  dsimp only
  rw [last_leaves, last_writes]
  pointwise [k0_pay3]

/-- The four terms of a block are the whole column product. -/
theorem column (q : Fin 4) (k n : Fin 1024) :
    held m c k n (4 * q.val + 3)
      = ∑ r : Fin 4096, dpre m c (ix2 r ⟨1024 * q.val + k.val, by omega⟩) * inp m c (ix2 r n) := by
  have hN : cfg0.N = 16 := N_0
  rw [Cert.Blocks.run_of_four (held m c k n) (term m c k n) q.val (held_first m c k n _ (by omega) (by omega))
    (held_next m c k n _ (by omega) (by omega)) (held_next m c k n _ (by omega) (by omega)) (held_next m c k n _ (by omega) (by omega)),
    Cert.Blocks.sum_blocks (n := 4) (k := 1024) rfl]
  refine Finset.sum_congr rfl fun b _ => ?_
  unfold term
  rw [dif_pos (by omega)]
  refine Finset.sum_congr rfl fun l _ => ?_
  rw [dpre_block, inp_block]
  have e1 : (4 * q.val + b.val) % 4 = b.val := by omega
  have e2 : (4 * q.val + b.val) / 4 = q.val := by omega
  simp only [e1, e2]

/-- The result the kernel ends with, entry by entry. -/
theorem result_apply (i : Fin 4096) (j : Fin 1024) :
    (Value.G2 m c : Vec Ideal S4096x1024 .bf16) (ix2 i j)
      = ∑ r : Fin 4096, dpre m c (ix2 r i) * inp m c (ix2 r j) := by
  have hN : cfg0.N = 16 := N_0
  have hp : Value.pt2Of (ix2 i j) = 4 * (i.val / 1024) + 3 := by
    show 4 * (1 * (i.val / 1024 - 0) + 1 * (j.val / 1024 - 0)) + 3 = _
    have : j.val / 1024 = 0 := Nat.div_eq_of_lt j.isLt
    omega
  have hl : Value.loc2Of (ix2 i j) = ix2 (⟨i.val % 1024, Nat.mod_lt _ (by decide)⟩ : Fin 1024) j := by
    funext a; apply Fin.ext
    match a with
    | ⟨0, _⟩ => rfl
    | ⟨1, _⟩ => exact Nat.mod_eq_of_lt j.isLt
  have hlt : 4 * (i.val / 1024) + 3 < cfg0.N := by have := i.isLt; omega
  have e : (Value.G2 m c : Vec Ideal S4096x1024 .bf16) (ix2 i j)
      = ((outsAt0 m c (4 * (i.val / 1024) + 3) hlt).1 : Vec Ideal S1024x1024 .bf16) (ix2 (⟨i.val % 1024, Nat.mod_lt _ (by decide)⟩ : Fin 1024) j) := by
    unfold Value.G2
    rw [dif_pos (by rw [hp]; exact hlt), hl, Value.fold0_congr m c _ _ _ (by omega) hp, ← Value.outsAt0_sweep m c _ hlt]
  rw [e, written m c _ _ _ hlt (by omega)]
  refine (column m c ⟨i.val / 1024, by omega⟩ _ j).trans ?_
  have ei : (⟨1024 * (i.val / 1024) + i.val % 1024, by omega⟩ : Fin 4096) = i := Fin.ext (Nat.div_add_mod _ _)
  simp only [ei]

end Cert.Gw1Ideal.Grad

end
-- ==== Proof.GwoGrad.lean ====
module

public import proofs.«01_k».proof.Proof.BlockSum
public import proofs.«01_k».proof.Proof.Gen.GwoIdeal.Value

@[expose] public section

set_option maxRecDepth 16384

noncomputable section

namespace Cert.GwoIdeal.Grad

open Cert.GwoIdeal Cert.GwoIdeal.Gen
open Idealize.ShloMosaic Idealize.ShloMosaic.TcCoe Idealize.ShloMosaic.Tactic

/-! # The gradient of one half of the output weights

Four points in a row add up the result: each multiplies the transpose of 1024 rows of a head group's output with the same
rows of the incoming gradients. -/

/-- Offsets that are all zero. -/
theorem zeros : (![0, 0] : Fin 2 → Nat) = fun _ => 0 := funext fun a => by fin_cases a <;> rfl

section Cases

variable {F : FTy → Type} [FloatOps F]
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .bf16) (h5 : a5.IsWhole)
  (a6 : Memref sig .tc .vmem S1024x1024 .f32) (h6 : a6.IsWhole) (x y : Vec F S1024x1024 .bf16) (s : Vec F S1024x1024 .f32)

/-- The first of four points leaves in the accumulator its own product, added to zero. -/
theorem first_leaves (hc0 : cond0_0 i) (hc1 : ¬cond0_1 i) :
    sout0_A_0 c i a3 h3 a4 h4 a5 h5 a6 h6 hc0 hc1 x y = k0_pay2 x (k0_pay1 (F := F)) y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) zeros, View.readCov_unit_zero (S := S1024x1024) _ zeros]
  simp only [View.readAt_eq_ld, h3.read_unread, h4.read_unread, View.ld_unit_zero (S := S1024x1024) zeros]

/-- A middle point adds its product to what the accumulator holds. -/
theorem middle_leaves (hc0 : ¬cond0_0 i) (hc1 : ¬cond0_1 i) :
    sout0_B_0 c i a3 h3 a4 h4 a5 h5 a6 h6 hc0 hc1 x y s = k0_pay2 x s y := by
  unfold sout0_B_0
  rw [View.read_writes_eq_canon _ _ _ (scover0_B_0 c i a3 h3 a4 h4 a5 h5 a6 h6 hc0 hc1 x y s)]
  unfold kernelRun0_B
  dsimp only
  rw [View.canon_unit_zero (S := S1024x1024) zeros]
  simp only [View.readAt_eq_ld, h3.read_unread, h4.read_unread, h6.read_unread, View.ld_unit_zero (S := S1024x1024) zeros]

/-- The last point does so too. -/
theorem last_leaves (hc0 : ¬cond0_0 i) (hc1 : cond0_1 i) :
    sout0_C_0 c i a3 h3 a4 h4 a5 h5 a6 h6 hc0 hc1 x y s = k0_pay2 x s y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero (S := S1024x1024) zeros]
  simp only [View.readAt_eq_ld, h3.read_unread, h4.read_unread, h6.read_unread, View.ld_unit_zero (S := S1024x1024) zeros]

/-- The last point writes the accumulator out, rounded. -/
theorem last_writes (hc0 : ¬cond0_0 i) (hc1 : cond0_1 i) :
    out0_C_2 c i a3 h3 a4 h4 a5 h5 a6 h6 hc0 hc1 x y s = k0_pay3 (k0_pay2 x s y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S1024x1024) zeros, View.readCov_unit_zero (S := S1024x1024) _ zeros]
  simp only [View.readAt_eq_ld, h3.read_unread, h4.read_unread, h6.read_unread, View.ld_unit_zero (S := S1024x1024) zeros]

end Cases

/-! ## Among the extended reals -/

/-- One entry of what a point adds: the products of a column of gradients with a column of inputs. -/
theorem step_apply (x y : Vec Ideal S1024x1024 .bf16) (s : Vec Ideal S1024x1024 .f32) (k n : Fin 1024) :
    (k0_pay2 x s y : Vec Ideal S1024x1024 .f32) (ix2 k n)
      = s (ix2 k n) + ∑ l : Fin 1024, x (ix2 l k) * y (ix2 l n) := by
  pointwise [k0_pay2]

/-- The accumulator is cleared to zero. -/
theorem clear_apply (k n : Fin 1024) : (k0_pay1 (F := Ideal) : Vec Ideal S1024x1024 .f32) (ix2 k n) = 0 := by
  pointwise [k0_pay1]

variable (m : (ℓ : Loc nD τ sig) → Buf (Elt Ideal) ℓ) (c : Dev nD)

/-- Which block the first argument's window reads. -/
theorem index0 : ∀ t : Fin cfg0.N, win0_0.index t = ![t.val, 0] := (by decide +kernel : ∀ t : Fin grid0.N, _)
/-- Which block the second argument's window reads. -/
theorem index1 : ∀ t : Fin cfg0.N, win0_1.index t = ![t.val, 0] := (by decide +kernel : ∀ t : Fin grid0.N, _)

/-- The head group's output, as launched. -/
abbrev heads : Vec Ideal S4096x1024 .bf16 := m ((c : Thread nD τ).loc main_arg0)
/-- The incoming gradients, as launched. -/
abbrev inc : Vec Ideal S4096x1024 .bf16 := m ((c : Thread nD τ).loc main_arg1)

/-- A point's rows of the head group's output. -/
abbrev headsAt (t : Fin cfg0.N) : Vec Ideal S1024x1024 .bf16 := iblk m c 0 t
/-- A point's rows of incoming gradients. -/
abbrev incAt (t : Fin cfg0.N) : Vec Ideal S1024x1024 .bf16 := iblk m c 1 t

/-- A row of a point, among all rows. -/
def row (t : Fin cfg0.N) (l : Fin 1024) : Fin 4096 := ⟨1024 * t.val + l.val, by have := lt_of_lt_of_eq t.isLt N_0; omega⟩

/-- Where an entry of a point's rows lies among all rows. -/
theorem row_entry (t : Fin cfg0.N) (l n : Fin 1024) (e : S4096x1024.Idx)
    (h0 : (e 0).val = t.val * 1024 + 1 * l.val) (h1 : (e 1).val = 0 * 1024 + 1 * n.val) : e = ix2 (row t l) n := by
  rw [eq_ix2 e]
  refine congrArg₂ ix2 (Fin.ext (h0.trans ?_)) (Fin.ext (h1.trans ?_))
  · show t.val * 1024 + 1 * l.val = 1024 * t.val + l.val
    omega
  · omega

/-- Where a point's part of the first argument lies. -/
theorem heads_block (t : Fin cfg0.N) (l k : Fin 1024) : headsAt m c t (ix2 l k) = heads m c (ix2 (row t l) k) := by
  show (iblk m c 0 t : Vec Ideal S1024x1024 .bf16) _ = _
  unfold iblk
  rw [View.read_apply]
  refine congrArg (heads m c) (row_entry t l k _ ?_ ?_)
  · show win0_0.index t 0 * 1024 + 1 * l.val = _; rw [index0]; rfl
  · show win0_0.index t 1 * 1024 + 1 * k.val = _; rw [index0]; rfl

/-- Where its part of the second lies. -/
theorem inc_block (t : Fin cfg0.N) (l n : Fin 1024) : incAt m c t (ix2 l n) = inc m c (ix2 (row t l) n) := by
  show (iblk m c 1 t : Vec Ideal S1024x1024 .bf16) _ = _
  unfold iblk
  rw [View.read_apply]
  refine congrArg (inc m c) (row_entry t l n _ ?_ ?_)
  · show win0_1.index t 0 * 1024 + 1 * l.val = _; rw [index1]; rfl
  · show win0_1.index t 1 * 1024 + 1 * n.val = _; rw [index1]; rfl

/-! ## The four points -/

/-- One entry of the product a point forms (zero beyond the last point). -/
def term (k n : Fin 1024) (p : ℕ) : EReal :=
  if h : p < cfg0.N then ∑ l : Fin 1024, heads m c (ix2 (row ⟨p, h⟩ l) k) * inc m c (ix2 (row ⟨p, h⟩ l) n) else 0

/-- One entry of the accumulator after a point (zero beyond the last point). -/
def held (k n : Fin 1024) (p : ℕ) : EReal :=
  if h : p < cfg0.N then ((outsAt0 m c p h).2 : Vec Ideal S1024x1024 .f32) (ix2 k n) else 0

/-- A point's product is one of its rows. -/
theorem point_sum (t : Fin cfg0.N) (k n : Fin 1024) :
    ∑ l : Fin 1024, headsAt m c t (ix2 l k) * incAt m c t (ix2 l n) = ∑ l : Fin 1024, heads m c (ix2 (row t l) k) * inc m c (ix2 (row t l) n) :=
  Finset.sum_congr (M := EReal) rfl fun l _ => congrArg₂ (fun u v : EReal => u * v) (heads_block m c t l k) (inc_block m c t l n)

/-- At the first point the accumulator is started. -/
theorem held_first (k n : Fin 1024) : held m c k n 0 = 0 + term m c k n 0 := by
  have hN : cfg0.N = 4 := N_0
  have h : 0 < cfg0.N := by omega
  unfold held term
  rw [dif_pos h, dif_pos h, outsAt0_A m c ⟨0, h⟩ rfl (by dsimp only; omega)]
  dsimp only
  rw [first_leaves, step_apply, clear_apply, point_sum]

/-- At the others the point's product is added. -/
theorem held_next (k n : Fin 1024) (p : ℕ) (h4 : p + 1 < 4) : held m c k n (p + 1) = held m c k n p + term m c k n (p + 1) := by
  have hN : cfg0.N = 4 := N_0
  have h : p + 1 < cfg0.N := by omega
  unfold held term
  rw [dif_pos h, dif_pos h, dif_pos (Nat.lt_of_succ_lt h)]
  by_cases h1 : (p + 1) % 4 = 3
  · rw [outsAt0_C m c ⟨p + 1, h⟩ (by dsimp only; omega) h1]
    dsimp only
    rw [last_leaves, step_apply, point_sum]
    rfl
  · rw [outsAt0_B m c ⟨p + 1, h⟩ (by dsimp only; omega) h1]
    dsimp only
    rw [middle_leaves, step_apply, point_sum]
    rfl

/-- The last point writes the accumulator out. -/
theorem written (k n : Fin 1024) (h : 3 < cfg0.N) : ((outsAt0 m c 3 h).1 : Vec Ideal S1024x1024 .bf16) (ix2 k n) = held m c k n 3 := by
  unfold held
  rw [dif_pos h, outsAt0_C m c ⟨3, h⟩ (by dsimp only; omega) rfl]
  dsimp only
  rw [last_leaves, last_writes]
  pointwise [k0_pay3]

/-- The result the kernel ends with, entry by entry. -/
theorem result_apply (k n : Fin 1024) :
    (Value.G2 m c : Vec Ideal S1024x1024 .bf16) (ix2 k n) = ∑ r : Fin 4096, heads m c (ix2 r k) * inc m c (ix2 r n) := by
  have hN : cfg0.N = 4 := N_0
  have h : 3 < cfg0.N := by omega
  rw [Value.G2_last m c, ← Value.outsAt0_sweep m c 3 h, written,
    Cert.Blocks.running 4 (held m c k n) (term m c k n) (held_first m c k n) (held_next m c k n) 3 (by omega),
    Cert.Blocks.sum_blocks (n := 4) (k := 1024) rfl, Finset.sum_range]
  refine Finset.sum_congr (M := EReal) rfl fun b _ => ?_
  unfold term
  rw [dif_pos (by omega)]
  rfl

end Cert.GwoIdeal.Grad

end
-- ==== Proof.GwAgree.lean ====
module

public import proofs.«01_k».proof.Defs
public import proofs.«01_k».proof.Proof.Gw2Grad
public import proofs.«01_k».proof.Proof.Gw1Grad
public import proofs.«01_k».proof.Proof.GwoGrad
public import proofs.«01_k».proof.Proof.Gen.Gw2ReferenceIdeal.Run
public import proofs.«01_k».proof.Proof.Gen.Gw1ReferenceIdeal.Run
public import proofs.«01_k».proof.Proof.Gen.GwoReferenceIdeal.Run

@[expose] public section

set_option maxRecDepth 16384

noncomputable section

namespace Cert.GwAgree

open Idealize.ShloMosaic Idealize.ShloMosaic.TcCoe Idealize.ShloMosaic.Tactic Idealize.SL.Sem

/-! # The weight gradients: kernel and reference agree -/

section Second

open Cert.Gw2ReferenceIdeal Cert.Gw2ReferenceIdeal.Facts Cert.Gw2ReferenceIdeal.Gen in
/-- One entry of the derivative that the reference takes of the second product. -/
theorem second_apply (x : FVec Ideal S4096x4096 .bf16) (y : FVec Ideal S4096x1024 .bf16) (i : Fin 4096) (j : Fin 1024) :
    truncf .bf16 (transpose S4096x1024 [1, 0] (Host.dotGeneral (φ₂ := .f32) dot_S4096x1024_S4096x4096_S1024x4096_0_0_1_1_n_n none (extf .f32 y bitsLt_bf16_f32) (mulf (extf .f32 x bitsLt_bf16_f32) (extf .f32 x bitsLt_bf16_f32))) transposes_S1024x4096_S4096x1024_1_0) bitsLt_bf16_f32 (ix2 i j)
      = ∑ r : Fin 4096, y (ix2 r j) * (x (ix2 r i) * x (ix2 r i)) := by
  pointwise

/-- The gradient of the second weights. -/
theorem second_equal : Cert.algebraic_Gw2Ideal_Gw2ReferenceIdeal
    (hGw2Ideal := Cert.Gw2Ideal.Gen.facts) (hGw2ReferenceIdeal := Cert.Gw2ReferenceIdeal.Gen.facts) := by
  intro m g m' g' _ h
  refine ⟨fun c => Cert.Gw2Ideal.Value.G2 m c, Cert.Gw2Ideal.Value.run m g, ?_⟩
  refine (θ_run Cert.Gw2ReferenceIdeal.defs _ _).mono (fun r hr c => ⟨(hr c).1.trans ?_, (hr c).2⟩) (Cert.Gw2ReferenceIdeal.Value.run (F := Ideal) m' g')
  refine funext fun e => ?_
  rw [eq_ix2 e]
  rw [(h c).1, (h c).2]
  exact (second_apply _ _ _ _).trans ((Cert.Gw2Ideal.Grad.result_apply m c _ _).trans (Finset.sum_congr (M := EReal) rfl fun r _ => EReal.mul_comm _ _)).symm

end Second

section First

open Cert.Gw1ReferenceIdeal Cert.Gw1ReferenceIdeal.Facts Cert.Gw1ReferenceIdeal.Gen in
/-- One entry of the derivative that the reference takes of the first product, transposed. -/
theorem first_apply (x : FVec Ideal S4096x4096 .bf16) (y : FVec Ideal S4096x1024 .bf16) (i : Fin 4096) (j : Fin 1024) :
    truncf .bf16 (transpose S4096x1024 [1, 0] (transpose S1024x4096 [1, 0] (Host.dotGeneral (φ₂ := .f32) dot_S4096x4096_S4096x1024_S4096x1024_0_0_1_1_n_n none (extf .f32 x bitsLt_bf16_f32) (extf .f32 y bitsLt_bf16_f32)) transposes_S4096x1024_S1024x4096_1_0) transposes_S1024x4096_S4096x1024_1_0) bitsLt_bf16_f32 (ix2 i j)
      = ∑ r : Fin 4096, x (ix2 r i) * y (ix2 r j) := by
  pointwise

/-- The gradient of the first weights. -/
theorem first_equal : Cert.algebraic_Gw1Ideal_Gw1ReferenceIdeal
    (hGw1Ideal := Cert.Gw1Ideal.Gen.facts) (hGw1ReferenceIdeal := Cert.Gw1ReferenceIdeal.Gen.facts) := by
  intro m g m' g' _ h
  refine ⟨fun c => Cert.Gw1Ideal.Value.G2 m c, Cert.Gw1Ideal.Value.run m g, ?_⟩
  refine (θ_run Cert.Gw1ReferenceIdeal.defs _ _).mono (fun r hr c => ⟨(hr c).1.trans ?_, (hr c).2⟩) (Cert.Gw1ReferenceIdeal.Value.run (F := Ideal) m' g')
  refine funext fun e => ?_
  rw [eq_ix2 e]
  rw [(h c).1, (h c).2]
  exact (first_apply _ _ _ _).trans (Cert.Gw1Ideal.Grad.result_apply m c _ _).symm

end First

section Output

open Cert.GwoReferenceIdeal Cert.GwoReferenceIdeal.Facts Cert.GwoReferenceIdeal.Gen in
/-- One entry of the derivative that the reference takes of the output projection. -/
theorem output_apply (x y : FVec Ideal S4096x1024 .bf16) (i j : Fin 1024) :
    truncf .bf16 (transpose S1024x1024 [1, 0] (Host.dotGeneral (φ₂ := .f32) dot_S4096x1024_S4096x1024_S1024x1024_0_0_1_1_n_n none (extf .f32 y bitsLt_bf16_f32) (extf .f32 x bitsLt_bf16_f32)) transposes_S1024x1024_S1024x1024_1_0) bitsLt_bf16_f32 (ix2 i j)
      = ∑ r : Fin 4096, y (ix2 r j) * x (ix2 r i) := by
  pointwise

/-- The gradient of one half of the output weights. -/
theorem output_equal : Cert.algebraic_GwoIdeal_GwoReferenceIdeal
    (hGwoIdeal := Cert.GwoIdeal.Gen.facts) (hGwoReferenceIdeal := Cert.GwoReferenceIdeal.Gen.facts) := by
  intro m g m' g' _ h
  refine ⟨fun c => Cert.GwoIdeal.Value.G2 m c, Cert.GwoIdeal.Value.run m g, ?_⟩
  refine (θ_run Cert.GwoReferenceIdeal.defs _ _).mono (fun r hr c => ⟨(hr c).1.trans ?_, (hr c).2⟩) (Cert.GwoReferenceIdeal.Value.run (F := Ideal) m' g')
  refine funext fun e => ?_
  rw [eq_ix2 e]
  rw [(h c).1, (h c).2]
  exact (output_apply _ _ _ _).trans ((Cert.GwoIdeal.Grad.result_apply m c _ _).trans (Finset.sum_congr (M := EReal) rfl fun r _ => EReal.mul_comm _ _)).symm

end Output

end Cert.GwAgree

end
-- ==== Proof.GwiGrad.lean ====
module

public import proofs.«01_k».proof.Proof.BlockSum
public import proofs.«01_k».proof.Proof.Gen.GwiIdeal.Value
public import Idealize.ShloMosaic.Lib.Pipeline.ReadBack
public import Idealize.ShloMosaic.Lib.Pipeline.ValueKit.Tiles

@[expose] public section

set_option maxRecDepth 16384

noncomputable section

namespace Cert.GwiIdeal.Grad

open Cert.GwiIdeal Cert.GwiIdeal.Gen
open Idealize.ShloMosaic Idealize.ShloMosaic.TcCoe Idealize.ShloMosaic.Tactic

/-! # The gradient of the input projection's weights

Eight points take 512 rows each. A point multiplies the transposes of five arrays of incoming gradients with its rows of the
layer's input, and adds each product to its own rows of the result, which the first point clears. -/

/-- Offsets that are all zero. -/
theorem zeros : (![0, 0] : Fin 2 → Nat) = fun _ => 0 := funext fun a => by fin_cases a <;> rfl

/-! ## The projection's columns, part by part -/

/-- One row of the five parts, laid side by side; of the third part the first 16 columns count. -/
def joined (z : Fin 1024 → EReal) (x : Fin 1536 → EReal) (t : Fin 128 → EReal) (q : Fin 1024 → EReal) (kv : Fin 256 → EReal) (j : Fin 3856) : EReal :=
  if h0 : j.val < 1024 then z ⟨j.val, h0⟩
  else if h1 : j.val < 2560 then x ⟨j.val - 1024, by omega⟩
  else if h2 : j.val < 2576 then t ⟨j.val - 2560, by omega⟩
  else if h3 : j.val < 3600 then q ⟨j.val - 2576, by omega⟩
  else kv ⟨j.val - 3600, by omega⟩

section Parts

variable (z : Fin 1024 → EReal) (x : Fin 1536 → EReal) (t : Fin 128 → EReal) (q : Fin 1024 → EReal) (kv : Fin 256 → EReal) (j : Fin 3856)

/-- The first part. -/
theorem joined_z (n : Fin 1024) (h : j.val = 0 + n.val) : joined z x t q kv j = z n := by
  unfold joined
  rw [dif_pos (by omega)]
  exact congrArg z (Fin.ext (by show j.val = n.val; omega))

/-- The second part. -/
theorem joined_x (n : Fin 1536) (h : j.val = 1024 + n.val) : joined z x t q kv j = x n := by
  unfold joined
  rw [dif_neg (by omega), dif_pos (by omega)]
  exact congrArg x (Fin.ext (by show j.val - 1024 = n.val; omega))

/-- The third part. -/
theorem joined_t (n : Fin 128) (h : j.val = 2560 + n.val) (hn : n.val < 16) : joined z x t q kv j = t n := by
  unfold joined
  rw [dif_neg (by omega), dif_neg (by omega), dif_pos (by omega)]
  exact congrArg t (Fin.ext (by show j.val - 2560 = n.val; omega))

/-- The fourth part. -/
theorem joined_q (n : Fin 1024) (h : j.val = 2576 + n.val) : joined z x t q kv j = q n := by
  unfold joined
  rw [dif_neg (by omega), dif_neg (by omega), dif_neg (by omega), dif_pos (by omega)]
  exact congrArg q (Fin.ext (by show j.val - 2576 = n.val; omega))

/-- The fifth part. -/
theorem joined_kv (n : Fin 256) (h : j.val = 3600 + n.val) : joined z x t q kv j = kv n := by
  unfold joined
  rw [dif_neg (by omega), dif_neg (by omega), dif_neg (by omega), dif_neg (by omega)]
  exact congrArg kv (Fin.ext (by show j.val - 3600 = n.val; omega))

end Parts

/-! ## One point, entry by entry -/

section Point

variable (x0 : Vec Ideal S512x1024 .bf16) (x1 : Vec Ideal S512x1536 .bf16) (x2 : Vec Ideal S512x128 .f32) (x3 : Vec Ideal S512x1024 .bf16) (x4 : Vec Ideal S512x256 .f32) (x5 : Vec Ideal S512x1024 .bf16)

/-- An incoming gradient of a point, at row `l` and projection column `j`. -/
def rowAt (l : Fin 512) (j : Fin 3856) : EReal :=
  joined (fun n => x0 (ix2 l n)) (fun n => x1 (ix2 l n)) (fun n => x2 (ix2 l n)) (fun n => x3 (ix2 l n)) (fun n => x4 (ix2 l n)) j

/-- The result `s` with a point's products added. -/
def added (s : Vec Ideal S3856x1024 .f32) : Vec Ideal S3856x1024 .f32 :=
  fun y => s y + ∑ l : Fin 512, rowAt x0 x1 x2 x3 x4 l (y 0) * x5 (ix2 l (y 1))

/-- A product of the first part. -/
theorem step_z (w : Vec Ideal S1024x1024 .f32) (k n : Fin 1024) :
    (k0_pay4 x5 w x0 : Vec Ideal S1024x1024 .f32) (ix2 k n) = w (ix2 k n) + ∑ l : Fin 512, x0 (ix2 l k) * x5 (ix2 l n) := by
  pointwise [k0_pay4]

/-- A product of the second part. -/
theorem step_x (w : Vec Ideal S1536x1024 .f32) (k : Fin 1536) (n : Fin 1024) :
    (k0_pay5 x5 w x1 : Vec Ideal S1536x1024 .f32) (ix2 k n) = w (ix2 k n) + ∑ l : Fin 512, x1 (ix2 l k) * x5 (ix2 l n) := by
  pointwise [k0_pay5]

/-- A product of the third part. -/
theorem step_t (w : Vec Ideal S16x1024 .f32) (k : Fin 16) (n : Fin 1024) :
    (k0_pay2 x5 w x2 : Vec Ideal S16x1024 .f32) (ix2 k n) = w (ix2 k n) + ∑ l : Fin 512, x2 (ix2 l (⟨k.val, by omega⟩ : Fin 128)) * x5 (ix2 l n) := by
  pointwise [k0_pay2]

/-- A product of the fourth part. -/
theorem step_q (w : Vec Ideal S1024x1024 .f32) (k n : Fin 1024) :
    (k0_pay6 x5 w x3 : Vec Ideal S1024x1024 .f32) (ix2 k n) = w (ix2 k n) + ∑ l : Fin 512, x3 (ix2 l k) * x5 (ix2 l n) := by
  pointwise [k0_pay6]

/-- A product of the fifth part. -/
theorem step_kv (w : Vec Ideal S256x1024 .f32) (k : Fin 256) (n : Fin 1024) :
    (k0_pay1 x5 (k0_pay7 w) (k0_pay8 x4) : Vec Ideal S256x1024 .f32) (ix2 k n) = w (ix2 k n) + ∑ l : Fin 512, x4 (ix2 l k) * x5 (ix2 l n) := by
  pointwise [k0_pay1, k0_pay7, k0_pay8]

/-- A product placed in the rows from `o` on is that part of the whole. -/
theorem placed (s : Vec Ideal S3856x1024 .f32) (o r : ℕ) (inb : ∀ a : Fin 2, (![o, 0] : Fin 2 → ℕ) a + (![r, 1024] : Fin 2 → ℕ) a ≤ S3856x1024.size a)
    (p : Vec Ideal ⟨2, ![r, 1024]⟩ .f32) (w : Vec Ideal ⟨2, ![r, 1024]⟩ .f32) (f : Fin 512 → Fin r → EReal)
    (hp : ∀ (k : Fin r) (n : Fin 1024), p (ix2 k n) = w (ix2 k n) + ∑ l : Fin 512, f l k * x5 (ix2 l n))
    (hw : w = View.ld s (Rect.unit (s := S3856x1024) ![o, 0] ![r, 1024] inb))
    (hf : ∀ (l : Fin 512) (k : Fin r) (j : Fin 3856), j.val = o + k.val → rowAt x0 x1 x2 x3 x4 l j = f l k)
    (y : (Rect.unit (s := S3856x1024) ![o, 0] ![r, 1024] inb).shape.Idx) :
    p y = added x0 x1 x2 x3 x4 x5 s ((Rect.unit (s := S3856x1024) ![o, 0] ![r, 1024] inb).emb y) := by
  have e0 : (((Rect.unit (s := S3856x1024) ![o, 0] ![r, 1024] inb).emb y) 0).val = o + (y 0).val := by show o + 1 * (y 0).val = _; omega
  have e1 : ((Rect.unit (s := S3856x1024) ![o, 0] ![r, 1024] inb).emb y) 1 = y 1 := Fin.ext (by show 0 + 1 * (y 1).val = (y 1).val; omega)
  refine (congrArg p (eq_ix2 (n0 := r) (n1 := 1024) y)).trans ((hp (y 0) (y 1)).trans ?_)
  unfold added
  rw [e1]
  refine congrArg₂ (fun u v : EReal => u + v) ?_ (Finset.sum_congr (M := EReal) rfl fun l _ => congrArg (fun u : EReal => u * _) (hf l (y 0) _ e0).symm)
  rw [hw]
  exact (congrArg (View.ld s (Rect.unit (s := S3856x1024) ![o, 0] ![r, 1024] inb)) (eq_ix2 (n0 := r) (n1 := 1024) y).symm).trans rfl

/-- An entry lies in the rows from `o` on if its row does. -/
theorem mem_rows (y : S3856x1024.Idx) (o r : ℕ) (inb : ∀ a : Fin 2, (![o, 0] : Fin 2 → ℕ) a + (![r, 1024] : Fin 2 → ℕ) a ≤ S3856x1024.size a)
    (h0 : o ≤ (y 0).val) (h1 : (y 0).val < o + r) : y ∈ (Rect.unit (s := S3856x1024) ![o, 0] ![r, 1024] inb).set := by
  refine Rect.mem_set_unit.mpr (Fin.forall_fin_two.mpr ⟨⟨h0, h1⟩, ⟨Nat.zero_le _, ?_⟩⟩)
  have h : (y 1).val < 1024 := (y 1).isLt
  show (y 1).val < 0 + 1024
  omega

/-- The five parts' rows are all rows. -/
theorem rows_cover (y : S3856x1024.Idx)
    (iz : ∀ a : Fin 2, (![0, 0] : Fin 2 → ℕ) a + (![1024, 1024] : Fin 2 → ℕ) a ≤ S3856x1024.size a) (wz)
    (ix : ∀ a : Fin 2, (![1024, 0] : Fin 2 → ℕ) a + (![1536, 1024] : Fin 2 → ℕ) a ≤ S3856x1024.size a) (wx)
    (iq : ∀ a : Fin 2, (![2576, 0] : Fin 2 → ℕ) a + (![1024, 1024] : Fin 2 → ℕ) a ≤ S3856x1024.size a) (wq)
    (ik : ∀ a : Fin 2, (![3600, 0] : Fin 2 → ℕ) a + (![256, 1024] : Fin 2 → ℕ) a ≤ S3856x1024.size a) (wk)
    (it : ∀ a : Fin 2, (![2560, 0] : Fin 2 → ℕ) a + (![16, 1024] : Fin 2 → ℕ) a ≤ S3856x1024.size a) (wt) :
    ∃ p ∈ ([⟨Rect.unit (s := S3856x1024) ![2560, 0] ![16, 1024] it, wt⟩, ⟨Rect.unit (s := S3856x1024) ![3600, 0] ![256, 1024] ik, wk⟩,
      ⟨Rect.unit (s := S3856x1024) ![2576, 0] ![1024, 1024] iq, wq⟩, ⟨Rect.unit (s := S3856x1024) ![1024, 0] ![1536, 1024] ix, wx⟩,
      ⟨Rect.unit (s := S3856x1024) ![0, 0] ![1024, 1024] iz, wz⟩] : List (View.Piece (Elt Ideal) S3856x1024 .f32)), y ∈ p.1.set := by
  have h0 : (y 0).val < 3856 := (y 0).isLt
  by_cases a0 : (y 0).val < 1024
  · exact ⟨_, .tail _ (.tail _ (.tail _ (.tail _ (.head _)))), mem_rows y 0 1024 iz (Nat.zero_le _) (by omega)⟩
  by_cases a1 : (y 0).val < 2560
  · exact ⟨_, .tail _ (.tail _ (.tail _ (.head _))), mem_rows y 1024 1536 ix (by omega) (by omega)⟩
  by_cases a2 : (y 0).val < 2576
  · exact ⟨_, .head _, mem_rows y 2560 16 it (by omega) (by omega)⟩
  by_cases a3 : (y 0).val < 3600
  · exact ⟨_, .tail _ (.tail _ (.head _)), mem_rows y 2576 1024 iq (by omega) (by omega)⟩
  · exact ⟨_, .tail _ (.head _), mem_rows y 3600 256 ik (by omega) (by omega)⟩

end Point

/-! ## Loads from the result's rows -/

section Loads

variable {F : FTy → Type} [FloatOps F]

/-- A store into other rows does not change what is loaded. -/
theorem load_skip (v : View sig .tc .vmem S3856x1024 .f32) {off off' size size' : Fin 2 → ℕ} (inb : ∀ a, off a + size a ≤ S3856x1024.size a)
    (inb' : ∀ a, off' a + size' a ≤ S3856x1024.size a) (w : (Rect.unit (s := S3856x1024) off size inb).shape.Idx → Elt F .f32)
    (L : List (View.Piece (Elt F) S3856x1024 .f32)) (h : off 0 + size 0 ≤ off' 0 ∨ off' 0 + size' 0 ≤ off 0) :
    v.readCov (⟨Rect.unit off size inb, w⟩ :: L) (Rect.unit (s := S3856x1024) off' size' inb').toLoadRect
      = v.readCov L (Rect.unit (s := S3856x1024) off' size' inb').toLoadRect := by
  rw [View.readCov_eq_canon', View.readCov_eq_canon']
  funext j
  refine View.canon_cons_of_not_mem _ _ fun hm => ?_
  have h1 := Rect.mem_set_unit (inb := inb).mp hm 0
  have h2 : (((Rect.unit (s := S3856x1024) off' size' inb').toLoadRect.idx j) 0).val = off' 0 + 1 * (j 0).val := rfl
  have h3 : (j 0).val < size' 0 := (j 0).isLt
  omega

/-- After clearing, a load finds zero. -/
theorem load_clear (v : View sig .tc .vmem S3856x1024 .f32) (inb : ∀ a, (![0, 0] : Fin 2 → ℕ) a + S3856x1024.size a ≤ S3856x1024.size a)
    (z : Vec F S3856x1024 .f32) (r : Rect S3856x1024) :
    v.readCov [⟨Rect.unit ![0, 0] S3856x1024.size inb, z⟩] r.toLoadRect = View.ld z r :=
  View.readCov_fill v inb z [] r (Fin.forall_fin_two.mpr ⟨rfl, rfl⟩)

end Loads

/-! ## What the first point and the others leave -/

section Cases

variable (c : Dev nD) (i : grid0.Coords) (a1 : Memref sig .tc .vmem S512x1024 .bf16) (h1 : a1.IsWhole) (a2 : Memref sig .tc .vmem S512x1536 .bf16) (h2 : a2.IsWhole) (a3 : Memref sig .tc .vmem S512x128 .f32) (h3 : a3.IsWhole) (a4 : Memref sig .tc .vmem S512x1024 .bf16) (h4 : a4.IsWhole) (a5 : Memref sig .tc .vmem S512x256 .f32) (h5 : a5.IsWhole) (a6 : Memref sig .tc .vmem S512x1024 .bf16) (h6 : a6.IsWhole) (a7 : Memref sig .tc .vmem S3856x1024 .f32) (h7 : a7.IsWhole)
  (x0 : Vec Ideal S512x1024 .bf16) (x1 : Vec Ideal S512x1536 .bf16) (x2 : Vec Ideal S512x128 .f32) (x3 : Vec Ideal S512x1024 .bf16) (x4 : Vec Ideal S512x256 .f32) (x5 : Vec Ideal S512x1024 .bf16) (s : Vec Ideal S3856x1024 .f32)

/-- The result after the first point. -/
theorem first_leaves (hc0 : cond0_0 i) :
    out0_A_6 c i a1 h1 a2 h2 a3 h3 a4 h4 a5 h5 a6 h6 a7 h7 hc0 x0 x1 x2 x3 x4 x5 = added x0 x1 x2 x3 x4 x5 (k0_pay3 (F := Ideal)) := by
  unfold out0_A_6
  rw [View.read_writes_eq_canon _ _ _ (cover0_A_6 c i a1 h1 a2 h2 a3 h3 a4 h4 a5 h5 a6 h6 a7 h7 hc0 x0 x1 x2 x3 x4 x5)]
  unfold kernelRun0_A
  dsimp only
  sl_unfold_words
  simp only [View.readAt_eq_ld, h1.read_unread, h2.read_unread, h3.read_unread, h4.read_unread, h5.read_unread, h6.read_unread, View.ld_unit_zero (S := S512x1024) zeros, View.ld_unit_zero (S := S512x1536) zeros, View.ld_unit_zero (S := S512x128) zeros, View.ld_unit_zero (S := S512x256) zeros]
  funext y
  refine (View.canon_append_of_piecesOf (added x0 x1 x2 x3 x4 x5 (k0_pay3 (F := Ideal))) [_] [_, _, _, _, _] ⟨?_, ?_, ?_, ?_, ?_, trivial⟩ y (rows_cover y _ _ _ _ _ _ _ _ _ _))
  · refine placed x0 x1 x2 x3 x4 x5 _ 2560 16 (by decide) _ _ (fun l k => x2 (ix2 l (⟨k.val, by omega⟩ : Fin 128))) (step_t x2 x5 _) ?_ fun l k j h => joined_t _ _ _ _ _ j ⟨k.val, by omega⟩ h k.isLt
    repeat refine (load_skip _ _ _ _ _ (by decide)).trans ?_
    exact load_clear _ _ _ _
  · refine placed x0 x1 x2 x3 x4 x5 _ 3600 256 (by decide) _ _ (fun l k => x4 (ix2 l k)) (step_kv x4 x5 _) ?_ fun l k j h => joined_kv _ _ _ _ _ j k h
    repeat refine (load_skip _ _ _ _ _ (by decide)).trans ?_
    exact load_clear _ _ _ _
  · refine placed x0 x1 x2 x3 x4 x5 _ 2576 1024 (by decide) _ _ (fun l k => x3 (ix2 l k)) (step_q x3 x5 _) ?_ fun l k j h => joined_q _ _ _ _ _ j k h
    repeat refine (load_skip _ _ _ _ _ (by decide)).trans ?_
    exact load_clear _ _ _ _
  · refine placed x0 x1 x2 x3 x4 x5 _ 1024 1536 (by decide) _ _ (fun l k => x1 (ix2 l k)) (step_x x1 x5 _) ?_ fun l k j h => joined_x _ _ _ _ _ j k h
    repeat refine (load_skip _ _ _ _ _ (by decide)).trans ?_
    exact load_clear _ _ _ _
  · refine placed x0 x1 x2 x3 x4 x5 _ 0 1024 (by decide) _ _ (fun l k => x0 (ix2 l k)) (step_z x0 x5 _) ?_ fun l k j h => joined_z _ _ _ _ _ j k h
    exact load_clear _ _ _ _

/-- The result after a later point. -/
theorem later_leaves (hc0 : ¬cond0_0 i) :
    out0_B_6 c i a1 h1 a2 h2 a3 h3 a4 h4 a5 h5 a6 h6 a7 h7 hc0 x0 x1 x2 x3 x4 x5 s = added x0 x1 x2 x3 x4 x5 s := by
  unfold out0_B_6
  rw [View.read_writes_eq_canon _ _ _ (cover0_B_6 c i a1 h1 a2 h2 a3 h3 a4 h4 a5 h5 a6 h6 a7 h7 hc0 x0 x1 x2 x3 x4 x5 s)]
  unfold kernelRun0_B
  dsimp only
  sl_unfold_words
  simp only [View.readAt_eq_ld, h1.read_unread, h2.read_unread, h3.read_unread, h4.read_unread, h5.read_unread, h6.read_unread, h7.read_unread, View.ld_unit_zero (S := S512x1024) zeros, View.ld_unit_zero (S := S512x1536) zeros, View.ld_unit_zero (S := S512x128) zeros, View.ld_unit_zero (S := S512x256) zeros]
  funext y
  refine (View.canon_append_of_piecesOf (added x0 x1 x2 x3 x4 x5 s) [] [_, _, _, _, _] ⟨?_, ?_, ?_, ?_, ?_, trivial⟩ y (rows_cover y _ _ _ _ _ _ _ _ _ _))
  · exact placed x0 x1 x2 x3 x4 x5 _ 2560 16 (by decide) _ _ (fun l k => x2 (ix2 l (⟨k.val, by omega⟩ : Fin 128))) (step_t x2 x5 _) rfl fun l k j h => joined_t _ _ _ _ _ j ⟨k.val, by omega⟩ h k.isLt
  · exact placed x0 x1 x2 x3 x4 x5 _ 3600 256 (by decide) _ _ (fun l k => x4 (ix2 l k)) (step_kv x4 x5 _) rfl fun l k j h => joined_kv _ _ _ _ _ j k h
  · exact placed x0 x1 x2 x3 x4 x5 _ 2576 1024 (by decide) _ _ (fun l k => x3 (ix2 l k)) (step_q x3 x5 _) rfl fun l k j h => joined_q _ _ _ _ _ j k h
  · exact placed x0 x1 x2 x3 x4 x5 _ 1024 1536 (by decide) _ _ (fun l k => x1 (ix2 l k)) (step_x x1 x5 _) rfl fun l k j h => joined_x _ _ _ _ _ j k h
  · exact placed x0 x1 x2 x3 x4 x5 _ 0 1024 (by decide) _ _ (fun l k => x0 (ix2 l k)) (step_z x0 x5 _) rfl fun l k j h => joined_z _ _ _ _ _ j k h

end Cases

/-! ## What a point is handed -/

variable (m : (ℓ : Loc nD τ sig) → Buf (Elt Ideal) ℓ) (c : Dev nD)

/-- The gradients of the gate's columns, as launched. -/
abbrev dz : Vec Ideal S4096x1024 .bf16 := m ((c : Thread nD τ).loc main_arg0)
/-- The gradients of the convolution's columns, as launched. -/
abbrev dx : Vec Ideal S4096x1536 .bf16 := m ((c : Thread nD τ).loc main_arg1)
/-- The gradients of the step sizes' columns, as launched. -/
abbrev dt : Vec Ideal S4096x128 .f32 := m ((c : Thread nD τ).loc main_arg2)
/-- The gradients of the queries' columns, as launched. -/
abbrev dq : Vec Ideal S4096x1024 .bf16 := m ((c : Thread nD τ).loc main_arg3)
/-- The gradients of the keys' and values' columns, as launched. -/
abbrev dkv : Vec Ideal S4096x256 .f32 := m ((c : Thread nD τ).loc main_arg4)
/-- The layer's input, as launched. -/
abbrev inp : Vec Ideal S4096x1024 .bf16 := m ((c : Thread nD τ).loc main_arg5)

/-- The blocks of the first argument follow the points. -/
theorem index0 : ∀ t : Fin cfg0.N, win0_0.index t = ![t.val, 0] := (by decide +kernel : ∀ t : Fin grid0.N, _)
/-- So do those of the second. -/
theorem index1 : ∀ t : Fin cfg0.N, win0_1.index t = ![t.val, 0] := (by decide +kernel : ∀ t : Fin grid0.N, _)
/-- So do those of the third. -/
theorem index2 : ∀ t : Fin cfg0.N, win0_2.index t = ![t.val, 0] := (by decide +kernel : ∀ t : Fin grid0.N, _)
/-- So do those of the fourth. -/
theorem index3 : ∀ t : Fin cfg0.N, win0_3.index t = ![t.val, 0] := (by decide +kernel : ∀ t : Fin grid0.N, _)
/-- So do those of the fifth. -/
theorem index4 : ∀ t : Fin cfg0.N, win0_4.index t = ![t.val, 0] := (by decide +kernel : ∀ t : Fin grid0.N, _)
/-- So do those of the sixth. -/
theorem index5 : ∀ t : Fin cfg0.N, win0_5.index t = ![t.val, 0] := (by decide +kernel : ∀ t : Fin grid0.N, _)

/-- A row of a point, among all rows. -/
def row (t : Fin cfg0.N) (l : Fin 512) : Fin 4096 := ⟨512 * t.val + l.val, by have := lt_of_lt_of_eq t.isLt N_0; omega⟩

/-- Where an entry of a point's rows lies among all rows. -/
theorem row_entry {w : ℕ} (t : Fin cfg0.N) (l : Fin 512) (n : Fin w) (e : (⟨2, ![4096, w]⟩ : Shape).Idx)
    (h0 : (e 0).val = t.val * 512 + 1 * l.val) (h1 : (e 1).val = 0 * w + 1 * n.val) : e = ix2 (row t l) n := by
  rw [eq_ix2 e]
  refine congrArg₂ ix2 (Fin.ext (h0.trans ?_)) (Fin.ext (h1.trans ?_))
  · show t.val * 512 + 1 * l.val = 512 * t.val + l.val
    omega
  · omega

/-- A point's part of the first argument. -/
abbrev dzAt (t : Fin cfg0.N) : Vec Ideal S512x1024 .bf16 := iblk m c 0 t
/-- A point's part of the second argument. -/
abbrev dxAt (t : Fin cfg0.N) : Vec Ideal S512x1536 .bf16 := iblk m c 1 t
/-- A point's part of the third argument. -/
abbrev dtAt (t : Fin cfg0.N) : Vec Ideal S512x128 .f32 := iblk m c 2 t
/-- A point's part of the fourth argument. -/
abbrev dqAt (t : Fin cfg0.N) : Vec Ideal S512x1024 .bf16 := iblk m c 3 t
/-- A point's part of the fifth argument. -/
abbrev dkvAt (t : Fin cfg0.N) : Vec Ideal S512x256 .f32 := iblk m c 4 t
/-- A point's part of the sixth argument. -/
abbrev inpAt (t : Fin cfg0.N) : Vec Ideal S512x1024 .bf16 := iblk m c 5 t

/-- It is the point's rows of the argument. -/
theorem dz_block (t : Fin cfg0.N) (l : Fin 512) (n : Fin 1024) : dzAt m c t (ix2 l n) = dz m c (ix2 (row t l) n) := by
  show (iblk m c 0 t : Vec Ideal S512x1024 .bf16) _ = _
  unfold iblk
  rw [View.read_apply]
  show V m c main_arg0 _ = _
  rw [V_main_arg0]
  refine congrArg (dz m c) (row_entry t l n _ ?_ ?_)
  · show win0_0.index t 0 * 512 + 1 * l.val = _; rw [index0]; rfl
  · show win0_0.index t 1 * 1024 + 1 * n.val = _; rw [index0]; rfl

/-- So it is of the second: the point's rows of the argument. -/
theorem dx_block (t : Fin cfg0.N) (l : Fin 512) (n : Fin 1536) : dxAt m c t (ix2 l n) = dx m c (ix2 (row t l) n) := by
  show (iblk m c 1 t : Vec Ideal S512x1536 .bf16) _ = _
  unfold iblk
  rw [View.read_apply]
  show V m c main_arg1 _ = _
  rw [V_main_arg1]
  refine congrArg (dx m c) (row_entry t l n _ ?_ ?_)
  · show win0_1.index t 0 * 512 + 1 * l.val = _; rw [index1]; rfl
  · show win0_1.index t 1 * 1536 + 1 * n.val = _; rw [index1]; rfl

/-- So it is of the third: the point's rows of the argument. -/
theorem dt_block (t : Fin cfg0.N) (l : Fin 512) (n : Fin 128) : dtAt m c t (ix2 l n) = dt m c (ix2 (row t l) n) := by
  show (iblk m c 2 t : Vec Ideal S512x128 .f32) _ = _
  unfold iblk
  rw [View.read_apply]
  show V m c main_arg2 _ = _
  rw [V_main_arg2]
  refine congrArg (dt m c) (row_entry t l n _ ?_ ?_)
  · show win0_2.index t 0 * 512 + 1 * l.val = _; rw [index2]; rfl
  · show win0_2.index t 1 * 128 + 1 * n.val = _; rw [index2]; rfl

/-- So it is of the fourth: the point's rows of the argument. -/
theorem dq_block (t : Fin cfg0.N) (l : Fin 512) (n : Fin 1024) : dqAt m c t (ix2 l n) = dq m c (ix2 (row t l) n) := by
  show (iblk m c 3 t : Vec Ideal S512x1024 .bf16) _ = _
  unfold iblk
  rw [View.read_apply]
  show V m c main_arg3 _ = _
  rw [V_main_arg3]
  refine congrArg (dq m c) (row_entry t l n _ ?_ ?_)
  · show win0_3.index t 0 * 512 + 1 * l.val = _; rw [index3]; rfl
  · show win0_3.index t 1 * 1024 + 1 * n.val = _; rw [index3]; rfl

/-- So it is of the fifth: the point's rows of the argument. -/
theorem dkv_block (t : Fin cfg0.N) (l : Fin 512) (n : Fin 256) : dkvAt m c t (ix2 l n) = dkv m c (ix2 (row t l) n) := by
  show (iblk m c 4 t : Vec Ideal S512x256 .f32) _ = _
  unfold iblk
  rw [View.read_apply]
  show V m c main_arg4 _ = _
  rw [V_main_arg4]
  refine congrArg (dkv m c) (row_entry t l n _ ?_ ?_)
  · show win0_4.index t 0 * 512 + 1 * l.val = _; rw [index4]; rfl
  · show win0_4.index t 1 * 256 + 1 * n.val = _; rw [index4]; rfl

/-- So it is of the sixth: the point's rows of the argument. -/
theorem inp_block (t : Fin cfg0.N) (l : Fin 512) (n : Fin 1024) : inpAt m c t (ix2 l n) = inp m c (ix2 (row t l) n) := by
  show (iblk m c 5 t : Vec Ideal S512x1024 .bf16) _ = _
  unfold iblk
  rw [View.read_apply]
  show V m c main_arg5 _ = _
  rw [V_main_arg5]
  refine congrArg (inp m c) (row_entry t l n _ ?_ ?_)
  · show win0_5.index t 0 * 512 + 1 * l.val = _; rw [index5]; rfl
  · show win0_5.index t 1 * 1024 + 1 * n.val = _; rw [index5]; rfl

/-! ## The result as a formula -/

/-- An incoming gradient, at row `r` and projection column `j`. -/
def gradAt (r : Fin 4096) (j : Fin 3856) : EReal :=
  joined (fun n => dz m c (ix2 r n)) (fun n => dx m c (ix2 r n)) (fun n => dt m c (ix2 r n)) (fun n => dq m c (ix2 r n)) (fun n => dkv m c (ix2 r n)) j

/-- The gradient of the transposed weights. -/
def weights : Vec Ideal S3856x1024 .f32 := fun e => ∑ r : Fin 4096, gradAt m c r (e 0) * inp m c (ix2 r (e 1))

/-- A point's incoming gradients are those of its rows. -/
theorem grad_block (t : Fin cfg0.N) (l : Fin 512) (j : Fin 3856) :
    rowAt (dzAt m c t) (dxAt m c t) (dtAt m c t) (dqAt m c t) (dkvAt m c t) l j = gradAt m c (row t l) j := by
  unfold rowAt gradAt
  simp only [dz_block, dx_block, dt_block, dq_block, dkv_block]

/-! ## The result, point after point -/

/-- What a point adds to an entry (zero beyond the last point). -/
def term (e : S3856x1024.Idx) (p : ℕ) : EReal :=
  if h : p < cfg0.N then ∑ l : Fin 512, gradAt m c (row ⟨p, h⟩ l) (e 0) * inp m c (ix2 (row ⟨p, h⟩ l) (e 1)) else 0
/-- An entry after a point. -/
def held (e : S3856x1024.Idx) (p : ℕ) : EReal := if h : p < cfg0.N then (outsAt0 m c p h : Vec Ideal S3856x1024 .f32) e else 0

/-- The result is cleared to zero. -/
theorem clear_apply (e : S3856x1024.Idx) : (k0_pay3 (F := Ideal) : Vec Ideal S3856x1024 .f32) e = 0 := by
  pointwise [k0_pay3]

/-- A point's sum. -/
theorem point_sum (t : Fin cfg0.N) (e : S3856x1024.Idx) :
    ∑ l : Fin 512, rowAt (dzAt m c t) (dxAt m c t) (dtAt m c t) (dqAt m c t) (dkvAt m c t) l (e 0) * inpAt m c t (ix2 l (e 1))
      = ∑ l : Fin 512, gradAt m c (row t l) (e 0) * inp m c (ix2 (row t l) (e 1)) :=
  Finset.sum_congr (M := EReal) rfl fun l _ => congrArg₂ (fun u v : EReal => u * v) (grad_block m c t l (e 0)) (inp_block m c t l (e 1))

/-- The result after the first point. -/
theorem held_first (e : S3856x1024.Idx) : held m c e 0 = 0 + term m c e 0 := by
  have hN : cfg0.N = 8 := N_0
  have h : 0 < cfg0.N := by omega
  unfold held term
  rw [dif_pos h, dif_pos h, outsAt0_A m c ⟨0, h⟩ rfl, first_leaves]
  exact congrArg₂ (fun u v : EReal => u + v) (clear_apply e) (point_sum m c ⟨0, h⟩ e)

/-- The others add theirs. -/
theorem held_next (e : S3856x1024.Idx) (p : ℕ) (h : p + 1 < 8) : held m c e (p + 1) = held m c e p + term m c e (p + 1) := by
  have hN : cfg0.N = 8 := N_0
  have h1 : p + 1 < cfg0.N := by omega
  unfold held term
  rw [dif_pos h1, dif_pos h1, dif_pos (Nat.lt_of_succ_lt h1), outsAt0_B m c ⟨p + 1, h1⟩ (by dsimp only; omega), later_leaves]
  exact congrArg (fun v : EReal => _ + v) (point_sum m c ⟨p + 1, h1⟩ e)

/-- The result after the last point: the eight points' rows are all rows. -/
theorem weights_left (h : 7 < cfg0.N) : (outsAt0 m c 7 h : Vec Ideal S3856x1024 .f32) = weights m c := by
  have hN : cfg0.N = 8 := N_0
  funext e
  refine Eq.trans (b := held m c e 7) ?_ ?_
  · unfold held
    rw [dif_pos h]
  · unfold weights
    rw [Cert.Blocks.running 8 (held m c e) (term m c e) (held_first m c e) (held_next m c e) 7 (by omega), Cert.Blocks.sum_blocks (n := 8) (k := 512) rfl, Finset.sum_range]
    refine Finset.sum_congr (M := EReal) rfl fun b _ => ?_
    unfold term
    rw [dif_pos (by omega)]
    rfl

/-- The last point. -/
def last : Fin cfg0.N := ⟨7, by have hN : cfg0.N = 8 := N_0; omega⟩

/-- The result at the end: its one block is written back by the last point. -/
theorem weights_final : (dats m 0 c).arrAt 6 cfg0.N = weights m c := by
  have hN : cfg0.N = 8 := N_0
  refine (dats m 0 c).arrAt_eq_of_cover 6 (weights m c) (fun t hf => ?_) fun i => ⟨last, (flush0_6 last).mpr rfl, ?_⟩
  · have h7 : t.val = 7 := by have := (flush0_6 t).mp hf; have := t.isLt; omega
    obtain rfl : t = last := Fin.ext h7
    rw [Value.flushed6]
    refine (congrArg ((cfg0.win 6).cut (grid0.coords last)) (weights_left m c last.isLt)).trans ?_
    have hz : (fun a => win0_6.index last a * main_v0.ty.shape.size a) = fun _ => 0 := funext fun a => by fin_cases a <;> decide
    exact (Memref.read_access_unit_zero (Elt Ideal) main_v0 hz (fun a => by rw [congrFun hz a]; simp) (weights m c)).symm
  · show i ∈ ((View.whole main_v0).slice (win0_6.rect last)).set
    rw [View.set_slice_whole, Rect.mem_set_unit]
    have h0 : (i 0 : Nat) < 3856 := (i 0).isLt
    have h1 : (i 1 : Nat) < 1024 := (i 1).isLt
    intro a
    match a with
    | ⟨0, _⟩ => show win0_6.index last 0 * 3856 ≤ (i 0 : Nat) ∧ (i 0 : Nat) < win0_6.index last 0 * 3856 + 3856
                rw [show win0_6.index last 0 = 0 from by decide +kernel]; omega
    | ⟨1, _⟩ => show win0_6.index last 1 * 1024 ≤ (i 1 : Nat) ∧ (i 1 : Nat) < win0_6.index last 1 * 1024 + 1024
                rw [show win0_6.index last 1 = 0 from by decide +kernel]; omega

end Cert.GwiIdeal.Grad

end
-- ==== Proof.GwiAgree.lean ====
module

public import proofs.«01_k».proof.Defs
public import proofs.«01_k».proof.Proof.GwiGrad
public import proofs.«01_k».proof.Proof.Gen.GwiReferenceIdeal.Run

@[expose] public section

set_option maxRecDepth 16384

noncomputable section

namespace Cert.GwiAgree

open Idealize.ShloMosaic Idealize.ShloMosaic.TcCoe Idealize.ShloMosaic.Tactic Idealize.SL.Sem

/-! # The input projection's weight gradient: kernel and reference agree -/

section Reading

open Cert.GwiReferenceIdeal Cert.GwiReferenceIdeal.Gen

variable (z : FVec Ideal S4096x1024 .bf16) (x : FVec Ideal S4096x1536 .bf16) (t : FVec Ideal S4096x128 .f32) (q : FVec Ideal S4096x1024 .bf16) (kv : FVec Ideal S4096x256 .f32) (u : FVec Ideal S4096x1024 .bf16)

/-- The incoming gradients of all projection columns, as the reference lays them side by side. -/
abbrev beside : FVec Ideal S4096x3856 .f32 :=
  concatenate S4096x3856 1 [⟨S4096x1024, (extf .f32 z bitsLt_bf16_f32 : FVec Ideal S4096x1024 .f32)⟩, ⟨S4096x1536, (extf .f32 x bitsLt_bf16_f32 : FVec Ideal S4096x1536 .f32)⟩,
    ⟨S4096x16, (extractStridedSlice S4096x16 ![0, 0] t slices_S4096x128_S4096x16_0_0 : FVec Ideal S4096x16 .f32)⟩, ⟨S4096x1024, (extf .f32 q bitsLt_bf16_f32 : FVec Ideal S4096x1024 .f32)⟩,
    ⟨S4096x128, (extractStridedSlice S4096x128 ![0, 0] kv slices_S4096x256_S4096x128_0_0 : FVec Ideal S4096x128 .f32)⟩, ⟨S4096x128, (extractStridedSlice S4096x128 ![0, 128] kv slices_S4096x256_S4096x128_0_128 : FVec Ideal S4096x128 .f32)⟩]
    concatenates_S4096x1024_S4096x1536_S4096x16_S4096x1024_S4096x128_S4096x128_S4096x3856_d1

/-- One of them. -/
theorem beside_apply (r : Fin 4096) (j : Fin 3856) : beside z x t q kv (ix2 r j)
    = Cert.GwiIdeal.Grad.joined (fun n => z (ix2 r n)) (fun n => x (ix2 r n)) (fun n => t (ix2 r n)) (fun n => q (ix2 r n)) (fun n => kv (ix2 r n)) j := by
  pointwise
  by_cases a0 : j.val < 1024
  · rw [dif_pos a0, Cert.GwiIdeal.Grad.joined_z _ _ _ _ _ j ⟨j.val, a0⟩ (by dsimp only; omega)]
  rw [dif_neg a0]
  by_cases a1 : j.val - 1024 < 1536
  · rw [dif_pos a1, Cert.GwiIdeal.Grad.joined_x _ _ _ _ _ j ⟨j.val - 1024, a1⟩ (by dsimp only; omega)]
  rw [dif_neg a1]
  by_cases a2 : j.val - 1024 - 1536 < 16
  · rw [dif_pos a2, Cert.GwiIdeal.Grad.joined_t _ _ _ _ _ j ⟨j.val - 1024 - 1536, by omega⟩ (by dsimp only; omega) a2]
  rw [dif_neg a2]
  by_cases a3 : j.val - 1024 - 1536 - 16 < 1024
  · rw [dif_pos a3, Cert.GwiIdeal.Grad.joined_q _ _ _ _ _ j ⟨j.val - 1024 - 1536 - 16, a3⟩ (by dsimp only; omega)]
  rw [dif_neg a3]
  by_cases a4 : j.val - 1024 - 1536 - 16 - 1024 < 128
  · rw [dif_pos a4, Cert.GwiIdeal.Grad.joined_kv _ _ _ _ _ j ⟨j.val - 1024 - 1536 - 16 - 1024, by omega⟩ (by dsimp only; omega)]
  · rw [dif_neg a4, Cert.GwiIdeal.Grad.joined_kv _ _ _ _ _ j ⟨128 + (j.val - 1024 - 1536 - 16 - 1024 - 128), by omega⟩ (by dsimp only; omega)]

/-- One entry of the derivative, over any array of incoming gradients. -/
theorem product_apply (g : FVec Ideal S4096x3856 .f32) (j : Fin 3856) (d : Fin 1024) :
    transpose S3856x1024 [1, 0] (transpose S1024x3856 [1, 0] (Host.dotGeneral (φ₂ := .f32) dot_S4096x3856_S4096x1024_S3856x1024_0_0_1_1_n_n none g (extf .f32 u bitsLt_bf16_f32)) transposes_S3856x1024_S1024x3856_1_0) transposes_S1024x3856_S3856x1024_1_0 (ix2 j d)
      = ∑ r : Fin 4096, g (ix2 r j) * u (ix2 r d) := by
  pointwise

end Reading

open Cert.GwiIdeal.Grad in
/-- The gradient of the input projection's weights. -/
theorem equal : Cert.algebraic_GwiIdeal_GwiReferenceIdeal
    (hGwiIdeal := Cert.GwiIdeal.Gen.facts) (hGwiReferenceIdeal := Cert.GwiReferenceIdeal.Gen.facts) := by
  intro m g m' g' _ h
  refine ⟨fun c => weights m c, ?_, ?_⟩
  · exact (θ_run Cert.GwiIdeal.defs _ _).mono (fun r hr c => ⟨(hr c).1.trans (weights_final m c), (hr c).2⟩) (Cert.GwiIdeal.Value.run_blocks m g)
  · refine (θ_run Cert.GwiReferenceIdeal.defs _ _).mono (fun r hr c => ⟨(hr c).1.trans ?_, (hr c).2⟩) (Cert.GwiReferenceIdeal.Value.run (F := Ideal) m' g')
    obtain ⟨h0, h1, h2, h3, h4, h5⟩ := h c
    rw [h0, h1, h2, h3, h4, h5]
    funext e
    exact (congrArg _ (eq_ix2 e)).trans ((product_apply _ _ (e 0) (e 1)).trans (Finset.sum_congr (M := EReal) rfl fun r _ => congrArg (fun v : EReal => v * _) (beside_apply _ _ _ _ _ r (e 0))))

end Cert.GwiAgree

end
-- ==== Proof.Norm.lean ====
module

public import proofs.«01_k».proof.Proof.MlpAgree

@[expose] public section

noncomputable section

namespace Cert.Norm

open Idealize.ShloMosaic

/-! # Layer norm of one row, and rows in tiles of 512

The norm divides by the width and adds the small constant that both programs write as the same 32-bit words. -/

/-- The width, as the programs write it. -/
def width : EReal := Ideal.ofBits .f32 0x44800000#32

/-- The small constant under the root, as the programs write it. -/
def small : EReal := Ideal.ofBits .f32 0x3727C5AC#32

/-- The mean of a row. -/
def mean (x : Fin 1024 → EReal) : EReal := Ideal.div (∑ k, x k) width

/-- The factor that scales a row: one over the root of its variance and the small constant. -/
def scale (x : Fin 1024 → EReal) : EReal :=
  Ideal.rsqrt (Ideal.div (∑ k, (x k - mean x) * (x k - mean x)) width + small)

/-- A row without its mean, scaled. -/
def normed (x : Fin 1024 → EReal) (d : Fin 1024) : EReal := (x d - mean x) * scale x

/-- A normed row with gain `g` and bias `b`, then modulated by scale `s` and shift `f`. -/
def modulated (x g b s f : Fin 1024 → EReal) (d : Fin 1024) : EReal :=
  (normed x d * g d + b d) * (1 + s d) + f d

/-! ## Tiles -/

/-- Row `l` of tile `t`, among all 4096. -/
def rowOf (t : ℕ) (h : t < 8) (l : Fin 512) : Fin 4096 := ⟨512 * t + l.val, by omega⟩

/-- The tile a row lies in. -/
theorem tile_lt (r : Fin 4096) : r.val / 512 < 8 := by omega

section Entries

variable {k n : ℕ}

/-- Where an entry of tile `t` lies in the array. -/
theorem tile_entry (t : ℕ) (h : t < 8) (l : Fin 512) (d : Fin n) (e : (⟨2, ![4096, n]⟩ : Shape).Idx) (ix : Fin 2 → ℕ) (hix : ix = ![t, 0])
    (h0 : (e 0).val = ix 0 * 512 + 1 * l.val) (h1 : (e 1).val = ix 1 * n + 1 * d.val) : e = ix2 (rowOf t h l) d := by
  subst hix
  have h0' : (e 0).val = t * 512 + 1 * l.val := h0
  have h1' : (e 1).val = 0 * n + 1 * d.val := h1
  refine (eq_ix2 e).trans (congrArg₂ (fun a b => ix2 a b) (Fin.ext ?_) (Fin.ext ?_))
  · show (e 0).val = 512 * t + l.val; omega
  · show (e 1).val = d.val; rw [h1']; omega

/-- Where an entry of an array that is one block lies. -/
theorem whole_entry (a : Fin k) (d : Fin n) (e : (⟨2, ![k, n]⟩ : Shape).Idx) (ix : Fin 2 → ℕ) (hix : ix = ![0, 0])
    (h0 : (e 0).val = ix 0 * k + 1 * a.val) (h1 : (e 1).val = ix 1 * n + 1 * d.val) : e = ix2 a d := by
  subst hix
  have h0' : (e 0).val = 0 * k + 1 * a.val := h0
  have h1' : (e 1).val = 0 * n + 1 * d.val := h1
  refine (eq_ix2 e).trans (congrArg₂ (fun a b => ix2 a b) (Fin.ext ?_) (Fin.ext ?_))
  · show (e 0).val = a.val; rw [h0']; omega
  · show (e 1).val = d.val; rw [h1']; omega

/-- Every entry lies in the tile of its row. -/
theorem in_tile (i : (⟨2, ![4096, n]⟩ : Shape).Idx) (ix : Fin 2 → ℕ) (hix : ix = ![(i 0).val / 512, 0]) :
    ∀ a : Fin 2, ix a * (![512, n] : Fin 2 → ℕ) a ≤ (i a).val ∧ (i a).val < ix a * (![512, n] : Fin 2 → ℕ) a + (![512, n] : Fin 2 → ℕ) a := by
  subst hix
  have h0 : (i 0).val < 4096 := (i 0).isLt
  have h1 : (i 1).val < n := (i 1).isLt
  intro a
  match a with
  | ⟨0, _⟩ => show (i 0).val / 512 * 512 ≤ (i 0).val ∧ (i 0).val < (i 0).val / 512 * 512 + 512; omega
  | ⟨1, _⟩ => show 0 * n ≤ (i 1).val ∧ (i 1).val < 0 * n + n; rw [Nat.zero_mul]; omega

end Entries

end Cert.Norm

end
-- ==== Proof.LnInRows.lean ====
module

public import proofs.«01_k».proof.Proof.Norm
public import proofs.«01_k».proof.Proof.Gen.LnInIdeal.Value
public import Idealize.ShloMosaic.Lib.Pipeline.ReadBack
public import Idealize.ShloMosaic.Lib.Pipeline.ValueKit.Tiles

@[expose] public section

set_option maxRecDepth 16384

noncomputable section

namespace Cert.LnInIdeal.Rows

open Cert.LnInIdeal Cert.LnInIdeal.Gen Cert.Norm
open Idealize.ShloMosaic Idealize.ShloMosaic.TcCoe Idealize.ShloMosaic.Tactic

/-! # The first norm and the input projection

Eight points take 512 rows each. A point norms its rows, modulates them, and multiplies them with five ranges of the
projection's transposed weights. -/

/-- Offsets that are all zero. -/
theorem zeros : (![0, 0] : Fin 2 → Nat) = fun _ => 0 := funext fun a => by fin_cases a <;> rfl

/-! ## One point, entry by entry -/

section Point

variable (x0 : Vec Ideal S512x1024 .f32) (x1 x2 x3 x4 : Vec Ideal S1x1024 .f32) (x5 : Vec Ideal S3856x1024 .bf16)

/-- A point's modulated row. -/
def modRow (l : Fin 512) : Fin 1024 → EReal :=
  modulated (fun k => x0 (ix2 l k)) (fun k => x1 (ix2 0 k)) (fun k => x2 (ix2 0 k)) (fun k => x3 (ix2 0 k)) (fun k => x4 (ix2 0 k))

/-- A point's projected row. -/
def projRow (l : Fin 512) (j : Fin 3856) : EReal := ∑ k, modRow x0 x1 x2 x3 x4 l k * x5 (ix2 j k)

/-- One normed value. -/
theorem normed_pay (l : Fin 512) (d : Fin 1024) : (k0_pay8 x0 : Vec Ideal S512x1024 .f32) (ix2 l d) = normed (fun k => x0 (ix2 l k)) d := by
  unfold normed scale mean width small
  pointwise [k0_pay8, k0_pay7, k0_pay6]

/-- One scaling factor. -/
theorem scale_pay (l : Fin 512) : (k0_pay7 x0 : Vec Ideal S512x1 .f32) (ix2 l 0) = scale (fun k => x0 (ix2 l k)) := by
  unfold scale mean width small
  pointwise [k0_pay7, k0_pay6]

/-- One modulated value. -/
theorem modulated_pay (l : Fin 512) (d : Fin 1024) : (k0_pay9 x0 x1 x2 x3 x4 : Vec Ideal S512x1024 .bf16) (ix2 l d) = modRow x0 x1 x2 x3 x4 l d := by
  unfold modRow modulated normed scale mean width small
  pointwise [k0_pay9, k0_pay8, k0_pay7, k0_pay6]

/-- A product of the first range. -/
theorem pay1_apply (u : FVec Ideal S512x1024 .bf16) (w : Vec Ideal S1024x1024 .bf16) (l : Fin 512) (d : Fin 1024) :
    (k0_pay1 u w : Vec Ideal S512x1024 .f32) (ix2 l d) = ∑ k : Fin 1024, u (ix2 l k) * w (ix2 d k) := by
  pointwise [k0_pay1]

/-- A product of the second range. -/
theorem pay2_apply (u : FVec Ideal S512x1024 .bf16) (w : Vec Ideal S1536x1024 .bf16) (l : Fin 512) (d : Fin 1536) :
    (k0_pay2 u w : Vec Ideal S512x1536 .f32) (ix2 l d) = ∑ k : Fin 1024, u (ix2 l k) * w (ix2 d k) := by
  pointwise [k0_pay2]

/-- A product of the fourth range. -/
theorem pay3_apply (u : FVec Ideal S512x1024 .bf16) (w : Vec Ideal S1024x1024 .bf16) (l : Fin 512) (d : Fin 1024) :
    (k0_pay3 u w : Vec Ideal S512x1024 .bf16) (ix2 l d) = ∑ k : Fin 1024, u (ix2 l k) * w (ix2 d k) := by
  pointwise [k0_pay3]

/-- A product of the fifth range. -/
theorem pay4_apply (u : FVec Ideal S512x1024 .bf16) (w : Vec Ideal S256x1024 .bf16) (l : Fin 512) (d : Fin 256) :
    (k0_pay4 u w : Vec Ideal S512x256 .bf16) (ix2 l d) = ∑ k : Fin 1024, u (ix2 l k) * w (ix2 d k) := by
  pointwise [k0_pay4]

/-- A product of the third range. -/
theorem pay5_apply (u : FVec Ideal S512x1024 .bf16) (w : Vec Ideal S128x1024 .bf16) (l : Fin 512) (d : Fin 128) :
    (k0_pay5 u w : Vec Ideal S512x128 .f32) (ix2 l d) = ∑ k : Fin 1024, u (ix2 l k) * w (ix2 d k) := by
  pointwise [k0_pay5]

/-- What a point modulates, from its blocks. -/
theorem pay10_eq : k0_pay10 x0 x1 x2 x3 x4 x5 = (k0_pay9 x0 x1 x2 x3 x4 : Vec Ideal S512x1024 .bf16) := by
  unfold k0_pay10
  simp only [View.ld_unit_zero (S := S512x1024) zeros, View.ld_unit_zero (S := S1x1024) zeros]

/-- A product of modulated rows with a range of the weights, term by term. -/
theorem range_sum (l : Fin 512) (j : Fin 3856) (w : Fin 1024 → EReal) (hw : ∀ k, w k = x5 (ix2 j k)) :
    ∑ k : Fin 1024, (k0_pay10 x0 x1 x2 x3 x4 x5 : Vec Ideal S512x1024 .bf16) (ix2 l k) * w k = projRow x0 x1 x2 x3 x4 x5 l j :=
  Finset.sum_congr (M := EReal) rfl fun k _ => congrArg₂ (fun a b : EReal => a * b)
    ((congrFun (pay10_eq x0 x1 x2 x3 x4 x5) _).trans (modulated_pay x0 x1 x2 x3 x4 l k)) (hw k)

/-- The normed rows a point leaves. -/
theorem out6_entry (l : Fin 512) (d : Fin 1024) : out0_6 x0 x1 x2 x3 x4 x5 (ix2 l d) = normed (fun k => x0 (ix2 l k)) d := by
  unfold out0_6
  rw [View.canon_unit_zero (S := S512x1024) zeros, View.ld_unit_zero (S := S512x1024) zeros]
  exact normed_pay x0 l d

/-- The scaling factors a point leaves. -/
theorem out7_entry (l : Fin 512) : out0_7 x0 x1 x2 x3 x4 x5 (ix2 l 0) = scale (fun k => x0 (ix2 l k)) := by
  unfold out0_7
  rw [View.canon_unit_zero (S := S512x1) zeros, View.ld_unit_zero (S := S512x1024) zeros]
  exact scale_pay x0 l

/-- The modulated rows a point leaves. -/
theorem out8_entry (l : Fin 512) (d : Fin 1024) : out0_8 x0 x1 x2 x3 x4 x5 (ix2 l d) = modRow x0 x1 x2 x3 x4 l d := by
  unfold out0_8
  rw [View.canon_unit_zero (S := S512x1024) zeros, pay10_eq]
  exact modulated_pay x0 x1 x2 x3 x4 l d

/-- The first range a point leaves. -/
theorem out9_entry (l : Fin 512) (d : Fin 1024) : out0_9 x0 x1 x2 x3 x4 x5 (ix2 l d) = projRow x0 x1 x2 x3 x4 x5 l ⟨0 + d.val, by omega⟩ := by
  unfold out0_9
  rw [View.canon_unit_zero (S := S512x1024) zeros]
  exact (pay1_apply _ _ l d).trans (range_sum x0 x1 x2 x3 x4 x5 l _ _ fun k => View.ld_unit_apply_of x5 _ _ _ _ (ix2 _ k) fun a => match a with | ⟨0, _⟩ => rfl | ⟨1, _⟩ => (Nat.zero_add k.val).symm)

/-- The second range a point leaves. -/
theorem out10_entry (l : Fin 512) (d : Fin 1536) : out0_10 x0 x1 x2 x3 x4 x5 (ix2 l d) = projRow x0 x1 x2 x3 x4 x5 l ⟨1024 + d.val, by omega⟩ := by
  unfold out0_10
  rw [View.canon_unit_zero (S := S512x1536) zeros]
  exact (pay2_apply _ _ l d).trans (range_sum x0 x1 x2 x3 x4 x5 l _ _ fun k => View.ld_unit_apply_of x5 _ _ _ _ (ix2 _ k) fun a => match a with | ⟨0, _⟩ => rfl | ⟨1, _⟩ => (Nat.zero_add k.val).symm)

/-- The fourth range a point leaves. -/
theorem out11_entry (l : Fin 512) (d : Fin 1024) : out0_11 x0 x1 x2 x3 x4 x5 (ix2 l d) = projRow x0 x1 x2 x3 x4 x5 l ⟨2576 + d.val, by omega⟩ := by
  unfold out0_11
  rw [View.canon_unit_zero (S := S512x1024) zeros]
  exact (pay3_apply _ _ l d).trans (range_sum x0 x1 x2 x3 x4 x5 l _ _ fun k => View.ld_unit_apply_of x5 _ _ _ _ (ix2 _ k) fun a => match a with | ⟨0, _⟩ => rfl | ⟨1, _⟩ => (Nat.zero_add k.val).symm)

/-- The fifth range a point leaves. -/
theorem out12_entry (l : Fin 512) (d : Fin 256) : out0_12 x0 x1 x2 x3 x4 x5 (ix2 l d) = projRow x0 x1 x2 x3 x4 x5 l ⟨3600 + d.val, by omega⟩ := by
  unfold out0_12
  rw [View.canon_unit_zero (S := S512x256) zeros]
  exact (pay4_apply _ _ l d).trans (range_sum x0 x1 x2 x3 x4 x5 l _ _ fun k => View.ld_unit_apply_of x5 _ _ _ _ (ix2 _ k) fun a => match a with | ⟨0, _⟩ => rfl | ⟨1, _⟩ => (Nat.zero_add k.val).symm)

/-- The third range a point leaves, with the columns after it. -/
theorem out13_entry (l : Fin 512) (d : Fin 128) : out0_13 x0 x1 x2 x3 x4 x5 (ix2 l d) = projRow x0 x1 x2 x3 x4 x5 l ⟨2560 + d.val, by omega⟩ := by
  unfold out0_13
  rw [View.canon_unit_zero (S := S512x128) zeros]
  exact (pay5_apply _ _ l d).trans (range_sum x0 x1 x2 x3 x4 x5 l _ _ fun k => View.ld_unit_apply_of x5 _ _ _ _ (ix2 _ k) fun a => match a with | ⟨0, _⟩ => rfl | ⟨1, _⟩ => (Nat.zero_add k.val).symm)

end Point

/-! ## What a point is handed -/

variable (m : (ℓ : Loc nD τ sig) → Buf (Elt Ideal) ℓ) (c : Dev nD)

/-- The layer's input, as launched. -/
abbrev inp : Vec Ideal S4096x1024 .f32 := m ((c : Thread nD τ).loc main_arg0)
/-- The norm's gain, as launched. -/
abbrev gain : Vec Ideal S1x1024 .f32 := m ((c : Thread nD τ).loc main_arg1)
/-- The norm's bias, as launched. -/
abbrev bias : Vec Ideal S1x1024 .f32 := m ((c : Thread nD τ).loc main_arg2)
/-- The modulation's scale, as launched. -/
abbrev stretch : Vec Ideal S1x1024 .f32 := m ((c : Thread nD τ).loc main_arg3)
/-- The modulation's shift, as launched. -/
abbrev shift : Vec Ideal S1x1024 .f32 := m ((c : Thread nD τ).loc main_arg4)
/-- The transposed weights, as launched. -/
abbrev wts : Vec Ideal S3856x1024 .bf16 := m ((c : Thread nD τ).loc main_arg5)

/-- The blocks of rows follow the points. -/
theorem index0 : ∀ t : Fin cfg0.N, win0_0.index t = ![t.val, 0] := (by decide +kernel : ∀ t : Fin grid0.N, _)
/-- The gain is one block. -/
theorem index1 : ∀ t : Fin cfg0.N, win0_1.index t = ![0, 0] := (by decide +kernel : ∀ t : Fin grid0.N, _)
/-- The bias is one block. -/
theorem index2 : ∀ t : Fin cfg0.N, win0_2.index t = ![0, 0] := (by decide +kernel : ∀ t : Fin grid0.N, _)
/-- The scale is one block. -/
theorem index3 : ∀ t : Fin cfg0.N, win0_3.index t = ![0, 0] := (by decide +kernel : ∀ t : Fin grid0.N, _)
/-- The shift is one block. -/
theorem index4 : ∀ t : Fin cfg0.N, win0_4.index t = ![0, 0] := (by decide +kernel : ∀ t : Fin grid0.N, _)
/-- The weights are one block. -/
theorem index5 : ∀ t : Fin cfg0.N, win0_5.index t = ![0, 0] := (by decide +kernel : ∀ t : Fin grid0.N, _)

/-- A row of a point, among all rows. -/
def row (t : Fin cfg0.N) (l : Fin 512) : Fin 4096 := rowOf t.val (lt_of_lt_of_eq t.isLt N_0) l

/-- A point's rows. -/
abbrev inpAt (t : Fin cfg0.N) : Vec Ideal S512x1024 .f32 := iblk m c 0 t
/-- A point's gain. -/
abbrev gainAt (t : Fin cfg0.N) : Vec Ideal S1x1024 .f32 := iblk m c 1 t
/-- A point's bias. -/
abbrev biasAt (t : Fin cfg0.N) : Vec Ideal S1x1024 .f32 := iblk m c 2 t
/-- A point's modulation scale. -/
abbrev stretchAt (t : Fin cfg0.N) : Vec Ideal S1x1024 .f32 := iblk m c 3 t
/-- A point's modulation shift. -/
abbrev shiftAt (t : Fin cfg0.N) : Vec Ideal S1x1024 .f32 := iblk m c 4 t
/-- A point's weights. -/
abbrev wtsAt (t : Fin cfg0.N) : Vec Ideal S3856x1024 .bf16 := iblk m c 5 t

/-- Where a point's rows lie. -/
theorem inp_block (t : Fin cfg0.N) (l : Fin 512) (k : Fin 1024) : inpAt m c t (ix2 l k) = inp m c (ix2 (row t l) k) := by
  show (iblk m c 0 t : Vec Ideal S512x1024 .f32) _ = _
  unfold iblk
  rw [View.read_apply]
  show V m c main_arg0 _ = _
  rw [V_main_arg0]
  exact congrArg (inp m c) (tile_entry t.val _ l k _ _ (index0 t) rfl rfl)

/-- A point's gain is the whole gain. -/
theorem gain_block (t : Fin cfg0.N) (k : Fin 1024) : gainAt m c t (ix2 0 k) = gain m c (ix2 0 k) := by
  show (iblk m c 1 t : Vec Ideal S1x1024 .f32) _ = _
  unfold iblk
  rw [View.read_apply]
  show V m c main_arg1 _ = _
  rw [V_main_arg1]
  exact congrArg (gain m c) (whole_entry 0 k _ _ (index1 t) rfl rfl)

/-- A point's bias is the whole bias. -/
theorem bias_block (t : Fin cfg0.N) (k : Fin 1024) : biasAt m c t (ix2 0 k) = bias m c (ix2 0 k) := by
  show (iblk m c 2 t : Vec Ideal S1x1024 .f32) _ = _
  unfold iblk
  rw [View.read_apply]
  show V m c main_arg2 _ = _
  rw [V_main_arg2]
  exact congrArg (bias m c) (whole_entry 0 k _ _ (index2 t) rfl rfl)

/-- A point's modulation scale is the whole scale. -/
theorem stretch_block (t : Fin cfg0.N) (k : Fin 1024) : stretchAt m c t (ix2 0 k) = stretch m c (ix2 0 k) := by
  show (iblk m c 3 t : Vec Ideal S1x1024 .f32) _ = _
  unfold iblk
  rw [View.read_apply]
  show V m c main_arg3 _ = _
  rw [V_main_arg3]
  exact congrArg (stretch m c) (whole_entry 0 k _ _ (index3 t) rfl rfl)

/-- A point's modulation shift is the whole shift. -/
theorem shift_block (t : Fin cfg0.N) (k : Fin 1024) : shiftAt m c t (ix2 0 k) = shift m c (ix2 0 k) := by
  show (iblk m c 4 t : Vec Ideal S1x1024 .f32) _ = _
  unfold iblk
  rw [View.read_apply]
  show V m c main_arg4 _ = _
  rw [V_main_arg4]
  exact congrArg (shift m c) (whole_entry 0 k _ _ (index4 t) rfl rfl)

/-- A point's weights are all of them. -/
theorem wts_block (t : Fin cfg0.N) (j : Fin 3856) (k : Fin 1024) : wtsAt m c t (ix2 j k) = wts m c (ix2 j k) := by
  show (iblk m c 5 t : Vec Ideal S3856x1024 .bf16) _ = _
  unfold iblk
  rw [View.read_apply]
  show V m c main_arg5 _ = _
  rw [V_main_arg5]
  exact congrArg (wts m c) (whole_entry j k _ _ (index5 t) rfl rfl)

/-! ## The results as formulas -/

/-- A row of the input. -/
def inpRow (r : Fin 4096) : Fin 1024 → EReal := fun k => inp m c (ix2 r k)

/-- One modulated value. -/
def modAt (r : Fin 4096) (d : Fin 1024) : EReal :=
  modulated (inpRow m c r) (fun k => gain m c (ix2 0 k)) (fun k => bias m c (ix2 0 k)) (fun k => stretch m c (ix2 0 k)) (fun k => shift m c (ix2 0 k)) d

/-- One projected value. -/
def projAt (r : Fin 4096) (j : Fin 3856) : EReal := ∑ k, modAt m c r k * wts m c (ix2 j k)

/-- The normed rows. -/
def hat : Vec Ideal S4096x1024 .f32 := fun e => normed (inpRow m c (e 0)) (e 1)
/-- The scaling factors. -/
def fac : Vec Ideal S4096x1 .f32 := fun e => scale (inpRow m c (e 0))
/-- The modulated rows. -/
def mod : Vec Ideal S4096x1024 .bf16 := fun e => modAt m c (e 0) (e 1)
/-- The first range of the projection. -/
def first : Vec Ideal S4096x1024 .f32 := fun e => projAt m c (e 0) ⟨0 + (e 1).val, by have : (e 1).val < 1024 := (e 1).isLt; omega⟩
/-- The second range. -/
def second : Vec Ideal S4096x1536 .f32 := fun e => projAt m c (e 0) ⟨1024 + (e 1).val, by have : (e 1).val < 1536 := (e 1).isLt; omega⟩
/-- The third range, with the columns after it. -/
def third : Vec Ideal S4096x128 .f32 := fun e => projAt m c (e 0) ⟨2560 + (e 1).val, by have : (e 1).val < 128 := (e 1).isLt; omega⟩
/-- The fourth range. -/
def fourth : Vec Ideal S4096x1024 .bf16 := fun e => projAt m c (e 0) ⟨2576 + (e 1).val, by have : (e 1).val < 1024 := (e 1).isLt; omega⟩
/-- The fifth range. -/
def fifth : Vec Ideal S4096x256 .bf16 := fun e => projAt m c (e 0) ⟨3600 + (e 1).val, by have : (e 1).val < 256 := (e 1).isLt; omega⟩

/-- A point's row is a row of the input. -/
theorem inpRow_block (t : Fin cfg0.N) (l : Fin 512) : (fun k => inpAt m c t (ix2 l k)) = inpRow m c (row t l) :=
  funext fun k => inp_block m c t l k

/-- A point's modulated row. -/
theorem modRow_block (t : Fin cfg0.N) (l : Fin 512) :
    modRow (inpAt m c t) (gainAt m c t) (biasAt m c t) (stretchAt m c t) (shiftAt m c t) l = modAt m c (row t l) := by
  funext d
  unfold modRow modAt
  rw [inpRow_block, funext (gain_block m c t), funext (bias_block m c t), funext (stretch_block m c t), funext (shift_block m c t)]

/-- A point's projected row. -/
theorem projRow_block (t : Fin cfg0.N) (l : Fin 512) (j : Fin 3856) :
    projRow (inpAt m c t) (gainAt m c t) (biasAt m c t) (stretchAt m c t) (shiftAt m c t) (wtsAt m c t) l j = projAt m c (row t l) j := by
  unfold projRow projAt
  rw [modRow_block]
  exact Finset.sum_congr (M := EReal) rfl fun k _ => congrArg (fun w : EReal => modAt m c (row t l) k * w) (wts_block m c t j k)

/-- The normed rows a point leaves. -/
theorem hat_left (t : Fin cfg0.N) (l : Fin 512) (d : Fin 1024) : out0_6 (inpAt m c t) (gainAt m c t) (biasAt m c t) (stretchAt m c t) (shiftAt m c t) (wtsAt m c t) (ix2 l d) = hat m c (ix2 (row t l) d) :=
  (out6_entry _ _ _ _ _ _ l d).trans (congrArg (fun r => normed r d) (inpRow_block m c t l))

/-- The scaling factors a point leaves. -/
theorem fac_left (t : Fin cfg0.N) (l : Fin 512) (d : Fin 1) : out0_7 (inpAt m c t) (gainAt m c t) (biasAt m c t) (stretchAt m c t) (shiftAt m c t) (wtsAt m c t) (ix2 l d) = fac m c (ix2 (row t l) d) := by
  rw [Subsingleton.elim (α := Fin 1) d 0]
  exact (out7_entry _ _ _ _ _ _ l).trans (congrArg scale (inpRow_block m c t l))

/-- The modulated rows a point leaves. -/
theorem mod_left (t : Fin cfg0.N) (l : Fin 512) (d : Fin 1024) : out0_8 (inpAt m c t) (gainAt m c t) (biasAt m c t) (stretchAt m c t) (shiftAt m c t) (wtsAt m c t) (ix2 l d) = mod m c (ix2 (row t l) d) :=
  (out8_entry _ _ _ _ _ _ l d).trans (congrFun (modRow_block m c t l) d)

/-- The first range a point leaves. -/
theorem first_left (t : Fin cfg0.N) (l : Fin 512) (d : Fin 1024) : out0_9 (inpAt m c t) (gainAt m c t) (biasAt m c t) (stretchAt m c t) (shiftAt m c t) (wtsAt m c t) (ix2 l d) = first m c (ix2 (row t l) d) :=
  (out9_entry _ _ _ _ _ _ l d).trans (projRow_block m c t l _)

/-- The second range a point leaves. -/
theorem second_left (t : Fin cfg0.N) (l : Fin 512) (d : Fin 1536) : out0_10 (inpAt m c t) (gainAt m c t) (biasAt m c t) (stretchAt m c t) (shiftAt m c t) (wtsAt m c t) (ix2 l d) = second m c (ix2 (row t l) d) :=
  (out10_entry _ _ _ _ _ _ l d).trans (projRow_block m c t l _)

/-- The fourth range a point leaves. -/
theorem fourth_left (t : Fin cfg0.N) (l : Fin 512) (d : Fin 1024) : out0_11 (inpAt m c t) (gainAt m c t) (biasAt m c t) (stretchAt m c t) (shiftAt m c t) (wtsAt m c t) (ix2 l d) = fourth m c (ix2 (row t l) d) :=
  (out11_entry _ _ _ _ _ _ l d).trans (projRow_block m c t l _)

/-- The fifth range a point leaves. -/
theorem fifth_left (t : Fin cfg0.N) (l : Fin 512) (d : Fin 256) : out0_12 (inpAt m c t) (gainAt m c t) (biasAt m c t) (stretchAt m c t) (shiftAt m c t) (wtsAt m c t) (ix2 l d) = fifth m c (ix2 (row t l) d) :=
  (out12_entry _ _ _ _ _ _ l d).trans (projRow_block m c t l _)

/-- The third range, with the columns after it, a point leaves. -/
theorem third_left (t : Fin cfg0.N) (l : Fin 512) (d : Fin 128) : out0_13 (inpAt m c t) (gainAt m c t) (biasAt m c t) (stretchAt m c t) (shiftAt m c t) (wtsAt m c t) (ix2 l d) = third m c (ix2 (row t l) d) :=
  (out13_entry _ _ _ _ _ _ l d).trans (projRow_block m c t l _)

/-! ## The arrays at the end -/

/-- The point that takes a row. -/
def pointOf (r : Fin 4096) : Fin cfg0.N := ⟨r.val / 512, lt_of_lt_of_eq (tile_lt r) N_0.symm⟩

/-- The blocks of normed rows follow the points. -/
theorem index6 : ∀ t : Fin cfg0.N, win0_6.index t = ![t.val, 0] := (by decide +kernel : ∀ t : Fin grid0.N, _)
/-- So do those of scaling factors. -/
theorem index7 : ∀ t : Fin cfg0.N, win0_7.index t = ![t.val, 0] := (by decide +kernel : ∀ t : Fin grid0.N, _)
/-- So do those of modulated rows. -/
theorem index8 : ∀ t : Fin cfg0.N, win0_8.index t = ![t.val, 0] := (by decide +kernel : ∀ t : Fin grid0.N, _)
/-- So do those of the first range. -/
theorem index9 : ∀ t : Fin cfg0.N, win0_9.index t = ![t.val, 0] := (by decide +kernel : ∀ t : Fin grid0.N, _)
/-- So do those of the second range. -/
theorem index10 : ∀ t : Fin cfg0.N, win0_10.index t = ![t.val, 0] := (by decide +kernel : ∀ t : Fin grid0.N, _)
/-- So do those of the fourth range. -/
theorem index11 : ∀ t : Fin cfg0.N, win0_11.index t = ![t.val, 0] := (by decide +kernel : ∀ t : Fin grid0.N, _)
/-- So do those of the fifth range. -/
theorem index12 : ∀ t : Fin cfg0.N, win0_12.index t = ![t.val, 0] := (by decide +kernel : ∀ t : Fin grid0.N, _)
/-- So do those of the third range. -/
theorem index13 : ∀ t : Fin cfg0.N, win0_13.index t = ![t.val, 0] := (by decide +kernel : ∀ t : Fin grid0.N, _)

/-- The normed rows at the end. -/
theorem hat_final : (dats m 0 c).arrAt 6 cfg0.N = hat m c := by
  refine (dats m 0 c).arrAt_eq_of_cover 6 (hat m c) (fun t _ => ?_) fun i => ⟨pointOf (i 0), flush0_6 _, ?_⟩
  · rw [Value.flushed6]
    funext x
    rw [View.read_apply]
    exact (congrArg (out0_6 (inpAt m c t) (gainAt m c t) (biasAt m c t) (stretchAt m c t) (shiftAt m c t) (wtsAt m c t)) (eq_ix2 (n0 := 512) (n1 := 1024) x)).trans ((hat_left m c t (x 0) (x 1)).trans
      (congrArg (hat m c) (tile_entry t.val _ (x 0) (x 1) _ _ (index6 t) rfl rfl)).symm)
  · show i ∈ ((View.whole main_v0_0).slice (win0_6.rect (pointOf (i 0)))).set
    rw [View.set_slice_whole, Rect.mem_set_unit]
    exact in_tile i _ (index6 _)

/-- The scaling factors at the end. -/
theorem fac_final : (dats m 0 c).arrAt 7 cfg0.N = fac m c := by
  refine (dats m 0 c).arrAt_eq_of_cover 7 (fac m c) (fun t _ => ?_) fun i => ⟨pointOf (i 0), flush0_7 _, ?_⟩
  · rw [Value.flushed7]
    funext x
    rw [View.read_apply]
    exact (congrArg (out0_7 (inpAt m c t) (gainAt m c t) (biasAt m c t) (stretchAt m c t) (shiftAt m c t) (wtsAt m c t)) (eq_ix2 (n0 := 512) (n1 := 1) x)).trans ((fac_left m c t (x 0) (x 1)).trans
      (congrArg (fac m c) (tile_entry t.val _ (x 0) (x 1) _ _ (index7 t) rfl rfl)).symm)
  · show i ∈ ((View.whole main_v0_1).slice (win0_7.rect (pointOf (i 0)))).set
    rw [View.set_slice_whole, Rect.mem_set_unit]
    exact in_tile i _ (index7 _)

/-- The modulated rows at the end. -/
theorem mod_final : (dats m 0 c).arrAt 8 cfg0.N = mod m c := by
  refine (dats m 0 c).arrAt_eq_of_cover 8 (mod m c) (fun t _ => ?_) fun i => ⟨pointOf (i 0), flush0_8 _, ?_⟩
  · rw [Value.flushed8]
    funext x
    rw [View.read_apply]
    exact (congrArg (out0_8 (inpAt m c t) (gainAt m c t) (biasAt m c t) (stretchAt m c t) (shiftAt m c t) (wtsAt m c t)) (eq_ix2 (n0 := 512) (n1 := 1024) x)).trans ((mod_left m c t (x 0) (x 1)).trans
      (congrArg (mod m c) (tile_entry t.val _ (x 0) (x 1) _ _ (index8 t) rfl rfl)).symm)
  · show i ∈ ((View.whole main_v0_2).slice (win0_8.rect (pointOf (i 0)))).set
    rw [View.set_slice_whole, Rect.mem_set_unit]
    exact in_tile i _ (index8 _)

/-- The first range at the end. -/
theorem first_final : (dats m 0 c).arrAt 9 cfg0.N = first m c := by
  refine (dats m 0 c).arrAt_eq_of_cover 9 (first m c) (fun t _ => ?_) fun i => ⟨pointOf (i 0), flush0_9 _, ?_⟩
  · rw [Value.flushed9]
    funext x
    rw [View.read_apply]
    exact (congrArg (out0_9 (inpAt m c t) (gainAt m c t) (biasAt m c t) (stretchAt m c t) (shiftAt m c t) (wtsAt m c t)) (eq_ix2 (n0 := 512) (n1 := 1024) x)).trans ((first_left m c t (x 0) (x 1)).trans
      (congrArg (first m c) (tile_entry t.val _ (x 0) (x 1) _ _ (index9 t) rfl rfl)).symm)
  · show i ∈ ((View.whole main_v0_3).slice (win0_9.rect (pointOf (i 0)))).set
    rw [View.set_slice_whole, Rect.mem_set_unit]
    exact in_tile i _ (index9 _)

/-- The second range at the end. -/
theorem second_final : (dats m 0 c).arrAt 10 cfg0.N = second m c := by
  refine (dats m 0 c).arrAt_eq_of_cover 10 (second m c) (fun t _ => ?_) fun i => ⟨pointOf (i 0), flush0_10 _, ?_⟩
  · rw [Value.flushed10]
    funext x
    rw [View.read_apply]
    exact (congrArg (out0_10 (inpAt m c t) (gainAt m c t) (biasAt m c t) (stretchAt m c t) (shiftAt m c t) (wtsAt m c t)) (eq_ix2 (n0 := 512) (n1 := 1536) x)).trans ((second_left m c t (x 0) (x 1)).trans
      (congrArg (second m c) (tile_entry t.val _ (x 0) (x 1) _ _ (index10 t) rfl rfl)).symm)
  · show i ∈ ((View.whole main_v0_4).slice (win0_10.rect (pointOf (i 0)))).set
    rw [View.set_slice_whole, Rect.mem_set_unit]
    exact in_tile i _ (index10 _)

/-- The fourth range at the end. -/
theorem fourth_final : (dats m 0 c).arrAt 11 cfg0.N = fourth m c := by
  refine (dats m 0 c).arrAt_eq_of_cover 11 (fourth m c) (fun t _ => ?_) fun i => ⟨pointOf (i 0), flush0_11 _, ?_⟩
  · rw [Value.flushed11]
    funext x
    rw [View.read_apply]
    exact (congrArg (out0_11 (inpAt m c t) (gainAt m c t) (biasAt m c t) (stretchAt m c t) (shiftAt m c t) (wtsAt m c t)) (eq_ix2 (n0 := 512) (n1 := 1024) x)).trans ((fourth_left m c t (x 0) (x 1)).trans
      (congrArg (fourth m c) (tile_entry t.val _ (x 0) (x 1) _ _ (index11 t) rfl rfl)).symm)
  · show i ∈ ((View.whole main_v0_5).slice (win0_11.rect (pointOf (i 0)))).set
    rw [View.set_slice_whole, Rect.mem_set_unit]
    exact in_tile i _ (index11 _)

/-- The fifth range at the end. -/
theorem fifth_final : (dats m 0 c).arrAt 12 cfg0.N = fifth m c := by
  refine (dats m 0 c).arrAt_eq_of_cover 12 (fifth m c) (fun t _ => ?_) fun i => ⟨pointOf (i 0), flush0_12 _, ?_⟩
  · rw [Value.flushed12]
    funext x
    rw [View.read_apply]
    exact (congrArg (out0_12 (inpAt m c t) (gainAt m c t) (biasAt m c t) (stretchAt m c t) (shiftAt m c t) (wtsAt m c t)) (eq_ix2 (n0 := 512) (n1 := 256) x)).trans ((fifth_left m c t (x 0) (x 1)).trans
      (congrArg (fifth m c) (tile_entry t.val _ (x 0) (x 1) _ _ (index12 t) rfl rfl)).symm)
  · show i ∈ ((View.whole main_v0_6).slice (win0_12.rect (pointOf (i 0)))).set
    rw [View.set_slice_whole, Rect.mem_set_unit]
    exact in_tile i _ (index12 _)

/-- The third range, with the columns after it, at the end. -/
theorem third_final : (dats m 0 c).arrAt 13 cfg0.N = third m c := by
  refine (dats m 0 c).arrAt_eq_of_cover 13 (third m c) (fun t _ => ?_) fun i => ⟨pointOf (i 0), flush0_13 _, ?_⟩
  · rw [Value.flushed13]
    funext x
    rw [View.read_apply]
    exact (congrArg (out0_13 (inpAt m c t) (gainAt m c t) (biasAt m c t) (stretchAt m c t) (shiftAt m c t) (wtsAt m c t)) (eq_ix2 (n0 := 512) (n1 := 128) x)).trans ((third_left m c t (x 0) (x 1)).trans
      (congrArg (third m c) (tile_entry t.val _ (x 0) (x 1) _ _ (index13 t) rfl rfl)).symm)
  · show i ∈ ((View.whole main_v0_7).slice (win0_13.rect (pointOf (i 0)))).set
    rw [View.set_slice_whole, Rect.mem_set_unit]
    exact in_tile i _ (index13 _)

end Cert.LnInIdeal.Rows

end
-- ==== Proof.LnInAgree.lean ====
module

public import proofs.«01_k».proof.Defs
public import proofs.«01_k».proof.Proof.LnInRows
public import proofs.«01_k».proof.Proof.Gen.LnInReferenceIdeal.Run

@[expose] public section

set_option maxRecDepth 16384

noncomputable section

namespace Cert.LnInAgree

open Idealize.ShloMosaic Idealize.ShloMosaic.TcCoe Idealize.ShloMosaic.Tactic Idealize.SL.Sem

/-! # The first norm and the input projection: kernel and reference agree -/

section Reading

open Cert.LnInReferenceIdeal Cert.LnInReferenceIdeal.Gen Cert.Norm

variable (x : FVec Ideal S4096x1024 .f32) (g b s f : FVec Ideal S1x1024 .f32) (w : FVec Ideal S3856x1024 .bf16)

/-- The rows without their means, as the reference forms them. -/
abbrev centred : FVec Ideal S4096x1024 .f32 :=
  subf x (broadcastInDim S4096x1024 ![0, 1] bcast_S4096x1_S4096x1024_0_1 (Host.divf (broadcastInDim S4096x1 ![0] bcast_S4096_S4096x1_0 (Host.reduceAdd x (constant S_ .f32 0x00000000#32) reducesTo_S4096x1024_S4096_d1 h_S_)) (broadcastInDim S4096x1 ![] bcast_S_S4096x1 (constant S_ .f32 0x44800000#32))))

/-- The scaling factors, as the reference forms them. -/
abbrev factor : FVec Ideal S4096x1 .f32 :=
  Host.rsqrt (addf (Host.divf (broadcastInDim S4096x1 ![0] bcast_S4096_S4096x1_0 (Host.reduceAdd (mulf (centred x) (centred x)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))

/-- The normed rows, as the reference forms them. -/
abbrev hats : FVec Ideal S4096x1024 .f32 := mulf (centred x) (broadcastInDim S4096x1024 ![0, 1] bcast_S4096x1_S4096x1024_0_1 (factor x))

/-- The modulated rows, as the reference forms them. -/
abbrev mods : FVec Ideal S4096x1024 .f32 :=
  addf (mulf (addf (mulf (hats x) (broadcastInDim S4096x1024 ![0, 1] bcast_S1x1024_S4096x1024_0_1 g)) (broadcastInDim S4096x1024 ![0, 1] bcast_S1x1024_S4096x1024_0_1 b)) (broadcastInDim S4096x1024 ![0, 1] bcast_S1x1024_S4096x1024_0_1 (addf (broadcastInDim S1x1024 ![] bcast_S_S1x1024 (constant (F := Ideal) S_ .f32 0x3F800000#32)) s))) (broadcastInDim S4096x1024 ![0, 1] bcast_S1x1024_S4096x1024_0_1 f)

/-- The projection of any rows, as the reference forms it. -/
abbrev proj (u : FVec Ideal S4096x1024 .f32) : FVec Ideal S4096x3856 .f32 :=
  Host.dotGeneral (φ₂ := .f32) dot_S4096x1024_S1024x3856_S4096x3856_1_0_0_1_n_n none u (transpose S1024x3856 [1, 0] (extf .f32 w bitsLt_bf16_f32) transposes_S3856x1024_S1024x3856_1_0)

/-- One normed value. -/
theorem hats_apply (r : Fin 4096) (d : Fin 1024) : hats x (ix2 r d) = normed (fun k => x (ix2 r k)) d := by
  unfold normed scale mean width small
  pointwise

/-- One scaling factor. -/
theorem factor_apply (r : Fin 4096) : factor x (ix2 r 0) = scale (fun k => x (ix2 r k)) := by
  unfold scale mean width small
  pointwise

/-- One modulated value. -/
theorem mods_apply (r : Fin 4096) (d : Fin 1024) : mods x g b s f (ix2 r d)
    = modulated (fun k => x (ix2 r k)) (fun k => g (ix2 0 k)) (fun k => b (ix2 0 k)) (fun k => s (ix2 0 k)) (fun k => f (ix2 0 k)) d := by
  unfold modulated normed scale mean width small
  pointwise

/-- One projected value. -/
theorem proj_apply (u : FVec Ideal S4096x1024 .f32) (r : Fin 4096) (j : Fin 3856) : proj w u (ix2 r j) = ∑ k : Fin 1024, u (ix2 r k) * w (ix2 j k) := by
  pointwise

/-- One projected value of the modulated rows. -/
theorem projected (r : Fin 4096) (j : Fin 3856) : proj w (mods x g b s f) (ix2 r j)
    = ∑ k, modulated (fun k => x (ix2 r k)) (fun k => g (ix2 0 k)) (fun k => b (ix2 0 k)) (fun k => s (ix2 0 k)) (fun k => f (ix2 0 k)) k * w (ix2 j k) :=
  (proj_apply w _ r j).trans (Finset.sum_congr (M := EReal) rfl fun k _ => congrArg (fun a : EReal => a * w (ix2 j k)) (mods_apply x g b s f r k))

/-- A range of columns reads the columns from its first on. -/
theorem range_apply {n off : ℕ} (v : FVec Ideal S4096x3856 .f32) (h : S4096x3856.Slices ![0, off] (⟨2, ![4096, n]⟩ : Shape)) (r : Fin 4096) (d : Fin n)
    (hj : off + d.val < 3856) : extractStridedSlice (⟨2, ![4096, n]⟩ : Shape) ![0, off] v h (ix2 r d) = v (ix2 r ⟨off + d.val, hj⟩) := by
  refine congrArg v (funext fun a => Fin.ext ?_)
  match a with
  | ⟨0, _⟩ => exact Nat.zero_add _
  | ⟨1, _⟩ => rfl

end Reading

open Cert.LnInIdeal.Rows in
/-- The eight results of the first norm and the input projection. -/
theorem equal : Cert.algebraic_LnInIdeal_LnInReferenceIdeal
    (hLnInIdeal := Cert.LnInIdeal.Gen.facts) (hLnInReferenceIdeal := Cert.LnInReferenceIdeal.Gen.facts) := by
  intro m g m' g' _ h
  refine ⟨fun c => hat m c, fun c => fac m c, fun c => mod m c, fun c => first m c, fun c => second m c, fun c => fourth m c, fun c => fifth m c, fun c => third m c, ?_, ?_⟩
  · refine (θ_run Cert.LnInIdeal.defs _ _).mono (fun r hr c => ?_) (Cert.LnInIdeal.Value.run_blocks m g)
    obtain ⟨h6, h7, h8, h9, h10, h11, h12, h13, rest⟩ := hr c
    exact ⟨h6.trans (hat_final m c), h7.trans (fac_final m c), h8.trans (mod_final m c), h9.trans (first_final m c), h10.trans (second_final m c), h11.trans (fourth_final m c), h12.trans (fifth_final m c), h13.trans (third_final m c), rest⟩
  · refine (θ_run Cert.LnInReferenceIdeal.defs _ _).mono (fun r hr c => ?_) (Cert.LnInReferenceIdeal.Value.run (F := Ideal) m' g')
    obtain ⟨h0, h1, h2, h3, h4, h5⟩ := h c
    obtain ⟨r0, r1, r2, r3, r4, r5, r6, r7, rest⟩ := hr c
    rw [h0] at r0 r1
    rw [h0, h1, h2, h3, h4] at r2
    rw [h0, h1, h2, h3, h4, h5] at r3 r4 r5 r6 r7
    refine ⟨r0.trans ?_, r1.trans ?_, r2.trans ?_, r3.trans ?_, r4.trans ?_, r5.trans ?_, r6.trans ?_, r7.trans ?_, rest⟩ <;> funext e
    · exact (congrArg _ (eq_ix2 e)).trans (hats_apply _ (e 0) (e 1))
    · have he : e = ix2 (e 0) 0 := (eq_ix2 e).trans (congrArg (fun a => ix2 (e 0) a) (Subsingleton.elim (α := Fin 1) _ _))
      exact (congrArg _ he).trans (factor_apply _ (e 0))
    · exact (congrArg _ (eq_ix2 e)).trans (mods_apply _ _ _ _ _ (e 0) (e 1))
    · exact (congrArg _ (eq_ix2 e)).trans ((range_apply (n := 1024) _ Cert.LnInReferenceIdeal.Gen.slices_S4096x3856_S4096x1024_0_0 (e 0) (e 1) _).trans (projected _ _ _ _ _ _ (e 0) _))
    · exact (congrArg _ (eq_ix2 e)).trans ((range_apply (n := 1536) _ Cert.LnInReferenceIdeal.Gen.slices_S4096x3856_S4096x1536_0_1024 (e 0) (e 1) _).trans (projected _ _ _ _ _ _ (e 0) _))
    · exact (congrArg _ (eq_ix2 e)).trans ((range_apply (n := 1024) _ Cert.LnInReferenceIdeal.Gen.slices_S4096x3856_S4096x1024_0_2576 (e 0) (e 1) _).trans (projected _ _ _ _ _ _ (e 0) _))
    · exact (congrArg _ (eq_ix2 e)).trans ((range_apply (n := 256) _ Cert.LnInReferenceIdeal.Gen.slices_S4096x3856_S4096x256_0_3600 (e 0) (e 1) _).trans (projected _ _ _ _ _ _ (e 0) _))
    · exact (congrArg _ (eq_ix2 e)).trans ((range_apply (n := 128) _ Cert.LnInReferenceIdeal.Gen.slices_S4096x3856_S4096x128_0_2560 (e 0) (e 1) _).trans (projected _ _ _ _ _ _ (e 0) _))

end Cert.LnInAgree

end
-- ==== Proof.OutLnRows.lean ====
module

public import proofs.«01_k».proof.Proof.Norm
public import proofs.«01_k».proof.Proof.Gen.OutLnIdeal.Value
public import Idealize.ShloMosaic.Lib.Pipeline.ReadBack
public import Idealize.ShloMosaic.Lib.Pipeline.ValueKit.Tiles

@[expose] public section

set_option maxRecDepth 16384

noncomputable section

namespace Cert.OutLnIdeal.Rows

open Cert.OutLnIdeal Cert.OutLnIdeal.Gen Cert.Norm
open Idealize.ShloMosaic Idealize.ShloMosaic.TcCoe Idealize.ShloMosaic.Tactic

/-! # The output projection and the second norm

Eight points take 512 rows each. A point multiplies its rows of the two heads' outputs with the two halves of the weights,
adds the gated sum to the first norm's rows, norms the result and modulates it. -/

/-- Offsets that are all zero. -/
theorem zeros : (![0, 0] : Fin 2 → Nat) = fun _ => 0 := funext fun a => by fin_cases a <;> rfl

/-- The weight of the residual, as both programs write it. -/
def alpha : EReal := Ideal.ofBits .f32 0x3F9837F0#32

/-- One value before the second norm: the first norm's value under its weight and the gated projection. -/
def joint (h g b gate mix : Fin 1024 → EReal) (d : Fin 1024) : EReal := alpha * (h d * g d + b d) + (1 + gate d) * mix d

/-! ## One point, entry by entry -/

section Payloads

variable (y o : Vec Ideal S512x1024 .bf16) (w w' : Vec Ideal S1024x1024 .bf16) (h : Vec Ideal S512x1024 .f32) (a0 a1 a2 a3 a4 a5 a6 : Vec Ideal S1x1024 .f32)

/-- One projected value: the products of both halves. -/
def mixOf (l : Fin 512) (d : Fin 1024) : EReal := ∑ k : Fin 1024, y (ix2 l k) * w (ix2 k d) + ∑ k : Fin 1024, o (ix2 l k) * w' (ix2 k d)

/-- A row before the second norm. -/
def jointOf (l : Fin 512) : Fin 1024 → EReal :=
  joint (fun k => h (ix2 l k)) (fun k => a0 (ix2 0 k)) (fun k => a1 (ix2 0 k)) (fun k => a2 (ix2 0 k)) (mixOf y o w w' l)

/-- One projected value. -/
theorem mix_pay (l : Fin 512) (d : Fin 1024) : (k0_pay4 y w o w' : Vec Ideal S512x1024 .f32) (ix2 l d) = mixOf y o w w' l d := by
  unfold mixOf
  pointwise [k0_pay4]

/-- One value without its row's mean. -/
theorem centred_pay (l : Fin 512) (d : Fin 1024) : (k0_pay5 y w o w' h a0 a1 a2 : Vec Ideal S512x1024 .f32) (ix2 l d)
    = jointOf y o w w' h a0 a1 a2 l d - mean (jointOf y o w w' h a0 a1 a2 l) := by
  unfold jointOf joint mixOf mean width alpha
  pointwise [k0_pay5, k0_pay4]

/-- Its square. -/
theorem square_pay (l : Fin 512) (d : Fin 1024) : (k0_pay6 y w o w' h a0 a1 a2 : Vec Ideal S512x1024 .f32) (ix2 l d)
    = (jointOf y o w w' h a0 a1 a2 l d - mean (jointOf y o w w' h a0 a1 a2 l)) * (jointOf y o w w' h a0 a1 a2 l d - mean (jointOf y o w w' h a0 a1 a2 l)) :=
  congrArg₂ (fun u v : EReal => u * v) (centred_pay y o w w' h a0 a1 a2 l d) (centred_pay y o w w' h a0 a1 a2 l d)

/-- The factor of squares `v`. -/
theorem factor_pay (v : FVec Ideal S512x1024 .f32) (l : Fin 512) : (k0_pay1 v : Vec Ideal S512x1 .f32) (ix2 l 0)
    = Ideal.rsqrt (Ideal.div (∑ k : Fin 1024, v (ix2 l k)) width + small) := by
  unfold width small
  pointwise [k0_pay1]

/-- Values `u` scaled by the factor of squares `v`. -/
theorem scaled_pay (u v : FVec Ideal S512x1024 .f32) (l : Fin 512) (d : Fin 1024) : (k0_pay2 u v : Vec Ideal S512x1024 .f32) (ix2 l d)
    = u (ix2 l d) * Ideal.rsqrt (Ideal.div (∑ k : Fin 1024, v (ix2 l k)) width + small) := by
  unfold width small
  pointwise [k0_pay2, k0_pay1]

/-- Scaled values, modulated. -/
theorem modulated_pay (u v : FVec Ideal S512x1024 .f32) (l : Fin 512) (d : Fin 1024) : (k0_pay3 u v a3 a4 a5 a6 : Vec Ideal S512x1024 .bf16) (ix2 l d)
    = ((k0_pay2 u v : Vec Ideal S512x1024 .f32) (ix2 l d) * a3 (ix2 0 d) + a4 (ix2 0 d)) * (1 + a5 (ix2 0 d)) + a6 (ix2 0 d) := by
  pointwise [k0_pay3]

/-- The scaling factor of a row. -/
theorem scale_row (l : Fin 512) : Ideal.rsqrt (Ideal.div (∑ k : Fin 1024, (k0_pay6 y w o w' h a0 a1 a2 : Vec Ideal S512x1024 .f32) (ix2 l k)) width + small)
    = scale (jointOf y o w w' h a0 a1 a2 l) := by
  unfold scale
  exact congrArg (fun s : EReal => Ideal.rsqrt (Ideal.div s width + small)) (Finset.sum_congr (M := EReal) rfl fun k _ => square_pay y o w w' h a0 a1 a2 l k)

/-- A normed value of a row. -/
theorem normed_row (l : Fin 512) (d : Fin 1024) : (k0_pay2 (k0_pay5 y w o w' h a0 a1 a2) (k0_pay6 y w o w' h a0 a1 a2) : Vec Ideal S512x1024 .f32) (ix2 l d)
    = normed (jointOf y o w w' h a0 a1 a2 l) d :=
  (scaled_pay _ _ l d).trans (congrArg₂ (fun u v : EReal => u * v) (centred_pay y o w w' h a0 a1 a2 l d) (scale_row y o w w' h a0 a1 a2 l))

end Payloads

section Point

variable (x0 x1 : Vec Ideal S512x1024 .bf16) (x2 : Vec Ideal S2048x1024 .bf16) (x3 : Vec Ideal S512x1024 .f32) (x4 : Vec Ideal S8x1024 .f32)

/-- A row of the vectors. -/
def vecRow (i : Fin 8) : Fin 1024 → EReal := fun k => x4 (ix2 i k)

/-- A point's projected row. -/
def mixRow (l : Fin 512) (d : Fin 1024) : EReal :=
  ∑ k : Fin 1024, x0 (ix2 l k) * x2 (ix2 (⟨k.val, by omega⟩ : Fin 2048) d) + ∑ k : Fin 1024, x1 (ix2 l k) * x2 (ix2 (⟨1024 + k.val, by omega⟩ : Fin 2048) d)

/-- A point's row before the second norm. -/
def jointRow (l : Fin 512) : Fin 1024 → EReal := joint (fun k => x3 (ix2 l k)) (vecRow x4 0) (vecRow x4 1) (vecRow x4 2) (mixRow x0 x1 x2 l)

/-- The first half of the weights. -/
theorem first_half (k d : Fin 1024) : (View.ld x2 r0_1 : Vec Ideal S1024x1024 .bf16) (ix2 k d) = x2 (ix2 (⟨k.val, by omega⟩ : Fin 2048) d) :=
  View.ld_unit_apply_of x2 _ _ _ _ (ix2 _ d) fun a => match a with | ⟨0, _⟩ => (Nat.zero_add k.val).symm | ⟨1, _⟩ => (Nat.zero_add d.val).symm

/-- The second half of the weights. -/
theorem second_half (k d : Fin 1024) : (View.ld x2 r0_2 : Vec Ideal S1024x1024 .bf16) (ix2 k d) = x2 (ix2 (⟨1024 + k.val, by omega⟩ : Fin 2048) d) :=
  View.ld_unit_apply_of x2 _ _ _ _ (ix2 _ d) fun a => match a with | ⟨0, _⟩ => rfl | ⟨1, _⟩ => (Nat.zero_add d.val).symm

/-- A row loaded from the vectors. -/
theorem vec_loaded (i : Fin 8) (inb) (k : Fin 1024) :
    (View.ld x4 (Rect.unit (s := S8x1024) ![i.val, 0] S1x1024.size inb) : Vec Ideal S1x1024 .f32) (ix2 0 k) = vecRow x4 i k :=
  View.ld_unit_apply_of x4 _ _ _ _ (ix2 i k) fun a => match a with | ⟨0, _⟩ => rfl | ⟨1, _⟩ => (Nat.zero_add k.val).symm

/-- A projected row over the loaded halves. -/
theorem mix_loaded (l : Fin 512) : mixOf x0 x1 (View.ld x2 r0_1) (View.ld x2 r0_2) l = mixRow x0 x1 x2 l := by
  funext d
  unfold mixOf mixRow
  exact congrArg₂ (fun u v : EReal => u + v)
    (Finset.sum_congr (M := EReal) rfl fun k _ => congrArg (fun v : EReal => x0 (ix2 l k) * v) (first_half x2 k d))
    (Finset.sum_congr (M := EReal) rfl fun k _ => congrArg (fun v : EReal => x1 (ix2 l k) * v) (second_half x2 k d))

/-- A row before the second norm over the loaded blocks. -/
theorem joint_loaded (l : Fin 512) : jointOf x0 x1 (View.ld x2 r0_1) (View.ld x2 r0_2) x3 (View.ld x4 r0_3) (View.ld x4 r0_4) (View.ld x4 r0_5) l
    = jointRow x0 x1 x2 x3 x4 l := by
  have e0 : (fun k : Fin 1024 => (View.ld x4 r0_3 : Vec Ideal S1x1024 .f32) (ix2 0 k)) = vecRow x4 0 := funext (vec_loaded x4 0 _)
  have e1 : (fun k : Fin 1024 => (View.ld x4 r0_4 : Vec Ideal S1x1024 .f32) (ix2 0 k)) = vecRow x4 1 := funext (vec_loaded x4 1 _)
  have e2 : (fun k : Fin 1024 => (View.ld x4 r0_5 : Vec Ideal S1x1024 .f32) (ix2 0 k)) = vecRow x4 2 := funext (vec_loaded x4 2 _)
  unfold jointOf jointRow
  rw [e0, e1, e2, mix_loaded]

/-- The values without their means, from a point's blocks. -/
theorem pay7_eq : k0_pay7 x0 x1 x2 x3 x4 = k0_pay5 x0 (View.ld x2 r0_1) x1 (View.ld x2 r0_2) x3 (View.ld x4 r0_3) (View.ld x4 r0_4) (View.ld x4 r0_5) := by
  unfold k0_pay7
  simp only [View.ld_unit_zero (S := S512x1024) zeros]

/-- Their squares, from a point's blocks. -/
theorem pay8_eq : k0_pay8 x0 x1 x2 x3 x4 = k0_pay6 x0 (View.ld x2 r0_1) x1 (View.ld x2 r0_2) x3 (View.ld x4 r0_3) (View.ld x4 r0_4) (View.ld x4 r0_5) := by
  unfold k0_pay8
  simp only [View.ld_unit_zero (S := S512x1024) zeros]

/-- The projected rows a point leaves. -/
theorem out5_entry (l : Fin 512) (d : Fin 1024) : out0_5 x0 x1 x2 x3 x4 (ix2 l d) = mixRow x0 x1 x2 l d := by
  unfold out0_5
  rw [View.canon_unit_zero (S := S512x1024) zeros]
  simp only [View.ld_unit_zero (S := S512x1024) zeros]
  exact (mix_pay _ _ _ _ l d).trans (congrFun (mix_loaded x0 x1 x2 l) d)

/-- The normed rows a point leaves. -/
theorem out6_entry (l : Fin 512) (d : Fin 1024) : out0_6 x0 x1 x2 x3 x4 (ix2 l d) = normed (jointRow x0 x1 x2 x3 x4 l) d := by
  unfold out0_6
  rw [View.canon_unit_zero (S := S512x1024) zeros, pay7_eq, pay8_eq, ← joint_loaded]
  exact normed_row _ _ _ _ _ _ _ _ l d

/-- The scaling factors a point leaves. -/
theorem out7_entry (l : Fin 512) : out0_7 x0 x1 x2 x3 x4 (ix2 l 0) = scale (jointRow x0 x1 x2 x3 x4 l) := by
  unfold out0_7
  rw [View.canon_unit_zero (S := S512x1) zeros, pay8_eq, ← joint_loaded]
  exact (factor_pay _ l).trans (scale_row _ _ _ _ _ _ _ _ l)

/-- The modulated rows a point leaves. -/
theorem out8_entry (l : Fin 512) (d : Fin 1024) : out0_8 x0 x1 x2 x3 x4 (ix2 l d)
    = modulated (jointRow x0 x1 x2 x3 x4 l) (vecRow x4 3) (vecRow x4 4) (vecRow x4 5) (vecRow x4 6) d := by
  unfold out0_8
  rw [View.canon_unit_zero (S := S512x1024) zeros, pay7_eq, pay8_eq, ← joint_loaded]
  refine (modulated_pay _ _ _ _ _ _ l d).trans ?_
  rw [normed_row]
  unfold modulated
  exact congrArg₂ (fun u v : EReal => u + v)
    (congrArg₂ (fun u v : EReal => u * v)
      (congrArg₂ (fun u v : EReal => u + v) (congrArg (fun v : EReal => _ * v) (vec_loaded x4 3 _ d)) (vec_loaded x4 4 _ d))
      (congrArg (fun v : EReal => 1 + v) (vec_loaded x4 5 _ d)))
    (vec_loaded x4 6 _ d)

end Point

/-! ## What a point is handed -/

variable (m : (ℓ : Loc nD τ sig) → Buf (Elt Ideal) ℓ) (c : Dev nD)

/-- The state-space heads' outputs, as launched. -/
abbrev ssd : Vec Ideal S4096x1024 .bf16 := m ((c : Thread nD τ).loc main_arg0)
/-- The attention's outputs, as launched. -/
abbrev att : Vec Ideal S4096x1024 .bf16 := m ((c : Thread nD τ).loc main_arg1)
/-- The output weights, as launched. -/
abbrev wts : Vec Ideal S2048x1024 .bf16 := m ((c : Thread nD τ).loc main_arg2)
/-- The first norm's rows, as launched. -/
abbrev hat0 : Vec Ideal S4096x1024 .f32 := m ((c : Thread nD τ).loc main_arg3)
/-- The first norm's gain, as launched. -/
abbrev gain0 : Vec Ideal S1x1024 .f32 := m ((c : Thread nD τ).loc main_arg4)
/-- The first norm's bias, as launched. -/
abbrev bias0 : Vec Ideal S1x1024 .f32 := m ((c : Thread nD τ).loc main_arg5)
/-- The gate, as launched. -/
abbrev gate : Vec Ideal S1x1024 .f32 := m ((c : Thread nD τ).loc main_arg6)
/-- The second norm's gain, as launched. -/
abbrev gain1 : Vec Ideal S1x1024 .f32 := m ((c : Thread nD τ).loc main_arg7)
/-- The second norm's bias, as launched. -/
abbrev bias1 : Vec Ideal S1x1024 .f32 := m ((c : Thread nD τ).loc main_arg8)
/-- The modulation's scale, as launched. -/
abbrev stretch : Vec Ideal S1x1024 .f32 := m ((c : Thread nD τ).loc main_arg9)
/-- The modulation's shift, as launched. -/
abbrev shift : Vec Ideal S1x1024 .f32 := m ((c : Thread nD τ).loc main_arg10)

section Stack

variable (a0 a1 a2 a3 a4 a5 a6 a7 : Vec Ideal S1x1024 .f32)

/-- Eight vectors, one to a row. -/
abbrev stack : Vec Ideal S8x1024 .f32 :=
  concatenate S8x1024 0 [⟨S1x1024, a0⟩, ⟨S1x1024, a1⟩, ⟨S1x1024, a2⟩, ⟨S1x1024, a3⟩, ⟨S1x1024, a4⟩, ⟨S1x1024, a5⟩, ⟨S1x1024, a6⟩, ⟨S1x1024, a7⟩] concatenates_S1x1024_S1x1024_S1x1024_S1x1024_S1x1024_S1x1024_S1x1024_S1x1024_S8x1024_d0

/-- The first seven rows of the stack. -/
theorem stack_rows : vecRow (stack a0 a1 a2 a3 a4 a5 a6 a7) 0 = (fun k => a0 (ix2 0 k))
    ∧ vecRow (stack a0 a1 a2 a3 a4 a5 a6 a7) 1 = (fun k => a1 (ix2 0 k))
    ∧ vecRow (stack a0 a1 a2 a3 a4 a5 a6 a7) 2 = (fun k => a2 (ix2 0 k))
    ∧ vecRow (stack a0 a1 a2 a3 a4 a5 a6 a7) 3 = (fun k => a3 (ix2 0 k))
    ∧ vecRow (stack a0 a1 a2 a3 a4 a5 a6 a7) 4 = (fun k => a4 (ix2 0 k))
    ∧ vecRow (stack a0 a1 a2 a3 a4 a5 a6 a7) 5 = (fun k => a5 (ix2 0 k))
    ∧ vecRow (stack a0 a1 a2 a3 a4 a5 a6 a7) 6 = (fun k => a6 (ix2 0 k)) := by
  unfold vecRow
  refine ⟨?_, ?_, ?_, ?_, ?_, ?_, ?_⟩ <;> funext k <;> pointwise

end Stack

/-- The vectors as the kernel finds them: stacked, with a row of zeros below. -/
theorem vecs_found : V m c main_v1 = stack (gain0 m c) (bias0 m c) (gate m c) (gain1 m c) (bias1 m c) (stretch m c) (shift m c)
    (broadcastInDim S1x1024 ![] bcast_S_S1x1024 (constant (F := Ideal) S_ .f32 0x00000000#32)) := by
  show StableHlo.after _ _ _ = _
  simp only [hostOps0, List.flatten_cons, List.flatten_nil, List.append_nil, List.cons_append, List.nil_append]
  after_results_simp <;> rfl

/-- The blocks of the state-space heads' outputs follow the points. -/
theorem index0 : ∀ t : Fin cfg0.N, win0_0.index t = ![t.val, 0] := (by decide +kernel : ∀ t : Fin grid0.N, _)
/-- So do those of the attention's outputs. -/
theorem index1 : ∀ t : Fin cfg0.N, win0_1.index t = ![t.val, 0] := (by decide +kernel : ∀ t : Fin grid0.N, _)
/-- The weights are one block. -/
theorem index2 : ∀ t : Fin cfg0.N, win0_2.index t = ![0, 0] := (by decide +kernel : ∀ t : Fin grid0.N, _)
/-- The blocks of the first norm's rows follow the points. -/
theorem index3 : ∀ t : Fin cfg0.N, win0_3.index t = ![t.val, 0] := (by decide +kernel : ∀ t : Fin grid0.N, _)
/-- The vectors are one block. -/
theorem index4 : ∀ t : Fin cfg0.N, win0_4.index t = ![0, 0] := (by decide +kernel : ∀ t : Fin grid0.N, _)
/-- The blocks of projected rows follow the points. -/
theorem index5 : ∀ t : Fin cfg0.N, win0_5.index t = ![t.val, 0] := (by decide +kernel : ∀ t : Fin grid0.N, _)
/-- So do those of normed rows. -/
theorem index6 : ∀ t : Fin cfg0.N, win0_6.index t = ![t.val, 0] := (by decide +kernel : ∀ t : Fin grid0.N, _)
/-- So do those of scaling factors. -/
theorem index7 : ∀ t : Fin cfg0.N, win0_7.index t = ![t.val, 0] := (by decide +kernel : ∀ t : Fin grid0.N, _)
/-- So do those of modulated rows. -/
theorem index8 : ∀ t : Fin cfg0.N, win0_8.index t = ![t.val, 0] := (by decide +kernel : ∀ t : Fin grid0.N, _)

/-- A row of a point, among all rows. -/
def row (t : Fin cfg0.N) (l : Fin 512) : Fin 4096 := rowOf t.val (lt_of_lt_of_eq t.isLt N_0) l

/-- A point's rows of the state-space heads' outputs. -/
abbrev ssdAt (t : Fin cfg0.N) : Vec Ideal S512x1024 .bf16 := iblk m c 0 t
/-- A point's rows of the attention's outputs. -/
abbrev attAt (t : Fin cfg0.N) : Vec Ideal S512x1024 .bf16 := iblk m c 1 t
/-- A point's weights. -/
abbrev wtsAt (t : Fin cfg0.N) : Vec Ideal S2048x1024 .bf16 := iblk m c 2 t
/-- A point's rows of the first norm. -/
abbrev hat0At (t : Fin cfg0.N) : Vec Ideal S512x1024 .f32 := iblk m c 3 t
/-- A point's vectors. -/
abbrev vecsAt (t : Fin cfg0.N) : Vec Ideal S8x1024 .f32 := iblk m c 4 t

/-- Where a point's rows of the state-space heads' outputs lie. -/
theorem ssd_block (t : Fin cfg0.N) (l : Fin 512) (k : Fin 1024) : ssdAt m c t (ix2 l k) = ssd m c (ix2 (row t l) k) := by
  show (iblk m c 0 t : Vec Ideal S512x1024 .bf16) _ = _
  unfold iblk
  rw [View.read_apply]
  show V m c main_arg0 _ = _
  rw [V_main_arg0]
  exact congrArg (ssd m c) (tile_entry t.val _ l k _ _ (index0 t) rfl rfl)

/-- Where its rows of the attention's outputs lie. -/
theorem att_block (t : Fin cfg0.N) (l : Fin 512) (k : Fin 1024) : attAt m c t (ix2 l k) = att m c (ix2 (row t l) k) := by
  show (iblk m c 1 t : Vec Ideal S512x1024 .bf16) _ = _
  unfold iblk
  rw [View.read_apply]
  show V m c main_arg1 _ = _
  rw [V_main_arg1]
  exact congrArg (att m c) (tile_entry t.val _ l k _ _ (index1 t) rfl rfl)

/-- A point's weights are all of them. -/
theorem wts_block (t : Fin cfg0.N) (k : Fin 2048) (d : Fin 1024) : wtsAt m c t (ix2 k d) = wts m c (ix2 k d) := by
  show (iblk m c 2 t : Vec Ideal S2048x1024 .bf16) _ = _
  unfold iblk
  rw [View.read_apply]
  show V m c main_arg2 _ = _
  rw [V_main_arg2]
  exact congrArg (wts m c) (whole_entry k d _ _ (index2 t) rfl rfl)

/-- Where a point's rows of the first norm lie. -/
theorem hat0_block (t : Fin cfg0.N) (l : Fin 512) (k : Fin 1024) : hat0At m c t (ix2 l k) = hat0 m c (ix2 (row t l) k) := by
  show (iblk m c 3 t : Vec Ideal S512x1024 .f32) _ = _
  unfold iblk
  rw [View.read_apply]
  show V m c main_arg3 _ = _
  rw [V_main_arg3]
  exact congrArg (hat0 m c) (tile_entry t.val _ l k _ _ (index3 t) rfl rfl)

/-- A point's vectors are all of them. -/
theorem vecs_block (t : Fin cfg0.N) : vecsAt m c t = stack (gain0 m c) (bias0 m c) (gate m c) (gain1 m c) (bias1 m c) (stretch m c) (shift m c)
    (broadcastInDim S1x1024 ![] bcast_S_S1x1024 (constant (F := Ideal) S_ .f32 0x00000000#32)) := by
  rw [← vecs_found]
  funext e
  show (iblk m c 4 t : Vec Ideal S8x1024 .f32) _ = _
  unfold iblk
  rw [View.read_apply]
  show V m c main_v1 _ = V m c main_v1 _
  exact congrArg (V m c main_v1) ((whole_entry (e 0) (e 1) _ _ (index4 t) rfl rfl).trans (eq_ix2 e).symm)

/-! ## The results as formulas -/

/-- One projected value. -/
def mixAt (r : Fin 4096) (d : Fin 1024) : EReal :=
  ∑ k : Fin 1024, ssd m c (ix2 r k) * wts m c (ix2 (⟨k.val, by omega⟩ : Fin 2048) d)
    + ∑ k : Fin 1024, att m c (ix2 r k) * wts m c (ix2 (⟨1024 + k.val, by omega⟩ : Fin 2048) d)

/-- A row before the second norm. -/
def jointAt (r : Fin 4096) : Fin 1024 → EReal :=
  joint (fun k => hat0 m c (ix2 r k)) (fun k => gain0 m c (ix2 0 k)) (fun k => bias0 m c (ix2 0 k)) (fun k => gate m c (ix2 0 k)) (mixAt m c r)

/-- One modulated value. -/
def modAt (r : Fin 4096) (d : Fin 1024) : EReal :=
  modulated (jointAt m c r) (fun k => gain1 m c (ix2 0 k)) (fun k => bias1 m c (ix2 0 k)) (fun k => stretch m c (ix2 0 k)) (fun k => shift m c (ix2 0 k)) d

/-- The projected rows. -/
def mix : Vec Ideal S4096x1024 .f32 := fun e => mixAt m c (e 0) (e 1)
/-- The normed rows. -/
def hat : Vec Ideal S4096x1024 .f32 := fun e => normed (jointAt m c (e 0)) (e 1)
/-- The scaling factors. -/
def fac : Vec Ideal S4096x1 .f32 := fun e => scale (jointAt m c (e 0))
/-- The modulated rows. -/
def mod : Vec Ideal S4096x1024 .bf16 := fun e => modAt m c (e 0) (e 1)

/-- A point's projected row. -/
theorem mixRow_block (t : Fin cfg0.N) (l : Fin 512) : mixRow (ssdAt m c t) (attAt m c t) (wtsAt m c t) l = mixAt m c (row t l) := by
  funext d
  unfold mixRow mixAt
  exact congrArg₂ (fun u v : EReal => u + v)
    (Finset.sum_congr (M := EReal) rfl fun k _ => congrArg₂ (fun u v : EReal => u * v) (ssd_block m c t l k) (wts_block m c t _ d))
    (Finset.sum_congr (M := EReal) rfl fun k _ => congrArg₂ (fun u v : EReal => u * v) (att_block m c t l k) (wts_block m c t _ d))

/-- A point's row before the second norm. -/
theorem jointRow_block (t : Fin cfg0.N) (l : Fin 512) :
    jointRow (ssdAt m c t) (attAt m c t) (wtsAt m c t) (hat0At m c t) (vecsAt m c t) l = jointAt m c (row t l) := by
  unfold jointRow jointAt
  rw [mixRow_block, vecs_block, funext (hat0_block m c t l), (stack_rows _ _ _ _ _ _ _ _).1, (stack_rows _ _ _ _ _ _ _ _).2.1,
    (stack_rows _ _ _ _ _ _ _ _).2.2.1]

/-- A point's modulated row. -/
theorem modRow_block (t : Fin cfg0.N) (l : Fin 512) :
    modulated (jointRow (ssdAt m c t) (attAt m c t) (wtsAt m c t) (hat0At m c t) (vecsAt m c t) l) (vecRow (vecsAt m c t) 3) (vecRow (vecsAt m c t) 4)
      (vecRow (vecsAt m c t) 5) (vecRow (vecsAt m c t) 6) = modAt m c (row t l) := by
  funext d
  unfold modAt
  rw [jointRow_block, vecs_block, (stack_rows _ _ _ _ _ _ _ _).2.2.2.1, (stack_rows _ _ _ _ _ _ _ _).2.2.2.2.1,
    (stack_rows _ _ _ _ _ _ _ _).2.2.2.2.2.1, (stack_rows _ _ _ _ _ _ _ _).2.2.2.2.2.2]

/-- The projected rows a point leaves. -/
theorem mix_left (t : Fin cfg0.N) (l : Fin 512) (d : Fin 1024) : out0_5 (ssdAt m c t) (attAt m c t) (wtsAt m c t) (hat0At m c t) (vecsAt m c t) (ix2 l d) = mix m c (ix2 (row t l) d) :=
  (out5_entry _ _ _ _ _ l d).trans (congrFun (mixRow_block m c t l) d)

/-- The normed rows a point leaves. -/
theorem hat_left (t : Fin cfg0.N) (l : Fin 512) (d : Fin 1024) : out0_6 (ssdAt m c t) (attAt m c t) (wtsAt m c t) (hat0At m c t) (vecsAt m c t) (ix2 l d) = hat m c (ix2 (row t l) d) :=
  (out6_entry _ _ _ _ _ l d).trans (congrArg (fun r => normed r d) (jointRow_block m c t l))

/-- The scaling factors a point leaves. -/
theorem fac_left (t : Fin cfg0.N) (l : Fin 512) (d : Fin 1) : out0_7 (ssdAt m c t) (attAt m c t) (wtsAt m c t) (hat0At m c t) (vecsAt m c t) (ix2 l d) = fac m c (ix2 (row t l) d) := by
  rw [Subsingleton.elim (α := Fin 1) d 0]
  exact (out7_entry _ _ _ _ _ l).trans (congrArg scale (jointRow_block m c t l))

/-- The modulated rows a point leaves. -/
theorem mod_left (t : Fin cfg0.N) (l : Fin 512) (d : Fin 1024) : out0_8 (ssdAt m c t) (attAt m c t) (wtsAt m c t) (hat0At m c t) (vecsAt m c t) (ix2 l d) = mod m c (ix2 (row t l) d) :=
  (out8_entry _ _ _ _ _ l d).trans (congrFun (modRow_block m c t l) d)

/-! ## The arrays at the end -/

/-- The point that takes a row. -/
def pointOf (r : Fin 4096) : Fin cfg0.N := ⟨r.val / 512, lt_of_lt_of_eq (tile_lt r) N_0.symm⟩

/-- The projected rows at the end. -/
theorem mix_final : (dats m 0 c).arrAt 5 cfg0.N = mix m c := by
  refine (dats m 0 c).arrAt_eq_of_cover 5 (mix m c) (fun t _ => ?_) fun i => ⟨pointOf (i 0), flush0_5 _, ?_⟩
  · rw [Value.flushed5]
    funext x
    rw [View.read_apply]
    exact (congrArg (out0_5 (ssdAt m c t) (attAt m c t) (wtsAt m c t) (hat0At m c t) (vecsAt m c t)) (eq_ix2 (n0 := 512) (n1 := 1024) x)).trans ((mix_left m c t (x 0) (x 1)).trans
      (congrArg (mix m c) (tile_entry t.val _ (x 0) (x 1) _ _ (index5 t) rfl rfl)).symm)
  · show i ∈ ((View.whole main_v2_0).slice (win0_5.rect (pointOf (i 0)))).set
    rw [View.set_slice_whole, Rect.mem_set_unit]
    exact in_tile i _ (index5 _)

/-- The normed rows at the end. -/
theorem hat_final : (dats m 0 c).arrAt 6 cfg0.N = hat m c := by
  refine (dats m 0 c).arrAt_eq_of_cover 6 (hat m c) (fun t _ => ?_) fun i => ⟨pointOf (i 0), flush0_6 _, ?_⟩
  · rw [Value.flushed6]
    funext x
    rw [View.read_apply]
    exact (congrArg (out0_6 (ssdAt m c t) (attAt m c t) (wtsAt m c t) (hat0At m c t) (vecsAt m c t)) (eq_ix2 (n0 := 512) (n1 := 1024) x)).trans ((hat_left m c t (x 0) (x 1)).trans
      (congrArg (hat m c) (tile_entry t.val _ (x 0) (x 1) _ _ (index6 t) rfl rfl)).symm)
  · show i ∈ ((View.whole main_v2_1).slice (win0_6.rect (pointOf (i 0)))).set
    rw [View.set_slice_whole, Rect.mem_set_unit]
    exact in_tile i _ (index6 _)

/-- The scaling factors at the end. -/
theorem fac_final : (dats m 0 c).arrAt 7 cfg0.N = fac m c := by
  refine (dats m 0 c).arrAt_eq_of_cover 7 (fac m c) (fun t _ => ?_) fun i => ⟨pointOf (i 0), flush0_7 _, ?_⟩
  · rw [Value.flushed7]
    funext x
    rw [View.read_apply]
    exact (congrArg (out0_7 (ssdAt m c t) (attAt m c t) (wtsAt m c t) (hat0At m c t) (vecsAt m c t)) (eq_ix2 (n0 := 512) (n1 := 1) x)).trans ((fac_left m c t (x 0) (x 1)).trans
      (congrArg (fac m c) (tile_entry t.val _ (x 0) (x 1) _ _ (index7 t) rfl rfl)).symm)
  · show i ∈ ((View.whole main_v2_2).slice (win0_7.rect (pointOf (i 0)))).set
    rw [View.set_slice_whole, Rect.mem_set_unit]
    exact in_tile i _ (index7 _)

/-- The modulated rows at the end. -/
theorem mod_final : (dats m 0 c).arrAt 8 cfg0.N = mod m c := by
  refine (dats m 0 c).arrAt_eq_of_cover 8 (mod m c) (fun t _ => ?_) fun i => ⟨pointOf (i 0), flush0_8 _, ?_⟩
  · rw [Value.flushed8]
    funext x
    rw [View.read_apply]
    exact (congrArg (out0_8 (ssdAt m c t) (attAt m c t) (wtsAt m c t) (hat0At m c t) (vecsAt m c t)) (eq_ix2 (n0 := 512) (n1 := 1024) x)).trans ((mod_left m c t (x 0) (x 1)).trans
      (congrArg (mod m c) (tile_entry t.val _ (x 0) (x 1) _ _ (index8 t) rfl rfl)).symm)
  · show i ∈ ((View.whole main_v2_3).slice (win0_8.rect (pointOf (i 0)))).set
    rw [View.set_slice_whole, Rect.mem_set_unit]
    exact in_tile i _ (index8 _)

end Cert.OutLnIdeal.Rows

end
-- ==== Proof.OutLnAgree.lean ====
module

public import proofs.«01_k».proof.Defs
public import proofs.«01_k».proof.Proof.LnInAgree
public import proofs.«01_k».proof.Proof.OutLnRows
public import proofs.«01_k».proof.Proof.Gen.OutLnReferenceIdeal.Run

@[expose] public section

set_option maxRecDepth 16384

noncomputable section

namespace Cert.OutLnAgree

open Idealize.ShloMosaic Idealize.ShloMosaic.TcCoe Idealize.ShloMosaic.Tactic Idealize.SL.Sem

/-! # The output projection and the second norm: kernel and reference agree -/

section Reading

open Cert.OutLnReferenceIdeal Cert.OutLnReferenceIdeal.Gen Cert.Norm Cert.OutLnIdeal.Rows

variable (y o : FVec Ideal S4096x1024 .bf16) (w : FVec Ideal S2048x1024 .bf16) (x : FVec Ideal S4096x1024 .f32) (g b t : FVec Ideal S1x1024 .f32)

/-- The projected rows, as the reference forms them: both heads' outputs side by side. -/
abbrev mixed : FVec Ideal S4096x1024 .f32 :=
  Host.dotGeneral (φ₂ := .f32) dot_S4096x2048_S2048x1024_S4096x1024_1_0_0_1_n_n none (extf .f32 (concatenate S4096x2048 1 [⟨S4096x1024, y⟩, ⟨S4096x1024, o⟩] concatenates_S4096x1024_S4096x1024_S4096x2048_d1 : FVec Ideal S4096x2048 .bf16) bitsLt_bf16_f32) (extf .f32 w bitsLt_bf16_f32)

/-- Rows before the second norm over projected rows `v`, as the reference forms them. -/
abbrev joined (v : FVec Ideal S4096x1024 .f32) : FVec Ideal S4096x1024 .f32 :=
  addf (mulf (broadcastInDim S4096x1024 ![] bcast_S_S4096x1024 (constant S_ .f32 0x3F9837F0#32)) (addf (mulf x (broadcastInDim S4096x1024 ![0, 1] bcast_S1x1024_S4096x1024_0_1 g)) (broadcastInDim S4096x1024 ![0, 1] bcast_S1x1024_S4096x1024_0_1 b))) (mulf (broadcastInDim S4096x1024 ![0, 1] bcast_S1x1024_S4096x1024_0_1 (addf (broadcastInDim S1x1024 ![] bcast_S_S1x1024 (constant (F := Ideal) S_ .f32 0x3F800000#32)) t)) v)

/-- One projected value. -/
theorem mixed_apply (r : Fin 4096) (d : Fin 1024) : mixed y o w (ix2 r d)
    = ∑ k : Fin 1024, y (ix2 r k) * w (ix2 (⟨k.val, by omega⟩ : Fin 2048) d) + ∑ k : Fin 1024, o (ix2 r k) * w (ix2 (⟨1024 + k.val, by omega⟩ : Fin 2048) d) := by
  pointwise

/-- One value before the second norm. -/
theorem joined_apply (v : FVec Ideal S4096x1024 .f32) (r : Fin 4096) (d : Fin 1024) : joined x g b t v (ix2 r d)
    = joint (fun k => x (ix2 r k)) (fun k => g (ix2 0 k)) (fun k => b (ix2 0 k)) (fun k => t (ix2 0 k)) (fun k => v (ix2 r k)) d := by
  unfold joint alpha
  pointwise

/-- A row before the second norm. -/
theorem joined_row (r : Fin 4096) : (fun k => joined x g b t (mixed y o w) (ix2 r k))
    = joint (fun k => x (ix2 r k)) (fun k => g (ix2 0 k)) (fun k => b (ix2 0 k)) (fun k => t (ix2 0 k)) (fun d =>
      ∑ k : Fin 1024, y (ix2 r k) * w (ix2 (⟨k.val, by omega⟩ : Fin 2048) d) + ∑ k : Fin 1024, o (ix2 r k) * w (ix2 (⟨1024 + k.val, by omega⟩ : Fin 2048) d)) :=
  funext fun d => (joined_apply x g b t (mixed y o w) r d).trans
    (congrArg (fun u => joint (fun k => x (ix2 r k)) (fun k => g (ix2 0 k)) (fun k => b (ix2 0 k)) (fun k => t (ix2 0 k)) u d) (funext (mixed_apply y o w r)))

end Reading

open Cert.OutLnIdeal.Rows in
/-- The four results of the output projection and the second norm. -/
theorem equal : Cert.algebraic_OutLnIdeal_OutLnReferenceIdeal
    (hOutLnIdeal := Cert.OutLnIdeal.Gen.facts) (hOutLnReferenceIdeal := Cert.OutLnReferenceIdeal.Gen.facts) := by
  intro m g m' g' _ h
  refine ⟨fun c => mix m c, fun c => hat m c, fun c => fac m c, fun c => mod m c, ?_, ?_⟩
  · refine (θ_run Cert.OutLnIdeal.defs _ _).mono (fun r hr c => ?_) (Cert.OutLnIdeal.Value.run_blocks m g)
    obtain ⟨h5, h6, h7, h8, rest⟩ := hr c
    exact ⟨h5.trans (mix_final m c), h6.trans (hat_final m c), h7.trans (fac_final m c), h8.trans (mod_final m c), rest⟩
  · refine (θ_run Cert.OutLnReferenceIdeal.defs _ _).mono (fun r hr c => ?_) (Cert.OutLnReferenceIdeal.Value.run (F := Ideal) m' g')
    obtain ⟨h0, h1, h2, h3, h4, h5, h6, h7, h8, h9, h10⟩ := h c
    obtain ⟨r0, r1, r2, r3, rest⟩ := hr c
    rw [h0, h1, h2] at r0
    unfold Cert.OutLnReferenceIdeal.Value.res_main_v32 at r1
    unfold Cert.OutLnReferenceIdeal.Value.res_main_v28 at r2
    unfold Cert.OutLnReferenceIdeal.Value.res_main_v43 at r3
    rw [h0, h1, h2, h3, h4, h5, h6] at r1 r2
    rw [h0, h1, h2, h3, h4, h5, h6, h7, h8, h9, h10] at r3
    refine ⟨r0.trans ?_, r1.trans ?_, r2.trans ?_, r3.trans ?_, rest⟩ <;> funext e
    · exact (congrArg _ (eq_ix2 e)).trans (mixed_apply _ _ _ (e 0) (e 1))
    · exact (congrArg _ (eq_ix2 e)).trans ((Cert.LnInAgree.hats_apply (joined _ _ _ _ (mixed _ _ _)) (e 0) (e 1)).trans
        (congrArg (fun u => Cert.Norm.normed u (e 1)) (joined_row _ _ _ _ _ _ _ (e 0))))
    · have he : e = ix2 (e 0) 0 := (eq_ix2 e).trans (congrArg (fun a => ix2 (e 0) a) (Subsingleton.elim (α := Fin 1) _ _))
      exact (congrArg _ he).trans ((Cert.LnInAgree.factor_apply (joined _ _ _ _ (mixed _ _ _)) (e 0)).trans
        (congrArg Cert.Norm.scale (joined_row _ _ _ _ _ _ _ (e 0))))
    · exact (congrArg _ (eq_ix2 e)).trans ((Cert.LnInAgree.mods_apply (joined _ _ _ _ (mixed _ _ _)) _ _ _ _ (e 0) (e 1)).trans
        (congrArg (fun u => Cert.Norm.modulated u _ _ _ _ (e 1)) (joined_row _ _ _ _ _ _ _ (e 0))))

end Cert.OutLnAgree

end
-- ==== Proof.lean ====
/- The certificate: every conjunct of the claim, from the modules beside this file. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.KernelFrame
public import proofs.«01_k».proof.Proof.Gen.MlpIdeal.Value
public import proofs.«01_k».proof.Proof.Gen.Gw2Ideal.Value
public import proofs.«01_k».proof.Proof.Gen.Gw1Ideal.Value
public import proofs.«01_k».proof.Proof.Gen.MlpReferenceIdeal.Run
public import proofs.«01_k».proof.Proof.Gen.Gw2ReferenceIdeal.Run
public import proofs.«01_k».proof.Proof.Gen.Gw1ReferenceIdeal.Run
public import proofs.«01_k».proof.Proof.Gen.LnInIdeal.Value
public import proofs.«01_k».proof.Proof.Gen.LnInReferenceIdeal.Run
public import proofs.«01_k».proof.Proof.Gen.OutLnIdeal.Value
public import proofs.«01_k».proof.Proof.Gen.OutLnReferenceIdeal.Run
public import proofs.«01_k».proof.Proof.Gen.GwiIdeal.Value
public import proofs.«01_k».proof.Proof.Gen.GwoIdeal.Value
public import proofs.«01_k».proof.Proof.Gen.GwiReferenceIdeal.Run
public import proofs.«01_k».proof.Proof.Gen.GwoReferenceIdeal.Run
public import proofs.«01_k».proof.Proof.PlainKernelFrame
public import proofs.«01_k».proof.Proof.Agree
public import proofs.«01_k».proof.Proof.Gen.Mlp.Frame
public import proofs.«01_k».proof.Proof.Gen.Gw2.Frame
public import proofs.«01_k».proof.Proof.Gen.Gw1.Frame
public import proofs.«01_k».proof.Proof.Gen.Gwi.Frame
public import proofs.«01_k».proof.Proof.Gen.Gwo.Frame
public import proofs.«01_k».proof.Proof.Gen.LnIn.Frame
public import proofs.«01_k».proof.Proof.Gen.OutLn.Frame
public import proofs.«01_k».proof.Proof.MlpAgree
public import proofs.«01_k».proof.Proof.GwAgree
public import proofs.«01_k».proof.Proof.GwiAgree
public import proofs.«01_k».proof.Proof.LnInAgree
public import proofs.«01_k».proof.Proof.OutLnAgree
public import Idealize.ShloMosaic.Lib.Claim
public import Idealize.ShloMosaic.Adequacy
public import Idealize.ShloMosaic.Init

@[expose] public section

noncomputable section

namespace Cert.Proof

open Idealize.ShloMosaic Idealize.SL.Sem

/-- The kernel as written runs to its end, changes no argument and leaves every counter at zero. -/
theorem kernel_runs : Cert.quiescent_Kernel (hKernel := Cert.Kernel.Gen.facts) :=
  fun m g _ => Cert.Kernel.Attn.frame m g

/-- The kernel over the extended reals runs likewise. -/
theorem ideal_runs : Cert.quiescent_KernelIdeal (hKernelIdeal := Cert.KernelIdeal.Gen.facts) :=
  fun m g _ => Cert.KernelIdeal.Attn.frame m g

/-- The same, of the arguments the value claim speaks of. -/
theorem ideal_runs_finite : Cert.quiescent_KernelIdeal_pre_finite
    (hKernelIdeal := Cert.KernelIdeal.Gen.facts) (hPre_finite := Cert.Pre_finite.Gen.facts) :=
  fun m g _ => Cert.KernelIdeal.Attn.frame m g

/-- The reference runs to its end, changes no argument, and has no counter to leave. -/
theorem reference_runs : Cert.quiescent_ReferenceIdeal (hReferenceIdeal := Cert.ReferenceIdeal.Gen.facts) :=
  fun m g _ => (θ_run Cert.ReferenceIdeal.defs _ _).mono
    (fun r h => ⟨fun c => (h c).2.2.2, sem_eq_zero_of_no_sems (by decide) r.2⟩)
    (Cert.ReferenceIdeal.Value.run (F := Ideal) m g)

/-- The same, of the arguments the value claim speaks of. -/
theorem reference_runs_finite : Cert.quiescent_ReferenceIdeal_pre_finite
    (hReferenceIdeal := Cert.ReferenceIdeal.Gen.facts) (hPre_finite := Cert.Pre_finite.Gen.facts) :=
  fun m g _ => reference_runs m g trivial

/-- The named mask value stands for minus infinity. -/
theorem mask_named : Cert.preserves_Kernel_KernelIdeal :=
  IdealRules.named_const.statement Cert.KernelIdeal.κ "mask" .f32 0xF149F2CA#32 ⊥ rfl

/-- The feed-forward layer's backward call as written runs to its end, changes no argument and leaves every counter at zero. -/
theorem mlp_runs : Cert.quiescent_Mlp (hMlp := Cert.Mlp.Gen.facts) :=
  fun m g _ => Cert.Mlp.Gen.frame m g

/-- Over the extended reals it runs likewise. -/
theorem mlp_ideal_runs : Cert.quiescent_MlpIdeal (hMlpIdeal := Cert.MlpIdeal.Gen.facts) :=
  fun m g _ => Cert.MlpIdeal.Gen.frame m g

/-- So does its reference. -/
theorem mlp_reference_runs : Cert.quiescent_MlpReferenceIdeal (hMlpReferenceIdeal := Cert.MlpReferenceIdeal.Gen.facts) :=
  fun m g _ => (θ_run Cert.MlpReferenceIdeal.defs _ _).mono
    (fun r h => ⟨fun c => (h c).2.2.2.2, sem_eq_zero_of_no_sems (by decide) r.2⟩)
    (Cert.MlpReferenceIdeal.Value.run (F := Ideal) m g)

/-- The second weights' gradient as written runs to its end, changes no argument and leaves every counter at zero. -/
theorem gw2_runs : Cert.quiescent_Gw2 (hGw2 := Cert.Gw2.Gen.facts) :=
  fun m g _ => Cert.Gw2.Gen.frame m g

/-- Over the extended reals it runs likewise. -/
theorem gw2_ideal_runs : Cert.quiescent_Gw2Ideal (hGw2Ideal := Cert.Gw2Ideal.Gen.facts) :=
  fun m g _ => Cert.Gw2Ideal.Gen.frame m g

/-- So does its reference. -/
theorem gw2_reference_runs : Cert.quiescent_Gw2ReferenceIdeal (hGw2ReferenceIdeal := Cert.Gw2ReferenceIdeal.Gen.facts) :=
  fun m g _ => (θ_run Cert.Gw2ReferenceIdeal.defs _ _).mono
    (fun r h => ⟨fun c => (h c).2, sem_eq_zero_of_no_sems (by decide) r.2⟩)
    (Cert.Gw2ReferenceIdeal.Value.run (F := Ideal) m g)

/-- The first weights' gradient as written runs to its end, changes no argument and leaves every counter at zero. -/
theorem gw1_runs : Cert.quiescent_Gw1 (hGw1 := Cert.Gw1.Gen.facts) :=
  fun m g _ => Cert.Gw1.Gen.frame m g

/-- Over the extended reals it runs likewise. -/
theorem gw1_ideal_runs : Cert.quiescent_Gw1Ideal (hGw1Ideal := Cert.Gw1Ideal.Gen.facts) :=
  fun m g _ => Cert.Gw1Ideal.Gen.frame m g

/-- So does its reference. -/
theorem gw1_reference_runs : Cert.quiescent_Gw1ReferenceIdeal (hGw1ReferenceIdeal := Cert.Gw1ReferenceIdeal.Gen.facts) :=
  fun m g _ => (θ_run Cert.Gw1ReferenceIdeal.defs _ _).mono
    (fun r h => ⟨fun c => (h c).2, sem_eq_zero_of_no_sems (by decide) r.2⟩)
    (Cert.Gw1ReferenceIdeal.Value.run (F := Ideal) m g)

/-- The input projection's weight gradient as written runs to its end, changes no argument and leaves every counter at zero. -/
theorem gwi_runs : Cert.quiescent_Gwi (hGwi := Cert.Gwi.Gen.facts) :=
  fun m g _ => Cert.Gwi.Gen.frame m g

/-- Over the extended reals it runs likewise. -/
theorem gwi_ideal_runs : Cert.quiescent_GwiIdeal (hGwiIdeal := Cert.GwiIdeal.Gen.facts) :=
  fun m g _ => Cert.GwiIdeal.Gen.frame m g

/-- So does its reference. -/
theorem gwi_reference_runs : Cert.quiescent_GwiReferenceIdeal (hGwiReferenceIdeal := Cert.GwiReferenceIdeal.Gen.facts) :=
  fun m g _ => (θ_run Cert.GwiReferenceIdeal.defs _ _).mono
    (fun r h => ⟨fun c => (h c).2, sem_eq_zero_of_no_sems (by decide) r.2⟩)
    (Cert.GwiReferenceIdeal.Value.run (F := Ideal) m g)

/-- The gradient of one half of the output weights as written runs to its end, changes no argument and leaves every counter at zero. -/
theorem gwo_runs : Cert.quiescent_Gwo (hGwo := Cert.Gwo.Gen.facts) :=
  fun m g _ => Cert.Gwo.Gen.frame m g

/-- Over the extended reals it runs likewise. -/
theorem gwo_ideal_runs : Cert.quiescent_GwoIdeal (hGwoIdeal := Cert.GwoIdeal.Gen.facts) :=
  fun m g _ => Cert.GwoIdeal.Gen.frame m g

/-- So does its reference. -/
theorem gwo_reference_runs : Cert.quiescent_GwoReferenceIdeal (hGwoReferenceIdeal := Cert.GwoReferenceIdeal.Gen.facts) :=
  fun m g _ => (θ_run Cert.GwoReferenceIdeal.defs _ _).mono
    (fun r h => ⟨fun c => (h c).2, sem_eq_zero_of_no_sems (by decide) r.2⟩)
    (Cert.GwoReferenceIdeal.Value.run (F := Ideal) m g)

/-- The first norm and the input projection as written run to their end, change no argument and leave every counter at zero. -/
theorem lnin_runs : Cert.quiescent_LnIn (hLnIn := Cert.LnIn.Gen.facts) :=
  fun m g _ => Cert.LnIn.Gen.frame m g

/-- Over the extended reals they run likewise. -/
theorem lnin_ideal_runs : Cert.quiescent_LnInIdeal (hLnInIdeal := Cert.LnInIdeal.Gen.facts) :=
  fun m g _ => Cert.LnInIdeal.Gen.frame m g

/-- So does their reference. -/
theorem lnin_reference_runs : Cert.quiescent_LnInReferenceIdeal (hLnInReferenceIdeal := Cert.LnInReferenceIdeal.Gen.facts) :=
  fun m g _ => (θ_run Cert.LnInReferenceIdeal.defs _ _).mono
    (fun r h => ⟨fun c => (h c).2.2.2.2.2.2.2.2, sem_eq_zero_of_no_sems (by decide) r.2⟩)
    (Cert.LnInReferenceIdeal.Value.run (F := Ideal) m g)

/-- The output projection and the second norm as written run to their end, change no argument and leave every counter at zero. -/
theorem outln_runs : Cert.quiescent_OutLn (hOutLn := Cert.OutLn.Gen.facts) :=
  fun m g _ => Cert.OutLn.Gen.frame m g

/-- Over the extended reals they run likewise. -/
theorem outln_ideal_runs : Cert.quiescent_OutLnIdeal (hOutLnIdeal := Cert.OutLnIdeal.Gen.facts) :=
  fun m g _ => Cert.OutLnIdeal.Gen.frame m g

/-- So does their reference. -/
theorem outln_reference_runs : Cert.quiescent_OutLnReferenceIdeal (hOutLnReferenceIdeal := Cert.OutLnReferenceIdeal.Gen.facts) :=
  fun m g _ => (θ_run Cert.OutLnReferenceIdeal.defs _ _).mono
    (fun r h => ⟨fun c => (h c).2.2.2.2, sem_eq_zero_of_no_sems (by decide) r.2⟩)
    (Cert.OutLnReferenceIdeal.Value.run (F := Ideal) m g)

/-- Every claim of the certificate. -/
theorem claim : Cert.Claim := ⟨Cert.Kernel.Gen.facts, Cert.KernelIdeal.Gen.facts, Cert.ReferenceIdeal.Gen.facts,
  Cert.Mlp.Gen.facts, Cert.MlpIdeal.Gen.facts, Cert.MlpReferenceIdeal.Gen.facts,
  Cert.Gw2.Gen.facts, Cert.Gw2Ideal.Gen.facts, Cert.Gw2ReferenceIdeal.Gen.facts,
  Cert.Gw1.Gen.facts, Cert.Gw1Ideal.Gen.facts, Cert.Gw1ReferenceIdeal.Gen.facts,
  Cert.Gwi.Gen.facts, Cert.GwiIdeal.Gen.facts, Cert.GwiReferenceIdeal.Gen.facts,
  Cert.Gwo.Gen.facts, Cert.GwoIdeal.Gen.facts, Cert.GwoReferenceIdeal.Gen.facts,
  Cert.LnIn.Gen.facts, Cert.LnInIdeal.Gen.facts, Cert.LnInReferenceIdeal.Gen.facts,
  Cert.OutLn.Gen.facts, Cert.OutLnIdeal.Gen.facts, Cert.OutLnReferenceIdeal.Gen.facts, Cert.Pre_finite.Gen.facts,
  kernel_runs, ideal_runs, ideal_runs_finite, reference_runs, reference_runs_finite,
  mlp_runs, mlp_ideal_runs, mlp_reference_runs, gw2_runs, gw2_ideal_runs, gw2_reference_runs, gw1_runs, gw1_ideal_runs, gw1_reference_runs,
  gwi_runs, gwi_ideal_runs, gwi_reference_runs, gwo_runs, gwo_ideal_runs, gwo_reference_runs,
  lnin_runs, lnin_ideal_runs, lnin_reference_runs, outln_runs, outln_ideal_runs, outln_reference_runs,
  mask_named, Cert.Agree.results_equal, trivial, Cert.MlpAgree.equal, trivial, Cert.GwAgree.second_equal, trivial, Cert.GwAgree.first_equal,
  trivial, Cert.GwiAgree.equal, trivial, Cert.GwAgree.output_equal, trivial, Cert.LnInAgree.equal, trivial, Cert.OutLnAgree.equal⟩

end Cert.Proof

end
